-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_experts4 : Cert.Pre_experts4.Facts] (m : (ℓ : Loc Cert.Kernel4.nD Cert.Kernel4.τ Cert.Kernel4.sig) → Buf (Elt Bits) ℓ) : Prop :=
  ∀ c : Dev Cert.Kernel4.nD,
    (Cert.Pre_experts4.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4))) = (fun _ => 1#1)

def Pre_Kernel4Ideal [hPre_experts4 : Cert.Pre_experts4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_experts4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_experts4 [hPre_experts4 : Cert.Pre_experts4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_experts4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 [hPre_experts5 : Cert.Pre_experts5.Facts] (m : (ℓ : Loc Cert.Kernel5.nD Cert.Kernel5.τ Cert.Kernel5.sig) → Buf (Elt Bits) ℓ) : Prop :=
  ∀ c : Dev Cert.Kernel5.nD,
    (Cert.Pre_experts5.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3))) = (fun _ => 1#1)

def Pre_Kernel5Ideal [hPre_experts5 : Cert.Pre_experts5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_experts5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_experts5 [hPre_experts5 : Cert.Pre_experts5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_experts5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] [hPre_experts4 : Cert.Pre_experts4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] [hPre_experts4 : Cert.Pre_experts4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_experts4 [hReference4Ideal : Cert.Reference4Ideal.Facts] [hPre_experts4 : Cert.Pre_experts4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_experts4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] [hPre_experts5 : Cert.Pre_experts5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] [hPre_experts5 : Cert.Pre_experts5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_experts5 [hReference5Ideal : Cert.Reference5Ideal.Facts] [hPre_experts5 : Cert.Pre_experts5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_experts5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] [hPre_experts4 : Cert.Pre_experts4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v169) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] [hPre_experts5 : Cert.Pre_experts5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v128) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  IdealRules.named_const.Statement Cert.Kernel6Ideal.κ "mask6" .f32 0xF149F2CA#32 ⊥

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v66) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)) →
    ∃ (v0 : (c : Dev Cert.Kernel7Ideal.nD) → Buf (Elt Ideal) ((c.tc : Thread Cert.Kernel7Ideal.nD Cert.Kernel7Ideal.τ).loc Cert.Kernel7Ideal.main_v6_0)) (v1 : (c : Dev Cert.Kernel7Ideal.nD) → Buf (Elt Ideal) ((c.tc : Thread Cert.Kernel7Ideal.nD Cert.Kernel7Ideal.τ).loc Cert.Kernel7Ideal.main_v6_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6_0) = v0 c
          ∧ r.2.mem ((c.tc : Thread Cert.Kernel7Ideal.nD Cert.Kernel7Ideal.τ).loc Cert.Kernel7Ideal.main_v6_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v17) = v0 c
          ∧ r.2.mem ((c.tc : Thread Cert.Reference7Ideal.nD Cert.Reference7Ideal.τ).loc Cert.Reference7Ideal.main_v36) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_experts4 : Cert.Pre_experts4.Facts) (hPre_experts5 : Cert.Pre_experts5.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_experts4 := hPre_experts4)
    ∧ quiescent_Kernel4Ideal (hKernel4Ideal := hKernel4Ideal) (hPre_experts4 := hPre_experts4)
    ∧ quiescent_Reference4Ideal (hReference4Ideal := hReference4Ideal)
    ∧ quiescent_Reference4Ideal_pre_experts4 (hReference4Ideal := hReference4Ideal) (hPre_experts4 := hPre_experts4)
    ∧ quiescent_Kernel5 (hKernel5 := hKernel5) (hPre_experts5 := hPre_experts5)
    ∧ quiescent_Kernel5Ideal (hKernel5Ideal := hKernel5Ideal) (hPre_experts5 := hPre_experts5)
    ∧ quiescent_Reference5Ideal (hReference5Ideal := hReference5Ideal)
    ∧ quiescent_Reference5Ideal_pre_experts5 (hReference5Ideal := hReference5Ideal) (hPre_experts5 := hPre_experts5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_experts4 := hPre_experts4)
    ∧ preserves_Kernel5_Kernel5Ideal
    ∧ algebraic_Kernel5Ideal_Reference5Ideal (hKernel5Ideal := hKernel5Ideal) (hReference5Ideal := hReference5Ideal) (hPre_experts5 := hPre_experts5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
-- ==== Pre_experts4.lean ====
abbrev S72 : Shape := ⟨1, ![72]⟩
abbrev S1 : Shape := ⟨1, ![1]⟩
abbrev S36864x2048 : Shape := ⟨2, ![36864, 2048]⟩
abbrev S8x2048x7168 : Shape := ⟨3, ![8, 2048, 7168]⟩
abbrev S_ : Shape := ⟨0, ![]⟩

class Facts : Prop where
  bcast_S_S72 : S_.BroadcastsInDim S72 (![] : Fin 0 → Fin S72.rank)

variable [Facts]

def fn {F : FTy → Type} [FloatOps F] (main_arg0 : IVec S72 32) (main_arg1 : IVec S1 32) (main_arg2 : FVec F S36864x2048 .bf16) (main_arg3 : FVec F S8x2048x7168 .f32) (main_arg4 : FVec F S8x2048x7168 .f32) : IVec S72 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 8#32
  let main_v2 : IVec S72 32 := broadcastInDim S72 ![] bcast_S_S72 main_c_0
  let main_v3 : IVec S72 1 := cmpi .slt main_arg0 main_v2
  let main_v4 : IVec S72 1 := andi main_v1 main_v3
  main_v4
-- ==== Pre_experts5.lean ====
abbrev S72 : Shape := ⟨1, ![72]⟩
abbrev S1 : Shape := ⟨1, ![1]⟩
abbrev S36864x7168 : Shape := ⟨2, ![36864, 7168]⟩
abbrev S8x7168x2048 : Shape := ⟨3, ![8, 7168, 2048]⟩
abbrev S_ : Shape := ⟨0, ![]⟩

class Facts : Prop where
  bcast_S_S72 : S_.BroadcastsInDim S72 (![] : Fin 0 → Fin S72.rank)

variable [Facts]

def fn {F : FTy → Type} [FloatOps F] (main_arg0 : IVec S72 32) (main_arg1 : IVec S1 32) (main_arg2 : FVec F S36864x7168 .bf16) (main_arg3 : FVec F S8x7168x2048 .f32) : IVec S72 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 8#32
  let main_v2 : IVec S72 32 := broadcastInDim S72 ![] bcast_S_S72 main_c_0
  let main_v3 : IVec S72 1 := cmpi .slt main_arg0 main_v2
  let main_v4 : IVec S72 1 := andi main_v1 main_v3
  main_v4
-- ==== Pre_finite.lean ====
abbrev S16384x768 : Shape := ⟨2, ![16384, 768]⟩
abbrev S16384x6 : Shape := ⟨2, ![16384, 6]⟩
abbrev S128 : Shape := ⟨1, ![128]⟩
abbrev S_ : Shape := ⟨0, ![]⟩

class Facts : Prop where
  bcast_S_S16384x768 : S_.BroadcastsInDim S16384x768 (![] : Fin 0 → Fin S16384x768.rank)
  reducesTo_S16384x768_S_d0_1 : S16384x768.ReducesTo [0, 1] S_
  h_S_ : 0 < S_.numel
  bcast_S_S16384x6 : S_.BroadcastsInDim S16384x6 (![] : Fin 0 → Fin S16384x6.rank)
  reducesTo_S16384x6_S_d0_1 : S16384x6.ReducesTo [0, 1] S_

variable [Facts]

def fn_part1 {F : FTy → Type} [FloatOps F] (main_v13 : IVec S_ 1) (main_v16 : IVec S16384x6 1) : IVec S_ 1 :=
  let main_c_5 : IVec S_ 1 := constantI S_ 1 1#1
  let main_v17 : IVec S_ 1 := (fun x v => Host.reduce IntOp.andi x v reducesTo_S16384x6_S_d0_1 h_S_) main_v16 main_c_5
  let main_v18 : IVec S_ 1 := andi main_v13 main_v17
  main_v18

def fn {F : FTy → Type} [FloatOps F] (main_arg0 : FVec F S16384x768 .f32) (main_arg1 : FVec F S16384x768 .f32) (main_arg2 : FVec F S16384x768 .f32) (main_arg3 : FVec F S16384x6 .f32) (main_arg4 : FVec F S128 .f32) : IVec S_ 1 :=
  let main_v0 : FVec F S16384x768 .f32 := Host.absf main_arg0
  let main_cst : FVec F S_ .f32 := constant S_ .f32 0x7F800000#32
  let main_v1 : FVec F S16384x768 .f32 := broadcastInDim S16384x768 ![] bcast_S_S16384x768 main_cst
  let main_v2 : IVec S16384x768 1 := cmpf .olt main_v0 main_v1
  let main_c : IVec S_ 1 := constantI S_ 1 1#1
  let main_v3 : IVec S_ 1 := (fun x v => Host.reduce IntOp.andi x v reducesTo_S16384x768_S_d0_1 h_S_) main_v2 main_c
  let main_v4 : FVec F S16384x768 .f32 := Host.absf main_arg1
  let main_cst_0 : FVec F S_ .f32 := constant S_ .f32 0x7F800000#32
  let main_v5 : FVec F S16384x768 .f32 := broadcastInDim S16384x768 ![] bcast_S_S16384x768 main_cst_0
  let main_v6 : IVec S16384x768 1 := cmpf .olt main_v4 main_v5
  let main_c_1 : IVec S_ 1 := constantI S_ 1 1#1
  let main_v7 : IVec S_ 1 := (fun x v => Host.reduce IntOp.andi x v reducesTo_S16384x768_S_d0_1 h_S_) main_v6 main_c_1
  let main_v8 : IVec S_ 1 := andi main_v3 main_v7
  let main_v9 : FVec F S16384x768 .f32 := Host.absf main_arg2
  let main_cst_2 : FVec F S_ .f32 := constant S_ .f32 0x7F800000#32
  let main_v10 : FVec F S16384x768 .f32 := broadcastInDim S16384x768 ![] bcast_S_S16384x768 main_cst_2
  let main_v11 : IVec S16384x768 1 := cmpf .olt main_v9 main_v10
  let main_c_3 : IVec S_ 1 := constantI S_ 1 1#1
  let main_v12 : IVec S_ 1 := (fun x v => Host.reduce IntOp.andi x v reducesTo_S16384x768_S_d0_1 h_S_) main_v11 main_c_3
  let main_v13 : IVec S_ 1 := andi main_v8 main_v12
  let main_v14 : FVec F S16384x6 .f32 := Host.absf main_arg3
  let main_cst_4 : FVec F S_ .f32 := constant S_ .f32 0x7F800000#32
  let main_v15 : FVec F S16384x6 .f32 := broadcastInDim S16384x6 ![] bcast_S_S16384x6 main_cst_4
  let main_v16 : IVec S16384x6 1 := cmpf .olt main_v14 main_v15
  fn_part1 (F := F) main_v13 main_v16
-- ==== Pre_finite6.lean ====
abbrev S16384x4608 : Shape := ⟨2, ![16384, 4608]⟩
abbrev S16384x512 : Shape := ⟨2, ![16384, 512]⟩
abbrev S4x64 : Shape := ⟨2, ![4, 64]⟩
abbrev S128 : Shape := ⟨1, ![128]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_v13 : IVec S_ 1) (main_v16 : IVec S4x64 1) : IVec S_ 1 :=
  let main_c_5 : IVec S_ 1 := constantI S_ 1 1#1
  let main_v17 : IVec S_ 1 := (fun x v => Host.reduce IntOp.andi x v reducesTo_S4x64_S_d0_1 h_S_) main_v16 main_c_5
  let main_v18 : IVec S_ 1 := andi main_v13 main_v17
  main_v18

def fn {F : FTy → Type} [FloatOps F] (main_arg0 : FVec F S16384x4608 .f32) (main_arg1 : FVec F S16384x512 .f32) (main_arg2 : FVec F S16384x512 .f32) (main_arg3 : FVec F S16384x512 .f32) (main_arg4 : FVec F S4x64 .f32) (main_arg5 : FVec F S128 .f32) : IVec S_ 1 :=
  let main_v0 : FVec F S16384x512 .f32 := Host.absf main_arg1
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg2
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg3
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S4x64 .f32 := Host.absf main_arg4
  let main_cst_4 : FVec F S_ .f32 := constant S_ .f32 0x7F800000#32
  let main_v15 : FVec F S4x64 .f32 := broadcastInDim S4x64 ![] bcast_S_S4x64 main_cst_4
  let main_v16 : IVec S4x64 1 := cmpf .olt main_v14 main_v15
  fn_part1 (F := F) main_v13 main_v16
-- ==== Kernel.lean ====
abbrev S16384x768 : Shape := ⟨2, ![16384, 768]⟩
abbrev S16384x6 : Shape := ⟨2, ![16384, 6]⟩
abbrev S128 : Shape := ⟨1, ![128]⟩
abbrev S_ : Shape := ⟨0, ![]⟩
abbrev S16384x2304 : Shape := ⟨2, ![16384, 2304]⟩
abbrev S6x16384 : Shape := ⟨2, ![6, 16384]⟩
abbrev S6x16384x1 : Shape := ⟨3, ![6, 16384, 1]⟩
abbrev S6x16384x125 : Shape := ⟨3, ![6, 16384, 125]⟩
abbrev S6x16384x128 : Shape := ⟨3, ![6, 16384, 128]⟩
abbrev S1x128 : Shape := ⟨2, ![1, 128]⟩
abbrev S1024x128 : Shape := ⟨2, ![1024, 128]⟩
abbrev S16384x128 : Shape := ⟨2, ![16384, 128]⟩
abbrev S1x16384x128 : Shape := ⟨3, ![1, 16384, 128]⟩
abbrev S1024x256 : Shape := ⟨2, ![1024, 256]⟩
abbrev S1024x1 : Shape := ⟨2, ![1024, 1]⟩
abbrev S2048x128 : Shape := ⟨2, ![2048, 128]⟩
abbrev S1x2048x128 : Shape := ⟨3, ![1, 2048, 128]⟩
abbrev S2048x256 : Shape := ⟨2, ![2048, 256]⟩
abbrev S1024x2048 : Shape := ⟨2, ![1024, 2048]⟩
abbrev S1024 : Shape := ⟨1, ![1024]⟩
abbrev S1x1024x128 : Shape := ⟨3, ![1, 1024, 128]⟩
abbrev S1024x1024 : Shape := ⟨2, ![1024, 1024]⟩
abbrev S512x128 : Shape := ⟨2, ![512, 128]⟩
abbrev S1x512x128 : Shape := ⟨3, ![1, 512, 128]⟩
abbrev S512x256 : Shape := ⟨2, ![512, 256]⟩
abbrev S1024x512 : Shape := ⟨2, ![1024, 512]⟩
abbrev S1x512 : Shape := ⟨2, ![1, 512]⟩
abbrev S512x512 : Shape := ⟨2, ![512, 512]⟩
abbrev S512x1 : Shape := ⟨2, ![512, 1]⟩
abbrev S512 : Shape := ⟨1, ![512]⟩

abbrev nBuf : Space → Nat
  | .hbm => 33
  | .vmem => 11
  | .smem => 0
  | _ => 0

abbrev bufTy : (tb : Table) → Fin (tcTables nBuf tb) → BufTy
  | .hbm, ⟨0, _⟩ => ⟨S16384x768, .f32⟩
  | .hbm, ⟨1, _⟩ => ⟨S16384x768, .f32⟩
  | .hbm, ⟨2, _⟩ => ⟨S16384x768, .f32⟩
  | .hbm, ⟨3, _⟩ => ⟨S16384x6, .f32⟩
  | .hbm, ⟨4, _⟩ => ⟨S128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S16384x768, .f32⟩
  | .hbm, ⟨13, _⟩ => ⟨S16384x768, .f32⟩
  | .hbm, ⟨14, _⟩ => ⟨S16384x2304, .f32⟩
  | .hbm, ⟨15, _⟩ => ⟨S16384x2304, .bf16⟩
  | .hbm, ⟨16, _⟩ => ⟨S_, .f32⟩
  | .hbm, ⟨17, _⟩ => ⟨S6x16384, .f32⟩
  | .hbm, ⟨18, _⟩ => ⟨S6x16384x1, .f32⟩
  | .hbm, ⟨19, _⟩ => ⟨S6x16384x1, .f32⟩
  | .hbm, ⟨20, _⟩ => ⟨S6x16384x1, .f32⟩
  | .hbm, ⟨21, _⟩ => ⟨S6x16384x1, .bf16⟩
  | .hbm, ⟨22, _⟩ => ⟨S6x16384x1, .f32⟩
  | .hbm, ⟨23, _⟩ => ⟨S6x16384x1, .f32⟩
  | .hbm, ⟨24, _⟩ => ⟨S6x16384x1, .bf16⟩
  | .hbm, ⟨25, _⟩ => ⟨S6x16384x1, .f32⟩
  | .hbm, ⟨26, _⟩ => ⟨S6x16384x1, .f32⟩
  | .hbm, ⟨27, _⟩ => ⟨S6x16384x1, .bf16⟩
  | .hbm, ⟨28, _⟩ => ⟨S_, .bf16⟩
  | .hbm, ⟨29, _⟩ => ⟨S6x16384x125, .bf16⟩
  | .hbm, ⟨30, _⟩ => ⟨S6x16384x128, .bf16⟩
  | .hbm, ⟨31, _⟩ => ⟨S1x128, .f32⟩
  | .hbm, ⟨32, _⟩ => ⟨S16384x768, .bf16⟩
  | .local _ .vmem, ⟨0, _⟩ => ⟨S1024x128, .bf16⟩
  | .local _ .vmem, ⟨1, _⟩ => ⟨S1024x128, .bf16⟩
  | .local _ .vmem, ⟨2, _⟩ => ⟨S16384x128, .bf16⟩
  | .local _ .vmem, ⟨3, _⟩ => ⟨S16384x128, .bf16⟩
  | .local _ .vmem, ⟨4, _⟩ => ⟨S16384x128, .bf16⟩
  | .local _ .vmem, ⟨5, _⟩ => ⟨S16384x128, .bf16⟩
  | .local _ .vmem, ⟨6, _⟩ => ⟨S1x16384x128, .bf16⟩
  | .local _ .vmem, ⟨7, _⟩ => ⟨S1x16384x128, .bf16⟩
  | .local _ .vmem, ⟨8, _⟩ => ⟨S1x128, .f32⟩
  | .local _ .vmem, ⟨9, _⟩ => ⟨S1024x128, .bf16⟩
  | .local _ .vmem, ⟨10, _⟩ => ⟨S1024x128, .bf16⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![6, 16], ![false, false]⟩

@[reducible] def k0_t1_loop (i : grid0.Coords) : Scf.Loop 32 :=
  let c0_i32_9 : BitVec 32 := 0#32
  let arg1 : BitVec 32 := BitVec.ofNat 32 (i 1).val
  let c0_i32 : BitVec 32 := 0#32
  let v14 : BitVec 1 := Scalar.cmpi .sgt arg1 c0_i32
  let v15 : BitVec 32 := Scalar.extui v14
  let c0_i32_5 : BitVec 32 := 0#32
  let v16 : BitVec 1 := Scalar.cmpi .slt arg1 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi arg1 c2_i32
  let c0_i32_8 : BitVec 32 := 0#32
  let v26 : BitVec 1 := Scalar.cmpi .ne v25 c0_i32_8
  let v27 : BitVec 1 := Scalar.andi v24 v26
  let v13 : BitVec 32 := Scalar.divsi arg1 c2_i32
  let c1_i32 : BitVec 32 := 1#32
  let v28 : BitVec 32 := Scalar.subi v13 c1_i32
  let v29 : BitVec 32 := Scalar.select v27 v28 v13
  let v30 : BitVec 32 := Scalar.subi v29 c0_i32_9
  let c1_i32_10 : BitVec 32 := 1#32
  let v32 : BitVec 32 := Scalar.divsi v30 c1_i32_10
  let v33 : BitVec 32 := Scalar.muli v32 c1_i32_10
  let v34 : BitVec 32 := Scalar.addi c0_i32_9 v33
  let c1_i32_11 : BitVec 32 := 1#32
  ⟨c0_i32_9, v34, c1_i32_11⟩
def k0_mult1 (i : grid0.Coords) (k0_t1 : Fin (k0_t1_loop i).trips) : BitVec 32 :=
  let c0_i32_9 : BitVec 32 := 0#32
  let c1_i32_11 : BitVec 32 := 1#32
  let arg8 : BitVec 32 := Scf.iv c0_i32_9 c1_i32_11 k0_t1
  let c2_i32_48 : BitVec 32 := 2#32
  let v169 : BitVec 32 := Scalar.muli arg8 c2_i32_48
  let c1024_i32_49 : BitVec 32 := 1024#32
  let v170 : BitVec 32 := Scalar.muli v169 c1024_i32_49
  v170
def k0_off1 (i : grid0.Coords) (k0_t1 : Fin (k0_t1_loop i).trips) : Fin 2 → Nat :=
  let c0_i32_9 : BitVec 32 := 0#32
  let c1_i32_11 : BitVec 32 := 1#32
  let arg8 : BitVec 32 := Scf.iv c0_i32_9 c1_i32_11 k0_t1
  let c2_i32_48 : BitVec 32 := 2#32
  let v169 : BitVec 32 := Scalar.muli arg8 c2_i32_48
  let c1024_i32_49 : BitVec 32 := 1024#32
  let v170 : BitVec 32 := Scalar.muli v169 c1024_i32_49
  let v171 : BitVec 32 := v170
  let v172 : Index := Scalar.indexCast v171
  let c0_50 : Index := 0#32
  ![v172.toNat, 0]
def k0_off2 (i : grid0.Coords) (k0_t1 : Fin (k0_t1_loop i).trips) : Fin 3 → Nat :=
  let c0_51 : Index := 0#32
  let c0_i32_9 : BitVec 32 := 0#32
  let c1_i32_11 : BitVec 32 := 1#32
  let arg8 : BitVec 32 := Scf.iv c0_i32_9 c1_i32_11 k0_t1
  let c2_i32_48 : BitVec 32 := 2#32
  let v169 : BitVec 32 := Scalar.muli arg8 c2_i32_48
  let c1024_i32_49 : BitVec 32 := 1024#32
  let v170 : BitVec 32 := Scalar.muli v169 c1024_i32_49
  let v171 : BitVec 32 := v170
  let v175 : Index := Scalar.indexCast v171
  let c0_52 : Index := 0#32
  ![0, v175.toNat, 0]
@[reducible] def k0_t2_loop (i : grid0.Coords) : Scf.Loop 32 :=
  let c0_i32_9 : BitVec 32 := 0#32
  let arg1 : BitVec 32 := BitVec.ofNat 32 (i 1).val
  let c0_i32 : BitVec 32 := 0#32
  let v14 : BitVec 1 := Scalar.cmpi .sgt arg1 c0_i32
  let v15 : BitVec 32 := Scalar.extui v14
  let c0_i32_5 : BitVec 32 := 0#32
  let v16 : BitVec 1 := Scalar.cmpi .slt arg1 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi arg1 c2_i32
  let c0_i32_8 : BitVec 32 := 0#32
  let v26 : BitVec 1 := Scalar.cmpi .ne v25 c0_i32_8
  let v27 : BitVec 1 := Scalar.andi v24 v26
  let v13 : BitVec 32 := Scalar.divsi arg1 c2_i32
  let c1_i32 : BitVec 32 := 1#32
  let v28 : BitVec 32 := Scalar.subi v13 c1_i32
  let v29 : BitVec 32 := Scalar.select v27 v28 v13
  let v30 : BitVec 32 := Scalar.subi v29 c0_i32_9
  let c1_i32_10 : BitVec 32 := 1#32
  let v32 : BitVec 32 := Scalar.divsi v30 c1_i32_10
  let v33 : BitVec 32 := Scalar.muli v32 c1_i32_10
  let v34 : BitVec 32 := Scalar.addi c0_i32_9 v33
  let v31 : BitVec 32 := Scalar.addi c0_i32_9 v30
  let c1_i32_12 : BitVec 32 := 1#32
  ⟨v34, v31, c1_i32_12⟩
def k0_mult2 (i : grid0.Coords) (k0_t2 : Fin (k0_t2_loop i).trips) : BitVec 32 :=
  let c0_i32_9 : BitVec 32 := 0#32
  let arg1 : BitVec 32 := BitVec.ofNat 32 (i 1).val
  let c0_i32 : BitVec 32 := 0#32
  let v14 : BitVec 1 := Scalar.cmpi .sgt arg1 c0_i32
  let v15 : BitVec 32 := Scalar.extui v14
  let c0_i32_5 : BitVec 32 := 0#32
  let v16 : BitVec 1 := Scalar.cmpi .slt arg1 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi arg1 c2_i32
  let c0_i32_8 : BitVec 32 := 0#32
  let v26 : BitVec 1 := Scalar.cmpi .ne v25 c0_i32_8
  let v27 : BitVec 1 := Scalar.andi v24 v26
  let v13 : BitVec 32 := Scalar.divsi arg1 c2_i32
  let c1_i32 : BitVec 32 := 1#32
  let v28 : BitVec 32 := Scalar.subi v13 c1_i32
  let v29 : BitVec 32 := Scalar.select v27 v28 v13
  let v30 : BitVec 32 := Scalar.subi v29 c0_i32_9
  let c1_i32_10 : BitVec 32 := 1#32
  let v32 : BitVec 32 := Scalar.divsi v30 c1_i32_10
  let v33 : BitVec 32 := Scalar.muli v32 c1_i32_10
  let v34 : BitVec 32 := Scalar.addi c0_i32_9 v33
  let c1_i32_12 : BitVec 32 := 1#32
  let arg8 : BitVec 32 := Scf.iv v34 c1_i32_12 k0_t2
  let c2_i32_48 : BitVec 32 := 2#32
  let v169 : BitVec 32 := Scalar.muli arg8 c2_i32_48
  let c1024_i32_49 : BitVec 32 := 1024#32
  let v170 : BitVec 32 := Scalar.muli v169 c1024_i32_49
  v170
def k0_off3 (i : grid0.Coords) (k0_t2 : Fin (k0_t2_loop i).trips) : Fin 2 → Nat :=
  let c0_i32_9 : BitVec 32 := 0#32
  let arg1 : BitVec 32 := BitVec.ofNat 32 (i 1).val
  let c0_i32 : BitVec 32 := 0#32
  let v14 : BitVec 1 := Scalar.cmpi .sgt arg1 c0_i32
  let v15 : BitVec 32 := Scalar.extui v14
  let c0_i32_5 : BitVec 32 := 0#32
  let v16 : BitVec 1 := Scalar.cmpi .slt arg1 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi arg1 c2_i32
  let c0_i32_8 : BitVec 32 := 0#32
  let v26 : BitVec 1 := Scalar.cmpi .ne v25 c0_i32_8
  let v27 : BitVec 1 := Scalar.andi v24 v26
  let v13 : BitVec 32 := Scalar.divsi arg1 c2_i32
  let c1_i32 : BitVec 32 := 1#32
  let v28 : BitVec 32 := Scalar.subi v13 c1_i32
  let v29 : BitVec 32 := Scalar.select v27 v28 v13
  let v30 : BitVec 32 := Scalar.subi v29 c0_i32_9
  let c1_i32_10 : BitVec 32 := 1#32
  let v32 : BitVec 32 := Scalar.divsi v30 c1_i32_10
  let v33 : BitVec 32 := Scalar.muli v32 c1_i32_10
  let v34 : BitVec 32 := Scalar.addi c0_i32_9 v33
  let c1_i32_12 : BitVec 32 := 1#32
  let arg8 : BitVec 32 := Scf.iv v34 c1_i32_12 k0_t2
  let c2_i32_48 : BitVec 32 := 2#32
  let v169 : BitVec 32 := Scalar.muli arg8 c2_i32_48
  let c1024_i32_49 : BitVec 32 := 1024#32
  let v170 : BitVec 32 := Scalar.muli v169 c1024_i32_49
  let v171 : BitVec 32 := v170
  let v172 : Index := Scalar.indexCast v171
  let c0_50 : Index := 0#32
  ![v172.toNat, 0]
def k0_off4 (i : grid0.Coords) (k0_t2 : Fin (k0_t2_loop i).trips) : Fin 3 → Nat :=
  let c0_51 : Index := 0#32
  let c0_i32_9 : BitVec 32 := 0#32
  let arg1 : BitVec 32 := BitVec.ofNat 32 (i 1).val
  let c0_i32 : BitVec 32 := 0#32
  let v14 : BitVec 1 := Scalar.cmpi .sgt arg1 c0_i32
  let v15 : BitVec 32 := Scalar.extui v14
  let c0_i32_5 : BitVec 32 := 0#32
  let v16 : BitVec 1 := Scalar.cmpi .slt arg1 c0_i32_5
  let v17 : BitVec 32 := Scalar.extui v16
  let v18 : BitVec 32 := Scalar.subi v15 v17
  let c2_i32 : BitVec 32 := 2#32
  let c0_i32_6 : BitVec 32 := 0#32
  let v19 : BitVec 1 := Scalar.cmpi .sgt c2_i32 c0_i32_6
  let v20 : BitVec 32 := Scalar.extui v19
  let c0_i32_7 : BitVec 32 := 0#32
  let v21 : BitVec 1 := Scalar.cmpi .slt c2_i32 c0_i32_7
  let v22 : BitVec 32 := Scalar.extui v21
  let v23 : BitVec 32 := Scalar.subi v20 v22
  let v24 : BitVec 1 := Scalar.cmpi .ne v18 v23
  let v25 : BitVec 32 := Scalar.remsi arg1 c2_i32
  let c0_i32_8 : BitVec 32 := 0#32
  let v26 : BitVec 1 := Scalar.cmpi .ne v25 c0_i32_8
  let v27 : BitVec 1 := Scalar.andi v24 v26
  let v13 : BitVec 32 := Scalar.divsi arg1 c2_i32
  let c1_i32 : BitVec 32 := 1#32
  let v28 : BitVec 32 := Scalar.subi v13 c1_i32
  let v29 : BitVec 32 := Scalar.select v27 v28 v13
  let v30 : BitVec 32 := Scalar.subi v29 c0_i32_9
  let c1_i32_10 : BitVec 32 := 1#32
  let v32 : BitVec 32 := Scalar.divsi v30 c1_i32_10
  let v33 : BitVec 32 := Scalar.muli v32 c1_i32_10
  let v34 : BitVec 32 := Scalar.addi c0_i32_9 v33
  let c1_i32_12 : BitVec 32 := 1#32
  let arg8 : BitVec 32 := Scf.iv v34 c1_i32_12 k0_t2
  let c2_i32_48 : BitVec 32 := 2#32
  let v169 : BitVec 32 := Scalar.muli arg8 c2_i32_48
  let c1024_i32_49 : BitVec 32 := 1024#32
  let v170 : BitVec 32 := Scalar.muli v169 c1024_i32_49
  let v171 : BitVec 32 := v170
  let v175 : Index := Scalar.indexCast v171
  let c0_52 : Index := 0#32
  ![0, v175.toNat, 0]
@[reducible] def k0_t3_loop (i : grid0.Coords) : Scf.Loop 32 :=
  let c0_i32_19 : BitVec 32 := 0#32
  let arg1 : BitVec 32 := BitVec.ofNat 32 (i 1).val
  let c2_i32_13 : BitVec 32 := 2#32
  let c0_i32_14 : BitVec 32 := 0#32
  let v37 : BitVec 1 := Scalar.cmpi .eq c2_i32_13 c0_i32_14
  let c1_i32_15 : BitVec 32 := 1#32
  let v38 : BitVec 32 := Scalar.select v37 c1_i32_15 c2_i32_13
  let v39 : BitVec 32 := Scalar.remsi arg1 v38
  let c0_i32_17 : BitVec 32 := 0#32
  let v41 : BitVec 1 := Scalar.cmpi .slt v39 c0_i32_17
  let c0_i32_18 : BitVec 32 := 0#32
  let v42 : BitVec 1 := Scalar.cmpi .slt v38 c0_i32_18
  let v43 : BitVec 1 := Scalar.xori v41 v42
  let c0_i32_16 : BitVec 32 := 0#32
  let v40 : BitVec 1 := Scalar.cmpi .ne v39 c0_i32_16
  let v44 : BitVec 1 := Scalar.andi v43 v40
  let v45 : BitVec 32 := Scalar.addi v39 v38
  let v46 : BitVec 32 := Scalar.select v44 v45 v39
  let v47 : BitVec 32 := Scalar.subi v46 c0_i32_19
  let c1_i32_20 : BitVec 32 := 1#32
  let v49 : BitVec 32 := Scalar.divsi v47 c1_i32_20
  let v50 : BitVec 32 := Scalar.muli v49 c1_i32_20
  let v51 : BitVec 32 := Scalar.addi c0_i32_19 v50
  let c1_i32_21 : BitVec 32 := 1#32
  ⟨c0_i32_19, v51, c1_i32_21⟩
def k0_mult3 (i : grid0.Coords) : BitVec 32 :=
  let arg1 : BitVec 32 := BitVec.ofNat 32 (i 1).val
  let c1_i32_48 : BitVec 32 := 1#32
  let v169 : BitVec 32 := Scalar.subi arg1 c1_i32_48
  let c1024_i32_49 : BitVec 32 := 1024#32
  let v170 : BitVec 32 := Scalar.muli v169 c1024_i32_49
  v170
def k0_off5 (i : grid0.Coords) : Fin 2 → Nat :=
  let arg1 : BitVec 32 := BitVec.ofNat 32 (i 1).val
  let c1_i32_48 : BitVec 32 := 1#32
  let v169 : BitVec 32 := Scalar.subi arg1 c1_i32_48
  let c1024_i32_49 : BitVec 32 := 1024#32
  let v170 : BitVec 32 := Scalar.muli v169 c1024_i32_49
  let v171 : BitVec 32 := v170
  let v172 : Index := Scalar.indexCast v171
  let c0_50 : Index := 0#32
  ![v172.toNat, 0]
def k0_off6 (i : grid0.Coords) : Fin 3 → Nat :=
  let c0_51 : Index := 0#32
  let arg1 : BitVec 32 := BitVec.ofNat 32 (i 1).val
  let c1_i32_48 : BitVec 32 := 1#32
  let v169 : BitVec 32 := Scalar.subi arg1 c1_i32_48
  let c1024_i32_49 : BitVec 32 := 1024#32
  let v170 : BitVec 32 := Scalar.muli v169 c1024_i32_49
  let v171 : BitVec 32 := v170
  let v175 : Index := Scalar.indexCast v171
  let c0_52 : Index := 0#32
  ![0, v175.toNat, 0]
@[reducible] def k0_t4_loop (i : grid0.Coords) : Scf.Loop 32 :=
  let c0_i32_19 : BitVec 32 := 0#32
  let arg1 : BitVec 32 := BitVec.ofNat 32 (i 1).val
  let c2_i32_13 : BitVec 32 := 2#32
  let c0_i32_14 : BitVec 32 := 0#32
  let v37 : BitVec 1 := Scalar.cmpi .eq c2_i32_13 c0_i32_14
  let c1_i32_15 : BitVec 32 := 1#32
  let v38 : BitVec 32 := Scalar.select v37 c1_i32_15 c2_i32_13
  let v39 : BitVec 32 := Scalar.remsi arg1 v38
  let c0_i32_17 : BitVec 32 := 0#32
  let v41 : BitVec 1 := Scalar.cmpi .slt v39 c0_i32_17
  let c0_i32_18 : BitVec 32 := 0#32
  let v42 : BitVec 1 := Scalar.cmpi .slt v38 c0_i32_18
  let v43 : BitVec 1 := Scalar.xori v41 v42
  let c0_i32_16 : BitVec 32 := 0#32
  let v40 : BitVec 1 := Scalar.cmpi .ne v39 c0_i32_16
  let v44 : BitVec 1 := Scalar.andi v43 v40
  let v45 : BitVec 32 := Scalar.addi v39 v38
  let v46 : BitVec 32 := Scalar.select v44 v45 v39
  let v47 : BitVec 32 := Scalar.subi v46 c0_i32_19
  let c1_i32_20 : BitVec 32 := 1#32
  let v49 : BitVec 32 := Scalar.divsi v47 c1_i32_20
  let v50 : BitVec 32 := Scalar.muli v49 c1_i32_20
  let v51 : BitVec 32 := Scalar.addi c0_i32_19 v50
  let v48 : BitVec 32 := Scalar.addi c0_i32_19 v47
  let c1_i32_22 : BitVec 32 := 1#32
  ⟨v51, v48, c1_i32_22⟩
def k0_mult4 (i : grid0.Coords) : BitVec 32 :=
  let arg1 : BitVec 32 := BitVec.ofNat 32 (i 1).val
  let c1_i32_48 : BitVec 32 := 1#32
  let v169 : BitVec 32 := Scalar.subi arg1 c1_i32_48
  let c1024_i32_49 : BitVec 32 := 1024#32
  let v170 : BitVec 32 := Scalar.muli v169 c1024_i32_49
  v170
def k0_off7 (i : grid0.Coords) : Fin 2 → Nat :=
  let arg1 : BitVec 32 := BitVec.ofNat 32 (i 1).val
  let c1_i32_48 : BitVec 32 := 1#32
  let v169 : BitVec 32 := Scalar.subi arg1 c1_i32_48
  let c1024_i32_49 : BitVec 32 := 1024#32
  let v170 : BitVec 32 := Scalar.muli v169 c1024_i32_49
  let v171 : BitVec 32 := v170
  let v172 : Index := Scalar.indexCast v171
  let c0_50 : Index := 0#32
  ![v172.toNat, 0]
def k0_off8 (i : grid0.Coords) : Fin 3 → Nat :=
  let c0_51 : Index := 0#32
  let arg1 : BitVec 32 := BitVec.ofNat 32 (i 1).val
  let c1_i32_48 : BitVec 32 := 1#32
  let v169 : BitVec 32 := Scalar.subi arg1 c1_i32_48
  let c1024_i32_49 : BitVec 32 := 1024#32
  let v170 : BitVec 32 := Scalar.muli v169 c1024_i32_49
  let v171 : BitVec 32 := v170
  let v175 : Index := Scalar.indexCast v171
  let c0_52 : Index := 0#32
  ![0, v175.toNat, 0]
def k0_mult5 (i : grid0.Coords) : BitVec 32 :=
  let arg1 : BitVec 32 := BitVec.ofNat 32 (i 1).val
  let c1024_i32 : BitVec 32 := 1024#32
  let v54 : BitVec 32 := Scalar.muli arg1 c1024_i32
  v54
def k0_mult6 (i : grid0.Coords) : BitVec 32 :=
  let arg1 : BitVec 32 := BitVec.ofNat 32 (i 1).val
  let c1024_i32_23 : BitVec 32 := 1024#32
  let v56 : BitVec 32 := Scalar.muli arg1 c1024_i32_23
  let c512_i32 : BitVec 32 := 512#32
  let v57 : BitVec 32 := Scalar.addi v56 c512_i32
  v57
def k0_off9 (i : grid0.Coords) : Fin 2 → Nat :=
  let arg1 : BitVec 32 := BitVec.ofNat 32 (i 1).val
  let c1024_i32 : BitVec 32 := 1024#32
  let v54 : BitVec 32 := Scalar.muli arg1 c1024_i32
  let v55 : BitVec 32 := v54
  let v59 : Index := Scalar.indexCast v55
  let c0_24 : Index := 0#32
  ![v59.toNat, 0]
def k0_off10 (i : grid0.Coords) : Fin 3 → Nat :=
  let c0_25 : Index := 0#32
  let arg1 : BitVec 32 := BitVec.ofNat 32 (i 1).val
  let c1024_i32 : BitVec 32 := 1024#32
  let v54 : BitVec 32 := Scalar.muli arg1 c1024_i32
  let v55 : BitVec 32 := v54
  let v62 : Index := Scalar.indexCast v55
  let c0_26 : Index := 0#32
  ![0, v62.toNat, 0]
def k0_off11 (i : grid0.Coords) : Fin 2 → Nat :=
  let arg1 : BitVec 32 := BitVec.ofNat 32 (i 1).val
  let c1024_i32_23 : BitVec 32 := 1024#32
  let v56 : BitVec 32 := Scalar.muli arg1 c1024_i32_23
  let c512_i32 : BitVec 32 := 512#32
  let v57 : BitVec 32 := Scalar.addi v56 c512_i32
  let v58 : BitVec 32 := v57
  let v101 : Index := Scalar.indexCast v58
  let c0_32 : Index := 0#32
  ![v101.toNat, 0]
def k0_off12 (i : grid0.Coords) : Fin 3 → Nat :=
  let c0_33 : Index := 0#32
  let arg1 : BitVec 32 := BitVec.ofNat 32 (i 1).val
  let c1024_i32_23 : BitVec 32 := 1024#32
  let v56 : BitVec 32 := Scalar.muli arg1 c1024_i32_23
  let c512_i32 : BitVec 32 := 512#32
  let v57 : BitVec 32 := Scalar.addi v56 c512_i32
  let v58 : BitVec 32 := v57
  let v104 : Index := Scalar.indexCast v58
  let c0_34 : Index := 0#32
  ![0, v104.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16384x768 : Shape := ⟨2, ![16384, 768]⟩
abbrev S16384x6 : Shape := ⟨2, ![16384, 6]⟩
abbrev S128 : Shape := ⟨1, ![128]⟩
abbrev S16384x6x128 : Shape := ⟨3, ![16384, 6, 128]⟩
abbrev S6x16384x16384 : Shape := ⟨3, ![6, 16384, 16384]⟩
abbrev S_ : Shape := ⟨0, ![]⟩
abbrev S6x16384 : Shape := ⟨2, ![6, 16384]⟩
abbrev S6x16384x1 : Shape := ⟨3, ![6, 16384, 1]⟩
abbrev S6x1x16384 : Shape := ⟨3, ![6, 1, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S6x128x16384 : Shape := ⟨3, ![6, 128, 16384]⟩
abbrev S16384x6x1 : Shape := ⟨3, ![16384, 6, 1]⟩
abbrev S1x1x128 : Shape := ⟨3, ![1, 1, 128]⟩

abbrev nBuf : Space → Nat
  | .hbm => 65
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S16384x768, .f32⟩
  | .hbm, ⟨2, _⟩ => ⟨S16384x768, .f32⟩
  | .hbm, ⟨3, _⟩ => ⟨S16384x6, .f32⟩
  | .hbm, ⟨4, _⟩ => ⟨S128, .f32⟩
  | .hbm, ⟨5, _⟩ => ⟨S16384x6x128, .f32⟩
  | .hbm, ⟨6, _⟩ => ⟨S16384x6x128, .f32⟩
  | .hbm, ⟨7, _⟩ => ⟨S16384x6x128, .f32⟩
  | .hbm, ⟨8, _⟩ => ⟨S6x16384x16384, .f32⟩
  | .hbm, ⟨9, _⟩ => ⟨S_, .f32⟩
  | .hbm, ⟨10, _⟩ => ⟨S_, .f32⟩
  | .hbm, ⟨11, _⟩ => ⟨S6x16384x16384, .f32⟩
  | .hbm, ⟨12, _⟩ => ⟨S6x16384x16384, .f32⟩
  | .hbm, ⟨13, _⟩ => ⟨S6x16384, .f32⟩
  | .hbm, ⟨14, _⟩ => ⟨S6x16384x1, .f32⟩
  | .hbm, ⟨15, _⟩ => ⟨S6x16384x16384, .f32⟩
  | .hbm, ⟨16, _⟩ => ⟨S6x16384x16384, .f32⟩
  | .hbm, ⟨17, _⟩ => ⟨S6x1x16384, .f32⟩
  | .hbm, ⟨18, _⟩ => ⟨S6x16384x16384, .f32⟩
  | .hbm, ⟨19, _⟩ => ⟨S6x16384x16384, .f32⟩
  | .hbm, ⟨20, _⟩ => ⟨S16384, .i32⟩
  | .hbm, ⟨21, _⟩ => ⟨S1x16384, .i32⟩
  | .hbm, ⟨22, _⟩ => ⟨S16384x1, .i32⟩
  | .hbm, ⟨23, _⟩ => ⟨S16384x16384, .i32⟩
  | .hbm, ⟨24, _⟩ => ⟨S16384x16384, .i32⟩
  | .hbm, ⟨25, _⟩ => ⟨S16384x16384, .i1⟩
  | .hbm, ⟨26, _⟩ => ⟨S_, .f32⟩
  | .hbm, ⟨27, _⟩ => ⟨S_, .f32⟩
  | .hbm, ⟨28, _⟩ => ⟨S6x16384x16384, .i1⟩
  | .hbm, ⟨29, _⟩ => ⟨S6x16384x16384, .f32⟩
  | .hbm, ⟨30, _⟩ => ⟨S6x16384x16384, .f32⟩
  | .hbm, ⟨31, _⟩ => ⟨S_, .f32⟩
  | .hbm, ⟨32, _⟩ => ⟨S6x16384, .f32⟩
  | .hbm, ⟨33, _⟩ => ⟨S_, .f32⟩
  | .hbm, ⟨34, _⟩ => ⟨S6x16384, .f32⟩
  | .hbm, ⟨35, _⟩ => ⟨S6x16384, .f32⟩
  | .hbm, ⟨36, _⟩ => ⟨S6x16384x1, .f32⟩
  | .hbm, ⟨37, _⟩ => ⟨S6x16384x16384, .f32⟩
  | .hbm, ⟨38, _⟩ => ⟨S6x16384x16384, .f32⟩
  | .hbm, ⟨39, _⟩ => ⟨S6x16384x16384, .f32⟩
  | .hbm, ⟨40, _⟩ => ⟨S_, .f32⟩
  | .hbm, ⟨41, _⟩ => ⟨S6x16384, .f32⟩
  | .hbm, ⟨42, _⟩ => ⟨S6x16384x1, .f32⟩
  | .hbm, ⟨43, _⟩ => ⟨S6x16384x16384, .f32⟩
  | .hbm, ⟨44, _⟩ => ⟨S6x16384x16384, .f32⟩
  | .hbm, ⟨45, _⟩ => ⟨S6x128x16384, .f32⟩
  | .hbm, ⟨46, _⟩ => ⟨S16384x6x128, .f32⟩
  | .hbm, ⟨47, _⟩ => ⟨S16384x6x128, .f32⟩
  | .hbm, ⟨48, _⟩ => ⟨S_, .f32⟩
  | .hbm, ⟨49, _⟩ => ⟨S16384x6, .f32⟩
  | .hbm, ⟨50, _⟩ => ⟨S16384x6x1, .f32⟩
  | .hbm, ⟨51, _⟩ => ⟨S_, .f32⟩
  | .hbm, ⟨52, _⟩ => ⟨S16384x6x1, .f32⟩
  | .hbm, ⟨53, _⟩ => ⟨S16384x6x1, .f32⟩
  | .hbm, ⟨54, _⟩ => ⟨S_, .f32⟩
  | .hbm, ⟨55, _⟩ => ⟨S16384x6x1, .f32⟩
  | .hbm, ⟨56, _⟩ => ⟨S16384x6x1, .f32⟩
  | .hbm, ⟨57, _⟩ => ⟨S16384x6x1, .f32⟩
  | .hbm, ⟨58, _⟩ => ⟨S16384x6x128, .f32⟩
  | .hbm, ⟨59, _⟩ => ⟨S16384x6x128, .f32⟩
  | .hbm, ⟨60, _⟩ => ⟨S1x1x128, .f32⟩
  | .hbm, ⟨61, _⟩ => ⟨S16384x6x128, .f32⟩
  | .hbm, ⟨62, _⟩ => ⟨S16384x6x128, .f32⟩
  | .hbm, ⟨63, _⟩ => ⟨S16384x768, .f32⟩
  | .hbm, ⟨64, _⟩ => ⟨S16384x768, .bf16⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== Kernel2.lean ====
abbrev S16384x2048 : Shape := ⟨2, ![16384, 2048]⟩
abbrev S2048x7168 : Shape := ⟨2, ![2048, 7168]⟩
abbrev S16384x7168 : Shape := ⟨2, ![16384, 7168]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048x7168, .f32⟩
  | .hbm, ⟨2, _⟩ => ⟨S2048x7168, .f32⟩
  | .hbm, ⟨3, _⟩ => ⟨S16384x2048, .bf16⟩
  | .hbm, ⟨4, _⟩ => ⟨S2048x7168, .bf16⟩
  | .hbm, ⟨5, _⟩ => ⟨S2048x7168, .bf16⟩
  | .hbm, ⟨6, _⟩ => ⟨S16384x7168, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 14], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16384x2048 : Shape := ⟨2, ![16384, 2048]⟩
abbrev S2048x7168 : Shape := ⟨2, ![2048, 7168]⟩
abbrev S16384x7168 : Shape := ⟨2, ![16384, 7168]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x7168, .f32⟩
  | .hbm, ⟨2, _⟩ => ⟨S2048x7168, .f32⟩
  | .hbm, ⟨3, _⟩ => ⟨S16384x7168, .f32⟩
  | .hbm, ⟨4, _⟩ => ⟨S16384x7168, .f32⟩
  | .hbm, ⟨5, _⟩ => ⟨S16384x7168, .f32⟩
  | .hbm, ⟨6, _⟩ => ⟨S16384x7168, .f32⟩
  | .hbm, ⟨7, _⟩ => ⟨S_, .f32⟩
  | .hbm, ⟨8, _⟩ => ⟨S16384x7168, .f32⟩
  | .hbm, ⟨9, _⟩ => ⟨S16384x7168, .f32⟩
  | .hbm, ⟨10, _⟩ => ⟨S_, .f32⟩
  | .hbm, ⟨11, _⟩ => ⟨S16384x7168, .f32⟩
  | .hbm, ⟨12, _⟩ => ⟨S16384x7168, .f32⟩
  | .hbm, ⟨13, _⟩ => ⟨S16384x7168, .f32⟩
  | .hbm, ⟨14, _⟩ => ⟨S16384x7168, .f32⟩
  | .hbm, ⟨15, _⟩ => ⟨S16384x7168, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel3.lean ====
abbrev S16384x7168 : Shape := ⟨2, ![16384, 7168]⟩
abbrev S7168x2048 : Shape := ⟨2, ![7168, 2048]⟩
abbrev S16384x2048 : Shape := ⟨2, ![16384, 2048]⟩
abbrev S2048 : Shape := ⟨1, ![2048]⟩
abbrev S1x2048 : Shape := ⟨2, ![1, 2048]⟩
abbrev S256x7168 : Shape := ⟨2, ![256, 7168]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 9
  | .smem => 0
  | _ => 0

abbrev bufTy : (tb : Table) → Fin (tcTables nBuf tb) → BufTy
  | .hbm, ⟨0, _⟩ => ⟨S16384x7168, .f32⟩
  | .hbm, ⟨1, _⟩ => ⟨S7168x2048, .f32⟩
  | .hbm, ⟨2, _⟩ => ⟨S16384x2048, .f32⟩
  | .hbm, ⟨3, _⟩ => ⟨S2048, .f32⟩
  | .hbm, ⟨4, _⟩ => ⟨S1x2048, .f32⟩
  | .hbm, ⟨5, _⟩ => ⟨S16384x7168, .bf16⟩
  | .hbm, ⟨6, _⟩ => ⟨S7168x2048, .bf16⟩
  | .hbm, ⟨7, _⟩ => ⟨S1x2048, .f32⟩
  | .hbm, ⟨8, _⟩ => ⟨S16384x2048, .f32⟩
  | .local _ .vmem, ⟨0, _⟩ => ⟨S256x7168, .bf16⟩
  | .local _ .vmem, ⟨1, _⟩ => ⟨S256x7168, .bf16⟩
  | .local _ .vmem, ⟨2, _⟩ => ⟨S7168x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | _, _ => ⟨S16384x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7168x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S16384x7168 : Shape := ⟨2, ![16384, 7168]⟩
abbrev S7168x2048 : Shape := ⟨2, ![7168, 2048]⟩
abbrev S16384x2048 : Shape := ⟨2, ![16384, 2048]⟩
abbrev S2048 : Shape := ⟨1, ![2048]⟩
abbrev S1x2048 : Shape := ⟨2, ![1, 2048]⟩
abbrev S_ : Shape := ⟨0, ![]⟩
abbrev S16384 : Shape := ⟨1, ![16384]⟩
abbrev S16384x1 : Shape := ⟨2, ![16384, 1]⟩

abbrev nBuf : Space → Nat
  | .hbm => 25
  | .vmem => 0
  | .smem => 0
  | _ => 0

abbrev bufTy : (tb : Table) → Fin (tcTables nBuf tb) → BufTy
  | .hbm, ⟨0, _⟩ => ⟨S16384x7168, .f32⟩
  | .hbm, ⟨1, _⟩ => ⟨S7168x2048, .f32⟩
  | .hbm, ⟨2, _⟩ => ⟨S16384x2048, .f32⟩
  | .hbm, ⟨3, _⟩ => ⟨S2048, .f32⟩
  | .hbm, ⟨4, _⟩ => ⟨S1x2048, .f32⟩
  | .hbm, ⟨5, _⟩ => ⟨S16384x2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S16384x2048, .f32⟩
  | _, _ => ⟨S16384x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kernel4.lean ====
abbrev S72 : Shape := ⟨1, ![72]⟩
abbrev S1 : Shape := ⟨1, ![1]⟩
abbrev S36864x2048 : Shape := ⟨2, ![36864, 2048]⟩
abbrev S8x2048x7168 : Shape := ⟨3, ![8, 2048, 7168]⟩
abbrev S36864x7168 : Shape := ⟨2, ![36864, 7168]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 4
  | .vmem => 10
  | .smem => 2
  | _ => 0

abbrev bufTy : (tb : Table) → Fin (tcTables nBuf tb) → BufTy
  | .hbm, ⟨0, _⟩ => ⟨S36864x2048, .bf16⟩
  | .hbm, ⟨1, _⟩ => ⟨S8x2048x7168, .f32⟩
  | .hbm, ⟨2, _⟩ => ⟨S8x2048x7168, .f32⟩
  | .hbm, ⟨3, _⟩ => ⟨S36864x7168, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x2048x1024, .f32⟩
  | .local _ .vmem, ⟨5, _⟩ => ⟨S1x2048x1024, .f32⟩
  | .local _ .vmem, ⟨6, _⟩ => ⟨S512x1024, .bf16⟩
  | .local _ .vmem, ⟨7, _⟩ => ⟨S512x1024, .bf16⟩
  | .local _ .vmem, ⟨8, _⟩ => ⟨S2048x1024, .bf16⟩
  | .local _ .vmem, ⟨9, _⟩ => ⟨S2048x1024, .bf16⟩
  | .local _ .smem, ⟨0, _⟩ => ⟨S72, .i32⟩
  | .local _ .smem, ⟨1, _⟩ => ⟨S1, .i32⟩
  | _, _ => ⟨S36864x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![7, 72], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v5 : BitVec 32 := Scalar.subi arg1 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg1 : BitVec 32 := BitVec.ofNat 32 (i 1).val
  let v1 : BitVec 1 := Scalar.cmpi .slt arg1 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg1 : BitVec 32 := BitVec.ofNat 32 (i 1).val
  let v1 : BitVec 1 := Scalar.cmpi .slt arg1 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S72 : Shape := ⟨1, ![72]⟩
abbrev S1 : Shape := ⟨1, ![1]⟩
abbrev S36864x2048 : Shape := ⟨2, ![36864, 2048]⟩
abbrev S8x2048x7168 : Shape := ⟨3, ![8, 2048, 7168]⟩
abbrev S_ : Shape := ⟨0, ![]⟩
abbrev S36864x7168 : Shape := ⟨2, ![36864, 7168]⟩
abbrev S72x512 : Shape := ⟨2, ![72, 512]⟩
abbrev S36864 : Shape := ⟨1, ![36864]⟩
abbrev S36864x1 : Shape := ⟨2, ![36864, 1]⟩
abbrev S1x2048x7168 : Shape := ⟨3, ![1, 2048, 7168]⟩
abbrev S2048x7168 : Shape := ⟨2, ![2048, 7168]⟩

abbrev nBuf : Space → Nat
  | .hbm => 280
  | .vmem => 0
  | .smem => 0
  | _ => 0

abbrev hbmTy0_0 (i : Nat) : BufTy := match i % 128 with
  | 0 => ⟨S72, .i32⟩
  | 1 => ⟨S1, .i32⟩
  | 2 => ⟨S36864x2048, .bf16⟩
  | 3 => ⟨S8x2048x7168, .f32⟩
  | 4 => ⟨S8x2048x7168, .f32⟩
  | 5 => ⟨S_, .f32⟩
  | 6 => ⟨S36864x7168, .f32⟩
  | 7 => ⟨S_, .i32⟩
  | 8 => ⟨S72, .i32⟩
  | 9 => ⟨S72, .i1⟩
  | 10 => ⟨S72, .i32⟩
  | 11 => ⟨S_, .i32⟩
  | 12 => ⟨S72, .i32⟩
  | 13 => ⟨S72, .i1⟩
  | 14 => ⟨S72, .i1⟩
  | 15 => ⟨S72x512, .i1⟩
  | 16 => ⟨S36864, .i1⟩
  | 17 => ⟨S36864x1, .i1⟩
  | 18 => ⟨S36864x2048, .f32⟩
  | 19 => ⟨S1x2048x7168, .f32⟩
  | 20 => ⟨S2048x7168, .f32⟩
  | 21 => ⟨S1x2048x7168, .f32⟩
  | 22 => ⟨S2048x7168, .f32⟩
  | 23 => ⟨S36864x7168, .f32⟩
  | 24 => ⟨S36864x7168, .f32⟩
  | 25 => ⟨S36864x7168, .f32⟩
  | 26 => ⟨S36864x7168, .f32⟩
  | 27 => ⟨S_, .f32⟩
  | 28 => ⟨S36864x7168, .f32⟩
  | 29 => ⟨S36864x7168, .f32⟩
  | 30 => ⟨S_, .f32⟩
  | 31 => ⟨S36864x7168, .f32⟩
  | 32 => ⟨S36864x7168, .f32⟩
  | 33 => ⟨S36864x7168, .f32⟩
  | 34 => ⟨S36864x7168, .f32⟩
  | 35 => ⟨S_, .f32⟩
  | 36 => ⟨S_, .f32⟩
  | 37 => ⟨S36864x7168, .i1⟩
  | 38 => ⟨S36864x7168, .f32⟩
  | 39 => ⟨S36864x7168, .f32⟩
  | 40 => ⟨S36864x7168, .f32⟩
  | 41 => ⟨S_, .i32⟩
  | 42 => ⟨S72, .i32⟩
  | 43 => ⟨S72, .i1⟩
  | 44 => ⟨S72, .i32⟩
  | 45 => ⟨S_, .i32⟩
  | 46 => ⟨S72, .i32⟩
  | 47 => ⟨S72, .i1⟩
  | 48 => ⟨S72, .i1⟩
  | 49 => ⟨S72x512, .i1⟩
  | 50 => ⟨S36864, .i1⟩
  | 51 => ⟨S36864x1, .i1⟩
  | 52 => ⟨S36864x2048, .f32⟩
  | 53 => ⟨S1x2048x7168, .f32⟩
  | 54 => ⟨S2048x7168, .f32⟩
  | 55 => ⟨S1x2048x7168, .f32⟩
  | 56 => ⟨S2048x7168, .f32⟩
  | 57 => ⟨S36864x7168, .f32⟩
  | 58 => ⟨S36864x7168, .f32⟩
  | 59 => ⟨S36864x7168, .f32⟩
  | 60 => ⟨S36864x7168, .f32⟩
  | 61 => ⟨S_, .f32⟩
  | 62 => ⟨S36864x7168, .f32⟩
  | 63 => ⟨S36864x7168, .f32⟩
  | 64 => ⟨S_, .f32⟩
  | 65 => ⟨S36864x7168, .f32⟩
  | 66 => ⟨S36864x7168, .f32⟩
  | 67 => ⟨S36864x7168, .f32⟩
  | 68 => ⟨S36864x7168, .f32⟩
  | 69 => ⟨S_, .f32⟩
  | 70 => ⟨S_, .f32⟩
  | 71 => ⟨S36864x7168, .i1⟩
  | 72 => ⟨S36864x7168, .f32⟩
  | 73 => ⟨S36864x7168, .f32⟩
  | 74 => ⟨S36864x7168, .f32⟩
  | 75 => ⟨S_, .i32⟩
  | 76 => ⟨S72, .i32⟩
  | 77 => ⟨S72, .i1⟩
  | 78 => ⟨S72, .i32⟩
  | 79 => ⟨S_, .i32⟩
  | 80 => ⟨S72, .i32⟩
  | 81 => ⟨S72, .i1⟩
  | 82 => ⟨S72, .i1⟩
  | 83 => ⟨S72x512, .i1⟩
  | 84 => ⟨S36864, .i1⟩
  | 85 => ⟨S36864x1, .i1⟩
  | 86 => ⟨S36864x2048, .f32⟩
  | 87 => ⟨S1x2048x7168, .f32⟩
  | 88 => ⟨S2048x7168, .f32⟩
  | 89 => ⟨S1x2048x7168, .f32⟩
  | 90 => ⟨S2048x7168, .f32⟩
  | 91 => ⟨S36864x7168, .f32⟩
  | 92 => ⟨S36864x7168, .f32⟩
  | 93 => ⟨S36864x7168, .f32⟩
  | 94 => ⟨S36864x7168, .f32⟩
  | 95 => ⟨S_, .f32⟩
  | 96 => ⟨S36864x7168, .f32⟩
  | 97 => ⟨S36864x7168, .f32⟩
  | 98 => ⟨S_, .f32⟩
  | 99 => ⟨S36864x7168, .f32⟩
  | 100 => ⟨S36864x7168, .f32⟩
  | 101 => ⟨S36864x7168, .f32⟩
  | 102 => ⟨S36864x7168, .f32⟩
  | 103 => ⟨S_, .f32⟩
  | 104 => ⟨S_, .f32⟩
  | 105 => ⟨S36864x7168, .i1⟩
  | 106 => ⟨S36864x7168, .f32⟩
  | 107 => ⟨S36864x7168, .f32⟩
  | 108 => ⟨S36864x7168, .f32⟩
  | 109 => ⟨S_, .i32⟩
  | 110 => ⟨S72, .i32⟩
  | 111 => ⟨S72, .i1⟩
  | 112 => ⟨S72, .i32⟩
  | 113 => ⟨S_, .i32⟩
  | 114 => ⟨S72, .i32⟩
  | 115 => ⟨S72, .i1⟩
  | 116 => ⟨S72, .i1⟩
  | 117 => ⟨S72x512, .i1⟩
  | 118 => ⟨S36864, .i1⟩
  | 119 => ⟨S36864x1, .i1⟩
  | 120 => ⟨S36864x2048, .f32⟩
  | 121 => ⟨S1x2048x7168, .f32⟩
  | 122 => ⟨S2048x7168, .f32⟩
  | 123 => ⟨S1x2048x7168, .f32⟩
  | 124 => ⟨S2048x7168, .f32⟩
  | 125 => ⟨S36864x7168, .f32⟩
  | 126 => ⟨S36864x7168, .f32⟩
  | 127 => ⟨S36864x7168, .f32⟩
  | _ => ⟨S72, .i32⟩

abbrev hbmTy0_1 (i : Nat) : BufTy := match i % 128 with
  | 0 => ⟨S36864x7168, .f32⟩
  | 1 => ⟨S_, .f32⟩
  | 2 => ⟨S36864x7168, .f32⟩
  | 3 => ⟨S36864x7168, .f32⟩
  | 4 => ⟨S_, .f32⟩
  | 5 => ⟨S36864x7168, .f32⟩
  | 6 => ⟨S36864x7168, .f32⟩
  | 7 => ⟨S36864x7168, .f32⟩
  | 8 => ⟨S36864x7168, .f32⟩
  | 9 => ⟨S_, .f32⟩
  | 10 => ⟨S_, .f32⟩
  | 11 => ⟨S36864x7168, .i1⟩
  | 12 => ⟨S36864x7168, .f32⟩
  | 13 => ⟨S36864x7168, .f32⟩
  | 14 => ⟨S36864x7168, .f32⟩
  | 15 => ⟨S_, .i32⟩
  | 16 => ⟨S72, .i32⟩
  | 17 => ⟨S72, .i1⟩
  | 18 => ⟨S72, .i32⟩
  | 19 => ⟨S_, .i32⟩
  | 20 => ⟨S72, .i32⟩
  | 21 => ⟨S72, .i1⟩
  | 22 => ⟨S72, .i1⟩
  | 23 => ⟨S72x512, .i1⟩
  | 24 => ⟨S36864, .i1⟩
  | 25 => ⟨S36864x1, .i1⟩
  | 26 => ⟨S36864x2048, .f32⟩
  | 27 => ⟨S1x2048x7168, .f32⟩
  | 28 => ⟨S2048x7168, .f32⟩
  | 29 => ⟨S1x2048x7168, .f32⟩
  | 30 => ⟨S2048x7168, .f32⟩
  | 31 => ⟨S36864x7168, .f32⟩
  | 32 => ⟨S36864x7168, .f32⟩
  | 33 => ⟨S36864x7168, .f32⟩
  | 34 => ⟨S36864x7168, .f32⟩
  | 35 => ⟨S_, .f32⟩
  | 36 => ⟨S36864x7168, .f32⟩
  | 37 => ⟨S36864x7168, .f32⟩
  | 38 => ⟨S_, .f32⟩
  | 39 => ⟨S36864x7168, .f32⟩
  | 40 => ⟨S36864x7168, .f32⟩
  | 41 => ⟨S36864x7168, .f32⟩
  | 42 => ⟨S36864x7168, .f32⟩
  | 43 => ⟨S_, .f32⟩
  | 44 => ⟨S_, .f32⟩
  | 45 => ⟨S36864x7168, .i1⟩
  | 46 => ⟨S36864x7168, .f32⟩
  | 47 => ⟨S36864x7168, .f32⟩
  | 48 => ⟨S36864x7168, .f32⟩
  | 49 => ⟨S_, .i32⟩
  | 50 => ⟨S72, .i32⟩
  | 51 => ⟨S72, .i1⟩
  | 52 => ⟨S72, .i32⟩
  | 53 => ⟨S_, .i32⟩
  | 54 => ⟨S72, .i32⟩
  | 55 => ⟨S72, .i1⟩
  | 56 => ⟨S72, .i1⟩
  | 57 => ⟨S72x512, .i1⟩
  | 58 => ⟨S36864, .i1⟩
  | 59 => ⟨S36864x1, .i1⟩
  | 60 => ⟨S36864x2048, .f32⟩
  | 61 => ⟨S1x2048x7168, .f32⟩
  | 62 => ⟨S2048x7168, .f32⟩
  | 63 => ⟨S1x2048x7168, .f32⟩
  | 64 => ⟨S2048x7168, .f32⟩
  | 65 => ⟨S36864x7168, .f32⟩
  | 66 => ⟨S36864x7168, .f32⟩
  | 67 => ⟨S36864x7168, .f32⟩
  | 68 => ⟨S36864x7168, .f32⟩
  | 69 => ⟨S_, .f32⟩
  | 70 => ⟨S36864x7168, .f32⟩
  | 71 => ⟨S36864x7168, .f32⟩
  | 72 => ⟨S_, .f32⟩
  | 73 => ⟨S36864x7168, .f32⟩
  | 74 => ⟨S36864x7168, .f32⟩
  | 75 => ⟨S36864x7168, .f32⟩
  | 76 => ⟨S36864x7168, .f32⟩
  | 77 => ⟨S_, .f32⟩
  | 78 => ⟨S_, .f32⟩
  | 79 => ⟨S36864x7168, .i1⟩
  | 80 => ⟨S36864x7168, .f32⟩
  | 81 => ⟨S36864x7168, .f32⟩
  | 82 => ⟨S36864x7168, .f32⟩
  | 83 => ⟨S_, .i32⟩
  | 84 => ⟨S72, .i32⟩
  | 85 => ⟨S72, .i1⟩
  | 86 => ⟨S72, .i32⟩
  | 87 => ⟨S_, .i32⟩
  | 88 => ⟨S72, .i32⟩
  | 89 => ⟨S72, .i1⟩
  | 90 => ⟨S72, .i1⟩
  | 91 => ⟨S72x512, .i1⟩
  | 92 => ⟨S36864, .i1⟩
  | 93 => ⟨S36864x1, .i1⟩
  | 94 => ⟨S36864x2048, .f32⟩
  | 95 => ⟨S1x2048x7168, .f32⟩
  | 96 => ⟨S2048x7168, .f32⟩
  | 97 => ⟨S1x2048x7168, .f32⟩
  | 98 => ⟨S2048x7168, .f32⟩
  | 99 => ⟨S36864x7168, .f32⟩
  | 100 => ⟨S36864x7168, .f32⟩
  | 101 => ⟨S36864x7168, .f32⟩
  | 102 => ⟨S36864x7168, .f32⟩
  | 103 => ⟨S_, .f32⟩
  | 104 => ⟨S36864x7168, .f32⟩
  | 105 => ⟨S36864x7168, .f32⟩
  | 106 => ⟨S_, .f32⟩
  | 107 => ⟨S36864x7168, .f32⟩
  | 108 => ⟨S36864x7168, .f32⟩
  | 109 => ⟨S36864x7168, .f32⟩
  | 110 => ⟨S36864x7168, .f32⟩
  | 111 => ⟨S_, .f32⟩
  | 112 => ⟨S_, .f32⟩
  | 113 => ⟨S36864x7168, .i1⟩
  | 114 => ⟨S36864x7168, .f32⟩
  | 115 => ⟨S36864x7168, .f32⟩
  | 116 => ⟨S36864x7168, .f32⟩
  | 117 => ⟨S_, .i32⟩
  | 118 => ⟨S72, .i32⟩
  | 119 => ⟨S72, .i1⟩
  | 120 => ⟨S72, .i32⟩
  | 121 => ⟨S_, .i32⟩
  | 122 => ⟨S72, .i32⟩
  | 123 => ⟨S72, .i1⟩
  | 124 => ⟨S72, .i1⟩
  | 125 => ⟨S72x512, .i1⟩
  | 126 => ⟨S36864, .i1⟩
  | 127 => ⟨S36864x1, .i1⟩
  | _ => ⟨S72, .i32⟩

abbrev hbmTy0_2 (i : Nat) : BufTy := match i % 128 with
  | 0 => ⟨S36864x2048, .f32⟩
  | 1 => ⟨S1x2048x7168, .f32⟩
  | 2 => ⟨S2048x7168, .f32⟩
  | 3 => ⟨S1x2048x7168, .f32⟩
  | 4 => ⟨S2048x7168, .f32⟩
  | 5 => ⟨S36864x7168, .f32⟩
  | 6 => ⟨S36864x7168, .f32⟩
  | 7 => ⟨S36864x7168, .f32⟩
  | 8 => ⟨S36864x7168, .f32⟩
  | 9 => ⟨S_, .f32⟩
  | 10 => ⟨S36864x7168, .f32⟩
  | 11 => ⟨S36864x7168, .f32⟩
  | 12 => ⟨S_, .f32⟩
  | 13 => ⟨S36864x7168, .f32⟩
  | 14 => ⟨S36864x7168, .f32⟩
  | 15 => ⟨S36864x7168, .f32⟩
  | 16 => ⟨S36864x7168, .f32⟩
  | 17 => ⟨S_, .f32⟩
  | 18 => ⟨S_, .f32⟩
  | 19 => ⟨S36864x7168, .i1⟩
  | 20 => ⟨S36864x7168, .f32⟩
  | 21 => ⟨S36864x7168, .f32⟩
  | 22 => ⟨S36864x7168, .f32⟩
  | 23 => ⟨S36864x7168, .bf16⟩
  | _ => ⟨S72, .i32⟩

abbrev hbmTy (i : Nat) : BufTy := match i / 128 with
  | 0 => hbmTy0_0 i
  | 1 => hbmTy0_1 i
  | 2 => hbmTy0_2 i
  | _ => ⟨S72, .i32⟩

abbrev bufTy : (tb : Table) → Fin (tcTables nBuf tb) → BufTy
  | .hbm, ⟨i, _⟩ => hbmTy i
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v20 : Ref sig .tc := ⟨.hbm, 39, rfl⟩
abbrev main_v21 : Ref sig .tc := ⟨.hbm, 40, rfl⟩
abbrev main_c_1 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_call2_v0 : Ref sig .tc := ⟨.hbm, 59, rfl⟩
abbrev main_call2_v1 : Ref sig .tc := ⟨.hbm, 60, rfl⟩
abbrev main_call2_cst : Ref sig .tc := ⟨.hbm, 61, rfl⟩
abbrev main_call2_v2 : Ref sig .tc := ⟨.hbm, 62, rfl⟩
abbrev main_call2_v3 : Ref sig .tc := ⟨.hbm, 63, rfl⟩
abbrev main_call2_cst_0 : Ref sig .tc := ⟨.hbm, 64, rfl⟩
abbrev main_call2_v4 : Ref sig .tc := ⟨.hbm, 65, rfl⟩
abbrev main_call2_v5 : Ref sig .tc := ⟨.hbm, 66, rfl⟩
abbrev main_v39 : Ref sig .tc := ⟨.hbm, 67, rfl⟩
abbrev main_v40 : Ref sig .tc := ⟨.hbm, 68, rfl⟩
abbrev main_cst_2 : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_v41 : Ref sig .tc := ⟨.hbm, 73, rfl⟩
abbrev main_v42 : Ref sig .tc := ⟨.hbm, 74, rfl⟩
abbrev main_c_3 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_call4_v0 : Ref sig .tc := ⟨.hbm, 93, rfl⟩
abbrev main_call4_v1 : Ref sig .tc := ⟨.hbm, 94, rfl⟩
abbrev main_call4_cst : Ref sig .tc := ⟨.hbm, 95, rfl⟩
abbrev main_call4_v2 : Ref sig .tc := ⟨.hbm, 96, rfl⟩
abbrev main_call4_v3 : Ref sig .tc := ⟨.hbm, 97, rfl⟩
abbrev main_call4_cst_0 : Ref sig .tc := ⟨.hbm, 98, rfl⟩
abbrev main_call4_v4 : Ref sig .tc := ⟨.hbm, 99, rfl⟩
abbrev main_call4_v5 : Ref sig .tc := ⟨.hbm, 100, rfl⟩
abbrev main_v60 : Ref sig .tc := ⟨.hbm, 101, rfl⟩
abbrev main_v61 : Ref sig .tc := ⟨.hbm, 102, rfl⟩
abbrev main_cst_4 : Ref sig .tc := ⟨.hbm, 103, rfl⟩
abbrev main_call5_v0 : Ref sig .tc := ⟨.hbm, 104, rfl⟩
abbrev main_call5_v1 : Ref sig .tc := ⟨.hbm, 105, rfl⟩
abbrev main_call5_v2 : Ref sig .tc := ⟨.hbm, 106, rfl⟩
abbrev main_v62 : Ref sig .tc := ⟨.hbm, 107, rfl⟩
abbrev main_v63 : Ref sig .tc := ⟨.hbm, 108, rfl⟩
abbrev main_c_5 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_call6_v0 : Ref sig .tc := ⟨.hbm, 127, rfl⟩
abbrev main_call6_v1 : Ref sig .tc := ⟨.hbm, 128, rfl⟩
abbrev main_call6_cst : Ref sig .tc := ⟨.hbm, 129, rfl⟩
abbrev main_call6_v2 : Ref sig .tc := ⟨.hbm, 130, rfl⟩
abbrev main_call6_v3 : Ref sig .tc := ⟨.hbm, 131, rfl⟩
abbrev main_call6_cst_0 : Ref sig .tc := ⟨.hbm, 132, rfl⟩
abbrev main_call6_v4 : Ref sig .tc := ⟨.hbm, 133, rfl⟩
abbrev main_call6_v5 : Ref sig .tc := ⟨.hbm, 134, rfl⟩
abbrev main_v81 : Ref sig .tc := ⟨.hbm, 135, rfl⟩
abbrev main_v82 : Ref sig .tc := ⟨.hbm, 136, rfl⟩
abbrev main_cst_6 : Ref sig .tc := ⟨.hbm, 137, rfl⟩
abbrev main_call7_v0 : Ref sig .tc := ⟨.hbm, 138, rfl⟩
abbrev main_call7_v1 : Ref sig .tc := ⟨.hbm, 139, rfl⟩
abbrev main_call7_v2 : Ref sig .tc := ⟨.hbm, 140, rfl⟩
abbrev main_v83 : Ref sig .tc := ⟨.hbm, 141, rfl⟩
abbrev main_v84 : Ref sig .tc := ⟨.hbm, 142, rfl⟩
abbrev main_c_7 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_call8_v0 : Ref sig .tc := ⟨.hbm, 161, rfl⟩
abbrev main_call8_v1 : Ref sig .tc := ⟨.hbm, 162, rfl⟩
abbrev main_call8_cst : Ref sig .tc := ⟨.hbm, 163, rfl⟩
abbrev main_call8_v2 : Ref sig .tc := ⟨.hbm, 164, rfl⟩
abbrev main_call8_v3 : Ref sig .tc := ⟨.hbm, 165, rfl⟩
abbrev main_call8_cst_0 : Ref sig .tc := ⟨.hbm, 166, rfl⟩
abbrev main_call8_v4 : Ref sig .tc := ⟨.hbm, 167, rfl⟩
abbrev main_call8_v5 : Ref sig .tc := ⟨.hbm, 168, rfl⟩
abbrev main_v102 : Ref sig .tc := ⟨.hbm, 169, rfl⟩
abbrev main_v103 : Ref sig .tc := ⟨.hbm, 170, rfl⟩
abbrev main_cst_8 : Ref sig .tc := ⟨.hbm, 171, rfl⟩
abbrev main_call9_v0 : Ref sig .tc := ⟨.hbm, 172, rfl⟩
abbrev main_call9_v1 : Ref sig .tc := ⟨.hbm, 173, rfl⟩
abbrev main_call9_v2 : Ref sig .tc := ⟨.hbm, 174, rfl⟩
abbrev main_v104 : Ref sig .tc := ⟨.hbm, 175, rfl⟩
abbrev main_v105 : Ref sig .tc := ⟨.hbm, 176, rfl⟩
abbrev main_c_9 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_call10_v0 : Ref sig .tc := ⟨.hbm, 195, rfl⟩
abbrev main_call10_v1 : Ref sig .tc := ⟨.hbm, 196, rfl⟩
abbrev main_call10_cst : Ref sig .tc := ⟨.hbm, 197, rfl⟩
abbrev main_call10_v2 : Ref sig .tc := ⟨.hbm, 198, rfl⟩
abbrev main_call10_v3 : Ref sig .tc := ⟨.hbm, 199, rfl⟩
abbrev main_call10_cst_0 : Ref sig .tc := ⟨.hbm, 200, rfl⟩
abbrev main_call10_v4 : Ref sig .tc := ⟨.hbm, 201, rfl⟩
abbrev main_call10_v5 : Ref sig .tc := ⟨.hbm, 202, rfl⟩
abbrev main_v123 : Ref sig .tc := ⟨.hbm, 203, rfl⟩
abbrev main_v124 : Ref sig .tc := ⟨.hbm, 204, rfl⟩
abbrev main_cst_10 : Ref sig .tc := ⟨.hbm, 205, rfl⟩
abbrev main_call11_v0 : Ref sig .tc := ⟨.hbm, 206, rfl⟩
abbrev main_call11_v1 : Ref sig .tc := ⟨.hbm, 207, rfl⟩
abbrev main_call11_v2 : Ref sig .tc := ⟨.hbm, 208, rfl⟩
abbrev main_v125 : Ref sig .tc := ⟨.hbm, 209, rfl⟩
abbrev main_v126 : Ref sig .tc := ⟨.hbm, 210, rfl⟩
abbrev main_c_11 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_v131 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_v135 : Ref sig .tc := ⟨.hbm, 220, rfl⟩
abbrev main_v136 : Ref sig .tc := ⟨.hbm, 221, rfl⟩
abbrev main_v137 : Ref sig .tc := ⟨.hbm, 222, rfl⟩
abbrev main_v138 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_v142 : Ref sig .tc := ⟨.hbm, 227, rfl⟩
abbrev main_v143 : Ref sig .tc := ⟨.hbm, 228, rfl⟩
abbrev main_call12_v0 : Ref sig .tc := ⟨.hbm, 229, rfl⟩
abbrev main_call12_v1 : Ref sig .tc := ⟨.hbm, 230, rfl⟩
abbrev main_call12_cst : Ref sig .tc := ⟨.hbm, 231, rfl⟩
abbrev main_call12_v2 : Ref sig .tc := ⟨.hbm, 232, rfl⟩
abbrev main_call12_v3 : Ref sig .tc := ⟨.hbm, 233, rfl⟩
abbrev main_call12_cst_0 : Ref sig .tc := ⟨.hbm, 234, rfl⟩
abbrev main_call12_v4 : Ref sig .tc := ⟨.hbm, 235, rfl⟩
abbrev main_call12_v5 : Ref sig .tc := ⟨.hbm, 236, rfl⟩
abbrev main_v144 : Ref sig .tc := ⟨.hbm, 237, rfl⟩
abbrev main_v145 : Ref sig .tc := ⟨.hbm, 238, rfl⟩
abbrev main_cst_12 : Ref sig .tc := ⟨.hbm, 239, rfl⟩
abbrev main_call13_v0 : Ref sig .tc := ⟨.hbm, 240, rfl⟩
abbrev main_call13_v1 : Ref sig .tc := ⟨.hbm, 241, rfl⟩
abbrev main_call13_v2 : Ref sig .tc := ⟨.hbm, 242, rfl⟩
abbrev main_v146 : Ref sig .tc := ⟨.hbm, 243, rfl⟩
abbrev main_v147 : Ref sig .tc := ⟨.hbm, 244, rfl⟩
abbrev main_c_13 : Ref sig .tc := ⟨.hbm, 245, rfl⟩
abbrev main_v148 : Ref sig .tc := ⟨.hbm, 246, rfl⟩
abbrev main_v149 : Ref sig .tc := ⟨.hbm, 247, rfl⟩
abbrev main_v150 : Ref sig .tc := ⟨.hbm, 248, rfl⟩
abbrev main_v151 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_v155 : Ref sig .tc := ⟨.hbm, 253, rfl⟩
abbrev main_v156 : Ref sig .tc := ⟨.hbm, 254, rfl⟩
abbrev main_v157 : Ref sig .tc := ⟨.hbm, 255, rfl⟩
abbrev main_v158 : Ref sig .tc := ⟨.hbm, 256, rfl⟩
abbrev main_v159 : Ref sig .tc := ⟨.hbm, 257, rfl⟩
abbrev main_v160 : Ref sig .tc := ⟨.hbm, 258, rfl⟩
abbrev main_v161 : Ref sig .tc := ⟨.hbm, 259, rfl⟩
abbrev main_v162 : Ref sig .tc := ⟨.hbm, 260, rfl⟩
abbrev main_v163 : Ref sig .tc := ⟨.hbm, 261, rfl⟩
abbrev main_v164 : Ref sig .tc := ⟨.hbm, 262, rfl⟩
abbrev main_call14_v0 : Ref sig .tc := ⟨.hbm, 263, rfl⟩
abbrev main_call14_v1 : Ref sig .tc := ⟨.hbm, 264, rfl⟩
abbrev main_call14_cst : Ref sig .tc := ⟨.hbm, 265, rfl⟩
abbrev main_call14_v2 : Ref sig .tc := ⟨.hbm, 266, rfl⟩
abbrev main_call14_v3 : Ref sig .tc := ⟨.hbm, 267, rfl⟩
abbrev main_call14_cst_0 : Ref sig .tc := ⟨.hbm, 268, rfl⟩
abbrev main_call14_v4 : Ref sig .tc := ⟨.hbm, 269, rfl⟩
abbrev main_call14_v5 : Ref sig .tc := ⟨.hbm, 270, rfl⟩
abbrev main_v165 : Ref sig .tc := ⟨.hbm, 271, rfl⟩
abbrev main_v166 : Ref sig .tc := ⟨.hbm, 272, rfl⟩
abbrev main_cst_14 : Ref sig .tc := ⟨.hbm, 273, rfl⟩
abbrev main_call15_v0 : Ref sig .tc := ⟨.hbm, 274, rfl⟩
abbrev main_call15_v1 : Ref sig .tc := ⟨.hbm, 275, rfl⟩
abbrev main_call15_v2 : Ref sig .tc := ⟨.hbm, 276, rfl⟩
abbrev main_v167 : Ref sig .tc := ⟨.hbm, 277, rfl⟩
abbrev main_v168 : Ref sig .tc := ⟨.hbm, 278, rfl⟩
abbrev main_v169 : Ref sig .tc := ⟨.hbm, 279, rfl⟩

abbrev nD : Nat := 1
abbrev τ : Topo := Topo.v7x

variable {F : FTy → Type} [FloatOps F]
-- ==== Kernel5.lean ====
abbrev S72 : Shape := ⟨1, ![72]⟩
abbrev S1 : Shape := ⟨1, ![1]⟩
abbrev S36864x7168 : Shape := ⟨2, ![36864, 7168]⟩
abbrev S8x7168x2048 : Shape := ⟨3, ![8, 7168, 2048]⟩
abbrev S36864x2048 : Shape := ⟨2, ![36864, 2048]⟩
abbrev S512x7168 : Shape := ⟨2, ![512, 7168]⟩
abbrev S1x7168x512 : Shape := ⟨3, ![1, 7168, 512]⟩
abbrev S512x512 : Shape := ⟨2, ![512, 512]⟩
abbrev S7168x512 : Shape := ⟨2, ![7168, 512]⟩

abbrev nBuf : Space → Nat
  | .hbm => 3
  | .vmem => 7
  | .smem => 2
  | _ => 0

abbrev bufTy : (tb : Table) → Fin (tcTables nBuf tb) → BufTy
  | .hbm, ⟨0, _⟩ => ⟨S36864x7168, .bf16⟩
  | .hbm, ⟨1, _⟩ => ⟨S8x7168x2048, .f32⟩
  | .hbm, ⟨2, _⟩ => ⟨S36864x2048, .f32⟩
  | .local _ .vmem, ⟨0, _⟩ => ⟨S512x7168, .bf16⟩
  | .local _ .vmem, ⟨1, _⟩ => ⟨S512x7168, .bf16⟩
  | .local _ .vmem, ⟨2, _⟩ => ⟨S1x7168x512, .f32⟩
  | .local _ .vmem, ⟨3, _⟩ => ⟨S1x7168x512, .f32⟩
  | .local _ .vmem, ⟨4, _⟩ => ⟨S512x512, .f32⟩
  | .local _ .vmem, ⟨5, _⟩ => ⟨S512x512, .f32⟩
  | .local _ .vmem, ⟨6, _⟩ => ⟨S7168x512, .bf16⟩
  | .local _ .smem, ⟨0, _⟩ => ⟨S72, .i32⟩
  | .local _ .smem, ⟨1, _⟩ => ⟨S1, .i32⟩
  | _, _ => ⟨S36864x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 72], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v5 : BitVec 32 := Scalar.subi arg1 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg1 : BitVec 32 := BitVec.ofNat 32 (i 1).val
  let v1 : BitVec 1 := Scalar.cmpi .slt arg1 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg1 : BitVec 32 := BitVec.ofNat 32 (i 1).val
  let v1 : BitVec 1 := Scalar.cmpi .slt arg1 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x7168x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S72 : Shape := ⟨1, ![72]⟩
abbrev S1 : Shape := ⟨1, ![1]⟩
abbrev S36864x7168 : Shape := ⟨2, ![36864, 7168]⟩
abbrev S8x7168x2048 : Shape := ⟨3, ![8, 7168, 2048]⟩
abbrev S_ : Shape := ⟨0, ![]⟩
abbrev S36864x2048 : Shape := ⟨2, ![36864, 2048]⟩
abbrev S72x512 : Shape := ⟨2, ![72, 512]⟩
abbrev S36864 : Shape := ⟨1, ![36864]⟩
abbrev S36864x1 : Shape := ⟨2, ![36864, 1]⟩
abbrev S1x7168x2048 : Shape := ⟨3, ![1, 7168, 2048]⟩
abbrev S7168x2048 : Shape := ⟨2, ![7168, 2048]⟩

abbrev nBuf : Space → Nat
  | .hbm => 174
  | .vmem => 0
  | .smem => 0
  | _ => 0

abbrev hbmTy0_0 (i : Nat) : BufTy := match i % 128 with
  | 0 => ⟨S72, .i32⟩
  | 1 => ⟨S1, .i32⟩
  | 2 => ⟨S36864x7168, .bf16⟩
  | 3 => ⟨S8x7168x2048, .f32⟩
  | 4 => ⟨S_, .f32⟩
  | 5 => ⟨S36864x2048, .f32⟩
  | 6 => ⟨S_, .i32⟩
  | 7 => ⟨S72, .i32⟩
  | 8 => ⟨S72, .i1⟩
  | 9 => ⟨S72, .i32⟩
  | 10 => ⟨S_, .i32⟩
  | 11 => ⟨S72, .i32⟩
  | 12 => ⟨S72, .i1⟩
  | 13 => ⟨S72, .i1⟩
  | 14 => ⟨S72x512, .i1⟩
  | 15 => ⟨S36864, .i1⟩
  | 16 => ⟨S36864x1, .i1⟩
  | 17 => ⟨S36864x7168, .f32⟩
  | 18 => ⟨S1x7168x2048, .f32⟩
  | 19 => ⟨S7168x2048, .f32⟩
  | 20 => ⟨S36864x2048, .f32⟩
  | 21 => ⟨S_, .f32⟩
  | 22 => ⟨S_, .f32⟩
  | 23 => ⟨S36864x2048, .i1⟩
  | 24 => ⟨S36864x2048, .f32⟩
  | 25 => ⟨S36864x2048, .f32⟩
  | 26 => ⟨S36864x2048, .f32⟩
  | 27 => ⟨S_, .i32⟩
  | 28 => ⟨S72, .i32⟩
  | 29 => ⟨S72, .i1⟩
  | 30 => ⟨S72, .i32⟩
  | 31 => ⟨S_, .i32⟩
  | 32 => ⟨S72, .i32⟩
  | 33 => ⟨S72, .i1⟩
  | 34 => ⟨S72, .i1⟩
  | 35 => ⟨S72x512, .i1⟩
  | 36 => ⟨S36864, .i1⟩
  | 37 => ⟨S36864x1, .i1⟩
  | 38 => ⟨S36864x7168, .f32⟩
  | 39 => ⟨S1x7168x2048, .f32⟩
  | 40 => ⟨S7168x2048, .f32⟩
  | 41 => ⟨S36864x2048, .f32⟩
  | 42 => ⟨S_, .f32⟩
  | 43 => ⟨S_, .f32⟩
  | 44 => ⟨S36864x2048, .i1⟩
  | 45 => ⟨S36864x2048, .f32⟩
  | 46 => ⟨S36864x2048, .f32⟩
  | 47 => ⟨S36864x2048, .f32⟩
  | 48 => ⟨S_, .i32⟩
  | 49 => ⟨S72, .i32⟩
  | 50 => ⟨S72, .i1⟩
  | 51 => ⟨S72, .i32⟩
  | 52 => ⟨S_, .i32⟩
  | 53 => ⟨S72, .i32⟩
  | 54 => ⟨S72, .i1⟩
  | 55 => ⟨S72, .i1⟩
  | 56 => ⟨S72x512, .i1⟩
  | 57 => ⟨S36864, .i1⟩
  | 58 => ⟨S36864x1, .i1⟩
  | 59 => ⟨S36864x7168, .f32⟩
  | 60 => ⟨S1x7168x2048, .f32⟩
  | 61 => ⟨S7168x2048, .f32⟩
  | 62 => ⟨S36864x2048, .f32⟩
  | 63 => ⟨S_, .f32⟩
  | 64 => ⟨S_, .f32⟩
  | 65 => ⟨S36864x2048, .i1⟩
  | 66 => ⟨S36864x2048, .f32⟩
  | 67 => ⟨S36864x2048, .f32⟩
  | 68 => ⟨S36864x2048, .f32⟩
  | 69 => ⟨S_, .i32⟩
  | 70 => ⟨S72, .i32⟩
  | 71 => ⟨S72, .i1⟩
  | 72 => ⟨S72, .i32⟩
  | 73 => ⟨S_, .i32⟩
  | 74 => ⟨S72, .i32⟩
  | 75 => ⟨S72, .i1⟩
  | 76 => ⟨S72, .i1⟩
  | 77 => ⟨S72x512, .i1⟩
  | 78 => ⟨S36864, .i1⟩
  | 79 => ⟨S36864x1, .i1⟩
  | 80 => ⟨S36864x7168, .f32⟩
  | 81 => ⟨S1x7168x2048, .f32⟩
  | 82 => ⟨S7168x2048, .f32⟩
  | 83 => ⟨S36864x2048, .f32⟩
  | 84 => ⟨S_, .f32⟩
  | 85 => ⟨S_, .f32⟩
  | 86 => ⟨S36864x2048, .i1⟩
  | 87 => ⟨S36864x2048, .f32⟩
  | 88 => ⟨S36864x2048, .f32⟩
  | 89 => ⟨S36864x2048, .f32⟩
  | 90 => ⟨S_, .i32⟩
  | 91 => ⟨S72, .i32⟩
  | 92 => ⟨S72, .i1⟩
  | 93 => ⟨S72, .i32⟩
  | 94 => ⟨S_, .i32⟩
  | 95 => ⟨S72, .i32⟩
  | 96 => ⟨S72, .i1⟩
  | 97 => ⟨S72, .i1⟩
  | 98 => ⟨S72x512, .i1⟩
  | 99 => ⟨S36864, .i1⟩
  | 100 => ⟨S36864x1, .i1⟩
  | 101 => ⟨S36864x7168, .f32⟩
  | 102 => ⟨S1x7168x2048, .f32⟩
  | 103 => ⟨S7168x2048, .f32⟩
  | 104 => ⟨S36864x2048, .f32⟩
  | 105 => ⟨S_, .f32⟩
  | 106 => ⟨S_, .f32⟩
  | 107 => ⟨S36864x2048, .i1⟩
  | 108 => ⟨S36864x2048, .f32⟩
  | 109 => ⟨S36864x2048, .f32⟩
  | 110 => ⟨S36864x2048, .f32⟩
  | 111 => ⟨S_, .i32⟩
  | 112 => ⟨S72, .i32⟩
  | 113 => ⟨S72, .i1⟩
  | 114 => ⟨S72, .i32⟩
  | 115 => ⟨S_, .i32⟩
  | 116 => ⟨S72, .i32⟩
  | 117 => ⟨S72, .i1⟩
  | 118 => ⟨S72, .i1⟩
  | 119 => ⟨S72x512, .i1⟩
  | 120 => ⟨S36864, .i1⟩
  | 121 => ⟨S36864x1, .i1⟩
  | 122 => ⟨S36864x7168, .f32⟩
  | 123 => ⟨S1x7168x2048, .f32⟩
  | 124 => ⟨S7168x2048, .f32⟩
  | 125 => ⟨S36864x2048, .f32⟩
  | 126 => ⟨S_, .f32⟩
  | 127 => ⟨S_, .f32⟩
  | _ => ⟨S72, .i32⟩

abbrev hbmTy0_1 (i : Nat) : BufTy := match i % 128 with
  | 0 => ⟨S36864x2048, .i1⟩
  | 1 => ⟨S36864x2048, .f32⟩
  | 2 => ⟨S36864x2048, .f32⟩
  | 3 => ⟨S36864x2048, .f32⟩
  | 4 => ⟨S_, .i32⟩
  | 5 => ⟨S72, .i32⟩
  | 6 => ⟨S72, .i1⟩
  | 7 => ⟨S72, .i32⟩
  | 8 => ⟨S_, .i32⟩
  | 9 => ⟨S72, .i32⟩
  | 10 => ⟨S72, .i1⟩
  | 11 => ⟨S72, .i1⟩
  | 12 => ⟨S72x512, .i1⟩
  | 13 => ⟨S36864, .i1⟩
  | 14 => ⟨S36864x1, .i1⟩
  | 15 => ⟨S36864x7168, .f32⟩
  | 16 => ⟨S1x7168x2048, .f32⟩
  | 17 => ⟨S7168x2048, .f32⟩
  | 18 => ⟨S36864x2048, .f32⟩
  | 19 => ⟨S_, .f32⟩
  | 20 => ⟨S_, .f32⟩
  | 21 => ⟨S36864x2048, .i1⟩
  | 22 => ⟨S36864x2048, .f32⟩
  | 23 => ⟨S36864x2048, .f32⟩
  | 24 => ⟨S36864x2048, .f32⟩
  | 25 => ⟨S_, .i32⟩
  | 26 => ⟨S72, .i32⟩
  | 27 => ⟨S72, .i1⟩
  | 28 => ⟨S72, .i32⟩
  | 29 => ⟨S_, .i32⟩
  | 30 => ⟨S72, .i32⟩
  | 31 => ⟨S72, .i1⟩
  | 32 => ⟨S72, .i1⟩
  | 33 => ⟨S72x512, .i1⟩
  | 34 => ⟨S36864, .i1⟩
  | 35 => ⟨S36864x1, .i1⟩
  | 36 => ⟨S36864x7168, .f32⟩
  | 37 => ⟨S1x7168x2048, .f32⟩
  | 38 => ⟨S7168x2048, .f32⟩
  | 39 => ⟨S36864x2048, .f32⟩
  | 40 => ⟨S_, .f32⟩
  | 41 => ⟨S_, .f32⟩
  | 42 => ⟨S36864x2048, .i1⟩
  | 43 => ⟨S36864x2048, .f32⟩
  | 44 => ⟨S36864x2048, .f32⟩
  | 45 => ⟨S36864x2048, .f32⟩
  | _ => ⟨S72, .i32⟩

abbrev hbmTy (i : Nat) : BufTy := match i / 128 with
  | 0 => hbmTy0_0 i
  | 1 => hbmTy0_1 i
  | _ => ⟨S72, .i32⟩

abbrev bufTy : (tb : Table) → Fin (tcTables nBuf tb) → BufTy
  | .hbm, ⟨i, _⟩ => hbmTy i
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v15 : Ref sig .tc := ⟨.hbm, 25, rfl⟩
abbrev main_v16 : Ref sig .tc := ⟨.hbm, 26, rfl⟩
abbrev main_c_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v31 : Ref sig .tc := ⟨.hbm, 46, rfl⟩
abbrev main_v32 : Ref sig .tc := ⟨.hbm, 47, rfl⟩
abbrev main_c_3 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_4 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_v47 : Ref sig .tc := ⟨.hbm, 67, rfl⟩
abbrev main_v48 : Ref sig .tc := ⟨.hbm, 68, rfl⟩
abbrev main_c_5 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_6 : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_v63 : Ref sig .tc := ⟨.hbm, 88, rfl⟩
abbrev main_v64 : Ref sig .tc := ⟨.hbm, 89, rfl⟩
abbrev main_c_7 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_8 : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_v79 : Ref sig .tc := ⟨.hbm, 109, rfl⟩
abbrev main_v80 : Ref sig .tc := ⟨.hbm, 110, rfl⟩
abbrev main_c_9 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_10 : Ref sig .tc := ⟨.hbm, 126, rfl⟩
abbrev main_call5_v0 : Ref sig .tc := ⟨.hbm, 127, rfl⟩
abbrev main_call5_v1 : Ref sig .tc := ⟨.hbm, 128, rfl⟩
abbrev main_call5_v2 : Ref sig .tc := ⟨.hbm, 129, rfl⟩
abbrev main_v95 : Ref sig .tc := ⟨.hbm, 130, rfl⟩
abbrev main_v96 : Ref sig .tc := ⟨.hbm, 131, rfl⟩
abbrev main_c_11 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_cst_12 : Ref sig .tc := ⟨.hbm, 147, rfl⟩
abbrev main_call6_v0 : Ref sig .tc := ⟨.hbm, 148, rfl⟩
abbrev main_call6_v1 : Ref sig .tc := ⟨.hbm, 149, rfl⟩
abbrev main_call6_v2 : Ref sig .tc := ⟨.hbm, 150, rfl⟩
abbrev main_v111 : Ref sig .tc := ⟨.hbm, 151, rfl⟩
abbrev main_v112 : Ref sig .tc := ⟨.hbm, 152, rfl⟩
abbrev main_c_13 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_cst_14 : Ref sig .tc := ⟨.hbm, 168, rfl⟩
abbrev main_call7_v0 : Ref sig .tc := ⟨.hbm, 169, rfl⟩
abbrev main_call7_v1 : Ref sig .tc := ⟨.hbm, 170, rfl⟩
abbrev main_call7_v2 : Ref sig .tc := ⟨.hbm, 171, rfl⟩
abbrev main_v127 : Ref sig .tc := ⟨.hbm, 172, rfl⟩
abbrev main_v128 : Ref sig .tc := ⟨.hbm, 173, rfl⟩

abbrev nD : Nat := 1
abbrev τ : Topo := Topo.v7x

variable {F : FTy → Type} [FloatOps F]
-- ==== Kernel6.lean ====
abbrev S16384x4608 : Shape := ⟨2, ![16384, 4608]⟩
abbrev S16384x512 : Shape := ⟨2, ![16384, 512]⟩
abbrev S4x64 : Shape := ⟨2, ![4, 64]⟩
abbrev S128 : Shape := ⟨1, ![128]⟩
abbrev S_ : Shape := ⟨0, ![]⟩
abbrev S16384x6144 : Shape := ⟨2, ![16384, 6144]⟩
abbrev S1x128 : Shape := ⟨2, ![1, 128]⟩
abbrev S1024x128 : Shape := ⟨2, ![1024, 128]⟩
abbrev S16384x128 : Shape := ⟨2, ![16384, 128]⟩
abbrev S512x128 : Shape := ⟨2, ![512, 128]⟩
abbrev S2048x128 : Shape := ⟨2, ![2048, 128]⟩
abbrev S1024x1 : Shape := ⟨2, ![1024, 1]⟩
abbrev S1024x256 : Shape := ⟨2, ![1024, 256]⟩
abbrev S2048x256 : Shape := ⟨2, ![2048, 256]⟩
abbrev S1024x2048 : Shape := ⟨2, ![1024, 2048]⟩
abbrev S1024 : Shape := ⟨1, ![1024]⟩
abbrev S1024x1024 : Shape := ⟨2, ![1024, 1024]⟩
abbrev S512x256 : Shape := ⟨2, ![512, 256]⟩
abbrev S1024x512 : Shape := ⟨2, ![1024, 512]⟩
abbrev S1x512 : Shape := ⟨2, ![1, 512]⟩
abbrev S512x1 : Shape := ⟨2, ![512, 1]⟩
abbrev S512x512 : Shape := ⟨2, ![512, 512]⟩
abbrev S512 : Shape := ⟨1, ![512]⟩
abbrev S1x64 : Shape := ⟨2, ![1, 64]⟩
abbrev S1 : Shape := ⟨1, ![1]⟩
abbrev S1x1 : Shape := ⟨2, ![1, 1]⟩

abbrev nBuf : Space → Nat
  | .hbm => 18
  | .vmem => 10
  | .smem => 0
  | _ => 0

abbrev bufTy : (tb : Table) → Fin (tcTables nBuf tb) → BufTy
  | .hbm, ⟨0, _⟩ => ⟨S16384x4608, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S4x64, .f32⟩
  | .hbm, ⟨5, _⟩ => ⟨S128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S16384x512, .f32⟩
  | .hbm, ⟨13, _⟩ => ⟨S16384x512, .f32⟩
  | .hbm, ⟨14, _⟩ => ⟨S16384x6144, .f32⟩
  | .hbm, ⟨15, _⟩ => ⟨S16384x6144, .bf16⟩
  | .hbm, ⟨16, _⟩ => ⟨S1x128, .f32⟩
  | .hbm, ⟨17, _⟩ => ⟨S16384x512, .bf16⟩
  | .local _ .vmem, ⟨0, _⟩ => ⟨S1024x128, .bf16⟩
  | .local _ .vmem, ⟨1, _⟩ => ⟨S1024x128, .bf16⟩
  | .local _ .vmem, ⟨2, _⟩ => ⟨S16384x128, .bf16⟩
  | .local _ .vmem, ⟨3, _⟩ => ⟨S16384x128, .bf16⟩
  | .local _ .vmem, ⟨4, _⟩ => ⟨S16384x128, .bf16⟩
  | .local _ .vmem, ⟨5, _⟩ => ⟨S16384x128, .bf16⟩
  | .local _ .vmem, ⟨6, _⟩ => ⟨S4x64, .f32⟩
  | .local _ .vmem, ⟨7, _⟩ => ⟨S1x128, .f32⟩
  | .local _ .vmem, ⟨8, _⟩ => ⟨S1024x128, .bf16⟩
  | .local _ .vmem, ⟨9, _⟩ => ⟨S1024x128, .bf16⟩
  | _, _ => ⟨S16384x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let c0_i32_17 : BitVec 32 := 0#32
  let arg1 : BitVec 32 := BitVec.ofNat 32 (i 1).val
  let c0_i32_12 : BitVec 32 := 0#32
  let v38 : BitVec 1 := Scalar.cmpi .sgt arg1 c0_i32_12
  let v39 : BitVec 32 := Scalar.extui v38
  let c0_i32_13 : BitVec 32 := 0#32
  let v40 : BitVec 1 := Scalar.cmpi .slt arg1 c0_i32_13
  let v41 : BitVec 32 := Scalar.extui v40
  let v42 : BitVec 32 := Scalar.subi v39 v41
  let c2_i32 : BitVec 32 := 2#32
  let c0_i32_14 : BitVec 32 := 0#32
  let v43 : BitVec 1 := Scalar.cmpi .sgt c2_i32 c0_i32_14
  let v44 : BitVec 32 := Scalar.extui v43
  let c0_i32_15 : BitVec 32 := 0#32
  let v45 : BitVec 1 := Scalar.cmpi .slt c2_i32 c0_i32_15
  let v46 : BitVec 32 := Scalar.extui v45
  let v47 : BitVec 32 := Scalar.subi v44 v46
  let v48 : BitVec 1 := Scalar.cmpi .ne v42 v47
  let v49 : BitVec 32 := Scalar.remsi arg1 c2_i32
  let c0_i32_16 : BitVec 32 := 0#32
  let v50 : BitVec 1 := Scalar.cmpi .ne v49 c0_i32_16
  let v51 : BitVec 1 := Scalar.andi v48 v50
  let v37 : BitVec 32 := Scalar.divsi arg1 c2_i32
  let c1_i32 : BitVec 32 := 1#32
  let v52 : BitVec 32 := Scalar.subi v37 c1_i32
  let v53 : BitVec 32 := Scalar.select v51 v52 v37
  let v54 : BitVec 32 := Scalar.subi v53 c0_i32_17
  let c1_i32_18 : BitVec 32 := 1#32
  let v56 : BitVec 32 := Scalar.divsi v54 c1_i32_18
  let v57 : BitVec 32 := Scalar.muli v56 c1_i32_18
  let v58 : BitVec 32 := Scalar.addi c0_i32_17 v57
  let c1_i32_19 : BitVec 32 := 1#32
  ⟨c0_i32_17, v58, c1_i32_19⟩
def k0_mult1 (i : grid0.Coords) (k0_t1 : Fin (k0_t1_loop i).trips) : BitVec 32 :=
  let c0_i32_17 : BitVec 32 := 0#32
  let c1_i32_19 : BitVec 32 := 1#32
  let arg8 : BitVec 32 := Scf.iv c0_i32_17 c1_i32_19 k0_t1
  let c2_i32_93 : BitVec 32 := 2#32
  let v322 : BitVec 32 := Scalar.muli arg8 c2_i32_93
  let c1024_i32_94 : BitVec 32 := 1024#32
  let v323 : BitVec 32 := Scalar.muli v322 c1024_i32_94
  v323
def k0_off1 (i : grid0.Coords) (k0_t1 : Fin (k0_t1_loop i).trips) : Fin 2 → Nat :=
  let c0_i32_17 : BitVec 32 := 0#32
  let c1_i32_19 : BitVec 32 := 1#32
  let arg8 : BitVec 32 := Scf.iv c0_i32_17 c1_i32_19 k0_t1
  let c2_i32_93 : BitVec 32 := 2#32
  let v322 : BitVec 32 := Scalar.muli arg8 c2_i32_93
  let c1024_i32_94 : BitVec 32 := 1024#32
  let v323 : BitVec 32 := Scalar.muli v322 c1024_i32_94
  let v324 : BitVec 32 := v323
  let v325 : Index := Scalar.indexCast v324
  let c0_95 : Index := 0#32
  ![v325.toNat, 0]
@[reducible] def k0_t2_loop (i : grid0.Coords) : Scf.Loop 32 :=
  let c0_i32_17 : BitVec 32 := 0#32
  let arg1 : BitVec 32 := BitVec.ofNat 32 (i 1).val
  let c0_i32_12 : BitVec 32 := 0#32
  let v38 : BitVec 1 := Scalar.cmpi .sgt arg1 c0_i32_12
  let v39 : BitVec 32 := Scalar.extui v38
  let c0_i32_13 : BitVec 32 := 0#32
  let v40 : BitVec 1 := Scalar.cmpi .slt arg1 c0_i32_13
  let v41 : BitVec 32 := Scalar.extui v40
  let v42 : BitVec 32 := Scalar.subi v39 v41
  let c2_i32 : BitVec 32 := 2#32
  let c0_i32_14 : BitVec 32 := 0#32
  let v43 : BitVec 1 := Scalar.cmpi .sgt c2_i32 c0_i32_14
  let v44 : BitVec 32 := Scalar.extui v43
  let c0_i32_15 : BitVec 32 := 0#32
  let v45 : BitVec 1 := Scalar.cmpi .slt c2_i32 c0_i32_15
  let v46 : BitVec 32 := Scalar.extui v45
  let v47 : BitVec 32 := Scalar.subi v44 v46
  let v48 : BitVec 1 := Scalar.cmpi .ne v42 v47
  let v49 : BitVec 32 := Scalar.remsi arg1 c2_i32
  let c0_i32_16 : BitVec 32 := 0#32
  let v50 : BitVec 1 := Scalar.cmpi .ne v49 c0_i32_16
  let v51 : BitVec 1 := Scalar.andi v48 v50
  let v37 : BitVec 32 := Scalar.divsi arg1 c2_i32
  let c1_i32 : BitVec 32 := 1#32
  let v52 : BitVec 32 := Scalar.subi v37 c1_i32
  let v53 : BitVec 32 := Scalar.select v51 v52 v37
  let v54 : BitVec 32 := Scalar.subi v53 c0_i32_17
  let c1_i32_18 : BitVec 32 := 1#32
  let v56 : BitVec 32 := Scalar.divsi v54 c1_i32_18
  let v57 : BitVec 32 := Scalar.muli v56 c1_i32_18
  let v58 : BitVec 32 := Scalar.addi c0_i32_17 v57
  let v55 : BitVec 32 := Scalar.addi c0_i32_17 v54
  let c1_i32_20 : BitVec 32 := 1#32
  ⟨v58, v55, c1_i32_20⟩
def k0_mult2 (i : grid0.Coords) (k0_t2 : Fin (k0_t2_loop i).trips) : BitVec 32 :=
  let c0_i32_17 : BitVec 32 := 0#32
  let arg1 : BitVec 32 := BitVec.ofNat 32 (i 1).val
  let c0_i32_12 : BitVec 32 := 0#32
  let v38 : BitVec 1 := Scalar.cmpi .sgt arg1 c0_i32_12
  let v39 : BitVec 32 := Scalar.extui v38
  let c0_i32_13 : BitVec 32 := 0#32
  let v40 : BitVec 1 := Scalar.cmpi .slt arg1 c0_i32_13
  let v41 : BitVec 32 := Scalar.extui v40
  let v42 : BitVec 32 := Scalar.subi v39 v41
  let c2_i32 : BitVec 32 := 2#32
  let c0_i32_14 : BitVec 32 := 0#32
  let v43 : BitVec 1 := Scalar.cmpi .sgt c2_i32 c0_i32_14
  let v44 : BitVec 32 := Scalar.extui v43
  let c0_i32_15 : BitVec 32 := 0#32
  let v45 : BitVec 1 := Scalar.cmpi .slt c2_i32 c0_i32_15
  let v46 : BitVec 32 := Scalar.extui v45
  let v47 : BitVec 32 := Scalar.subi v44 v46
  let v48 : BitVec 1 := Scalar.cmpi .ne v42 v47
  let v49 : BitVec 32 := Scalar.remsi arg1 c2_i32
  let c0_i32_16 : BitVec 32 := 0#32
  let v50 : BitVec 1 := Scalar.cmpi .ne v49 c0_i32_16
  let v51 : BitVec 1 := Scalar.andi v48 v50
  let v37 : BitVec 32 := Scalar.divsi arg1 c2_i32
  let c1_i32 : BitVec 32 := 1#32
  let v52 : BitVec 32 := Scalar.subi v37 c1_i32
  let v53 : BitVec 32 := Scalar.select v51 v52 v37
  let v54 : BitVec 32 := Scalar.subi v53 c0_i32_17
  let c1_i32_18 : BitVec 32 := 1#32
  let v56 : BitVec 32 := Scalar.divsi v54 c1_i32_18
  let v57 : BitVec 32 := Scalar.muli v56 c1_i32_18
  let v58 : BitVec 32 := Scalar.addi c0_i32_17 v57
  let c1_i32_20 : BitVec 32 := 1#32
  let arg8 : BitVec 32 := Scf.iv v58 c1_i32_20 k0_t2
  let c2_i32_93 : BitVec 32 := 2#32
  let v322 : BitVec 32 := Scalar.muli arg8 c2_i32_93
  let c1024_i32_94 : BitVec 32 := 1024#32
  let v323 : BitVec 32 := Scalar.muli v322 c1024_i32_94
  v323
def k0_off2 (i : grid0.Coords) (k0_t2 : Fin (k0_t2_loop i).trips) : Fin 2 → Nat :=
  let c0_i32_17 : BitVec 32 := 0#32
  let arg1 : BitVec 32 := BitVec.ofNat 32 (i 1).val
  let c0_i32_12 : BitVec 32 := 0#32
  let v38 : BitVec 1 := Scalar.cmpi .sgt arg1 c0_i32_12
  let v39 : BitVec 32 := Scalar.extui v38
  let c0_i32_13 : BitVec 32 := 0#32
  let v40 : BitVec 1 := Scalar.cmpi .slt arg1 c0_i32_13
  let v41 : BitVec 32 := Scalar.extui v40
  let v42 : BitVec 32 := Scalar.subi v39 v41
  let c2_i32 : BitVec 32 := 2#32
  let c0_i32_14 : BitVec 32 := 0#32
  let v43 : BitVec 1 := Scalar.cmpi .sgt c2_i32 c0_i32_14
  let v44 : BitVec 32 := Scalar.extui v43
  let c0_i32_15 : BitVec 32 := 0#32
  let v45 : BitVec 1 := Scalar.cmpi .slt c2_i32 c0_i32_15
  let v46 : BitVec 32 := Scalar.extui v45
  let v47 : BitVec 32 := Scalar.subi v44 v46
  let v48 : BitVec 1 := Scalar.cmpi .ne v42 v47
  let v49 : BitVec 32 := Scalar.remsi arg1 c2_i32
  let c0_i32_16 : BitVec 32 := 0#32
  let v50 : BitVec 1 := Scalar.cmpi .ne v49 c0_i32_16
  let v51 : BitVec 1 := Scalar.andi v48 v50
  let v37 : BitVec 32 := Scalar.divsi arg1 c2_i32
  let c1_i32 : BitVec 32 := 1#32
  let v52 : BitVec 32 := Scalar.subi v37 c1_i32
  let v53 : BitVec 32 := Scalar.select v51 v52 v37
  let v54 : BitVec 32 := Scalar.subi v53 c0_i32_17
  let c1_i32_18 : BitVec 32 := 1#32
  let v56 : BitVec 32 := Scalar.divsi v54 c1_i32_18
  let v57 : BitVec 32 := Scalar.muli v56 c1_i32_18
  let v58 : BitVec 32 := Scalar.addi c0_i32_17 v57
  let c1_i32_20 : BitVec 32 := 1#32
  let arg8 : BitVec 32 := Scf.iv v58 c1_i32_20 k0_t2
  let c2_i32_93 : BitVec 32 := 2#32
  let v322 : BitVec 32 := Scalar.muli arg8 c2_i32_93
  let c1024_i32_94 : BitVec 32 := 1024#32
  let v323 : BitVec 32 := Scalar.muli v322 c1024_i32_94
  let v324 : BitVec 32 := v323
  let v325 : Index := Scalar.indexCast v324
  let c0_95 : Index := 0#32
  ![v325.toNat, 0]
@[reducible] def k0_t3_loop (i : grid0.Coords) : Scf.Loop 32 :=
  let c0_i32_27 : BitVec 32 := 0#32
  let arg1 : BitVec 32 := BitVec.ofNat 32 (i 1).val
  let c2_i32_21 : BitVec 32 := 2#32
  let c0_i32_22 : BitVec 32 := 0#32
  let v61 : BitVec 1 := Scalar.cmpi .eq c2_i32_21 c0_i32_22
  let c1_i32_23 : BitVec 32 := 1#32
  let v62 : BitVec 32 := Scalar.select v61 c1_i32_23 c2_i32_21
  let v63 : BitVec 32 := Scalar.remsi arg1 v62
  let c0_i32_25 : BitVec 32 := 0#32
  let v65 : BitVec 1 := Scalar.cmpi .slt v63 c0_i32_25
  let c0_i32_26 : BitVec 32 := 0#32
  let v66 : BitVec 1 := Scalar.cmpi .slt v62 c0_i32_26
  let v67 : BitVec 1 := Scalar.xori v65 v66
  let c0_i32_24 : BitVec 32 := 0#32
  let v64 : BitVec 1 := Scalar.cmpi .ne v63 c0_i32_24
  let v68 : BitVec 1 := Scalar.andi v67 v64
  let v69 : BitVec 32 := Scalar.addi v63 v62
  let v70 : BitVec 32 := Scalar.select v68 v69 v63
  let v71 : BitVec 32 := Scalar.subi v70 c0_i32_27
  let c1_i32_28 : BitVec 32 := 1#32
  let v73 : BitVec 32 := Scalar.divsi v71 c1_i32_28
  let v74 : BitVec 32 := Scalar.muli v73 c1_i32_28
  let v75 : BitVec 32 := Scalar.addi c0_i32_27 v74
  let c1_i32_29 : BitVec 32 := 1#32
  ⟨c0_i32_27, v75, c1_i32_29⟩
def k0_mult3 (i : grid0.Coords) : BitVec 32 :=
  let arg1 : BitVec 32 := BitVec.ofNat 32 (i 1).val
  let c1_i32_93 : BitVec 32 := 1#32
  let v322 : BitVec 32 := Scalar.subi arg1 c1_i32_93
  let c1024_i32_94 : BitVec 32 := 1024#32
  let v323 : BitVec 32 := Scalar.muli v322 c1024_i32_94
  v323
def k0_off3 (i : grid0.Coords) : Fin 2 → Nat :=
  let arg1 : BitVec 32 := BitVec.ofNat 32 (i 1).val
  let c1_i32_93 : BitVec 32 := 1#32
  let v322 : BitVec 32 := Scalar.subi arg1 c1_i32_93
  let c1024_i32_94 : BitVec 32 := 1024#32
  let v323 : BitVec 32 := Scalar.muli v322 c1024_i32_94
  let v324 : BitVec 32 := v323
  let v325 : Index := Scalar.indexCast v324
  let c0_95 : Index := 0#32
  ![v325.toNat, 0]
@[reducible] def k0_t4_loop (i : grid0.Coords) : Scf.Loop 32 :=
  let c0_i32_27 : BitVec 32 := 0#32
  let arg1 : BitVec 32 := BitVec.ofNat 32 (i 1).val
  let c2_i32_21 : BitVec 32 := 2#32
  let c0_i32_22 : BitVec 32 := 0#32
  let v61 : BitVec 1 := Scalar.cmpi .eq c2_i32_21 c0_i32_22
  let c1_i32_23 : BitVec 32 := 1#32
  let v62 : BitVec 32 := Scalar.select v61 c1_i32_23 c2_i32_21
  let v63 : BitVec 32 := Scalar.remsi arg1 v62
  let c0_i32_25 : BitVec 32 := 0#32
  let v65 : BitVec 1 := Scalar.cmpi .slt v63 c0_i32_25
  let c0_i32_26 : BitVec 32 := 0#32
  let v66 : BitVec 1 := Scalar.cmpi .slt v62 c0_i32_26
  let v67 : BitVec 1 := Scalar.xori v65 v66
  let c0_i32_24 : BitVec 32 := 0#32
  let v64 : BitVec 1 := Scalar.cmpi .ne v63 c0_i32_24
  let v68 : BitVec 1 := Scalar.andi v67 v64
  let v69 : BitVec 32 := Scalar.addi v63 v62
  let v70 : BitVec 32 := Scalar.select v68 v69 v63
  let v71 : BitVec 32 := Scalar.subi v70 c0_i32_27
  let c1_i32_28 : BitVec 32 := 1#32
  let v73 : BitVec 32 := Scalar.divsi v71 c1_i32_28
  let v74 : BitVec 32 := Scalar.muli v73 c1_i32_28
  let v75 : BitVec 32 := Scalar.addi c0_i32_27 v74
  let v72 : BitVec 32 := Scalar.addi c0_i32_27 v71
  let c1_i32_30 : BitVec 32 := 1#32
  ⟨v75, v72, c1_i32_30⟩
def k0_mult4 (i : grid0.Coords) : BitVec 32 :=
  let arg1 : BitVec 32 := BitVec.ofNat 32 (i 1).val
  let c1_i32_93 : BitVec 32 := 1#32
  let v322 : BitVec 32 := Scalar.subi arg1 c1_i32_93
  let c1024_i32_94 : BitVec 32 := 1024#32
  let v323 : BitVec 32 := Scalar.muli v322 c1024_i32_94
  v323
def k0_off4 (i : grid0.Coords) : Fin 2 → Nat :=
  let arg1 : BitVec 32 := BitVec.ofNat 32 (i 1).val
  let c1_i32_93 : BitVec 32 := 1#32
  let v322 : BitVec 32 := Scalar.subi arg1 c1_i32_93
  let c1024_i32_94 : BitVec 32 := 1024#32
  let v323 : BitVec 32 := Scalar.muli v322 c1024_i32_94
  let v324 : BitVec 32 := v323
  let v325 : Index := Scalar.indexCast v324
  let c0_95 : Index := 0#32
  ![v325.toNat, 0]
def k0_mult5 (i : grid0.Coords) : BitVec 32 :=
  let arg1 : BitVec 32 := BitVec.ofNat 32 (i 1).val
  let c1024_i32 : BitVec 32 := 1024#32
  let v78 : BitVec 32 := Scalar.muli arg1 c1024_i32
  v78
def k0_off5 (i : grid0.Coords) : Fin 2 → Nat :=
  let arg1 : BitVec 32 := BitVec.ofNat 32 (i 1).val
  let c1024_i32 : BitVec 32 := 1024#32
  let v78 : BitVec 32 := Scalar.muli arg1 c1024_i32
  let v79 : BitVec 32 := v78
  let v80 : Index := Scalar.indexCast v79
  let c0_31 : Index := 0#32
  ![v80.toNat, 0]
def k0_mult6 (i : grid0.Coords) : BitVec 32 :=
  let arg1 : BitVec 32 := BitVec.ofNat 32 (i 1).val
  let c1024_i32_55 : BitVec 32 := 1024#32
  let v172 : BitVec 32 := Scalar.muli arg1 c1024_i32_55
  let c512_i32 : BitVec 32 := 512#32
  let v173 : BitVec 32 := Scalar.addi v172 c512_i32
  v173
def k0_off6 (i : grid0.Coords) : Fin 2 → Nat :=
  let arg1 : BitVec 32 := BitVec.ofNat 32 (i 1).val
  let c1024_i32_55 : BitVec 32 := 1024#32
  let v172 : BitVec 32 := Scalar.muli arg1 c1024_i32_55
  let c512_i32 : BitVec 32 := 512#32
  let v173 : BitVec 32 := Scalar.addi v172 c512_i32
  let v174 : BitVec 32 := v173
  let v179 : Index := Scalar.indexCast v174
  let c0_56 : Index := 0#32
  ![v179.toNat, 0]
def cc0_transform_0 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c44_i32 : BitVec 32 := 44#32
  let v0 : BitVec 32 := Scalar.addi c44_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel6Ideal.lean ====
variable {F : FTy → Type} [FloatOps F] [Named F]
def κ : String → Option EReal := fun
  | "mask6" => some ⊥
  | _ => none
-- ==== Reference6Ideal.lean ====
abbrev S16384x4608 : Shape := ⟨2, ![16384, 4608]⟩
abbrev S16384x512 : Shape := ⟨2, ![16384, 512]⟩
abbrev S4x64 : Shape := ⟨2, ![4, 64]⟩
abbrev S128 : Shape := ⟨1, ![128]⟩
abbrev S16384x4x2x64 : Shape := ⟨4, ![16384, 4, 2, 64]⟩
abbrev S16384x4x128 : Shape := ⟨3, ![16384, 4, 128]⟩
abbrev S2x4x16384x16384 : Shape := ⟨4, ![2, 4, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S2x4x16384 : Shape := ⟨3, ![2, 4, 16384]⟩
abbrev S2x4x16384x1 : Shape := ⟨4, ![2, 4, 16384, 1]⟩
abbrev S1x64 : Shape := ⟨2, ![1, 64]⟩
abbrev S64 : Shape := ⟨1, ![64]⟩
abbrev S1x4x16384x16384 : Shape := ⟨4, ![1, 4, 16384, 16384]⟩
abbrev S4x16384x16384 : Shape := ⟨3, ![4, 16384, 16384]⟩
abbrev S4x128x16384 : Shape := ⟨3, ![4, 128, 16384]⟩
abbrev S16384x4 : Shape := ⟨2, ![16384, 4]⟩
abbrev S16384x4x1 : Shape := ⟨3, ![16384, 4, 1]⟩
abbrev S1x1x128 : Shape := ⟨3, ![1, 1, 128]⟩

abbrev nBuf : Space → Nat
  | .hbm => 105
  | .vmem => 0
  | .smem => 0
  | _ => 0

abbrev bufTy : (tb : Table) → Fin (tcTables nBuf tb) → BufTy
  | .hbm, ⟨0, _⟩ => ⟨S16384x4608, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S4x64, .f32⟩
  | .hbm, ⟨5, _⟩ => ⟨S128, .f32⟩
  | .hbm, ⟨6, _⟩ => ⟨S16384x4x2x64, .f32⟩
  | .hbm, ⟨7, _⟩ => ⟨S16384x4x2x64, .f32⟩
  | .hbm, ⟨8, _⟩ => ⟨S16384x4x128, .f32⟩
  | .hbm, ⟨9, _⟩ => ⟨S2x4x16384x16384, .f32⟩
  | .hbm, ⟨10, _⟩ => ⟨S_, .f32⟩
  | .hbm, ⟨11, _⟩ => ⟨S2x4x16384x16384, .f32⟩
  | .hbm, ⟨12, _⟩ => ⟨S2x4x16384x16384, .f32⟩
  | .hbm, ⟨13, _⟩ => ⟨S16384, .i32⟩
  | .hbm, ⟨14, _⟩ => ⟨S_, .i32⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S16384, .i32⟩
  | .hbm, ⟨19, _⟩ => ⟨S_, .i32⟩
  | .hbm, ⟨20, _⟩ => ⟨S16384, .i32⟩
  | .hbm, ⟨21, _⟩ => ⟨S16384, .i1⟩
  | .hbm, ⟨22, _⟩ => ⟨S16384, .i32⟩
  | .hbm, ⟨23, _⟩ => ⟨S16384, .i32⟩
  | .hbm, ⟨24, _⟩ => ⟨S_, .i32⟩
  | .hbm, ⟨25, _⟩ => ⟨S16384, .i32⟩
  | .hbm, ⟨26, _⟩ => ⟨S16384, .i1⟩
  | .hbm, ⟨27, _⟩ => ⟨S16384, .i1⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S16384, .i32⟩
  | .hbm, ⟨32, _⟩ => ⟨S1x16384, .i32⟩
  | .hbm, ⟨33, _⟩ => ⟨S16384x1, .i32⟩
  | .hbm, ⟨34, _⟩ => ⟨S16384x16384, .i32⟩
  | .hbm, ⟨35, _⟩ => ⟨S16384x16384, .i32⟩
  | .hbm, ⟨36, _⟩ => ⟨S16384x16384, .i1⟩
  | .hbm, ⟨37, _⟩ => ⟨S_, .f32⟩
  | .hbm, ⟨38, _⟩ => ⟨S_, .f32⟩
  | .hbm, ⟨39, _⟩ => ⟨S2x4x16384x16384, .i1⟩
  | .hbm, ⟨40, _⟩ => ⟨S2x4x16384x16384, .f32⟩
  | .hbm, ⟨41, _⟩ => ⟨S2x4x16384x16384, .f32⟩
  | .hbm, ⟨42, _⟩ => ⟨S_, .f32⟩
  | .hbm, ⟨43, _⟩ => ⟨S2x4x16384, .f32⟩
  | .hbm, ⟨44, _⟩ => ⟨S_, .f32⟩
  | .hbm, ⟨45, _⟩ => ⟨S2x4x16384, .f32⟩
  | .hbm, ⟨46, _⟩ => ⟨S2x4x16384, .f32⟩
  | .hbm, ⟨47, _⟩ => ⟨S2x4x16384x1, .f32⟩
  | .hbm, ⟨48, _⟩ => ⟨S2x4x16384x16384, .f32⟩
  | .hbm, ⟨49, _⟩ => ⟨S2x4x16384x16384, .f32⟩
  | .hbm, ⟨50, _⟩ => ⟨S2x4x16384x16384, .f32⟩
  | .hbm, ⟨51, _⟩ => ⟨S_, .f32⟩
  | .hbm, ⟨52, _⟩ => ⟨S2x4x16384, .f32⟩
  | .hbm, ⟨53, _⟩ => ⟨S2x4x16384x1, .f32⟩
  | .hbm, ⟨54, _⟩ => ⟨S2x4x16384x16384, .f32⟩
  | .hbm, ⟨55, _⟩ => ⟨S2x4x16384x16384, .f32⟩
  | .hbm, ⟨56, _⟩ => ⟨S1x64, .f32⟩
  | .hbm, ⟨57, _⟩ => ⟨S64, .f32⟩
  | .hbm, ⟨58, _⟩ => ⟨S1x64, .f32⟩
  | .hbm, ⟨59, _⟩ => ⟨S64, .f32⟩
  | .hbm, ⟨60, _⟩ => ⟨S64, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S1x64, .f32⟩
  | .hbm, ⟨65, _⟩ => ⟨S64, .f32⟩
  | .hbm, ⟨66, _⟩ => ⟨S1x64, .f32⟩
  | .hbm, ⟨67, _⟩ => ⟨S64, .f32⟩
  | .hbm, ⟨68, _⟩ => ⟨S64, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S1x4x16384x16384, .f32⟩
  | .hbm, ⟨76, _⟩ => ⟨S4x16384x16384, .f32⟩
  | .hbm, ⟨77, _⟩ => ⟨S1x4x16384x16384, .f32⟩
  | .hbm, ⟨78, _⟩ => ⟨S4x16384x16384, .f32⟩
  | .hbm, ⟨79, _⟩ => ⟨S4x16384x16384, .f32⟩
  | .hbm, ⟨80, _⟩ => ⟨S4x16384x16384, .f32⟩
  | .hbm, ⟨81, _⟩ => ⟨S4x16384x16384, .f32⟩
  | .hbm, ⟨82, _⟩ => ⟨S4x128x16384, .f32⟩
  | .hbm, ⟨83, _⟩ => ⟨S16384x4x128, .f32⟩
  | .hbm, ⟨84, _⟩ => ⟨S16384x4x128, .f32⟩
  | .hbm, ⟨85, _⟩ => ⟨S_, .f32⟩
  | .hbm, ⟨86, _⟩ => ⟨S16384x4, .f32⟩
  | .hbm, ⟨87, _⟩ => ⟨S16384x4x1, .f32⟩
  | .hbm, ⟨88, _⟩ => ⟨S_, .f32⟩
  | .hbm, ⟨89, _⟩ => ⟨S16384x4x1, .f32⟩
  | .hbm, ⟨90, _⟩ => ⟨S16384x4x1, .f32⟩
  | .hbm, ⟨91, _⟩ => ⟨S_, .f32⟩
  | .hbm, ⟨92, _⟩ => ⟨S16384x4x1, .f32⟩
  | .hbm, ⟨93, _⟩ => ⟨S16384x4x1, .f32⟩
  | .hbm, ⟨94, _⟩ => ⟨S16384x4x1, .f32⟩
  | .hbm, ⟨95, _⟩ => ⟨S16384x4x128, .f32⟩
  | .hbm, ⟨96, _⟩ => ⟨S16384x4x128, .f32⟩
  | .hbm, ⟨97, _⟩ => ⟨S1x1x128, .f32⟩
  | .hbm, ⟨98, _⟩ => ⟨S16384x4x128, .f32⟩
  | .hbm, ⟨99, _⟩ => ⟨S16384x4x128, .f32⟩
  | .hbm, ⟨100, _⟩ => ⟨S_, .f32⟩
  | .hbm, ⟨101, _⟩ => ⟨S16384x4x128, .f32⟩
  | .hbm, ⟨102, _⟩ => ⟨S16384x4x128, .f32⟩
  | .hbm, ⟨103, _⟩ => ⟨S16384x512, .f32⟩
  | .hbm, ⟨104, _⟩ => ⟨S16384x512, .bf16⟩
  | _, _ => ⟨S16384x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v13 : Ref sig .tc := ⟨.hbm, 41, rfl⟩
abbrev main_cst_1 : Ref sig .tc := ⟨.hbm, 42, rfl⟩
abbrev main_v14 : Ref sig .tc := ⟨.hbm, 43, rfl⟩
abbrev main_cst_2 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_cst_3 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_4 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst_5 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_6 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_7 : Ref sig .tc := ⟨.hbm, 85, rfl⟩
abbrev main_v51 : Ref sig .tc := ⟨.hbm, 86, rfl⟩
abbrev main_v52 : Ref sig .tc := ⟨.hbm, 87, rfl⟩
abbrev main_cst_8 : Ref sig .tc := ⟨.hbm, 88, rfl⟩
abbrev main_v53 : Ref sig .tc := ⟨.hbm, 89, rfl⟩
abbrev main_v54 : Ref sig .tc := ⟨.hbm, 90, rfl⟩
abbrev main_cst_9 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_10 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩

abbrev nD : Nat := 1
abbrev τ : Topo := Topo.v7x

variable {F : FTy → Type} [FloatOps F]
-- ==== Kernel7.lean ====
abbrev S16384x768 : Shape := ⟨2, ![16384, 768]⟩
abbrev S16384x512 : Shape := ⟨2, ![16384, 512]⟩
abbrev S2048x2048 : Shape := ⟨2, ![2048, 2048]⟩
abbrev S16384x2048 : Shape := ⟨2, ![16384, 2048]⟩
abbrev S2048 : Shape := ⟨1, ![2048]⟩
abbrev S1x2048 : Shape := ⟨2, ![1, 2048]⟩
abbrev S512x768 : Shape := ⟨2, ![512, 768]⟩
abbrev S512x512 : Shape := ⟨2, ![512, 512]⟩
abbrev S768x2048 : Shape := ⟨2, ![768, 2048]⟩
abbrev S512x2048 : Shape := ⟨2, ![512, 2048]⟩
abbrev S512 : Shape := ⟨1, ![512]⟩
abbrev S512x1 : Shape := ⟨2, ![512, 1]⟩

abbrev nBuf : Space → Nat
  | .hbm => 18
  | .vmem => 20
  | .smem => 0
  | _ => 0

abbrev bufTy : (tb : Table) → Fin (tcTables nBuf tb) → BufTy
  | .hbm, ⟨0, _⟩ => ⟨S16384x768, .f32⟩
  | .hbm, ⟨1, _⟩ => ⟨S16384x768, .f32⟩
  | .hbm, ⟨2, _⟩ => ⟨S16384x512, .f32⟩
  | .hbm, ⟨3, _⟩ => ⟨S2048x2048, .f32⟩
  | .hbm, ⟨4, _⟩ => ⟨S16384x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S16384x768, .bf16⟩
  | .hbm, ⟨11, _⟩ => ⟨S16384x768, .bf16⟩
  | .hbm, ⟨12, _⟩ => ⟨S16384x512, .bf16⟩
  | .hbm, ⟨13, _⟩ => ⟨S2048x2048, .bf16⟩
  | .hbm, ⟨14, _⟩ => ⟨S1x2048, .f32⟩
  | .hbm, ⟨15, _⟩ => ⟨S1x2048, .f32⟩
  | .hbm, ⟨16, _⟩ => ⟨S16384x2048, .f32⟩
  | .hbm, ⟨17, _⟩ => ⟨S16384x2048, .f32⟩
  | .local _ .vmem, ⟨0, _⟩ => ⟨S512x768, .bf16⟩
  | .local _ .vmem, ⟨1, _⟩ => ⟨S512x768, .bf16⟩
  | .local _ .vmem, ⟨2, _⟩ => ⟨S512x768, .bf16⟩
  | .local _ .vmem, ⟨3, _⟩ => ⟨S512x768, .bf16⟩
  | .local _ .vmem, ⟨4, _⟩ => ⟨S512x512, .bf16⟩
  | .local _ .vmem, ⟨5, _⟩ => ⟨S512x512, .bf16⟩
  | .local _ .vmem, ⟨6, _⟩ => ⟨S768x2048, .bf16⟩
  | .local _ .vmem, ⟨7, _⟩ => ⟨S768x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | .local _ .vmem, ⟨14, _⟩ => ⟨S1x2048, .f32⟩
  | .local _ .vmem, ⟨15, _⟩ => ⟨S1x2048, .f32⟩
  | .local _ .vmem, ⟨16, _⟩ => ⟨S512x2048, .f32⟩
  | .local _ .vmem, ⟨17, _⟩ => ⟨S512x2048, .f32⟩
  | .local _ .vmem, ⟨18, _⟩ => ⟨S512x2048, .f32⟩
  | .local _ .vmem, ⟨19, _⟩ => ⟨S512x2048, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference7Ideal.lean ====
abbrev S16384x768 : Shape := ⟨2, ![16384, 768]⟩
abbrev S16384x512 : Shape := ⟨2, ![16384, 512]⟩
abbrev S2048x2048 : Shape := ⟨2, ![2048, 2048]⟩
abbrev S16384x2048 : Shape := ⟨2, ![16384, 2048]⟩
abbrev S2048 : Shape := ⟨1, ![2048]⟩
abbrev S1x2048 : Shape := ⟨2, ![1, 2048]⟩
abbrev S_ : Shape := ⟨0, ![]⟩
abbrev S16384 : Shape := ⟨1, ![16384]⟩
abbrev S16384x1 : Shape := ⟨2, ![16384, 1]⟩

abbrev nBuf : Space → Nat
  | .hbm => 54
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S16384x768, .f32⟩
  | .hbm, ⟨2, _⟩ => ⟨S16384x512, .f32⟩
  | .hbm, ⟨3, _⟩ => ⟨S2048x2048, .f32⟩
  | .hbm, ⟨4, _⟩ => ⟨S16384x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x2048, .f32⟩
  | .hbm, ⟨24, _⟩ => ⟨S16384x2048, .f32⟩
  | .hbm, ⟨25, _⟩ => ⟨S1x2048, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1, .f32⟩
  | .hbm, ⟨42, _⟩ => ⟨S16384x2048, .f32⟩
  | .hbm, ⟨43, _⟩ => ⟨S16384x2048, .f32⟩
  | .hbm, ⟨44, _⟩ => ⟨S1x2048, .f32⟩
  | .hbm, ⟨45, _⟩ => ⟨S16384x2048, .f32⟩
  | .hbm, ⟨46, _⟩ => ⟨S16384x2048, .f32⟩
  | .hbm, ⟨47, _⟩ => ⟨S_, .f32⟩
  | .hbm, ⟨48, _⟩ => ⟨S1x2048, .f32⟩
  | .hbm, ⟨49, _⟩ => ⟨S1x2048, .f32⟩
  | .hbm, ⟨50, _⟩ => ⟨S16384x2048, .f32⟩
  | .hbm, ⟨51, _⟩ => ⟨S16384x2048, .f32⟩
  | .hbm, ⟨52, _⟩ => ⟨S16384x2048, .f32⟩
  | .hbm, ⟨53, _⟩ => ⟨S16384x2048, .f32⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]
-- ==== Proof.Host.lean ====
/- The arrays the kernel's launch finds: what the host code before it makes of the arguments. -/
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.Attn

open Idealize.ShloMosaic Idealize.ShloMosaic.TcCoe Idealize.ShloMosaic.Tactic Idealize.ShloMosaic.Pointwise
open Cert.KernelIdeal Cert.KernelIdeal.Gen

variable (m : (ℓ : Loc nD τ sig) → Buf (Elt Ideal) ℓ) (c : Dev nD)

/-- The arguments. -/
abbrev aq : FVec Ideal S16384x768 .f32 := m ((c : Thread nD τ).loc main_arg0)
abbrev ak : FVec Ideal S16384x768 .f32 := m ((c : Thread nD τ).loc main_arg1)
abbrev av : FVec Ideal S16384x768 .f32 := m ((c : Thread nD τ).loc main_arg2)
abbrev af : FVec Ideal S16384x6 .f32 := m ((c : Thread nD τ).loc main_arg3)
abbrev ag : FVec Ideal S128 .f32 := m ((c : Thread nD τ).loc main_arg4)

/-- The factor the host puts on the logarithms' differences: `1 / log 2`. -/
abbrev lg : ℝ := 1 / Real.log 2

theorem two_eq : Ideal.ofBits .f32 1073741824#32 = ((2 : ℝ) : EReal) := by
  simp [Ideal.ofBits, Ideal.ieee, -EReal.coe_mul]; norm_num

theorem dim_eq : Ideal.ofBits .f32 1124073472#32 = ((128 : ℝ) : EReal) := by
  simp [Ideal.ofBits, Ideal.ieee, -EReal.coe_mul]; norm_num

theorem lg_eq : Ideal.div 1 (Ideal.log (Ideal.ofBits .f32 1073741824#32)) = (lg : EReal) := by
  rw [two_eq, Ideal.log_coe, if_neg (by norm_num), Ideal.div_coe (Real.log_pos (by norm_num)).ne', one_mul]

theorem root_eq : Ideal.sqrt (Ideal.ofBits .f32 1124073472#32) = ((Real.sqrt 128 : ℝ) : EReal) := by
  rw [dim_eq, Ideal.sqrt_coe, if_neg (by norm_num)]

theorem scale_eq : Ideal.div (Ideal.div 1 (Ideal.log (Ideal.ofBits .f32 1073741824#32)))
    (Ideal.sqrt (Ideal.ofBits .f32 1124073472#32)) = ((lg * (1 / Real.sqrt 128) : ℝ) : EReal) := by
  rw [lg_eq, root_eq, Ideal.div_coe (Real.sqrt_pos.2 (by norm_num)).ne', EReal.coe_mul]

/-- The first third of the projections: the scaled queries. -/
theorem proj_q (r : Fin 16384) (e : Fin 768) :
    V m c main_v7 (ix2 r ⟨e.val, by omega⟩) = (aq m c (ix2 r e) * ((lg * (1 / Real.sqrt 128) : ℝ) : EReal) : EReal) := by
  unfold_abbrev_sides
  after_results
  pointwise
  after_results_simp
  pointwise
  rw [scale_eq]
  rfl

/-- The second third: the keys. -/
theorem proj_k (r : Fin 16384) (e : Fin 768) :
    V m c main_v7 (ix2 r ⟨768 + e.val, by omega⟩) = ak m c (ix2 r e) := by
  unfold_abbrev_sides
  after_results
  pointwise
  after_results_simp

/-- The last third: the values. -/
theorem proj_v (r : Fin 16384) (e : Fin 768) :
    V m c main_v7 (ix2 r ⟨1536 + e.val, by omega⟩) = av m c (ix2 r e) := by
  unfold_abbrev_sides
  after_results
  pointwise
  after_results_simp
  rw [dif_neg (by omega), dif_neg (by omega)]
  exact congrArg (fun j => av m c (ix2 r j)) (Fin.ext (by show 1536 + e.val - 768 - 768 = e.val; omega))

/-- The decay's pieces: of a real decay the first piece is all of it. -/
theorem decay (f : ℝ) (h : Fin 6) (k : Fin 16384) (x : Fin 128) (hf : af m c (ix2 k h) = (f : EReal)) :
    V m c main_v21 (ix3 h k x) = (if x = 0 then ((-lg * f : ℝ) : EReal) else 0 : EReal) := by
  unfold_abbrev_sides
  after_results
  pointwise
  after_results_simp
  pointwise
  rw [lg_eq]
  rw [show m (c, Proc.tc.devRef main_arg3) (ix2 k h) = (f : EReal) from hf]
  rw [← EReal.coe_neg, ← EReal.coe_mul]
  by_cases hx : x.val < 1
  · rw [dif_pos hx, if_pos (Fin.ext (by simpa using hx))]
  · rw [dif_neg hx, if_neg (fun e => hx (by rw [e]; decide)), ← EReal.coe_sub, sub_self, ← EReal.coe_sub, sub_self]
    split_ifs <;> rfl

theorem gain (d : Fin 128) : V m c main_v22 (ix2 0 d) = ag m c (ix1 d) := by
  unfold_abbrev_sides
  after_results
  pointwise

/-- A query row with its tail: three ones, which take up the decay's pieces, and zeros. -/
theorem pay24_low (v7 : Vec Ideal S1024x128 .bf16) (r : Fin 1024) (x : Fin 128) :
    k0_pay24 v7 (ix2 r ⟨x.val, by omega⟩) = v7 (ix2 r x) := by
  pointwise [k0_pay24]

theorem pay24_high (v7 : Vec Ideal S1024x128 .bf16) (r : Fin 1024) :
    k0_pay24 v7 (ix2 r ⟨128 + (0 : Fin 128).val, by omega⟩) = (1 : EReal) := by
  pointwise [k0_pay24]
  rfl

end Cert.Attn

end
-- ==== Proof.Block.lean ====
/- What one grid point leaves in its output block: the loops' carried values, then the last store's payload. -/
module

public import proofs.«01_k».proof.Proof.Gen.KernelIdeal.Value
public import Idealize.ShloMosaic.Lib.Pipeline.ValueKit

@[expose] public section

set_option maxRecDepth 16384

noncomputable section

namespace Cert.Attn

open Idealize.ShloMosaic Idealize.ShloMosaic.TcCoe Idealize.ShloMosaic.Tactic
open Cert.KernelIdeal Cert.KernelIdeal.Gen

section
variable (c : Dev nD) (i : grid0.Coords) (arg2 : Memref sig .tc .vmem S1024x128 .bf16) (harg2 : arg2.IsWhole)
  (arg3 : Memref sig .tc .vmem S16384x128 .bf16) (harg3 : arg3.IsWhole)
  (arg4 : Memref sig .tc .vmem S16384x128 .bf16) (harg4 : arg4.IsWhole)
  (arg5 : Memref sig .tc .vmem S1x16384x128 .bf16) (harg5 : arg5.IsWhole)
  (arg6 : Memref sig .tc .vmem S1x128 .f32) (harg6 : arg6.IsWhole)
  (arg7 : Memref sig .tc .vmem S1024x128 .bf16) (harg7 : arg7.IsWhole)
  (x0 : Vec Ideal S1024x128 .bf16) (x1 : Vec Ideal S16384x128 .bf16) (x2 : Vec Ideal S16384x128 .bf16)
  (x3 : Vec Ideal S1x16384x128 .bf16) (x4 : Vec Ideal S1x128 .f32)

/-- The query block, as the body loads it. -/
abbrev q0 : Vec Ideal S1024x128 .bf16 := View.ld x0 (Rect.unit (s := S1024x128) ![0, 0] S1024x128.size inb_S1024x128_S1024x128_0_0)

/-- The carried triple after the loop over pairs of tiles. -/
def T1 : FVec Ideal S1024x1 .f32 × FVec Ideal S1024x128 .f32 × FVec Ideal S1024x128 .f32 :=
  st_k0_t1 (F := Ideal) Variants.none c none i arg2 harg2 arg3 harg3 arg4 harg4 arg5 harg5 arg6 harg6 arg7 harg7 (q0 x0)
    (harg3.unread x1) (harg4.unread x2) (harg5.unread x3) (k0_pay25, k0_pay26, k0_pay27) (k0_t1_loop i).trips

/-- The carried triple after that loop's remainder. -/
def T2 : FVec Ideal S1024x1 .f32 × FVec Ideal S1024x128 .f32 × FVec Ideal S1024x128 .f32 :=
  let p := T1 c i arg2 harg2 arg3 harg3 arg4 harg4 arg5 harg5 arg6 harg6 arg7 harg7 x0 x1 x2 x3
  st_k0_t2 (F := Ideal) Variants.none c none i arg2 harg2 arg3 harg3 arg4 harg4 arg5 harg5 arg6 harg6 arg7 harg7 (q0 x0)
    (kernelRun0_A.sl.v34 i) (harg3.unread x1) (harg4.unread x2) (harg5.unread x3) (p.1, p.2.1, p.2.2) (k0_t2_loop i).trips

/-- The carried triple after the odd tile. -/
def T3 : FVec Ideal S1024x1 .f32 × FVec Ideal S1024x128 .f32 × FVec Ideal S1024x128 .f32 :=
  let p := T2 c i arg2 harg2 arg3 harg3 arg4 harg4 arg5 harg5 arg6 harg6 arg7 harg7 x0 x1 x2 x3
  st_k0_t3 (F := Ideal) Variants.none c none i arg2 harg2 arg3 harg3 arg4 harg4 arg5 harg5 arg6 harg6 arg7 harg7
    (BitVec.ofNat 32 (i 1).val) (k0_pay24 (q0 x0)) p.1 p.2.1 p.2.2 2#32 0#32
    (harg3.unread x1) (harg4.unread x2) (harg5.unread x3) (p.1, p.2.1, p.2.2) (k0_t3_loop i).trips

/-- The carried triple after that loop's remainder. -/
def T4 : FVec Ideal S1024x1 .f32 × FVec Ideal S1024x128 .f32 × FVec Ideal S1024x128 .f32 :=
  let p := T2 c i arg2 harg2 arg3 harg3 arg4 harg4 arg5 harg5 arg6 harg6 arg7 harg7 x0 x1 x2 x3
  let p' := T3 c i arg2 harg2 arg3 harg3 arg4 harg4 arg5 harg5 arg6 harg6 arg7 harg7 x0 x1 x2 x3
  st_k0_t4 (F := Ideal) Variants.none c none i arg2 harg2 arg3 harg3 arg4 harg4 arg5 harg5 arg6 harg6 arg7 harg7
    (BitVec.ofNat 32 (i 1).val) (k0_pay24 (q0 x0)) p.1 p.2.1 p.2.2 2#32 0#32
    (harg3.unread x1) (harg4.unread x2) (harg5.unread x3) (p'.1, p'.2.1, p'.2.2) (k0_t4_loop i).trips

/-- The tiles of the diagonal, as the body loads them. -/
abbrev kA : Vec Ideal S512x128 .bf16 := View.ld x1 (Rect.unit (s := S16384x128) (k0_off9 i) S512x128.size (k0_off9_inb i))
abbrev dA : Vec Ideal S1x512x128 .bf16 := View.ld x3 (Rect.unit (s := S1x16384x128) (k0_off10 i) S1x512x128.size (k0_off10_inb i))
abbrev vA : Vec Ideal S512x128 .bf16 := View.ld x2 (Rect.unit (s := S16384x128) (k0_off9 i) S512x128.size (k0_off9_inb i))
abbrev kB : Vec Ideal S512x128 .bf16 := View.ld x1 (Rect.unit (s := S16384x128) (k0_off11 i) S512x128.size (k0_off11_inb i))
abbrev dB : Vec Ideal S1x512x128 .bf16 := View.ld x3 (Rect.unit (s := S1x16384x128) (k0_off12 i) S1x512x128.size (k0_off12_inb i))
abbrev vB : Vec Ideal S512x128 .bf16 := View.ld x2 (Rect.unit (s := S16384x128) (k0_off11 i) S512x128.size (k0_off11_inb i))
abbrev g0 : Vec Ideal S1x128 .f32 := View.ld x4 (Rect.unit (s := S1x128) ![0, 0] S1x128.size inb_S1x128_S1x128_0_0)

/-- The body's result, from the triple the loops leave. -/
def last (p : FVec Ideal S1024x1 .f32 × FVec Ideal S1024x128 .f32 × FVec Ideal S1024x128 .f32) : Vec Ideal S1024x128 .bf16 :=
  let v9 := k0_pay24 (q0 x0)
  let X := k0_pay44 v9 (kA i x1) (dA i x3)
  let mx := k0_pay46 v9 (kA i x1) (dA i x3)
  k0_pay1 (k0_pay50 p.1 p.2.1 X mx) (k0_pay51 p.1 p.2.2 X (k0_pay45 (vA i x2)) mx) (k0_pay53 (vB i x2))
    (k0_pay55 p.1 p.2.1 X mx) (k0_pay56 p.1 p.2.2 X (k0_pay45 (vA i x2)) mx)
    (k0_pay58 v9 p.1 mx (kB i x1) (dB i x3)) (k0_pay59 v9 p.1 mx (kB i x1) (dB i x3))
    (k0_pay60 v9 p.1 mx (kB i x1) (dB i x3)) (g0 x4)

theorem r_eq : kernelRun0_A.sl.r (F := Ideal) c arg2 harg2 x0 = k0_pay24 (q0 x0) := by
  unfold kernelRun0_A.sl.r
  rw [View.readAt_eq_ld, harg2.read_unread]

theorem r1_eq : kernelRun0_A.sl.r_1 (F := Ideal) c i arg2 harg2 arg3 harg3 arg4 harg4 arg5 harg5 arg6 harg6 arg7 harg7 x0 x1 x2 x3 = (T2 c i arg2 harg2 arg3 harg3 arg4 harg4 arg5 harg5 arg6 harg6 arg7 harg7 x0 x1 x2 x3).1 := by
  unfold kernelRun0_A.sl.r_1 T2 T1
  rw [View.readAt_eq_ld, harg2.read_unread]

theorem r2_eq : kernelRun0_A.sl.r_2 (F := Ideal) c i arg2 harg2 arg3 harg3 arg4 harg4 arg5 harg5 arg6 harg6 arg7 harg7 x0 x1 x2 x3 = (T2 c i arg2 harg2 arg3 harg3 arg4 harg4 arg5 harg5 arg6 harg6 arg7 harg7 x0 x1 x2 x3).2.1 := by
  unfold kernelRun0_A.sl.r_2 T2 T1
  rw [View.readAt_eq_ld, harg2.read_unread]

theorem r3_eq : kernelRun0_A.sl.r_3 (F := Ideal) c i arg2 harg2 arg3 harg3 arg4 harg4 arg5 harg5 arg6 harg6 arg7 harg7 x0 x1 x2 x3 = (T2 c i arg2 harg2 arg3 harg3 arg4 harg4 arg5 harg5 arg6 harg6 arg7 harg7 x0 x1 x2 x3).2.2 := by
  unfold kernelRun0_A.sl.r_3 T2 T1
  rw [View.readAt_eq_ld, harg2.read_unread]

theorem r4_eq : kernelRun0_A.sl.r_4 (F := Ideal) c i arg2 harg2 arg3 harg3 arg4 harg4 arg5 harg5 arg6 harg6 arg7 harg7 x0 x1 x2 x3 = (T4 c i arg2 harg2 arg3 harg3 arg4 harg4 arg5 harg5 arg6 harg6 arg7 harg7 x0 x1 x2 x3).1 := by
  unfold kernelRun0_A.sl.r_4 T4 T3
  rw [r_eq, r1_eq, r2_eq, r3_eq]

theorem r5_eq : kernelRun0_A.sl.r_5 (F := Ideal) c i arg2 harg2 arg3 harg3 arg4 harg4 arg5 harg5 arg6 harg6 arg7 harg7 x0 x1 x2 x3 = (T4 c i arg2 harg2 arg3 harg3 arg4 harg4 arg5 harg5 arg6 harg6 arg7 harg7 x0 x1 x2 x3).2.1 := by
  unfold kernelRun0_A.sl.r_5 T4 T3
  rw [r_eq, r1_eq, r2_eq, r3_eq]

theorem r6_eq : kernelRun0_A.sl.r_6 (F := Ideal) c i arg2 harg2 arg3 harg3 arg4 harg4 arg5 harg5 arg6 harg6 arg7 harg7 x0 x1 x2 x3 = (T4 c i arg2 harg2 arg3 harg3 arg4 harg4 arg5 harg5 arg6 harg6 arg7 harg7 x0 x1 x2 x3).2.2 := by
  unfold kernelRun0_A.sl.r_6 T4 T3
  rw [r_eq, r1_eq, r2_eq, r3_eq]

theorem r7_eq : kernelRun0_A.sl.r_7 (F := Ideal) c i arg2 harg2 arg3 harg3 arg5 harg5 x0 x1 x3 = k0_pay44 (k0_pay24 (q0 x0)) (kA i x1) (dA i x3) := by
  unfold kernelRun0_A.sl.r_7
  rw [r_eq, View.readAt_eq_ld, View.readAt_eq_ld, harg3.read_unread, harg5.read_unread]

theorem r8_eq : kernelRun0_A.sl.r_8 (F := Ideal) i arg4 harg4 x2 = k0_pay45 (vA i x2) := by
  unfold kernelRun0_A.sl.r_8
  rw [View.readAt_eq_ld, harg4.read_unread]

theorem r9_eq : kernelRun0_A.sl.r_9 (F := Ideal) c i arg2 harg2 arg3 harg3 arg5 harg5 x0 x1 x3 = k0_pay46 (k0_pay24 (q0 x0)) (kA i x1) (dA i x3) := by
  unfold kernelRun0_A.sl.r_9
  rw [r_eq, View.readAt_eq_ld, View.readAt_eq_ld, harg3.read_unread, harg5.read_unread]

theorem out_eq : out0_A_5 c i arg2 harg2 arg3 harg3 arg4 harg4 arg5 harg5 arg6 harg6 arg7 harg7 x0 x1 x2 x3 x4
    = last i x0 x1 x2 x3 x4 (T4 c i arg2 harg2 arg3 harg3 arg4 harg4 arg5 harg5 arg6 harg6 arg7 harg7 x0 x1 x2 x3) := by
  unfold out0_A_5
  rw [View.read_writes_eq_canon _ _ _ (cover0_A_5 c _ _ _ _ _ _ _ _ _ _ _ _ _ _ _ _ _ _)]
  unfold kernelRun0_A
  dsimp only
  refine (View.canon_cons_unit_zero (S := S1024x128) (by decide) _ _ _).trans ?_
  unfold kernelRun0_A.sl.r_10 kernelRun0_A.sl.r_11 kernelRun0_A.sl.r_12 kernelRun0_A.sl.r_13 kernelRun0_A.sl.r_14
    kernelRun0_A.sl.r_15 kernelRun0_A.sl.r_16 kernelRun0_A.sl.r_17 last
  simp only [r_eq, r4_eq, r5_eq, r6_eq, r7_eq, r8_eq, r9_eq, View.readAt_eq_ld, harg3.read_unread, harg4.read_unread,
    harg5.read_unread, harg6.read_unread]

end

end Cert.Attn

end
-- ==== Proof.Offsets.lean ====
/- The index words of the kernel's body: how often each loop runs, and where each load starts. -/
module

public import proofs.«01_k».proof.Proof.Gen.KernelIdeal.Skeleton
public import Idealize.ShloMosaic.Lib.LoopRemainder

@[expose] public section

set_option maxRecDepth 16384

noncomputable section

namespace Cert.Attn

open Idealize.ShloMosaic Idealize.ShloMosaic.TcCoe Idealize.ShloMosaic.Tactic
open Cert.KernelIdeal Cert.KernelIdeal.Gen

theorem trips1 : ∀ i : grid0.Coords, (k0_t1_loop i).trips = (i 1).val / 2 := by decide +kernel
theorem trips2 : ∀ i : grid0.Coords, (k0_t2_loop i).trips = 0 := by decide +kernel
theorem trips3 : ∀ i : grid0.Coords, (k0_t3_loop i).trips = (i 1).val % 2 := by decide +kernel
theorem trips4 : ∀ i : grid0.Coords, (k0_t4_loop i).trips = 0 := by decide +kernel

theorem off1 : ∀ (i : grid0.Coords) (k : Fin (k0_t1_loop i).trips), k0_off1 i k = ![2048 * k.val, 0] := by decide +kernel
theorem off2 : ∀ (i : grid0.Coords) (k : Fin (k0_t1_loop i).trips), k0_off2 i k = ![0, 2048 * k.val, 0] := by decide +kernel
theorem off5 : ∀ i : grid0.Coords, (i 1).val % 2 = 1 → k0_off5 i = ![1024 * ((i 1).val - 1), 0] := by decide +kernel
theorem off6 : ∀ i : grid0.Coords, (i 1).val % 2 = 1 → k0_off6 i = ![0, 1024 * ((i 1).val - 1), 0] := by decide +kernel
theorem off9 : ∀ i : grid0.Coords, k0_off9 i = ![1024 * (i 1).val, 0] := by decide +kernel
theorem off10 : ∀ i : grid0.Coords, k0_off10 i = ![0, 1024 * (i 1).val, 0] := by decide +kernel
theorem off11 : ∀ i : grid0.Coords, k0_off11 i = ![1024 * (i 1).val + 512, 0] := by decide +kernel
theorem off12 : ∀ i : grid0.Coords, k0_off12 i = ![0, 1024 * (i 1).val + 512, 0] := by decide +kernel

end Cert.Attn

end
-- ==== Proof.Softmax.lean ====
/- The mathematics of the attention: a softmax average taken tile by tile is the softmax average.

   One query sees the keys `0 … t`. The kernel walks over the keys in tiles and keeps a running maximum, 128 partial
   weight sums and a partial weighted sum of the values, all relative to the maximum. `Row` says what these three hold
   after the keys below `n`; `Row.step` takes it over one tile; `Row.quotient` reads the average off at the end. -/
module

public import Idealize.ShloMosaic.PureOps.Ideal

@[expose] public section

noncomputable section

namespace Cert.Attn

open Idealize.ShloMosaic

/-- A finite sum of reals, embedded in the extended reals, is the sum of the embedded terms. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The score of key `k` for the query at position `t`: the causal mask hides the later keys. -/
def sc (s : ℕ → ℝ) (t k : ℕ) : EReal := if k ≤ t then (s k : EReal) else ⊥

/-- The weight of key `k` for the query at position `t`, relative to the reference level `M`. -/
def wt (s : ℕ → ℝ) (t : ℕ) (M : ℝ) (k : ℕ) : ℝ := if k ≤ t then Real.rpow 2 (s k - M) else 0

theorem exp2_sc (s : ℕ → ℝ) (t : ℕ) (M : ℝ) (k : ℕ) : Ideal.exp2 (sc s t k - (M : EReal)) = (wt s t M k : EReal) := by
  unfold sc wt
  split
  · rw [← EReal.coe_sub, Ideal.exp2_coe]
  · simp

/-- Another reference level scales every weight by the same factor. -/
theorem wt_shift (s : ℕ → ℝ) (t : ℕ) (M M' : ℝ) (k : ℕ) : Real.rpow 2 (M - M') * wt s t M k = wt s t M' k := by
  unfold wt
  split
  · simp only [Real.rpow_eq_pow]
    rw [← Real.rpow_add (by norm_num)]
    ring_nf
  · simp

/-- The maximum over a tile whose first key is visible is a real number. -/
theorem tile_max_real (s : ℕ → ℝ) (t n w : ℕ) (hw : 0 < w) (hn : n ≤ t) :
    ∃ T : ℝ, (Finset.univ.fold max (⊥ : EReal) fun j : Fin w => sc s t (n + j)) = (T : EReal) := by
  have hlo : sc s t n ≤ Finset.univ.fold max (⊥ : EReal) fun j : Fin w => sc s t (n + j) := by
    rw [Finset.le_fold_max]
    exact Or.inr ⟨⟨0, hw⟩, Finset.mem_univ _, by simp⟩
  have hhi : (Finset.univ.fold max (⊥ : EReal) fun j : Fin w => sc s t (n + j)) < ⊤ := by
    rw [Finset.fold_max_lt]
    refine ⟨bot_lt_top, fun j _ => ?_⟩
    unfold sc
    split
    · exact EReal.coe_lt_top _
    · exact bot_lt_top
  have hb : (⊥ : EReal) < sc s t n := by
    unfold sc
    rw [if_pos hn]
    exact EReal.bot_lt_coe _
  lift (Finset.univ.fold max (⊥ : EReal) fun j : Fin w => sc s t (n + j)) to ℝ using
    ⟨hhi.ne, (lt_of_lt_of_le hb hlo).ne'⟩ with T
  exact ⟨T, rfl⟩

/-- Lane `j` of 128 collects the keys `j`, `128 + j`, …: all lanes together collect every key once. -/
theorem sum_lanes (f : ℕ → ℝ) (B : ℕ) :
    ∑ j : Fin 128, ∑ b ∈ Finset.range B, f (128 * b + j) = ∑ k ∈ Finset.range (128 * B), f k := by
  induction B with
  | zero => simp
  | succ B ih =>
    simp only [Finset.sum_range_succ, Finset.sum_add_distrib]
    rw [ih, Nat.mul_succ, Finset.sum_range_add, ← Fin.sum_univ_eq_sum_range (fun x => f (128 * B + x))]

/-- What the running maximum `m`, the lanes' weight sums `l` and the weighted value sums `acc` of the query at
    position `t` hold after the keys below `n`. -/
def Row {D : Type} (s : ℕ → ℝ) (v : ℕ → D → ℝ) (t n : ℕ) (m : EReal) (l : Fin 128 → EReal) (acc : D → EReal) : Prop :=
  (n = 0 ∧ m = ⊥ ∧ (∀ j, l j = 0) ∧ ∀ d, acc d = 0) ∨
  ∃ (M : ℝ) (L : Fin 128 → ℝ), m = (M : EReal) ∧ (∀ j, l j = (L j : EReal)) ∧
    ∑ j, L j = ∑ k ∈ Finset.range n, wt s t M k ∧
    ∀ d, acc d = ((∑ k ∈ Finset.range n, wt s t M k * v k d : ℝ) : EReal)

/-- Before the first key. -/
theorem Row.zero {D : Type} (s : ℕ → ℝ) (v : ℕ → D → ℝ) (t : ℕ) : Row s v t 0 ⊥ (fun _ => 0) (fun _ => 0) :=
  Or.inl ⟨rfl, rfl, fun _ => rfl, fun _ => rfl⟩

/-- One tile of `w` keys, the first of them visible. -/
theorem Row.step {D : Type} {s : ℕ → ℝ} {v : ℕ → D → ℝ} {t n : ℕ} {m : EReal} {l : Fin 128 → EReal} {acc : D → EReal}
    (h : Row s v t n m l acc) (w B : ℕ) (hB : w = 128 * B) (hw : 0 < w) (hn : n ≤ t) {m' : EReal} {l' : Fin 128 → EReal}
    {acc' : D → EReal}
    (hm : m' = max m (Finset.univ.fold max (⊥ : EReal) fun j : Fin w => sc s t (n + j)))
    (hl : ∀ j, l' j = Ideal.exp2 (m - m') * l j + ∑ b ∈ Finset.range B, Ideal.exp2 (sc s t (n + (128 * b + j)) - m'))
    (ha : ∀ d, acc' d = Ideal.exp2 (m - m') * acc d +
      ∑ k : Fin w, Ideal.exp2 (sc s t (n + k) - m') * ((v (n + k) d : ℝ) : EReal)) :
    Row s v t (n + w) m' l' acc' := by
  obtain ⟨T, hT⟩ := tile_max_real s t n w hw hn
  rw [hT] at hm
  -- the tile's own two sums, at a real level
  have hP : ∀ M' : ℝ, m' = (M' : EReal) → ∀ j : Fin 128,
      ∑ b ∈ Finset.range B, Ideal.exp2 (sc s t (n + (128 * b + j)) - m')
        = ((∑ b ∈ Finset.range B, wt s t M' (n + (128 * b + j)) : ℝ) : EReal) := by
    intro M' hM' j
    rw [coe_sum, hM']
    exact Finset.sum_congr rfl fun b _ => exp2_sc _ _ _ _
  have hQ : ∀ M' : ℝ, m' = (M' : EReal) → ∀ d : D,
      ∑ k : Fin w, Ideal.exp2 (sc s t (n + k) - m') * ((v (n + k) d : ℝ) : EReal)
        = ((∑ k ∈ Finset.range w, wt s t M' (n + k) * v (n + k) d : ℝ) : EReal) := by
    intro M' hM' d
    rw [← Fin.sum_univ_eq_sum_range (fun k => wt s t M' (n + k) * v (n + k) d), coe_sum, hM']
    exact Finset.sum_congr rfl fun k _ => by rw [exp2_sc, EReal.coe_mul]
  have hS : ∀ M' : ℝ, ∑ j : Fin 128, ∑ b ∈ Finset.range B, wt s t M' (n + (128 * b + j))
      = ∑ k ∈ Finset.range w, wt s t M' (n + k) := by
    intro M'
    rw [hB, ← sum_lanes (fun k => wt s t M' (n + k))]
  right
  rcases h with ⟨hn0, h1, h2, h3⟩ | ⟨M, L, h1, h2, h3, h4⟩
  · subst h1
    have hM' : m' = (T : EReal) := by rw [hm]; simp
    refine ⟨T, fun j => ∑ b ∈ Finset.range B, wt s t T (n + (128 * b + j)), hM', fun j => ?_, ?_, fun d => ?_⟩
    · rw [hl, hP T hM', h2]; simp
    · rw [hS, hn0]; simp
    · rw [ha, hQ T hM', h3, hn0]; simp
  · have hM' : m' = ((max M T : ℝ) : EReal) := by rw [hm, h1]; exact (EReal.coe_strictMono.monotone.map_max).symm
    have hα : Ideal.exp2 (m - m') = ((Real.rpow 2 (M - max M T) : ℝ) : EReal) := by
      rw [h1, hM', ← EReal.coe_sub, Ideal.exp2_coe]
    refine ⟨max M T, fun j => Real.rpow 2 (M - max M T) * L j + ∑ b ∈ Finset.range B, wt s t (max M T) (n + (128 * b + j)),
      hM', fun j => ?_, ?_, fun d => ?_⟩
    · rw [hl, hP _ hM', hα, h2, EReal.coe_add, EReal.coe_mul]
    · rw [Finset.sum_add_distrib, hS, ← Finset.mul_sum, h3, Finset.sum_range_add, Finset.mul_sum]
      simp only [wt_shift]
    · rw [ha, hQ _ hM', hα, h4, ← EReal.coe_mul, ← EReal.coe_add, Finset.sum_range_add, Finset.mul_sum]
      simp only [← mul_assoc, wt_shift]

/-- The weighted average of the visible keys' values, the weights powers of two. -/
def avg {D : Type} (s : ℕ → ℝ) (v : ℕ → D → ℝ) (t : ℕ) (d : D) : ℝ :=
  (∑ k ∈ Finset.range (t + 1), Real.rpow 2 (s k) * v k d) / ∑ k ∈ Finset.range (t + 1), Real.rpow 2 (s k)

theorem sum_wt (s : ℕ → ℝ) (t : ℕ) (M : ℝ) (n : ℕ) (hn : t + 1 ≤ n) (g : ℕ → ℝ) :
    ∑ k ∈ Finset.range n, wt s t M k * g k
      = Real.rpow 2 (-M) * ∑ k ∈ Finset.range (t + 1), Real.rpow 2 (s k) * g k := by
  rw [Finset.mul_sum, ← Finset.sum_subset (Finset.range_subset_range.2 hn)]
  · refine Finset.sum_congr rfl fun k hk => ?_
    have : k ≤ t := Nat.lt_succ_iff.1 (Finset.mem_range.1 hk)
    unfold wt
    rw [if_pos this, ← mul_assoc]
    simp only [Real.rpow_eq_pow]
    rw [← Real.rpow_add (by norm_num)]
    ring_nf
  · intro k _ hk
    have : ¬ k ≤ t := fun h => hk (Finset.mem_range.2 (Nat.lt_succ_iff.2 h))
    unfold wt
    rw [if_neg this, zero_mul]

theorem sum_pow_pos (s : ℕ → ℝ) (t : ℕ) : 0 < ∑ k ∈ Finset.range (t + 1), Real.rpow 2 (s k) :=
  Finset.sum_pos (fun _ _ => Real.rpow_pos_of_pos (by norm_num) _) ⟨0, by simp⟩

/-- After every visible key: the quotient is the average. -/
theorem Row.quotient {D : Type} {s : ℕ → ℝ} {v : ℕ → D → ℝ} {t n : ℕ} {m : EReal} {l : Fin 128 → EReal} {acc : D → EReal}
    (h : Row s v t n m l acc) (hn : t + 1 ≤ n) (d : D) :
    Ideal.div (acc d) (∑ j, l j) = (avg s v t d : EReal) := by
  rcases h with ⟨hn0, -⟩ | ⟨M, L, h1, h2, h3, h4⟩
  · omega
  have hs := sum_wt s t M n hn fun _ => 1
  simp only [mul_one] at hs
  have hpos : 0 < Real.rpow 2 (-M) := Real.rpow_pos_of_pos (by norm_num) _
  have hne := (sum_pow_pos s t).ne'
  have hl : ∑ j, l j = ((Real.rpow 2 (-M) * ∑ k ∈ Finset.range (t + 1), Real.rpow 2 (s k) : ℝ) : EReal) := by
    rw [← hs, ← h3, coe_sum]
    exact Finset.sum_congr rfl fun j _ => h2 j
  rw [h4, sum_wt s t M n hn (fun k => v k d), hl, Ideal.div_coe (mul_ne_zero hpos.ne' hne), ← EReal.coe_mul]
  congr 1
  unfold avg
  field_simp

/-- Keys past the last visible one may be left out. -/
theorem Row.extend {D : Type} {s : ℕ → ℝ} {v : ℕ → D → ℝ} {t n : ℕ} {m : EReal} {l : Fin 128 → EReal} {acc : D → EReal}
    (h : Row s v t n m l acc) (hn : t + 1 ≤ n) (d : D) :
    Ideal.div (acc d) (0 + ∑ j, l j) = (avg s v t d : EReal) := by
  rw [zero_add, h.quotient hn]

/-- The same average by a softmax over all `N` keys, the scores `x` in natural units and only a row-constant away. -/
theorem softmax_avg {D : Type} (s : ℕ → ℝ) (v : ℕ → D → ℝ) (t N : ℕ) (htN : t < N) (c : ℝ) (d : D)
    (X e : Fin N → EReal) (mx den : EReal)
    (hX : ∀ k : Fin N, X k = if (k : ℕ) ≤ t then ((c + Real.log 2 * s k : ℝ) : EReal) else ⊥)
    (hmx : mx = max ⊥ (Finset.univ.fold max (⊥ : EReal) X))
    (he : ∀ k, e k = Ideal.exp (X k - mx)) (hden : den = ∑ k, e k) :
    ∑ k : Fin N, ((v k d : ℝ) : EReal) * Ideal.div (e k) den = (avg s v t d : EReal) := by
  obtain ⟨T, hT⟩ := tile_max_real (fun k => c + Real.log 2 * s k) t 0 N (by omega) (Nat.zero_le _)
  have hmxT : mx = (T : EReal) := by
    rw [hmx, max_eq_right bot_le, ← hT]
    congr 1
    funext k
    rw [hX]
    simp [sc]
  -- each exponential, as a multiple of the power of two
  have hek : ∀ k : Fin N, e k = ((Real.exp (c - T) * wt s t 0 k : ℝ) : EReal) := by
    intro k
    rw [he, hX, hmxT]
    unfold wt
    split
    · rw [← EReal.coe_sub, Ideal.exp_coe]
      congr 1
      simp only [Real.rpow_eq_pow]
      rw [Real.rpow_def_of_pos (by norm_num), ← Real.exp_add]
      ring_nf
    · simp
  have hs := sum_wt s t 0 N htN fun _ => 1
  have hv := sum_wt s t 0 N htN fun k => v k d
  simp only [mul_one, neg_zero, Real.rpow_eq_pow, Real.rpow_zero, one_mul] at hs hv
  have hpos := sum_pow_pos s t
  simp only [Real.rpow_eq_pow] at hpos
  have hE : 0 < Real.exp (c - T) := Real.exp_pos _
  have hd : den = ((Real.exp (c - T) * ∑ k ∈ Finset.range (t + 1), (2 : ℝ) ^ s k : ℝ) : EReal) := by
    rw [hden, ← hs, ← Fin.sum_univ_eq_sum_range (fun k => wt s t 0 k), Finset.mul_sum, coe_sum]
    exact Finset.sum_congr rfl fun k _ => hek k
  have hterm : ∀ k : Fin N, ((v k d : ℝ) : EReal) * Ideal.div (e k) den
      = ((wt s t 0 k * v k d / ∑ k ∈ Finset.range (t + 1), (2 : ℝ) ^ s k : ℝ) : EReal) := by
    intro k
    rw [hd, Ideal.div_coe (mul_ne_zero hE.ne' hpos.ne'), hek, ← EReal.coe_mul, ← EReal.coe_mul]
    congr 1
    have := hpos.ne'
    field_simp
  rw [Finset.sum_congr rfl fun k _ => hterm k, ← coe_sum, ← Finset.sum_div,
    Fin.sum_univ_eq_sum_range (fun k => wt s t 0 k * v k d), hv]
  rfl

end Cert.Attn

end
-- ==== Proof.Tile.lean ====
/- The kernel's tile updates, one row at a time: each of them is a step of `Row`. -/
module

public import proofs.«01_k».proof.Proof.Softmax
public import proofs.«01_k».proof.Proof.Gen.KernelIdeal.Skeleton
public import Idealize.ShloMosaic.Lib.Pointwise
public import Idealize.ShloMosaic.Lib.WordCmp

@[expose] public section

set_option maxRecDepth 16384

noncomputable section

namespace Cert.Attn

open Idealize.ShloMosaic Idealize.ShloMosaic.TcCoe Idealize.ShloMosaic.Tactic Idealize.ShloMosaic.Pointwise
open Cert.KernelIdeal Cert.KernelIdeal.Gen

/-- The maximum's start, the 32-bit pattern of minus infinity. -/
theorem ofBits_bot : Ideal.ofBits .f32 4286578688#32 = (⊥ : EReal) := by
  simp [Ideal.ofBits, Ideal.ieee]

/-- The named mask denotes minus infinity. -/
theorem mask_bot : (Named.named κ "mask" 4048155338#32 : Ideal .f32) = (⊥ : EReal) :=
  IdealRules.named_const.ideal_named_scalar _ _ _ _ rfl

/-- The exponential to base two at the ideal instance. -/
theorem exp2_eq (x : EReal) : (FloatOps.exp2 (F := Ideal) (φ := .f32) x : EReal) = Ideal.exp2 x := rfl

/-- The comparison of two small indices as words. -/
theorem select_le {α : Type} (a b : ℕ) (ha : a < 2 ^ 31) (hb : b < 2 ^ 31) (x y : α) :
    Scalar.select (IntOp.cmpi .sle (BitVec.ofNat 32 a) (BitVec.ofNat 32 b)) x y = if a ≤ b then x else y := by
  rw [WordCmp.cmpi_sle_ofNat (by simpa using ha) (by simpa using hb)]
  by_cases h : a ≤ b <;> simp [h, Scalar.select]

/-- A column of 1024 numbers, as a one-column matrix. -/
theorem col1024 (w : FVec Ideal S1024 .f32) (r : Fin 1024) :
    (shapeCast S1024x1 w shapeCasts_S1024_S1024x1) (ix2 r 0) = w (ix1 r) := by
  pointwise

theorem maxf1024 (m w : FVec Ideal S1024x1 .f32) (r : Fin 1024) :
    (maximumf m w (ix2 r 0) : EReal) = max (m (ix2 r 0) : EReal) (w (ix2 r 0) : EReal) := rfl

/-- A column of 512 numbers, as a one-column matrix. -/
theorem col512 (w : FVec Ideal S512 .f32) (r : Fin 512) :
    (shapeCast S512x1 w shapeCasts_S512_S512x1) (ix2 r 0) = w (ix1 r) := by
  pointwise

theorem maxf512 (m w : FVec Ideal S512x1 .f32) (r : Fin 512) :
    (maximumf m w (ix2 r 0) : EReal) = max (m (ix2 r 0) : EReal) (w (ix2 r 0) : EReal) := rfl

/-- The row maxima of a 1024 by 2048 matrix. -/
theorem rowmax1024x2048 (X : FVec Ideal S1024x2048 .f32) (r : Fin 1024) :
    (multiReduction .maximumf [1] S1024 X 0xFF800000#32 reduces_S1024x2048_S1024 (.inl rfl) rfl : FVec Ideal S1024 .f32) (ix1 r)
      = (Finset.univ.fold max (Ideal.ofBits .f32 4286578688#32) fun j : Fin 2048 => X (ix2 r j)) := by
  pointwise

theorem newmax1024x2048 (X : FVec Ideal S1024x2048 .f32) (m : FVec Ideal S1024x1 .f32) (r : Fin 1024) (S : Fin 2048 → EReal)
    (hS : ∀ j, X (ix2 r j) = S j) :
    (maximumf m (shapeCast S1024x1 (multiReduction .maximumf [1] S1024 X 0xFF800000#32 reduces_S1024x2048_S1024 (.inl rfl) rfl :
      FVec Ideal S1024 .f32) shapeCasts_S1024_S1024x1) (ix2 r 0) : EReal)
      = max (m (ix2 r 0) : EReal) (Finset.univ.fold max (⊥ : EReal) S) := by
  rw [maxf1024, col1024, rowmax1024x2048, ofBits_bot, funext hS]

/-- The row maxima of a 1024 by 1024 matrix. -/
theorem rowmax1024x1024 (X : FVec Ideal S1024x1024 .f32) (r : Fin 1024) :
    (multiReduction .maximumf [1] S1024 X 0xFF800000#32 reduces_S1024x1024_S1024 (.inl rfl) rfl : FVec Ideal S1024 .f32) (ix1 r)
      = (Finset.univ.fold max (Ideal.ofBits .f32 4286578688#32) fun j : Fin 1024 => X (ix2 r j)) := by
  pointwise

theorem newmax1024x1024 (X : FVec Ideal S1024x1024 .f32) (m : FVec Ideal S1024x1 .f32) (r : Fin 1024) (S : Fin 1024 → EReal)
    (hS : ∀ j, X (ix2 r j) = S j) :
    (maximumf m (shapeCast S1024x1 (multiReduction .maximumf [1] S1024 X 0xFF800000#32 reduces_S1024x1024_S1024 (.inl rfl) rfl :
      FVec Ideal S1024 .f32) shapeCasts_S1024_S1024x1) (ix2 r 0) : EReal)
      = max (m (ix2 r 0) : EReal) (Finset.univ.fold max (⊥ : EReal) S) := by
  rw [maxf1024, col1024, rowmax1024x1024, ofBits_bot, funext hS]

/-- The row maxima of a 1024 by 512 matrix. -/
theorem rowmax1024x512 (X : FVec Ideal S1024x512 .f32) (r : Fin 1024) :
    (multiReduction .maximumf [1] S1024 X 0xFF800000#32 reduces_S1024x512_S1024 (.inl rfl) rfl : FVec Ideal S1024 .f32) (ix1 r)
      = (Finset.univ.fold max (Ideal.ofBits .f32 4286578688#32) fun j : Fin 512 => X (ix2 r j)) := by
  pointwise

theorem newmax1024x512 (X : FVec Ideal S1024x512 .f32) (m : FVec Ideal S1024x1 .f32) (r : Fin 1024) (S : Fin 512 → EReal)
    (hS : ∀ j, X (ix2 r j) = S j) :
    (maximumf m (shapeCast S1024x1 (multiReduction .maximumf [1] S1024 X 0xFF800000#32 reduces_S1024x512_S1024 (.inl rfl) rfl :
      FVec Ideal S1024 .f32) shapeCasts_S1024_S1024x1) (ix2 r 0) : EReal)
      = max (m (ix2 r 0) : EReal) (Finset.univ.fold max (⊥ : EReal) S) := by
  rw [maxf1024, col1024, rowmax1024x512, ofBits_bot, funext hS]

/-- The row maxima of a 512 by 512 matrix. -/
theorem rowmax512x512 (X : FVec Ideal S512x512 .f32) (r : Fin 512) :
    (multiReduction .maximumf [1] S512 X 0xFF800000#32 reduces_S512x512_S512 (.inl rfl) rfl : FVec Ideal S512 .f32) (ix1 r)
      = (Finset.univ.fold max (Ideal.ofBits .f32 4286578688#32) fun j : Fin 512 => X (ix2 r j)) := by
  pointwise

theorem newmax512x512 (X : FVec Ideal S512x512 .f32) (m : FVec Ideal S512x1 .f32) (r : Fin 512) (S : Fin 512 → EReal)
    (hS : ∀ j, X (ix2 r j) = S j) :
    (maximumf m (shapeCast S512x1 (multiReduction .maximumf [1] S512 X 0xFF800000#32 reduces_S512x512_S512 (.inl rfl) rfl :
      FVec Ideal S512 .f32) shapeCasts_S512_S512x1) (ix2 r 0) : EReal)
      = max (m (ix2 r 0) : EReal) (Finset.univ.fold max (⊥ : EReal) S) := by
  rw [maxf512, col512, rowmax512x512, ofBits_bot, funext hS]

section
variable {s : ℕ → ℝ} {v : ℕ → Fin 128 → ℝ} {t n : ℕ}

/-- One trip of the loop over pairs of tiles: 2048 keys. -/
theorem tile2048 (v9 : FVec Ideal S1024x256 .bf16) (m : FVec Ideal S1024x1 .f32) (l acc : FVec Ideal S1024x128 .f32)
    (K : Vec Ideal S2048x128 .bf16) (Dc : Vec Ideal S1x2048x128 .bf16) (V : Vec Ideal S2048x128 .bf16) (r : Fin 1024)
    (hn : n ≤ t)
    (hX : ∀ j : Fin 2048, k0_pay2 v9 K Dc (ix2 r j) = sc s t (n + j))
    (hV : ∀ (j : Fin 2048) (d : Fin 128), V (ix2 j d) = ((v (n + j) d : ℝ) : EReal))
    (h : Row s v t n (m (ix2 r 0)) (fun j => l (ix2 r j)) (fun d => acc (ix2 r d))) :
    Row s v t (n + 2048) (k0_pay4 v9 m K Dc (ix2 r 0))
      (fun j => k0_pay28 (k0_pay7 v9 m l K Dc) (k0_pay8 v9 m K Dc) (k0_pay9 v9 m K Dc) (k0_pay10 v9 m K Dc)
        (k0_pay11 v9 m K Dc) (k0_pay12 v9 m K Dc) (ix2 r j))
      (fun d => k0_pay29 acc (k0_pay3 V) (k0_pay5 v9 m K Dc) (k0_pay6 v9 m K Dc) (ix2 r d)) := by
  have hm : k0_pay4 v9 m K Dc (ix2 r 0)
      = max (m (ix2 r 0)) (Finset.univ.fold max (⊥ : EReal) fun j : Fin 2048 => sc s t (n + j)) := newmax1024x2048 _ _ _ _ hX
  have hp : ∀ j : Fin 2048, k0_pay5 v9 m K Dc (ix2 r j) = Ideal.exp2 (sc s t (n + j) - k0_pay4 v9 m K Dc (ix2 r 0)) := by
    intro j
    pointwise [k0_pay5]
    simp only [hX, exp2_eq]
  have hα : k0_pay6 v9 m K Dc (ix2 r 0) = Ideal.exp2 (m (ix2 r 0) - k0_pay4 v9 m K Dc (ix2 r 0)) := by
    pointwise [k0_pay6]
    simp only [exp2_eq]
  refine h.step 2048 16 rfl (by norm_num) hn hm (fun j => ?_) fun d => ?_
  · pointwise [k0_pay28, k0_pay7, k0_pay8, k0_pay9, k0_pay10, k0_pay11, k0_pay12]
    simp only [hp, hα, Finset.sum_range_succ, Finset.sum_range_zero, zero_add, Nat.mul_zero, Nat.mul_one, Nat.reduceMul]
  · pointwise [k0_pay29, k0_pay3]
    simp only [hp, hα, hV]

/-- The odd tile's trip: 1024 keys. -/
theorem tile1024 (v9 : FVec Ideal S1024x256 .bf16) (m : FVec Ideal S1024x1 .f32) (l acc : FVec Ideal S1024x128 .f32)
    (K : Vec Ideal S1024x128 .bf16) (Dc : Vec Ideal S1x1024x128 .bf16) (V : Vec Ideal S1024x128 .bf16) (r : Fin 1024)
    (hn : n ≤ t)
    (hX : ∀ j : Fin 1024, k0_pay32 v9 K Dc (ix2 r j) = sc s t (n + j))
    (hV : ∀ (j : Fin 1024) (d : Fin 128), V (ix2 j d) = ((v (n + j) d : ℝ) : EReal))
    (h : Row s v t n (m (ix2 r 0)) (fun j => l (ix2 r j)) (fun d => acc (ix2 r d))) :
    Row s v t (n + 1024) (k0_pay33 v9 m K Dc (ix2 r 0)) (fun j => k0_pay36 v9 m l K Dc (ix2 r j))
      (fun d => k0_pay37 v9 m acc K Dc V (ix2 r d)) := by
  have hm : k0_pay33 v9 m K Dc (ix2 r 0)
      = max (m (ix2 r 0)) (Finset.univ.fold max (⊥ : EReal) fun j : Fin 1024 => sc s t (n + j)) := newmax1024x1024 _ _ _ _ hX
  have hp : ∀ j : Fin 1024, k0_pay34 v9 m K Dc (ix2 r j) = Ideal.exp2 (sc s t (n + j) - k0_pay33 v9 m K Dc (ix2 r 0)) := by
    intro j
    pointwise [k0_pay34]
    simp only [hX, exp2_eq]
  have hα : k0_pay35 v9 m K Dc (ix2 r 0) = Ideal.exp2 (m (ix2 r 0) - k0_pay33 v9 m K Dc (ix2 r 0)) := by
    pointwise [k0_pay35]
    simp only [exp2_eq]
  refine h.step 1024 8 rfl (by norm_num) hn hm (fun j => ?_) fun d => ?_
  · pointwise [k0_pay36]
    simp only [hp, hα, Finset.sum_range_succ, Finset.sum_range_zero, zero_add, Nat.mul_zero, Nat.mul_one, Nat.reduceMul]
  · pointwise [k0_pay37]
    simp only [hp, hα, hV]

/-- The first half of the diagonal tile: 512 keys. -/
theorem half1 (v9 : FVec Ideal S1024x256 .bf16) (m : FVec Ideal S1024x1 .f32) (l acc : FVec Ideal S1024x128 .f32)
    (K : Vec Ideal S512x128 .bf16) (Dc : Vec Ideal S1x512x128 .bf16) (V : Vec Ideal S512x128 .bf16) (r : Fin 1024)
    (hn : n ≤ t)
    (hX : ∀ j : Fin 512, k0_pay44 v9 K Dc (ix2 r j) = sc s t (n + j))
    (hV : ∀ (j : Fin 512) (d : Fin 128), V (ix2 j d) = ((v (n + j) d : ℝ) : EReal))
    (h : Row s v t n (m (ix2 r 0)) (fun j => l (ix2 r j)) (fun d => acc (ix2 r d))) :
    Row s v t (n + 512) (k0_pay47 m (k0_pay46 v9 K Dc) (ix2 r 0))
      (fun j => k0_pay50 m l (k0_pay44 v9 K Dc) (k0_pay46 v9 K Dc) (ix2 r j))
      (fun d => k0_pay51 m acc (k0_pay44 v9 K Dc) (k0_pay45 V) (k0_pay46 v9 K Dc) (ix2 r d)) := by
  have hm : k0_pay47 m (k0_pay46 v9 K Dc) (ix2 r 0)
      = max (m (ix2 r 0)) (Finset.univ.fold max (⊥ : EReal) fun j : Fin 512 => sc s t (n + j)) := newmax1024x512 _ _ _ _ hX
  have hp : ∀ j : Fin 512, k0_pay48 m (k0_pay44 v9 K Dc) (k0_pay46 v9 K Dc) (ix2 r j) = Ideal.exp2 (sc s t (n + j) - k0_pay47 m (k0_pay46 v9 K Dc) (ix2 r 0)) := by
    intro j
    pointwise [k0_pay48]
    simp only [hX, exp2_eq]
  have hα : k0_pay49 m (k0_pay46 v9 K Dc) (ix2 r 0) = Ideal.exp2 (m (ix2 r 0) - k0_pay47 m (k0_pay46 v9 K Dc) (ix2 r 0)) := by
    pointwise [k0_pay49]
    simp only [exp2_eq]
  refine h.step 512 4 rfl (by norm_num) hn hm (fun j => ?_) fun d => ?_
  · pointwise [k0_pay50]
    simp only [hp, hα, Finset.sum_range_succ, Finset.sum_range_zero, zero_add, Nat.mul_zero, Nat.mul_one, Nat.reduceMul]
  · pointwise [k0_pay51, k0_pay45]
    simp only [hp, hα, hV]

end

end Cert.Attn

end
-- ==== Proof.Finish.lean ====
/- The end of the kernel's body: the second half of the diagonal tile on the lower rows, the quotient and the
   normalisation of each row. -/
module

public import proofs.«01_k».proof.Proof.Tile

@[expose] public section

set_option maxRecDepth 16384

noncomputable section

namespace Cert.Attn

open Idealize.ShloMosaic Idealize.ShloMosaic.TcCoe Idealize.ShloMosaic.Tactic Idealize.ShloMosaic.Pointwise
open Cert.KernelIdeal Cert.KernelIdeal.Gen

/-- A row of 128 values, divided by its root mean square and scaled by a gain. -/
def rms (o g : Fin 128 → EReal) (d : Fin 128) : EReal :=
  o d * Ideal.rsqrt (Ideal.div (∑ x, o x * o x) (Ideal.ofBits .f32 1124073472#32) + Ideal.ofBits .f32 897988541#32) * g d

section
variable {s : ℕ → ℝ} {v : ℕ → Fin 128 → ℝ} {t n : ℕ}

variable (v94 v99 : FVec Ideal S1024x128 .f32) (v118 : FVec Ideal S512x128 .bf16) (v120 v121 : FVec Ideal S512x128 .f32)
  (v127 : FVec Ideal S512x512 .f32) (v129 : FVec Ideal S512x1 .f32) (v130 : FVec Ideal S512x128 .f32)
  (g : Vec Ideal S1x128 .f32) (r : Fin 1024) (d : Fin 128)

/-- The block's upper rows: their sums are complete after the first half of the diagonal tile. -/
theorem pay1_low (hr : r.val < 512) :
    k0_pay1 v94 v99 v118 v120 v121 v127 v129 v130 g (ix2 r d)
      = rms (fun d => Ideal.div (v99 (ix2 r d)) (∑ x, v94 (ix2 r x))) (fun d => g (ix2 0 d)) d := by
  pointwise [k0_pay1]
  simp only [dif_pos hr]
  rfl

/-- The block's lower rows: the second half of the diagonal tile is added to their sums. -/
theorem pay1_high (ρ : Fin 512) (hr : r.val = 512 + ρ.val) :
    k0_pay1 v94 v99 v118 v120 v121 v127 v129 v130 g (ix2 r d)
      = rms (fun d => Ideal.div (v129 (ix2 ρ 0) * v121 (ix2 ρ d) + ∑ x, v127 (ix2 ρ x) * v118 (ix2 x d))
          (∑ x : Fin 128, (v130 (ix2 ρ x) * v120 (ix2 ρ x) +
            (v127 (ix2 ρ ⟨x.val, by omega⟩) + v127 (ix2 ρ ⟨128 + x.val, by omega⟩) + v127 (ix2 ρ ⟨256 + x.val, by omega⟩)
              + v127 (ix2 ρ ⟨384 + x.val, by omega⟩)))))
        (fun d => g (ix2 0 d)) d := by
  have hρ : ∀ h, (⟨r.val - 512, h⟩ : Fin 512) = ρ := fun h => Fin.ext (by simp [hr])
  have hn : ¬ r.val < 512 := by omega
  pointwise [k0_pay1]
  simp only [dif_neg hn, hρ]
  rfl

/-- The output's upper rows. -/
theorem finish_low {M : EReal} (hr : r.val < 512) (hn : t + 1 ≤ n)
    (h : Row s v t n M (fun j => v94 (ix2 r j)) (fun d => v99 (ix2 r d))) :
    k0_pay1 v94 v99 v118 v120 v121 v127 v129 v130 g (ix2 r d)
      = rms (fun d => (avg s v t d : EReal)) (fun d => g (ix2 0 d)) d := by
  rw [pay1_low _ _ _ _ _ _ _ _ _ _ _ hr]
  congr 1
  funext d
  exact h.quotient hn d

end

section
variable {s : ℕ → ℝ} {v : ℕ → Fin 128 → ℝ} {t n : ℕ}

/-- The output's lower rows. -/
theorem finish_high (v9 : FVec Ideal S1024x256 .bf16) (m : FVec Ideal S1024x1 .f32) (l acc : FVec Ideal S1024x128 .f32)
    (X : FVec Ideal S1024x512 .f32) (Vp : FVec Ideal S512x128 .bf16) (mx : FVec Ideal S1024x1 .f32)
    (K : Vec Ideal S512x128 .bf16) (Dc : Vec Ideal S1x512x128 .bf16) (V : Vec Ideal S512x128 .bf16)
    (g : Vec Ideal S1x128 .f32) (r : Fin 1024) (d : Fin 128) (ρ : Fin 512) (hr : r.val = 512 + ρ.val)
    (hn : n ≤ t) (hn' : t + 1 ≤ n + 512)
    (hX : ∀ j : Fin 512, k0_pay52 v9 K Dc (ix2 ρ j) = sc s t (n + j))
    (hV : ∀ (j : Fin 512) (d : Fin 128), V (ix2 j d) = ((v (n + j) d : ℝ) : EReal))
    (h : Row s v t n (k0_pay47 m mx (ix2 r 0)) (fun j => k0_pay50 m l X mx (ix2 r j))
      (fun d => k0_pay51 m acc X Vp mx (ix2 r d))) :
    k0_pay1 (k0_pay50 m l X mx) (k0_pay51 m acc X Vp mx) (k0_pay53 V) (k0_pay55 m l X mx) (k0_pay56 m acc X Vp mx)
        (k0_pay58 v9 m mx K Dc) (k0_pay59 v9 m mx K Dc) (k0_pay60 v9 m mx K Dc) g (ix2 r d)
      = rms (fun d => (avg s v t d : EReal)) (fun d => g (ix2 0 d)) d := by
  have hrr : ∀ h, (⟨512 + ρ.val, h⟩ : Fin 1024) = r := fun h => Fin.ext hr.symm
  have hm : k0_pay57 v9 m mx K Dc (ix2 ρ 0)
      = max (k0_pay47 m mx (ix2 r 0)) (Finset.univ.fold max (⊥ : EReal) fun j : Fin 512 => sc s t (n + j)) := by
    have h54 : k0_pay54 m mx (ix2 ρ 0) = k0_pay47 m mx (ix2 r 0) := by
      unfold k0_pay54
      generalize k0_pay47 m mx = M
      pointwise
      rw [hrr]
    rw [← h54]
    exact newmax512x512 _ _ _ _ hX
  have hp : ∀ j : Fin 512, k0_pay58 v9 m mx K Dc (ix2 ρ j)
      = Ideal.exp2 (sc s t (n + j) - k0_pay57 v9 m mx K Dc (ix2 ρ 0)) := by
    intro j
    pointwise [k0_pay58]
    simp only [hX, exp2_eq]
  have hα : k0_pay59 v9 m mx K Dc (ix2 ρ 0)
      = Ideal.exp2 (k0_pay47 m mx (ix2 r 0) - k0_pay57 v9 m mx K Dc (ix2 ρ 0)) := by
    pointwise [k0_pay59, k0_pay54]
    simp only [hrr, exp2_eq]
  have hα' : ∀ j : Fin 128, k0_pay60 v9 m mx K Dc (ix2 ρ j) = k0_pay59 v9 m mx K Dc (ix2 ρ 0) := by
    intro j
    pointwise [k0_pay60]
  have hl : ∀ j : Fin 128, k0_pay55 m l X mx (ix2 ρ j) = k0_pay50 m l X mx (ix2 r j) := by
    intro j
    pointwise [k0_pay55]
    simp only [hrr]
  have ha : ∀ j : Fin 128, k0_pay56 m acc X Vp mx (ix2 ρ j) = k0_pay51 m acc X Vp mx (ix2 r j) := by
    intro j
    pointwise [k0_pay56]
    simp only [hrr]
  have hv : ∀ (j : Fin 512) (d : Fin 128), k0_pay53 V (ix2 j d) = ((v (n + j) d : ℝ) : EReal) := by
    intro j d
    pointwise [k0_pay53]
    exact hV j d
  rw [pay1_high _ _ _ _ _ _ _ _ _ _ _ ρ hr]
  congr 1
  funext d
  have hs := h.step
    (l' := fun x : Fin 128 => k0_pay60 v9 m mx K Dc (ix2 ρ x) * k0_pay55 m l X mx (ix2 ρ x) +
      (k0_pay58 v9 m mx K Dc (ix2 ρ ⟨x.val, by omega⟩) + k0_pay58 v9 m mx K Dc (ix2 ρ ⟨128 + x.val, by omega⟩)
        + k0_pay58 v9 m mx K Dc (ix2 ρ ⟨256 + x.val, by omega⟩) + k0_pay58 v9 m mx K Dc (ix2 ρ ⟨384 + x.val, by omega⟩)))
    (acc' := fun d : Fin 128 => k0_pay59 v9 m mx K Dc (ix2 ρ 0) * k0_pay56 m acc X Vp mx (ix2 ρ d) +
      ∑ x : Fin 512, k0_pay58 v9 m mx K Dc (ix2 ρ x) * k0_pay53 V (ix2 x d))
    512 4 rfl (by norm_num) hn hm (fun j => by
      simp only [hp, hα', hα, hl, Finset.sum_range_succ, Finset.sum_range_zero, zero_add, Nat.mul_zero, Nat.mul_one]) fun d => by simp only [hp, hα, ha, hv]
  exact hs.quotient hn' d

end

end Cert.Attn

end
-- ==== Proof.Loops.lean ====
/- The loops of the kernel's body: after them every row of the block has taken in the keys before its own tile; then
   the two halves of the diagonal tile complete the rows. -/
module

public import proofs.«01_k».proof.Proof.Block
public import proofs.«01_k».proof.Proof.Offsets
public import proofs.«01_k».proof.Proof.Finish

@[expose] public section

set_option maxRecDepth 16384

noncomputable section

namespace Cert.Attn

open Idealize.ShloMosaic Idealize.ShloMosaic.TcCoe Idealize.ShloMosaic.Tactic Idealize.ShloMosaic.Pointwise
open Cert.KernelIdeal Cert.KernelIdeal.Gen

/-- Rows of a loaded tile are rows of the array. -/
theorem ld_rows {w : ℕ} (X : Vec Ideal S16384x128 .bf16) (off : Fin 2 → ℕ) (inb) (n : ℕ) (h : off = ![n, 0]) (j : Fin w)
    (d : Fin 128) (hj : n + j.val < 16384) :
    View.ld X (Rect.unit (s := S16384x128) off ![w, 128] inb) (ix2 j d) = X (ix2 ⟨n + j.val, hj⟩ d) := by
  subst h
  refine View.ld_unit_apply_of X _ _ inb _ _ fun a => ?_
  match a with
  | 0 => rfl
  | 1 => exact (Nat.zero_add _).symm

theorem ld_rows3 {w : ℕ} (X : Vec Ideal S1x16384x128 .bf16) (off : Fin 3 → ℕ) (inb) (n : ℕ) (h : off = ![0, n, 0]) (j : Fin w)
    (d : Fin 128) (hj : n + j.val < 16384) :
    View.ld X (Rect.unit (s := S1x16384x128) off ![1, w, 128] inb) (ix3 0 j d) = X (ix3 0 ⟨n + j.val, hj⟩ d) := by
  subst h
  refine View.ld_unit_apply_of X _ _ inb _ _ fun a => ?_
  match a with
  | 0 => rfl
  | 1 => rfl
  | 2 => exact (Nat.zero_add _).symm

theorem pay2_at (v9 : FVec Ideal S1024x256 .bf16) (K : Vec Ideal S2048x128 .bf16) (D : Vec Ideal S1x2048x128 .bf16) (r : Fin 1024) (j : Fin 2048) :
    k0_pay2 v9 K D (ix2 r j) = ((∑ x : Fin 128, v9 (ix2 r ⟨x.val, by omega⟩) * K (ix2 j x)) +
      ∑ x : Fin 128, v9 (ix2 r ⟨128 + x.val, by omega⟩) * D (ix3 0 j x) : EReal) := by
  pointwise [k0_pay2]

theorem pay32_at (v9 : FVec Ideal S1024x256 .bf16) (K : Vec Ideal S1024x128 .bf16) (D : Vec Ideal S1x1024x128 .bf16) (r : Fin 1024) (j : Fin 1024) :
    k0_pay32 v9 K D (ix2 r j) = ((∑ x : Fin 128, v9 (ix2 r ⟨x.val, by omega⟩) * K (ix2 j x)) +
      ∑ x : Fin 128, v9 (ix2 r ⟨128 + x.val, by omega⟩) * D (ix3 0 j x) : EReal) := by
  pointwise [k0_pay32]

theorem pay44_at (v9 : FVec Ideal S1024x256 .bf16) (K : Vec Ideal S512x128 .bf16) (D : Vec Ideal S1x512x128 .bf16) (r : Fin 1024) (j : Fin 512) :
    k0_pay44 v9 K D (ix2 r j) = if j.val ≤ r.val then ((∑ x : Fin 128, v9 (ix2 r ⟨x.val, by omega⟩) * K (ix2 j x)) +
      ∑ x : Fin 128, v9 (ix2 r ⟨128 + x.val, by omega⟩) * D (ix3 0 j x) : EReal) else ⊥ := by
  pointwise [k0_pay44]
  rw [select_le _ _ (by omega) (by omega), mask_bot]

theorem pay52_at (v9 : FVec Ideal S1024x256 .bf16) (K : Vec Ideal S512x128 .bf16) (D : Vec Ideal S1x512x128 .bf16) (ρ : Fin 512) (j : Fin 512) :
    k0_pay52 v9 K D (ix2 ρ j) = if j.val ≤ ρ.val then ((∑ x : Fin 128, v9 (ix2 ⟨512 + ρ.val, by omega⟩ ⟨x.val, by omega⟩) * K (ix2 j x)) +
      ∑ x : Fin 128, v9 (ix2 ⟨512 + ρ.val, by omega⟩ ⟨128 + x.val, by omega⟩) * D (ix3 0 j x) : EReal) else ⊥ := by
  pointwise [k0_pay52]
  rw [select_le _ _ (by omega) (by omega), mask_bot]

abbrev Carry := FVec Ideal S1024x1 .f32 × FVec Ideal S1024x128 .f32 × FVec Ideal S1024x128 .f32

/-- Every row of the block has taken in the first `n` keys. -/
def Inv (s : Fin 1024 → ℕ → ℝ) (v : ℕ → Fin 128 → ℝ) (b n : ℕ) (p : Carry) : Prop :=
  ∀ r : Fin 1024, Row (s r) v (b + r.val) n (p.1 (ix2 r 0)) (fun j => p.2.1 (ix2 r j)) (fun d => p.2.2 (ix2 r d))

section
variable (i : grid0.Coords) (arg3 : Memref sig .tc .vmem S16384x128 .bf16) (arg4 : Memref sig .tc .vmem S16384x128 .bf16)
  (arg5 : Memref sig .tc .vmem S1x16384x128 .bf16) (v7 : Vec Ideal S1024x128 .bf16)
  (X3 : BufTy.Contents (Elt Ideal) arg3.view.ty) (X4 : BufTy.Contents (Elt Ideal) arg4.view.ty)
  (X5 : BufTy.Contents (Elt Ideal) arg5.view.ty) (k : Fin (k0_t1_loop i).trips) (p : Carry)

/-- The tiles of a trip of the loop over pairs of tiles, as the body loads them. -/
abbrev tK : Vec Ideal S2048x128 .bf16 :=
  View.readAt (Elt Ideal) arg3.view (Rect.unit (s := S16384x128) (k0_off1 i k) S2048x128.size (k0_off1_inb i k)).toLoadRect X3
abbrev tV : Vec Ideal S2048x128 .bf16 :=
  View.readAt (Elt Ideal) arg4.view (Rect.unit (s := S16384x128) (k0_off1 i k) S2048x128.size (k0_off1_inb i k)).toLoadRect X4
abbrev tD : Vec Ideal S1x2048x128 .bf16 :=
  View.readAt (Elt Ideal) arg5.view (Rect.unit (s := S1x16384x128) (k0_off2 i k) S1x2048x128.size (k0_off2_inb i k)).toLoadRect X5

theorem w182_eq : trip_k0_t1.sl.v182 (F := Ideal) i arg4 X4 k = k0_pay3 (tV i arg4 X4 k) := by
  unfold trip_k0_t1.sl.v182 k0_pay3
  rfl

theorem w179_eq : trip_k0_t1.sl.v179 (F := Ideal) i arg3 arg5 v7 X3 X5 k = k0_pay2 (k0_pay24 v7) (tK i arg3 X3 k) (tD i arg5 X5 k) := by
  unfold trip_k0_t1.sl.v179 trip_k0_t1.sl.v178 trip_k0_t1.sl.v177 trip_k0_t1.sl.v174 trip_k0_t1.sl.cst_53 k0_pay2
  rfl

theorem w185_eq : trip_k0_t1.sl.v185 (F := Ideal) i arg3 arg5 v7 X3 X5 k p = k0_pay4 (k0_pay24 v7) p.1 (tK i arg3 X3 k) (tD i arg5 X5 k) := by
  unfold trip_k0_t1.sl.v185 trip_k0_t1.sl.v184 trip_k0_t1.sl.v183 k0_pay4
  rw [w179_eq]

theorem w188_eq : trip_k0_t1.sl.v188 (F := Ideal) i arg3 arg5 v7 X3 X5 k p = k0_pay5 (k0_pay24 v7) p.1 (tK i arg3 X3 k) (tD i arg5 X5 k) := by
  unfold trip_k0_t1.sl.v188 trip_k0_t1.sl.v187 trip_k0_t1.sl.v186 k0_pay5
  rw [w179_eq, w185_eq]

theorem w190_eq : trip_k0_t1.sl.v190 (F := Ideal) i arg3 arg5 v7 X3 X5 k p = k0_pay6 (k0_pay24 v7) p.1 (tK i arg3 X3 k) (tD i arg5 X5 k) := by
  unfold trip_k0_t1.sl.v190 trip_k0_t1.sl.v189 k0_pay6
  rw [w185_eq]

theorem w192_eq : trip_k0_t1.sl.v192 (F := Ideal) i arg3 arg5 v7 X3 X5 k p = k0_pay7 (k0_pay24 v7) p.1 p.2.1 (tK i arg3 X3 k) (tD i arg5 X5 k) := by
  unfold trip_k0_t1.sl.v192 trip_k0_t1.sl.v191 k0_pay7
  rw [w190_eq]

theorem w205_eq : trip_k0_t1.sl.v205 (F := Ideal) i arg3 arg5 v7 X3 X5 k p = k0_pay8 (k0_pay24 v7) p.1 (tK i arg3 X3 k) (tD i arg5 X5 k) := by
  unfold trip_k0_t1.sl.v205 k0_pay8
  rw [w188_eq]

theorem w206_eq : trip_k0_t1.sl.v206 (F := Ideal) i arg3 arg5 v7 X3 X5 k p = k0_pay9 (k0_pay24 v7) p.1 (tK i arg3 X3 k) (tD i arg5 X5 k) := by
  unfold trip_k0_t1.sl.v206 k0_pay9
  rw [w188_eq]

theorem w207_eq : trip_k0_t1.sl.v207 (F := Ideal) i arg3 arg5 v7 X3 X5 k p = k0_pay10 (k0_pay24 v7) p.1 (tK i arg3 X3 k) (tD i arg5 X5 k) := by
  unfold trip_k0_t1.sl.v207 k0_pay10
  rw [w188_eq]

theorem w208_eq : trip_k0_t1.sl.v208 (F := Ideal) i arg3 arg5 v7 X3 X5 k p = k0_pay11 (k0_pay24 v7) p.1 (tK i arg3 X3 k) (tD i arg5 X5 k) := by
  unfold trip_k0_t1.sl.v208 k0_pay11
  rw [w188_eq]

theorem w219_eq : trip_k0_t1.sl.v219 (F := Ideal) i arg3 arg5 v7 X3 X5 k p = k0_pay12 (k0_pay24 v7) p.1 (tK i arg3 X3 k) (tD i arg5 X5 k) := by
  unfold trip_k0_t1.sl.v219 trip_k0_t1.sl.v218 trip_k0_t1.sl.v217 trip_k0_t1.sl.v216 trip_k0_t1.sl.v215 trip_k0_t1.sl.v214 trip_k0_t1.sl.v213 trip_k0_t1.sl.v212 trip_k0_t1.sl.v211 trip_k0_t1.sl.v210 trip_k0_t1.sl.v209 trip_k0_t1.sl.v193 trip_k0_t1.sl.v194 trip_k0_t1.sl.v195 trip_k0_t1.sl.v196 trip_k0_t1.sl.v197 trip_k0_t1.sl.v198 trip_k0_t1.sl.v199 trip_k0_t1.sl.v200 trip_k0_t1.sl.v201 trip_k0_t1.sl.v202 trip_k0_t1.sl.v203 trip_k0_t1.sl.v204 k0_pay12
  rw [w188_eq]

end

section
variable (c : Dev nD) (i : grid0.Coords) (arg2 : Memref sig .tc .vmem S1024x128 .bf16) (harg2 : arg2.IsWhole)
  (arg3 : Memref sig .tc .vmem S16384x128 .bf16) (harg3 : arg3.IsWhole)
  (arg4 : Memref sig .tc .vmem S16384x128 .bf16) (harg4 : arg4.IsWhole)
  (arg5 : Memref sig .tc .vmem S1x16384x128 .bf16) (harg5 : arg5.IsWhole)
  (arg6 : Memref sig .tc .vmem S1x128 .f32) (harg6 : arg6.IsWhole)
  (arg7 : Memref sig .tc .vmem S1024x128 .bf16) (harg7 : arg7.IsWhole)
  (x0 : Vec Ideal S1024x128 .bf16) (x1 : Vec Ideal S16384x128 .bf16) (x2 : Vec Ideal S16384x128 .bf16)
  (x3 : Vec Ideal S1x16384x128 .bf16) (x4 : Vec Ideal S1x128 .f32)

/-- The first row of the block. -/
abbrev base : ℕ := 1024 * (i 1).val

/-- The block's score against key `k`, as the body's matrix product gives it, is the real number `s r k`. -/
def Scores (s : Fin 1024 → ℕ → ℝ) : Prop :=
  ∀ (r : Fin 1024) (k : Fin 16384),
    ((∑ x : Fin 128, (k0_pay24 (F := Ideal) (q0 x0)) (ix2 r ⟨x.val, by omega⟩) * x1 (ix2 k x)) +
      ∑ x : Fin 128, (k0_pay24 (F := Ideal) (q0 x0)) (ix2 r ⟨128 + x.val, by omega⟩) * x3 (ix3 0 k x) : EReal) = (s r k.val : EReal)

/-- The values are the real numbers `v`. -/
def Values (v : ℕ → Fin 128 → ℝ) : Prop := ∀ (k : Fin 16384) (d : Fin 128), x2 (ix2 k d) = ((v k.val d : ℝ) : EReal)

variable {s : Fin 1024 → ℕ → ℝ} {v : ℕ → Fin 128 → ℝ}

theorem base_lt : base i + 1024 ≤ 16384 := by
  have : (i 1).val < 16 := (i 1).isLt
  unfold base
  omega

/-- What a trip of the loop over pairs of tiles yields. -/
theorem trip1_eq (k : Fin (k0_t1_loop i).trips) (p : Carry) :
    tripR_k0_t1 (F := Ideal) Variants.none c none i arg2 harg2 arg3 harg3 arg4 harg4 arg5 harg5
      arg6 harg6 arg7 harg7 (q0 x0) (harg3.unread x1) (harg4.unread x2) (harg5.unread x3) k p
    = (let K := View.ld x1 (Rect.unit (s := S16384x128) (k0_off1 i k) S2048x128.size (k0_off1_inb i k))
       let D := View.ld x3 (Rect.unit (s := S1x16384x128) (k0_off2 i k) S1x2048x128.size (k0_off2_inb i k))
       let V := View.ld x2 (Rect.unit (s := S16384x128) (k0_off1 i k) S2048x128.size (k0_off1_inb i k))
       let v9 := k0_pay24 (q0 x0)
       (k0_pay4 v9 p.1 K D, k0_pay28 (k0_pay7 v9 p.1 p.2.1 K D) (k0_pay8 v9 p.1 K D) (k0_pay9 v9 p.1 K D) (k0_pay10 v9 p.1 K D)
        (k0_pay11 v9 p.1 K D) (k0_pay12 v9 p.1 K D), k0_pay29 p.2.2 (k0_pay3 V) (k0_pay5 v9 p.1 K D) (k0_pay6 v9 p.1 K D))) := by
  unfold tripR_k0_t1 trip_k0_t1
  dsimp only
  rw [w182_eq, w185_eq, w188_eq, w190_eq, w192_eq, w205_eq, w206_eq, w207_eq, w208_eq, w219_eq]
  simp only [tK, tV, tD, View.readAt_eq_ld, harg3.read_unread, harg4.read_unread, harg5.read_unread]

/-- What the odd tile's trip yields. -/
theorem trip3_eq (k : Fin (k0_t3_loop i).trips) (a1 : FVec Ideal S1024x1 .f32) (a2 a3 : FVec Ideal S1024x128 .f32) (p : Carry) :
    tripR_k0_t3 (F := Ideal) Variants.none c none i arg2 harg2 arg3 harg3 arg4 harg4 arg5 harg5
      arg6 harg6 arg7 harg7 (BitVec.ofNat 32 (i 1).val) (k0_pay24 (q0 x0)) a1 a2 a3 2#32 0#32 (harg3.unread x1) (harg4.unread x2) (harg5.unread x3) k p
    = (let K := View.ld x1 (Rect.unit (s := S16384x128) (k0_off5 i) S1024x128.size (k0_off5_inb i k))
       let D := View.ld x3 (Rect.unit (s := S1x16384x128) (k0_off6 i) S1x1024x128.size (k0_off6_inb i k))
       let V := View.ld x2 (Rect.unit (s := S16384x128) (k0_off5 i) S1024x128.size (k0_off5_inb i k))
       let v9 := k0_pay24 (q0 x0)
       (k0_pay33 v9 p.1 K D, k0_pay36 v9 p.1 p.2.1 K D, k0_pay37 v9 p.1 p.2.2 K D V)) := by
  unfold tripR_k0_t3 trip_k0_t3
  dsimp only
  simp only [View.readAt_eq_ld, harg3.read_unread, harg4.read_unread, harg5.read_unread]

variable (hS : Scores x0 x1 x3 s) (hV : Values x2 v)

include hS hV in
/-- A trip of the loop over pairs of tiles. -/
theorem trip1 (k : Fin (k0_t1_loop i).trips) (p : Carry) (h : Inv s v (base i) (2048 * k.val) p) :
    Inv s v (base i) (2048 * k.val + 2048) (tripR_k0_t1 (F := Ideal) Variants.none c none i arg2 harg2 arg3 harg3 arg4 harg4 arg5 harg5
      arg6 harg6 arg7 harg7 (q0 x0) (harg3.unread x1) (harg4.unread x2) (harg5.unread x3) k p) := by
  have hb := base_lt i
  have hk : 2048 * k.val + 2048 ≤ base i := by
    have h1 : k.val < (i 1).val / 2 := lt_of_lt_of_eq k.isLt (trips1 i)
    unfold base
    omega
  rw [trip1_eq]
  intro r
  refine tile2048 _ _ _ _ _ _ _ r (by omega) (fun j => ?_) (fun j d => ?_) (h r)
  · rw [pay2_at, sc, if_pos (by omega)]
    refine Eq.trans ?_ (hS r ⟨2048 * k.val + j.val, by omega⟩)
    congr 1 <;> refine Finset.sum_congr rfl fun x _ => congrArg _ ?_
    · exact ld_rows x1 _ _ _ (off1 i k) j x (by omega)
    · exact ld_rows3 x3 _ _ _ (off2 i k) j x (by omega)
  · exact (ld_rows x2 _ _ _ (off1 i k) j d (by omega)).trans (hV _ _)

include hS hV in
/-- The odd tile's trip. -/
theorem trip3 (k : Fin (k0_t3_loop i).trips) (a1 : FVec Ideal S1024x1 .f32) (a2 a3 : FVec Ideal S1024x128 .f32) (p : Carry) (n : ℕ) (hn : n + 1024 = base i) (h : Inv s v (base i) n p) :
    Inv s v (base i) (n + 1024) (tripR_k0_t3 (F := Ideal) Variants.none c none i arg2 harg2 arg3 harg3 arg4 harg4 arg5 harg5
      arg6 harg6 arg7 harg7 (BitVec.ofNat 32 (i 1).val) (k0_pay24 (q0 x0)) a1 a2 a3 2#32 0#32 (harg3.unread x1) (harg4.unread x2) (harg5.unread x3) k p) := by
  have hb := base_lt i
  have hodd : (i 1).val % 2 = 1 := by
    have h1 : k.val < (i 1).val % 2 := lt_of_lt_of_eq k.isLt (trips3 i)
    omega
  have hn' : n = 1024 * ((i 1).val - 1) := by unfold base at hn; omega
  rw [trip3_eq]
  intro r
  refine tile1024 _ _ _ _ _ _ _ r (by omega) (fun j => ?_) (fun j d => ?_) (h r)
  · rw [pay32_at, sc, if_pos (by omega)]
    refine Eq.trans ?_ (hS r ⟨n + j.val, by omega⟩)
    congr 1 <;> refine Finset.sum_congr rfl fun x _ => congrArg _ ?_
    · exact ld_rows x1 _ _ _ ((off5 i hodd).trans (by rw [hn'])) j x (by omega)
    · exact ld_rows3 x3 _ _ _ ((off6 i hodd).trans (by rw [hn'])) j x (by omega)
  · exact (ld_rows x2 _ _ _ ((off5 i hodd).trans (by rw [hn'])) j d (by omega)).trans (hV _ _)

theorem init_inv (b : ℕ) : Inv s v b 0 (k0_pay25 (F := Ideal), k0_pay26 (F := Ideal), k0_pay27 (F := Ideal)) := by
  intro r
  have h1 : k0_pay25 (F := Ideal) (ix2 r 0) = (⊥ : EReal) := mask_bot
  have h2 : ∀ j, k0_pay26 (F := Ideal) (ix2 r j) = (0 : EReal) := fun j => Ideal.ofBits_zero_f32
  have h3 : ∀ j, k0_pay27 (F := Ideal) (ix2 r j) = (0 : EReal) := fun j => Ideal.ofBits_zero_f32
  simp only [h1, h2, h3]
  exact Row.zero _ _ _

include hS hV in
theorem inv1 (n : ℕ) (hn : n ≤ (k0_t1_loop i).trips) :
    Inv s v (base i) (2048 * n) (st_k0_t1 (F := Ideal) Variants.none c none i arg2 harg2 arg3 harg3 arg4 harg4 arg5 harg5 arg6 harg6 arg7 harg7 (q0 x0)
    (harg3.unread x1) (harg4.unread x2) (harg5.unread x3) (k0_pay25, k0_pay26, k0_pay27) n) := by
  induction n with
  | zero => exact init_inv _
  | succ n ih =>
    rw [st_k0_t1_succ _ _ _ _ _ _ _ _ _ _ _ _ _ _ _ _ _ _ _ _ _ ⟨n, hn⟩]
    exact trip1 c i arg2 harg2 arg3 harg3 arg4 harg4 arg5 harg5 arg6 harg6 arg7 harg7 x0 x1 x2 x3 hS hV ⟨n, hn⟩ _ (ih (by omega))

include hS hV in
theorem inv2 : Inv s v (base i) (2048 * ((i 1).val / 2)) (T2 c i arg2 harg2 arg3 harg3 arg4 harg4 arg5 harg5 arg6 harg6 arg7 harg7 x0 x1 x2 x3) := by
  have h := inv1 c i arg2 harg2 arg3 harg3 arg4 harg4 arg5 harg5 arg6 harg6 arg7 harg7 x0 x1 x2 x3 hS hV _ le_rfl
  unfold T2
  dsimp only
  rw [trips2, st_k0_t2_zero]
  rw [trips1] at h
  unfold T1
  rw [trips1]
  exact h

include hS hV in
theorem inv3 : Inv s v (base i) (base i) (T3 c i arg2 harg2 arg3 harg3 arg4 harg4 arg5 harg5 arg6 harg6 arg7 harg7 x0 x1 x2 x3) := by
  have h := inv2 c i arg2 harg2 arg3 harg3 arg4 harg4 arg5 harg5 arg6 harg6 arg7 harg7 x0 x1 x2 x3 hS hV
  unfold T3
  dsimp only
  rcases Nat.mod_two_eq_zero_or_one (i 1).val with h0 | h1
  · rw [trips3, h0, st_k0_t3_zero]
    have e : 2048 * ((i 1).val / 2) = base i := by unfold base; omega
    rw [e] at h
    exact h
  · have ht : (k0_t3_loop i).trips = 0 + 1 := by rw [trips3, h1]
    have hn : 2048 * ((i 1).val / 2) + 1024 = base i := by unfold base; omega
    have hlt : 0 < (k0_t3_loop i).trips := by omega
    rw [ht, st_k0_t3_succ _ _ _ _ _ _ _ _ _ _ _ _ _ _ _ _ _ _ _ _ _ _ _ _ _ _ _ ⟨0, hlt⟩, st_k0_t3_zero]
    have := trip3 c i arg2 harg2 arg3 harg3 arg4 harg4 arg5 harg5 arg6 harg6 arg7 harg7 x0 x1 x2 x3 hS hV ⟨0, hlt⟩
      (T2 c i arg2 harg2 arg3 harg3 arg4 harg4 arg5 harg5 arg6 harg6 arg7 harg7 x0 x1 x2 x3).1
      (T2 c i arg2 harg2 arg3 harg3 arg4 harg4 arg5 harg5 arg6 harg6 arg7 harg7 x0 x1 x2 x3).2.1
      (T2 c i arg2 harg2 arg3 harg3 arg4 harg4 arg5 harg5 arg6 harg6 arg7 harg7 x0 x1 x2 x3).2.2 _ _ hn h
    rw [hn] at this
    exact this

include hS hV in
theorem inv4 : Inv s v (base i) (base i) (T4 c i arg2 harg2 arg3 harg3 arg4 harg4 arg5 harg5 arg6 harg6 arg7 harg7 x0 x1 x2 x3) := by
  have h := inv3 c i arg2 harg2 arg3 harg3 arg4 harg4 arg5 harg5 arg6 harg6 arg7 harg7 x0 x1 x2 x3 hS hV
  unfold T4
  dsimp only
  rw [trips4, st_k0_t4_zero]
  exact h

include hS hV in
/-- The body's result at row `r`: the softmax average of the values, normalised. -/
theorem last_eq (p : Carry) (h : Inv s v (base i) (base i) p) (r : Fin 1024) (d : Fin 128) :
    last i x0 x1 x2 x3 x4 p (ix2 r d)
      = rms (fun d => (avg (s r) v (base i + r.val) d : EReal)) (fun d => x4 (ix2 0 d)) d := by
  have hb := base_lt i
  have hg : ∀ d : Fin 128, g0 x4 (ix2 0 d) = x4 (ix2 0 d) := fun d => by
    refine View.ld_unit_apply_of x4 _ _ _ _ _ fun a => ?_
    match a with
    | 0 => rfl
    | 1 => exact (Nat.zero_add _).symm
  have hX : ∀ j : Fin 512, k0_pay44 (k0_pay24 (q0 x0)) (kA i x1) (dA i x3) (ix2 r j) = sc (s r) (base i + r.val) (base i + j.val) := by
    intro j
    rw [pay44_at, sc]
    refine if_congr (by omega) ?_ rfl
    refine Eq.trans ?_ (hS r ⟨base i + j.val, by omega⟩)
    congr 1 <;> refine Finset.sum_congr rfl fun x _ => congrArg _ ?_
    · exact ld_rows x1 _ _ (base i) (off9 i) j x (by omega)
    · exact ld_rows3 x3 _ _ (base i) (off10 i) j x (by omega)
  have h1 := half1 (k0_pay24 (q0 x0)) p.1 p.2.1 p.2.2 (kA i x1) (dA i x3) (vA i x2) r (by omega) hX
    (fun j d => (ld_rows x2 _ _ (base i) (off9 i) j d (by omega)).trans (hV _ _)) (h r)
  unfold last
  simp only [← hg]
  by_cases hr : r.val < 512
  · exact finish_low _ _ _ _ _ _ _ _ _ r d hr (by omega) h1
  · obtain ⟨ρ, hρ⟩ : ∃ ρ : Fin 512, r.val = 512 + ρ.val := ⟨⟨r.val - 512, by omega⟩, by simp; omega⟩
    refine finish_high _ _ _ _ _ _ _ _ _ _ _ r d ρ hρ (n := base i + 512) (by omega) (by omega) (fun j => ?_) (fun j d => ?_) h1
    · rw [pay52_at, sc]
      refine if_congr (by omega) ?_ rfl
      refine Eq.trans ?_ (hS r ⟨base i + 512 + j.val, by omega⟩)
      have hrr : ∀ h, (⟨512 + ρ.val, h⟩ : Fin 1024) = r := fun h => Fin.ext hρ.symm
      rw [hrr]
      congr 1 <;> refine Finset.sum_congr rfl fun x _ => congrArg _ ?_
      · exact ld_rows x1 _ _ (base i + 512) (off11 i) j x (by omega)
      · exact ld_rows3 x3 _ _ (base i + 512) (off12 i) j x (by omega)
    · exact (ld_rows x2 _ _ (base i + 512) (off11 i) j d (by omega)).trans (hV _ _)

include hS hV in
/-- What one grid point leaves in its output block. -/
theorem block_eq (r : Fin 1024) (d : Fin 128) :
    out0_A_5 c i arg2 harg2 arg3 harg3 arg4 harg4 arg5 harg5 arg6 harg6 arg7 harg7 x0 x1 x2 x3 x4 (ix2 r d)
      = rms (fun d => (avg (s r) v (base i + r.val) d : EReal)) (fun d => x4 (ix2 0 d)) d := by
  rw [out_eq]
  exact last_eq i x0 x1 x2 x3 x4 hS hV _
    (inv4 c i arg2 harg2 arg3 harg3 arg4 harg4 arg5 harg5 arg6 harg6 arg7 harg7 x0 x1 x2 x3 hS hV) r d

end

end Cert.Attn

end
-- ==== Proof.Array.lean ====
/- The kernel's result, entry by entry: each block the launch writes back holds the normalised averages of its rows. -/
module

public import proofs.«01_k».proof.Proof.Host
public import proofs.«01_k».proof.Proof.Loops

@[expose] public section

set_option maxRecDepth 16384

noncomputable section

namespace Cert.Attn

open Idealize.ShloMosaic Idealize.ShloMosaic.TcCoe Idealize.ShloMosaic.Tactic Idealize.ShloMosaic.Pointwise
open Cert.KernelIdeal Cert.KernelIdeal.Gen

/-- The score of key `n` at row `t` of head `h`, in units of `log 2`, less the row's own decay. -/
def score (q k f : ℕ → ℕ → ℝ) (h t n : ℕ) : ℝ :=
  (∑ d : Fin 128, q t (128 * h + d.val) * k n (128 * h + d.val)) * (lg * (1 / Real.sqrt 128)) + -lg * f n h

/-- Entry `(t, e)` of the result: head `e / 128`, lane `e % 128`. -/
def result (q k v f : ℕ → ℕ → ℝ) (g : S128.Idx → EReal) (t e : ℕ) : EReal :=
  rms (fun d => (avg (score q k f (e / 128) t) (fun n d => v n (128 * (e / 128) + d.val)) t d : EReal)) (fun d => g (ix1 d))
    ⟨e % 128, Nat.mod_lt _ (by norm_num)⟩

theorem q0_at (x0 : Vec Ideal S1024x128 .bf16) (r : Fin 1024) (d : Fin 128) : q0 x0 (ix2 r d) = x0 (ix2 r d) :=
  View.ld_unit_apply_of x0 _ _ _ _ _ fun a => by
    match a with
    | 0 => exact (Nat.zero_add _).symm
    | 1 => exact (Nat.zero_add _).symm

/-- The blocks a grid point reads have the scores `score`. -/
theorem scores_of (x0 : Vec Ideal S1024x128 .bf16) (x1 : Vec Ideal S16384x128 .bf16) (x3 : Vec Ideal S1x16384x128 .bf16)
    (q k f : ℕ → ℕ → ℝ) (h : ℕ) (t : Fin 1024 → ℕ)
    (h0 : ∀ r d, x0 (ix2 r d) = ((q (t r) (128 * h + d.val) : ℝ) : EReal) * ((lg * (1 / Real.sqrt 128) : ℝ) : EReal))
    (h1 : ∀ n d, x1 (ix2 n d) = ((k n.val (128 * h + d.val) : ℝ) : EReal))
    (h3 : ∀ n x, x3 (ix3 0 n x) = (if x = 0 then ((-lg * f n.val h : ℝ) : EReal) else 0 : EReal)) :
    Scores x0 x1 x3 fun r n => score q k f h (t r) n := by
  intro r n
  have e1 : (∑ x : Fin 128, (k0_pay24 (F := Ideal) (q0 x0)) (ix2 r ⟨x.val, by omega⟩) * x1 (ix2 n x) : EReal)
      = (((∑ d : Fin 128, q (t r) (128 * h + d.val) * k n.val (128 * h + d.val)) * (lg * (1 / Real.sqrt 128)) : ℝ) : EReal) := by
    rw [Finset.sum_mul]
    refine (Finset.sum_congr rfl fun d _ => ?_).trans (coe_sum _ _).symm
    rw [pay24_low, q0_at, h0, h1, ← EReal.coe_mul, ← EReal.coe_mul, mul_right_comm]
  have e2 : (∑ x : Fin 128, (k0_pay24 (F := Ideal) (q0 x0)) (ix2 r ⟨128 + x.val, by omega⟩) * x3 (ix3 0 n x) : EReal)
      = ((-lg * f n.val h : ℝ) : EReal) := by
    rw [Finset.sum_eq_single (0 : Fin 128)]
    · rw [h3, if_pos rfl, pay24_high, one_mul]
    · intro x _ hx
      rw [h3, if_neg hx, mul_zero]
    · exact fun hn => absurd (Finset.mem_univ _) hn
  refine Eq.trans ?_ (EReal.coe_add _ _).symm
  exact congr (congrArg HAdd.hAdd e1) e2

variable (m : (ℓ : Loc nD τ sig) → Buf (Elt Ideal) ℓ) (c : Dev nD)

/-- The grid point's head and block of rows. -/
theorem idxs : ∀ t : Fin cfg0.N,
    win0_0.index t = ![(grid0.coords t 1).val, (grid0.coords t 0).val] ∧
    win0_1.index t = ![0, 6 + (grid0.coords t 0).val] ∧
    win0_2.index t = ![0, 12 + (grid0.coords t 0).val] ∧
    win0_3.index t = ![(grid0.coords t 0).val, 0, 0] ∧
    win0_4.index t = ![0, 0] ∧
    win0_5.index t = ![(grid0.coords t 1).val, (grid0.coords t 0).val] := by
  decide +kernel

theorem blk0 (t : Fin cfg0.N) (r : Fin 1024) (d : Fin 128) (hr : 1024 * (grid0.coords t 1).val + r.val < 16384) (hd : 128 * (grid0.coords t 0).val + d.val < 2304) :
    iblk m c 0 t (ix2 r d) = V m c main_v7 (ix2 ⟨1024 * (grid0.coords t 1).val + r.val, hr⟩ ⟨128 * (grid0.coords t 0).val + d.val, hd⟩) := by
  blk_ext [iblk, idxs t]

theorem blk1 (t : Fin cfg0.N) (r : Fin 16384) (d : Fin 128) (hd : 768 + (128 * (grid0.coords t 0).val + d.val) < 2304) :
    iblk m c 1 t (ix2 r d) = V m c main_v7 (ix2 r ⟨768 + (128 * (grid0.coords t 0).val + d.val), hd⟩) := by
  blk_ext [iblk, idxs t]

theorem blk2 (t : Fin cfg0.N) (r : Fin 16384) (d : Fin 128) (hd : 1536 + (128 * (grid0.coords t 0).val + d.val) < 2304) :
    iblk m c 2 t (ix2 r d) = V m c main_v7 (ix2 r ⟨1536 + (128 * (grid0.coords t 0).val + d.val), hd⟩) := by
  blk_ext [iblk, idxs t]

theorem blk3 (t : Fin cfg0.N) (r : Fin 16384) (d : Fin 128) (hh : (grid0.coords t 0).val < 6) :
    iblk m c 3 t (ix3 0 r d) = V m c main_v21 (ix3 ⟨(grid0.coords t 0).val, hh⟩ r d) := by
  blk_ext [iblk, idxs t]

theorem blk4 (t : Fin cfg0.N) (d : Fin 128) : iblk m c 4 t (ix2 0 d) = V m c main_v22 (ix2 0 d) := by
  blk_ext [iblk, idxs t]

/-- What the launch leaves in the result array, for real queries, keys, values and decays. -/
theorem array_eq (q k v f : ℕ → ℕ → ℝ) (hq : ∀ a b, aq m c (ix2 a b) = ((q a.val b.val : ℝ) : EReal))
    (hk : ∀ a b, ak m c (ix2 a b) = ((k a.val b.val : ℝ) : EReal)) (hv : ∀ a b, av m c (ix2 a b) = ((v a.val b.val : ℝ) : EReal))
    (hf' : ∀ a b, af m c (ix2 a b) = ((f a.val b.val : ℝ) : EReal)) :
    (dats m 0 c).arrAt 5 cfg0.N = fun i : S16384x768.Idx => result q k v f (ag m c) (i 0).val (i 1).val := by
  refine (dats m 0 c).arrAt_eq_of_covers 5 _ (by decide +kernel) fun t hf y => ?_
  have c0 : (grid0.coords t 0).val < 6 := (grid0.coords t 0).isLt
  have c1 : (grid0.coords t 1).val < 16 := (grid0.coords t 1).isLt
  refine (congrFun (Cert.KernelIdeal.Value.flushed5_A m c t) y).trans ?_
  blk_simp [idxs t]
  idx_vars y
  have hS : Scores (iblk m c 0 t) (iblk m c 1 t) (iblk m c 3 t)
      fun r n => score q k f (grid0.coords t 0).val (1024 * (grid0.coords t 1).val + r.val) n :=
    scores_of _ _ _ q k f _ _
      (fun r d => by
        rw [blk0 m c t r d (by omega) (by omega)]
        exact (proj_q m c ⟨_, _⟩ ⟨_, by omega⟩).trans (congrArg (fun z : EReal => z * _) (hq _ _)))
      (fun n d => by
        rw [blk1 m c t n d (by omega)]
        exact (proj_k m c n ⟨_, by omega⟩).trans (hk _ _))
      (fun n x => by
        rw [blk3 m c t n x c0]
        exact decay m c _ ⟨_, c0⟩ n x (hf' _ _))
  have hV : Values (iblk m c 2 t) fun n d => v n (128 * (grid0.coords t 0).val + d.val) := fun n d => by
    rw [blk2 m c t n d (by omega)]
    exact (proj_v m c n ⟨_, by omega⟩).trans (hv _ _)
  refine (block_eq c (grid0.coords t) _ _ _ _ _ _ _ _ _ _ _ _ _ _ _ _ _ hS hV y0 y1).trans ?_
  have e1 : ((grid0.coords t 0).val * 128 + y1.val) / 128 = (grid0.coords t 0).val := by omega
  have e2 : (⟨((grid0.coords t 0).val * 128 + y1.val) % 128, Nat.mod_lt _ (by norm_num)⟩ : Fin 128) = y1 :=
    Fin.ext (by show ((grid0.coords t 0).val * 128 + y1.val) % 128 = y1.val; omega)
  have e3 : (fun d => iblk m c 4 t (ix2 0 d)) = fun d => ag m c (ix1 d) := funext fun d =>
    (blk4 m c t d).trans (gain m c d)
  rw [result, e1, e2, e3, Nat.mul_comm _ 1024]

end Cert.Attn

end
-- ==== Proof.RefScores.lean ====
/- The reference's scores and weights, entry by entry. -/
module

public import proofs.«01_k».proof.Proof.Gen.ReferenceIdeal.Read
public import proofs.«01_k».proof.Proof.Array

@[expose] public section

set_option maxRecDepth 16384

noncomputable section

namespace Cert.Attn

open Idealize.ShloMosaic Idealize.ShloMosaic.TcCoe Idealize.ShloMosaic.Tactic Idealize.ShloMosaic.Pointwise
open Cert.ReferenceIdeal Cert.ReferenceIdeal.Read

variable (a0 a1 a2 : FVec Ideal S16384x768 .f32) (a3 : FVec Ideal S16384x6 .f32) (a4 : FVec Ideal S128 .f32)

theorem neg_inf : Ideal.ofBits .f32 4286578688#32 = ⊥ := by
  simp [Ideal.ofBits, Ideal.ieee]

/-- A score before the mask. -/
theorem r13 (h : Fin 6) (t n : Fin 16384) :
    val_main_v13 (F := Ideal) a0 a1 a3 (ix3 h t n) = (Ideal.div (∑ x : Fin 128, a0 (ix2 t ⟨h.val * 128 + x.val, by omega⟩) *
      a1 (ix2 n ⟨h.val * 128 + x.val, by omega⟩)) (Ideal.sqrt (Ideal.ofBits .f32 1124073472#32)) + a3 (ix2 t h) - a3 (ix2 n h) : EReal) := by
  pointwise [val_main_v0, val_main_v1, val_main_v3, val_main_cst, val_main_v4, val_main_v5, val_main_v6, val_main_v7, val_main_v8, val_main_v9,
    val_main_v10, val_main_v11, val_main_v12, val_main_v13]

theorem r20 (h : Fin 6) (t n : Fin 16384) :
    val_main_v20 (F := Ideal) a0 a1 a3 (ix3 h t n) = if n.val ≤ t.val then val_main_v13 (F := Ideal) a0 a1 a3 (ix3 h t n) else (⊥ : EReal) := by
  pointwise [val_main_v14, val_main_v15, val_main_v16, val_main_v17, val_main_v18, val_main_v19, val_main_cst_0, val_main_call0_v0, val_main_call0_v1,
    val_main_call0_v2, val_main_v20]
  rw [select_le _ _ (by omega) (by omega)]
  split_ifs with hn
  · rfl
  · exact neg_inf

/-- The largest score of a row. -/
theorem r21 (h : Fin 6) (t : Fin 16384) :
    val_main_v21 (F := Ideal) a0 a1 a3 (ix2 h t) =
      (Finset.univ.fold max (⊥ : EReal) fun n : Fin 16384 => val_main_v20 (F := Ideal) a0 a1 a3 (ix3 h t n)) := by
  pointwise [val_main_v21, val_main_cst_1]
  rw [neg_inf]

theorem r22 (i : S6x16384.Idx) : val_main_v22 (F := Ideal) i = (⊥ : EReal) := by
  rw [val_main_v22_apply, val_main_cst_2_apply]
  exact neg_inf

theorem r25 (h : Fin 6) (t n : Fin 16384) :
    val_main_v25 (F := Ideal) a0 a1 a3 (ix3 h t n) = val_main_v23 (F := Ideal) a0 a1 a3 (ix2 h t) := by
  pointwise [val_main_v24, val_main_v25]

/-- The weights before the division by their sum. -/
theorem r27 (h : Fin 6) (t n : Fin 16384) :
    val_main_v27 (F := Ideal) a0 a1 a3 (ix3 h t n) =
      Ideal.exp (val_main_v20 (F := Ideal) a0 a1 a3 (ix3 h t n) - val_main_v23 (F := Ideal) a0 a1 a3 (ix2 h t) : EReal) := by
  rw [val_main_v27_apply, val_main_v26_apply, r25]
  rfl

theorem r28 (h : Fin 6) (t : Fin 16384) :
    val_main_v28 (F := Ideal) a0 a1 a3 (ix2 h t) = (∑ n : Fin 16384, val_main_v27 (F := Ideal) a0 a1 a3 (ix3 h t n) : EReal) := by
  pointwise [val_main_v28, val_main_cst_3]

/-- The attention before its normalisation. -/
theorem r33 (h : Fin 6) (t : Fin 16384) (d : Fin 128) :
    val_main_v33 (F := Ideal) a0 a1 a2 a3 (ix3 t h d) = (∑ n : Fin 16384, a2 (ix2 n ⟨h.val * 128 + d.val, by omega⟩) *
      Ideal.div (val_main_v27 (F := Ideal) a0 a1 a3 (ix3 h t n)) (val_main_v28 (F := Ideal) a0 a1 a3 (ix2 h t)) : EReal) := by
  pointwise [val_main_v2, val_main_v29, val_main_v30, val_main_v31, val_main_v32, val_main_v33]

theorem r46 (h : Fin 6) (t : Fin 16384) (d : Fin 128) :
    val_main_v46 (F := Ideal) a0 a1 a2 a3 a4 (ix3 t h d) =
      rms (fun d => val_main_v33 (F := Ideal) a0 a1 a2 a3 (ix3 t h d)) (fun d => a4 (ix1 d)) d := by
  pointwise [val_main_v34, val_main_v35, val_main_v36, val_main_v37, val_main_v38, val_main_v39, val_main_v40, val_main_v41, val_main_v42, val_main_v43, val_main_v44, val_main_v45, val_main_v46, val_main_cst_4, val_main_cst_5, val_main_cst_6]
  rfl

theorem r48 (t : Fin 16384) (e : Fin 768) :
    val_main_v48 (F := Ideal) a0 a1 a2 a3 a4 (ix2 t e) =
      val_main_v46 (F := Ideal) a0 a1 a2 a3 a4 (ix3 t ⟨e.val / 128, by omega⟩ ⟨e.val % 128, by omega⟩) := by
  pointwise [val_main_v47, val_main_v48]

section
variable (q k v f : ℕ → ℕ → ℝ) (hq : ∀ a b, a0 (ix2 a b) = ((q a.val b.val : ℝ) : EReal))
  (hk : ∀ a b, a1 (ix2 a b) = ((k a.val b.val : ℝ) : EReal)) (hv : ∀ a b, a2 (ix2 a b) = ((v a.val b.val : ℝ) : EReal))
  (hf : ∀ a b, a3 (ix2 a b) = ((f a.val b.val : ℝ) : EReal))
include hq hk hf

/-- On reals a score is the row's own decay plus `log 2` times the kernel's. -/
theorem r13_real (h : Fin 6) (t n : Fin 16384) :
    val_main_v13 (F := Ideal) a0 a1 a3 (ix3 h t n) = ((f t.val h.val + Real.log 2 * score q k f h.val t.val n.val : ℝ) : EReal) := by
  rw [r13, root_eq, Ideal.div_coe (Real.sqrt_pos.2 (by norm_num)).ne', hf, hf]
  rw [show (∑ x : Fin 128, a0 (ix2 t ⟨h.val * 128 + x.val, by omega⟩) * a1 (ix2 n ⟨h.val * 128 + x.val, by omega⟩) : EReal)
      = ((∑ d : Fin 128, q t.val (128 * h.val + d.val) * k n.val (128 * h.val + d.val) : ℝ) : EReal) from by
    rw [coe_sum]
    refine Finset.sum_congr rfl fun d _ => ?_
    rw [hq, hk]
    dsimp only
    rw [Nat.mul_comm h.val 128, EReal.coe_mul]]
  rw [← EReal.coe_mul, ← EReal.coe_add, ← EReal.coe_sub]
  congr 1
  unfold score
  have h2 : Real.log 2 ≠ 0 := (Real.log_pos (by norm_num)).ne'
  have e : Real.log 2 * lg = 1 := by rw [lg]; field_simp
  linear_combination (f n.val h.val - (∑ d : Fin 128, q t.val (128 * h.val + d.val) * k n.val (128 * h.val + d.val)) * (1 / Real.sqrt 128)) * e

include hv

theorem r33_real (h : Fin 6) (t : Fin 16384) (d : Fin 128) :
    val_main_v33 (F := Ideal) a0 a1 a2 a3 (ix3 t h d) =
      ((avg (score q k f h.val t.val) (fun n (d : Fin 128) => v n (128 * h.val + d.val)) t.val d : ℝ) : EReal) := by
  rw [r33]
  refine Eq.trans (Finset.sum_congr rfl fun n _ => ?_) (softmax_avg (score q k f h.val t.val) (fun n (d : Fin 128) => v n (128 * h.val + d.val))
    t.val 16384 t.isLt (f t.val h.val) d (fun n => val_main_v20 (F := Ideal) a0 a1 a3 (ix3 h t n))
    (fun n => val_main_v27 (F := Ideal) a0 a1 a3 (ix3 h t n)) (val_main_v23 (F := Ideal) a0 a1 a3 (ix2 h t))
    (val_main_v28 (F := Ideal) a0 a1 a3 (ix2 h t)) (fun n => ?_) ?_ (fun n => r27 a0 a1 a3 h t n) (r28 a0 a1 a3 h t))
  · rw [hv]
    dsimp only
    rw [Nat.mul_comm h.val 128]
  · show val_main_v20 (F := Ideal) a0 a1 a3 (ix3 h t n) = _
    rw [r20, r13_real a0 a1 a3 q k f hq hk hf]
  · rw [val_main_v23_apply, r22, r21]
    rfl

/-- The reference's result, entry by entry. -/
theorem reference_eq : val_main_v48 (F := Ideal) a0 a1 a2 a3 a4 = fun i : S16384x768.Idx => result q k v f a4 (i 0).val (i 1).val := by
  funext i
  idx_vars i
  rw [r48, r46]
  show _ = result q k v f a4 i0.val i1.val
  exact congrArg (fun o => rms o (fun d => a4 (ix1 d)) ⟨i1.val % 128, by omega⟩)
    (funext fun d => r33_real a0 a1 a2 a3 q k v f hq hk hv hf ⟨i1.val / 128, by omega⟩ i0 d)

end

end Cert.Attn

end
-- ==== Proof.Finite.lean ====
/- The precondition read back: every entry of the queries, the keys, the values and the cumulative decay is a real. -/
module

public import proofs.«01_k».proof.Pre_finite
public import Idealize.ShloMosaic.PureOps.Ideal
public import Idealize.ShloMosaic.Lib.ReduceAll
public import Idealize.ShloMosaic.Lib.Pointwise

@[expose] public section

noncomputable section

namespace Cert.Attn

open Idealize.ShloMosaic

/-- A value whose absolute value is below infinity is a real. -/
theorem real_of_abs_lt (x : EReal) (h : Ideal.cmp .olt (max x (-x)) (Ideal.ofBits .f32 0x7F800000#32) = 1#1) :
    x = (x.toReal : EReal) := by
  induction x with
  | bot => simp [Ideal.cmp, Ideal.ofBits, Ideal.ieee] at h
  | top => simp [Ideal.cmp, Ideal.ofBits, Ideal.ieee] at h
  | coe r => simp

instance : Subsingleton Cert.Pre_finite.S_.Idx := ⟨fun a b => funext fun i => i.elim0⟩

/-- The four arrays' entries are real. -/
theorem finite_args [Cert.Pre_finite.Facts] (a0 a1 a2 : FVec Ideal Cert.Pre_finite.S16384x768 .f32)
    (a3 : FVec Ideal Cert.Pre_finite.S16384x6 .f32) (a4 : FVec Ideal Cert.Pre_finite.S128 .f32)
    (h : Cert.Pre_finite.fn (F := Ideal) a0 a1 a2 a3 a4 = fun _ => 1#1) :
    (∀ i, a0 i = ((a0 i : EReal).toReal : EReal)) ∧ (∀ i, a1 i = ((a1 i : EReal).toReal : EReal)) ∧
      (∀ i, a2 i = ((a2 i : EReal).toReal : EReal)) ∧ ∀ i, a3 i = ((a3 i : EReal).toReal : EReal) := by
  have h0 := congrFun h (fun i => i.elim0)
  unfold Cert.Pre_finite.fn Cert.Pre_finite.fn_part1 at h0
  obtain ⟨h0, h3⟩ := IntOp.andi_eq_one.1 h0
  obtain ⟨h0, h2⟩ := IntOp.andi_eq_one.1 h0
  obtain ⟨h0, h1⟩ := IntOp.andi_eq_one.1 h0
  exact ⟨fun i => real_of_abs_lt _ (Host.reduce_andi_all _ _ _ _ _ h0 i),
    fun i => real_of_abs_lt _ (Host.reduce_andi_all _ _ _ _ _ h1 i),
    fun i => real_of_abs_lt _ (Host.reduce_andi_all _ _ _ _ _ h2 i),
    fun i => real_of_abs_lt _ (Host.reduce_andi_all _ _ _ _ _ h3 i)⟩

end Cert.Attn

end
-- ==== Proof.Attn.lean ====
/- The forgetting attention's claims: its frames, the named mask, and the equality of the kernel with the reference. -/
module

public import proofs.«01_k».proof.Defs
public import proofs.«01_k».proof.Proof.RefScores
public import proofs.«01_k».proof.Proof.Finite

@[expose] public section

set_option maxRecDepth 16384

noncomputable section

namespace Cert.Attn

open Idealize.ShloMosaic Idealize.ShloMosaic.TcCoe Idealize.SL.Sem

variable [Cert.Pre_finite.Facts]

theorem frame_r : Cert.quiescent_ReferenceIdeal := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem frame_r_pre : Cert.quiescent_ReferenceIdeal_pre_finite := fun m ρ _ => frame_r m ρ trivial

theorem preserves : Cert.preserves_Kernel_KernelIdeal :=
  IdealRules.named_const.statement Cert.KernelIdeal.κ "mask" .f32 0xF149F2CA#32 ⊥ rfl

/-- A matrix of reals as a function of any two naturals. -/
def reals {n w : ℕ} (a : (⟨2, ![n, w]⟩ : Shape).Idx → EReal) (i j : ℕ) : ℝ :=
  if h : i < n ∧ j < w then (a (ValueIdx.ix2 ⟨i, h.1⟩ ⟨j, h.2⟩)).toReal else 0

theorem reals_eq {n w : ℕ} (a : (⟨2, ![n, w]⟩ : Shape).Idx → EReal) (h : ∀ i, a i = ((a i).toReal : EReal)) (i : Fin n) (j : Fin w) :
    a (ValueIdx.ix2 i j) = ((reals a i.val j.val : ℝ) : EReal) := by
  rw [reals, dif_pos ⟨i.isLt, j.isLt⟩]
  exact h _

theorem algebraic : Cert.algebraic_KernelIdeal_ReferenceIdeal_pre_finite := by
  intro m g m' g' hpre hagree
  refine ⟨fun c => (Cert.KernelIdeal.Gen.dats m 0 c).arrAt 5 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run (F := Ideal) m' g')
  obtain ⟨h0, h1, h2, h3, h4⟩ := hagree c
  obtain ⟨f0, f1, f2, f3⟩ := finite_args _ _ _ _ _ (hpre c)
  refine Eq.trans ?_ (array_eq m c _ _ _ _ (reals_eq _ f0) (reals_eq _ f1) (reals_eq _ f2) (reals_eq _ f3)).symm
  rw [Cert.ReferenceIdeal.Read.val_main_v48_eq, h0, h1, h2, h3, h4]
  exact reference_eq _ _ _ _ _ _ _ _ _ (reals_eq _ f0) (reals_eq _ f1) (reals_eq _ f2) (reals_eq _ f3)

end Cert.Attn

end
-- ==== Proof.Gateup.lean ====
/- The gate and up products of the feed-forward network: the kernel's array and the reference's, entry by entry. -/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Pointwise

@[expose] public section

set_option maxRecDepth 16384

noncomputable section

namespace Cert.Ffn

open Idealize.ShloMosaic Idealize.ShloMosaic.TcCoe Idealize.ShloMosaic.Tactic Idealize.ShloMosaic.Pointwise
open Idealize.SL.Sem

/-- The gate's product `a` through `x / (1 + exp (-x))`, times the up product `u`. -/
def silu (a u : EReal) : EReal := a * Ideal.logistic a * u

section Kernel

open Cert.Kernel2Ideal Cert.Kernel2Ideal.Gen

variable (m : (ℓ : Loc nD τ sig) → Buf (Elt Ideal) ℓ) (c : Dev nD)

/-- The arguments. -/
abbrev a0 : FVec Ideal S16384x2048 .f32 := m ((c : Thread nD τ).loc main_arg0)
abbrev a1 : FVec Ideal S2048x7168 .f32 := m ((c : Thread nD τ).loc main_arg1)
abbrev a2 : FVec Ideal S2048x7168 .f32 := m ((c : Thread nD τ).loc main_arg2)

theorem idxs : ∀ t : Fin cfg0.N,
    win0_0.index t = ![(grid0.coords t 0).val, 0] ∧
    win0_1.index t = ![0, (grid0.coords t 1).val] ∧
    win0_2.index t = ![0, (grid0.coords t 1).val] ∧
    win0_3.index t = ![(grid0.coords t 0).val, (grid0.coords t 1).val] := by
  decide +kernel

theorem V0 : V m c main_v0 = a0 m c := by
  unfold_abbrev_sides
  after_results
  rfl

theorem V1 : V m c main_v1 = a1 m c := by
  unfold_abbrev_sides
  after_results
  rfl

theorem V2 : V m c main_v2 = a2 m c := by
  unfold_abbrev_sides
  after_results
  rfl

theorem blk0 (t : Fin cfg0.N) (r : Fin 1024) (d : Fin 2048) (hr : 1024 * (grid0.coords t 0).val + r.val < 16384) :
    iblk m c 0 t (ix2 r d) = a0 m c (ix2 ⟨1024 * (grid0.coords t 0).val + r.val, hr⟩ d) := by
  refine Eq.trans ?_ (congrFun (V0 m c) _)
  blk_ext [iblk, idxs t]

theorem blk1 (t : Fin cfg0.N) (d : Fin 2048) (e : Fin 512) (he : 512 * (grid0.coords t 1).val + e.val < 7168) :
    iblk m c 1 t (ix2 d e) = a1 m c (ix2 d ⟨512 * (grid0.coords t 1).val + e.val, he⟩) := by
  refine Eq.trans ?_ (congrFun (V1 m c) _)
  blk_ext [iblk, idxs t]

theorem blk2 (t : Fin cfg0.N) (d : Fin 2048) (e : Fin 512) (he : 512 * (grid0.coords t 1).val + e.val < 7168) :
    iblk m c 2 t (ix2 d e) = a2 m c (ix2 d ⟨512 * (grid0.coords t 1).val + e.val, he⟩) := by
  refine Eq.trans ?_ (congrFun (V2 m c) _)
  blk_ext [iblk, idxs t]

/-- One block of the result, from the blocks it is made of. -/
theorem block_eq (x0 : Vec Ideal S1024x2048 .bf16) (x1 x2 : Vec Ideal S2048x512 .bf16) (r : Fin 1024) (e : Fin 512) :
    k0_pay1 (F := Ideal) x0 x1 x2 (ix2 r e) =
      silu (∑ d : Fin 2048, x0 (ix2 r d) * x1 (ix2 d e)) (∑ d : Fin 2048, x0 (ix2 r d) * x2 (ix2 d e)) := by
  pointwise [k0_pay1, silu]

theorem out_eq (x0 : Vec Ideal S1024x2048 .bf16) (x1 x2 : Vec Ideal S2048x512 .bf16) : out0_3 x0 x1 x2 = k0_pay1 (F := Ideal) x0 x1 x2 := by
  unfold out0_3
  rw [View.ld_unit_zero (by decide), View.ld_unit_zero (by decide), View.ld_unit_zero (by decide), View.canon_unit_zero (by decide)]

theorem array_eq :
    (dats m 0 c).arrAt 3 cfg0.N = fun i : S16384x7168.Idx =>
      silu (∑ d : Fin 2048, a0 m c (ix2 (i 0) d) * a1 m c (ix2 d (i 1)))
        (∑ d : Fin 2048, a0 m c (ix2 (i 0) d) * a2 m c (ix2 d (i 1))) := by
  refine (dats m 0 c).arrAt_eq_of_covers 3 _ (by decide +kernel) fun t hf y => ?_
  have c0 : (grid0.coords t 0).val < 16 := (grid0.coords t 0).isLt
  have c1 : (grid0.coords t 1).val < 14 := (grid0.coords t 1).isLt
  refine (congrFun (Cert.Kernel2Ideal.Value.flushed3 m c t) y).trans ?_
  idx_vars y
  have e0 : (cfg0.win 3 |>.blk t).view.emb (ix2 y0 y1) 0 = (⟨1024 * (grid0.coords t 0).val + y0.val, by omega⟩ : Fin 16384) :=
    Fin.ext (by blk_simp [idxs t]; exact congrArg (· + y0.val) (Nat.mul_comm _ _))
  have e1 : (cfg0.win 3 |>.blk t).view.emb (ix2 y0 y1) 1 = (⟨512 * (grid0.coords t 1).val + y1.val, by omega⟩ : Fin 7168) :=
    Fin.ext (by blk_simp [idxs t]; exact congrArg (· + y1.val) (Nat.mul_comm _ _))
  refine (congrFun (out_eq _ _ _) (ix2 y0 y1)).trans ((block_eq _ _ _ y0 y1).trans ?_)
  show _ = silu (∑ d : Fin 2048, a0 m c (ix2 ((cfg0.win 3 |>.blk t).view.emb (ix2 y0 y1) 0) d) * a1 m c (ix2 d ((cfg0.win 3 |>.blk t).view.emb (ix2 y0 y1) 1)))
    (∑ d : Fin 2048, a0 m c (ix2 ((cfg0.win 3 |>.blk t).view.emb (ix2 y0 y1) 0) d) * a2 m c (ix2 d ((cfg0.win 3 |>.blk t).view.emb (ix2 y0 y1) 1)))
  rw [e0, e1]
  simp only [blk0 m c t y0 _ (by omega), blk1 m c t _ y1 (by omega), blk2 m c t _ y1 (by omega)]

end Kernel

section Reference

open Cert.Reference2Ideal Cert.Reference2Ideal.Read

theorem reference_eq (a0 : FVec Ideal S16384x2048 .f32) (a1 a2 : FVec Ideal S2048x7168 .f32) (r : Fin 16384) (e : Fin 7168) :
    val_main_v4 (F := Ideal) a0 a1 a2 (ix2 r e) =
      silu (∑ d : Fin 2048, a0 (ix2 r d) * a1 (ix2 d e)) (∑ d : Fin 2048, a0 (ix2 r d) * a2 (ix2 d e)) := by
  pointwise [val_main_v0, val_main_v1, val_main_call0_v0, val_main_call0_v1, val_main_call0_cst, val_main_call0_v2, val_main_call0_v3,
    val_main_call0_cst_0, val_main_call0_v4, val_main_call0_v5, val_main_v2, val_main_v3, val_main_v4]
  rfl

end Reference

theorem frame_r2 : Cert.quiescent_Reference2Ideal := by
  intro m ρ _
  exact (θ_run Cert.Reference2Ideal.defs _ _).mono
    (fun r h => ⟨fun c => (h c).2, Idealize.ShloMosaic.sem_eq_zero_of_no_sems (by decide) r.2⟩)
    (Cert.Reference2Ideal.Value.run (F := Ideal) m ρ)

theorem algebraic2 : Cert.algebraic_Kernel2Ideal_Reference2Ideal := by
  intro m g m' g' _ hagree
  refine ⟨fun c => (Cert.Kernel2Ideal.Gen.dats m 0 c).arrAt 3 Cert.Kernel2Ideal.cfg0.N, Cert.Kernel2Ideal.Value.run_blocks m g, ?_⟩
  refine (θ_run Cert.Reference2Ideal.defs _ _).mono (fun r h c => ⟨(h c).1.trans ?_, (h c).2⟩) (Cert.Reference2Ideal.Value.run (F := Ideal) m' g')
  obtain ⟨h0, h1, h2⟩ := hagree c
  refine Eq.trans ?_ (array_eq m c).symm
  rw [Cert.Reference2Ideal.Read.val_main_v4_eq, h0, h1, h2]
  funext i
  idx_vars i
  exact reference_eq _ _ _ i0 i1

end Cert.Ffn

end
-- ==== Proof.Down.lean ====
/- The down product of the feed-forward network with its norm and residual: the kernel's array and the reference's. -/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Pointwise

@[expose] public section

set_option maxRecDepth 16384

noncomputable section

namespace Cert.Down

open Idealize.ShloMosaic Idealize.ShloMosaic.TcCoe Idealize.ShloMosaic.Tactic Idealize.ShloMosaic.Pointwise
open Idealize.SL.Sem

/-- One entry of `x + gate * (y / rms y * gain)`, for a row `y`. -/
def resid (y : Fin 2048 → EReal) (x gain gate : EReal) (e : Fin 2048) : EReal :=
  x + gate * (y e * Ideal.rsqrt (Ideal.div (∑ d : Fin 2048, y d * y d) (Ideal.ofBits .f32 0x45000000#32) + Ideal.ofBits .f32 0x358637BD#32) * gain)

section Kernel

open Cert.Kernel3Ideal Cert.Kernel3Ideal.Gen

variable (m : (ℓ : Loc nD τ sig) → Buf (Elt Ideal) ℓ) (c : Dev nD)

/-- The arguments. -/
abbrev a0 : FVec Ideal S16384x7168 .f32 := m ((c : Thread nD τ).loc main_arg0)
abbrev a1 : FVec Ideal S7168x2048 .f32 := m ((c : Thread nD τ).loc main_arg1)
abbrev a2 : FVec Ideal S16384x2048 .f32 := m ((c : Thread nD τ).loc main_arg2)
abbrev a3 : FVec Ideal S2048 .f32 := m ((c : Thread nD τ).loc main_arg3)
abbrev a4 : FVec Ideal S1x2048 .f32 := m ((c : Thread nD τ).loc main_arg4)

theorem idxs : ∀ t : Fin cfg0.N,
    win0_0.index t = ![(grid0.coords t 0).val, 0] ∧
    win0_1.index t = ![0, 0] ∧
    win0_2.index t = ![(grid0.coords t 0).val, 0] ∧
    win0_3.index t = ![0, 0] ∧
    win0_4.index t = ![0, 0] ∧
    win0_5.index t = ![(grid0.coords t 0).val, 0] := by
  decide +kernel

theorem V0 : V m c main_v0 = a0 m c := by
  unfold_abbrev_sides
  after_results
  rfl

theorem V1 : V m c main_v1 = a1 m c := by
  unfold_abbrev_sides
  after_results
  rfl

theorem V3 (d : Fin 2048) : V m c main_v2 (ix2 0 d) = a3 m c (ix1 d) := by
  unfold_abbrev_sides
  after_results
  pointwise

theorem blk0 (t : Fin cfg0.N) (r : Fin 256) (d : Fin 7168) (hr : 256 * (grid0.coords t 0).val + r.val < 16384) :
    iblk m c 0 t (ix2 r d) = a0 m c (ix2 ⟨256 * (grid0.coords t 0).val + r.val, hr⟩ d) := by
  refine Eq.trans ?_ (congrFun (V0 m c) _)
  blk_ext [iblk, idxs t]

theorem blk1 (t : Fin cfg0.N) (d : Fin 7168) (e : Fin 2048) : iblk m c 1 t (ix2 d e) = a1 m c (ix2 d e) := by
  refine Eq.trans ?_ (congrFun (V1 m c) _)
  blk_ext [iblk, idxs t]

theorem blk2 (t : Fin cfg0.N) (r : Fin 256) (e : Fin 2048) (hr : 256 * (grid0.coords t 0).val + r.val < 16384) :
    iblk m c 2 t (ix2 r e) = a2 m c (ix2 ⟨256 * (grid0.coords t 0).val + r.val, hr⟩ e) := by
  refine Eq.trans ?_ (congrFun (V_main_arg2 m c) _)
  blk_ext [iblk, idxs t]

theorem blk3 (t : Fin cfg0.N) (e : Fin 2048) : iblk m c 3 t (ix2 0 e) = a3 m c (ix1 e) := by
  refine Eq.trans ?_ (V3 m c e)
  blk_ext [iblk, idxs t]

theorem blk4 (t : Fin cfg0.N) (e : Fin 2048) : iblk m c 4 t (ix2 0 e) = a4 m c (ix2 0 e) := by
  refine Eq.trans ?_ (congrFun (V_main_arg4 m c) _)
  blk_ext [iblk, idxs t]

/-- One block of the result, from the blocks it is made of. -/
theorem block_eq (x0 : Vec Ideal S256x7168 .bf16) (x1 : Vec Ideal S7168x2048 .bf16) (x2 : Vec Ideal S256x2048 .f32)
    (x3 x4 : Vec Ideal S1x2048 .f32) (r : Fin 256) (e : Fin 2048) :
    k0_pay1 (F := Ideal) x0 x1 x2 x3 x4 (ix2 r e) =
      resid (fun d => ∑ f : Fin 7168, x0 (ix2 r f) * x1 (ix2 f d)) (x2 (ix2 r e)) (x3 (ix2 0 e)) (x4 (ix2 0 e)) e := by
  pointwise [k0_pay1]
  rfl

theorem out_eq (x0 : Vec Ideal S256x7168 .bf16) (x1 : Vec Ideal S7168x2048 .bf16) (x2 : Vec Ideal S256x2048 .f32)
    (x3 x4 : Vec Ideal S1x2048 .f32) : out0_5 x0 x1 x2 x3 x4 = k0_pay1 (F := Ideal) x0 x1 x2 x3 x4 := by
  unfold out0_5
  rw [View.ld_unit_zero (by decide), View.ld_unit_zero (by decide), View.ld_unit_zero (by decide), View.ld_unit_zero (by decide),
    View.ld_unit_zero (by decide), View.canon_unit_zero (by decide)]

theorem array_eq :
    (dats m 0 c).arrAt 5 cfg0.N = fun i : S16384x2048.Idx =>
      resid (fun d => ∑ f : Fin 7168, a0 m c (ix2 (i 0) f) * a1 m c (ix2 f d)) (a2 m c (ix2 (i 0) (i 1))) (a3 m c (ix1 (i 1)))
        (a4 m c (ix2 0 (i 1))) (i 1) := by
  refine (dats m 0 c).arrAt_eq_of_covers 5 _ (by decide +kernel) fun t hf y => ?_
  have c0 : (grid0.coords t 0).val < 64 := (grid0.coords t 0).isLt
  refine (congrFun (Cert.Kernel3Ideal.Value.flushed5 m c t) y).trans ?_
  idx_vars y
  have e0 : (cfg0.win 5 |>.blk t).view.emb (ix2 y0 y1) 0 = (⟨256 * (grid0.coords t 0).val + y0.val, by omega⟩ : Fin 16384) :=
    Fin.ext (by blk_simp [idxs t]; exact congrArg (· + y0.val) (Nat.mul_comm _ _))
  have e1 : (cfg0.win 5 |>.blk t).view.emb (ix2 y0 y1) 1 = (y1 : Fin 2048) :=
    Fin.ext (by blk_simp [idxs t])
  refine (congrFun (out_eq _ _ _ _ _) (ix2 y0 y1)).trans ((block_eq _ _ _ _ _ y0 y1).trans ?_)
  show _ = resid (fun d => ∑ f : Fin 7168, a0 m c (ix2 ((cfg0.win 5 |>.blk t).view.emb (ix2 y0 y1) 0) f) * a1 m c (ix2 f d))
    (a2 m c (ix2 ((cfg0.win 5 |>.blk t).view.emb (ix2 y0 y1) 0) ((cfg0.win 5 |>.blk t).view.emb (ix2 y0 y1) 1)))
    (a3 m c (ix1 ((cfg0.win 5 |>.blk t).view.emb (ix2 y0 y1) 1))) (a4 m c (ix2 0 ((cfg0.win 5 |>.blk t).view.emb (ix2 y0 y1) 1)))
    ((cfg0.win 5 |>.blk t).view.emb (ix2 y0 y1) 1)
  rw [e0, e1]
  simp only [blk0 m c t y0 _ (by omega), blk1 m c t, blk2 m c t y0 _ (by omega), blk3 m c t, blk4 m c t]

end Kernel

section Reference

open Cert.Reference3Ideal Cert.Reference3Ideal.Read

theorem reference_eq (a0 : FVec Ideal S16384x7168 .f32) (a1 : FVec Ideal S7168x2048 .f32) (a2 : FVec Ideal S16384x2048 .f32)
    (a3 : FVec Ideal S2048 .f32) (a4 : FVec Ideal S1x2048 .f32) (r : Fin 16384) (e : Fin 2048) :
    val_main_v16 (F := Ideal) a0 a1 a2 a3 a4 (ix2 r e) =
      resid (fun d => ∑ f : Fin 7168, a0 (ix2 r f) * a1 (ix2 f d)) (a2 (ix2 r e)) (a3 (ix1 e)) (a4 (ix2 0 e)) e := by
  pointwise [val_main_v0, val_main_v1, val_main_cst, val_main_v2, val_main_v3, val_main_cst_0, val_main_v4, val_main_v5, val_main_cst_1,
    val_main_v6, val_main_v7, val_main_v8, val_main_v9, val_main_v10, val_main_v11, val_main_v12, val_main_v13, val_main_v14, val_main_v15, val_main_v16]
  rfl

end Reference

theorem frame_r3 : Cert.quiescent_Reference3Ideal := by
  intro m ρ _
  exact (θ_run Cert.Reference3Ideal.defs _ _).mono
    (fun r h => ⟨fun c => (h c).2, Idealize.ShloMosaic.sem_eq_zero_of_no_sems (by decide) r.2⟩)
    (Cert.Reference3Ideal.Value.run (F := Ideal) m ρ)

theorem algebraic3 : Cert.algebraic_Kernel3Ideal_Reference3Ideal := by
  intro m g m' g' _ hagree
  refine ⟨fun c => (Cert.Kernel3Ideal.Gen.dats m 0 c).arrAt 5 Cert.Kernel3Ideal.cfg0.N, Cert.Kernel3Ideal.Value.run_blocks m g, ?_⟩
  refine (θ_run Cert.Reference3Ideal.defs _ _).mono (fun r h c => ⟨(h c).1.trans ?_, (h c).2⟩) (Cert.Reference3Ideal.Value.run (F := Ideal) m' g')
  obtain ⟨h0, h1, h2, h3, h4⟩ := hagree c
  refine Eq.trans ?_ (array_eq m c).symm
  rw [Cert.Reference3Ideal.Read.val_main_v16_eq, h0, h1, h2, h3, h4]
  funext i
  idx_vars i
  exact reference_eq _ _ _ _ _ i0 i1

end Cert.Down

end
-- ==== Proof.UpBody.lean ====
/- The experts' gate and up products: what a grid point leaves in its buffers, and the run from any memory whose table of
   experts is in range. -/
module

public import proofs.«01_k».proof.Defs
public import proofs.«01_k».proof.Proof.Gen.Kernel4Ideal.Launch
public import proofs.«01_k».proof.Proof.Gen.Kernel4Ideal.Skeleton
public import Idealize.ShloMosaic.Lib.Pipeline.FrameBody
public import Idealize.ShloMosaic.Lib.Pipeline.ValueKit
public import Idealize.ShloMosaic.Lib.Claim
public import Idealize.ShloMosaic.Lib.Ring
public import Idealize.ShloMosaic.Lib.Tactic
public import Idealize.ShloMosaic.Lib.WordCmp
public import Idealize.ShloMosaic.Lib.Pointwise

@[expose] public section

set_option maxRecDepth 16384

noncomputable section

namespace Cert.Kernel4Ideal.Moe

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branches -/

/-- Whether the point loads its expert's weights anew, from the words it read: the count, its expert, the expert before. -/
def newb (i : grid0.Coords) (v0 v4 v8 : BitVec 32) : BitVec 1 :=
  Scalar.cmpi .ne (Scalar.extui (Scalar.andi (Scalar.cmpi .slt (BitVec.ofNat 32 (i 1).val) v0)
    (Scalar.ori (Scalar.cmpi .eq (BitVec.ofNat 32 (i 1).val) 0#32) (Scalar.cmpi .ne v4 v8)))) (0#32)

theorem ne_extui (b : BitVec 1) : (Scalar.cmpi .ne (Scalar.extui b : BitVec 32) 0#32 : BitVec 1) = b := by
  revert b; decide

theorem cond2_eq (i : grid0.Coords) (v0 : BitVec 32) : k0_cond2 i v0 = Scalar.cmpi .slt (BitVec.ofNat 32 (i 1).val) v0 :=
  ne_extui _

theorem cond3_eq (i : grid0.Coords) (v0 : BitVec 32) : k0_cond3 i v0 = Scalar.xori (k0_cond2 i v0) 1#1 := by
  rw [cond2_eq]; exact ne_extui _

theorem xor_one (b : BitVec 1) : (Scalar.xori b 1#1 = 1#1) ↔ ¬ b = 1#1 := by
  revert b; decide

theorem cond3_iff (i : grid0.Coords) (v0 : BitVec 32) : k0_cond3 i v0 = 1#1 ↔ ¬ k0_cond2 i v0 = 1#1 := by
  rw [cond3_eq]; exact xor_one _

theorem newb_eq (i : grid0.Coords) (v0 v4 v8 : BitVec 32) : newb i v0 v4 v8
    = Scalar.andi (k0_cond2 i v0) (Scalar.ori (Scalar.cmpi .eq (BitVec.ofNat 32 (i 1).val) 0#32) (Scalar.cmpi .ne v4 v8)) := by
  rw [cond2_eq]; exact ne_extui _

theorem and_or_one (a b c : BitVec 1) : (Scalar.andi a (Scalar.ori b c) = 1#1) ↔ a = 1#1 ∧ (b = 1#1 ∨ c = 1#1) := by
  revert a b c; decide

theorem newb_used (i : grid0.Coords) (v0 v4 v8 : BitVec 32) (h : newb i v0 v4 v8 = 1#1) : k0_cond2 i v0 = 1#1 := by
  rw [newb_eq, and_or_one] at h; exact h.1

theorem not_newb (i : grid0.Coords) (v0 v4 v8 : BitVec 32) (h : ¬ newb i v0 v4 v8 = 1#1) (hu : k0_cond2 i v0 = 1#1) :
    (i 1).val ≠ 0 ∧ v4 = v8 := by
  rw [newb_eq, and_or_one] at h
  have hb := fun hb => h ⟨hu, Or.inl hb⟩
  have hc := fun hc => h ⟨hu, Or.inr hc⟩
  constructor
  · intro h0
    apply hb
    rw [h0]; decide
  · by_contra hne
    apply hc
    have e : ∀ b : Bool, b = true → BitVec.ofBool b = 1#1 := by decide
    exact e _ (bne_iff_ne.mpr hne)

/-- A tile before a used tile is used. -/
theorem used_pred (i i' : grid0.Coords) (v0 : BitVec 32) (h : (i' 1).val + 1 = (i 1).val) (hu : k0_cond2 i v0 = 1#1) :
    k0_cond2 i' v0 = 1#1 := by
  rw [cond2_eq] at hu ⊢
  have hi : (i 1).val < 72 := (i 1).isLt
  have e : ∀ n, n < 72 → ((Scalar.cmpi .slt (BitVec.ofNat 32 n) v0 : BitVec 1) = 1#1 ↔ (n : Int) < v0.toInt) := by
    intro n hn
    show BitVec.ofBool ((BitVec.ofNat 32 n).slt v0) = 1#1 ↔ _
    have e1 : (BitVec.ofNat 32 n).toInt = n := by
      rw [BitVec.toInt_eq_toNat_of_lt] <;> simp only [BitVec.toNat_ofNat] <;> omega
    have e : ∀ b : Bool, BitVec.ofBool b = 1#1 ↔ b = true := by decide
    rw [e, BitVec.slt, e1, decide_eq_true_iff]
  rw [e _ hi] at hu
  rw [e _ (by omega)]
  omega

/-! ## The body -/

/-- The body after its three table words. -/
def tail (i : grid0.Coords) (v0 v4 v8 : BitVec 32) (arg4 : Memref sig .tc .vmem S512x2048 .bf16) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S512x1024 .bf16) (harg7 : arg7.IsWhole) (arg8 : Memref sig .tc .vmem S2048x1024 .bf16) (harg8 : arg8.IsWhole) (arg9 : Memref sig .tc .vmem S2048x1024 .bf16) (harg9 : arg9.IsWhole) :
    Prog (TpuEff nD τ sig (Elt F) Λ₀ .tc) PUnit := do
  if newb i v0 v4 v8 = 1#1 then do
    let v19 : Vec F S1x2048x1024 .f32 ← Prog.lift (.load arg5 (Rect.unit (s := S1x2048x1024) ![0, 0, 0] S1x2048x1024.size inb_S1x2048x1024_S1x2048x1024_0_0_0).toLoadRect (View.loadsAt_vmem h_S1x2048x1024))
    let v22 : Vec F S2048x1024 .bf16 ← Prog.lift (.load arg8 (Rect.unit (s := S2048x1024) ![0, 0] S2048x1024.size inb_S2048x1024_S2048x1024_0_0).toLoadRect (View.loadsAt_vmem h_S2048x1024))
    Prog.lift (.store arg8 (Rect.unit (s := S2048x1024) ![0, 0] S2048x1024.size inb_S2048x1024_S2048x1024_0_0) (k0_pay1 v19) Finset.univ (View.stores_vmem h_S2048x1024 (harg8.storeExact_slice rfl _ packedbf16_S2048x1024_S2048x1024_0_0) (fun _ => rfl)) (.inl rfl))
    let v25 : Vec F S1x2048x1024 .f32 ← Prog.lift (.load arg6 (Rect.unit (s := S1x2048x1024) ![0, 0, 0] S1x2048x1024.size inb_S1x2048x1024_S1x2048x1024_0_0_0).toLoadRect (View.loadsAt_vmem h_S1x2048x1024))
    let v28 : Vec F S2048x1024 .bf16 ← Prog.lift (.load arg9 (Rect.unit (s := S2048x1024) ![0, 0] S2048x1024.size inb_S2048x1024_S2048x1024_0_0).toLoadRect (View.loadsAt_vmem h_S2048x1024))
    Prog.lift (.store arg9 (Rect.unit (s := S2048x1024) ![0, 0] S2048x1024.size inb_S2048x1024_S2048x1024_0_0) (k0_pay2 v25) Finset.univ (View.stores_vmem h_S2048x1024 (harg9.storeExact_slice rfl _ packedbf16_S2048x1024_S2048x1024_0_0) (fun _ => rfl)) (.inl rfl))
    pure ⟨⟩
  else do
    pure ⟨⟩
  if k0_h2 : k0_cond2 i v0 = 1#1 then do
    let v19 : Vec F S512x2048 .bf16 ← Prog.lift (.load arg4 (Rect.unit (s := S512x2048) ![0, 0] S512x2048.size inb_S512x2048_S512x2048_0_0).toLoadRect (View.loadsAt_vmem h_S512x2048))
    let v20 : Vec F S2048x1024 .bf16 ← Prog.lift (.load arg8 (Rect.unit (s := S2048x1024) ![0, 0] S2048x1024.size inb_S2048x1024_S2048x1024_0_0).toLoadRect (View.loadsAt_vmem h_S2048x1024))
    let v22 : Vec F S2048x1024 .bf16 ← Prog.lift (.load arg9 (Rect.unit (s := S2048x1024) ![0, 0] S2048x1024.size inb_S2048x1024_S2048x1024_0_0).toLoadRect (View.loadsAt_vmem h_S2048x1024))
    let v28 : Vec F S512x1024 .bf16 ← Prog.lift (.load arg7 (Rect.unit (s := S512x1024) ![0, 0] S512x1024.size inb_S512x1024_S512x1024_0_0).toLoadRect (View.loadsAt_vmem h_S512x1024))
    Prog.lift (.store arg7 (Rect.unit (s := S512x1024) ![0, 0] S512x1024.size inb_S512x1024_S512x1024_0_0) (k0_pay3 v19 v20 v22) Finset.univ (View.stores_vmem h_S512x1024 (harg7.storeExact_slice rfl _ packedbf16_S512x1024_S512x1024_0_0) (fun _ => rfl)) (.inl rfl))
    pure ⟨⟩
  else do
    pure ⟨⟩
  if k0_h3 : k0_cond3 i v0 = 1#1 then do
    let v20 : Vec F S512x1024 .bf16 ← Prog.lift (.load arg7 (Rect.unit (s := S512x1024) ![0, 0] S512x1024.size inb_S512x1024_S512x1024_0_0).toLoadRect (View.loadsAt_vmem h_S512x1024))
    Prog.lift (.store arg7 (Rect.unit (s := S512x1024) ![0, 0] S512x1024.size inb_S512x1024_S512x1024_0_0) (k0_pay4 (F := F)) Finset.univ (View.stores_vmem h_S512x1024 (harg7.storeExact_slice rfl _ packedbf16_S512x1024_S512x1024_0_0) (fun _ => rfl)) (.inl rfl))
    pure ⟨⟩
  else do
    pure ⟨⟩
  pure ⟨⟩

/-- The body: the three words, then the rest. -/
theorem skel_eq (i : grid0.Coords) (arg2 : Memref sig .tc .smem S72 .i32) (harg2 : arg2.IsWhole) (arg3 : Memref sig .tc .smem S1 .i32) (harg3 : arg3.IsWhole) (arg4 : Memref sig .tc .vmem S512x2048 .bf16) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S512x1024 .bf16) (harg7 : arg7.IsWhole) (arg8 : Memref sig .tc .vmem S2048x1024 .bf16) (harg8 : arg8.IsWhole) (arg9 : Memref sig .tc .vmem S2048x1024 .bf16) (harg9 : arg9.IsWhole) :
    cc0_moe_gateup_skel (F := F) i arg2 harg2 arg3 harg3 arg4 harg4 arg5 harg5 arg6 harg6 arg7 harg7 arg8 harg8 arg9 harg9 = (do
      let v0 : Elt F .i32 ← smemLoad arg3 (Rect.unit (s := S1) ![0] S1.size inb_S1_S1_0) numel1_S1 rfl
      let v4 : Elt F .i32 ← smemLoad arg2 (Rect.unit (s := S72) (k0_off1 i) S1.size (k0_off1_inb i)) numel1_S1 rfl
      let v8 : Elt F .i32 ← smemLoad arg2 (Rect.unit (s := S72) (k0_off2 i) S1.size (k0_off2_inb i)) numel1_S1 rfl
      tail i v0 v4 v8 arg4 harg4 arg5 harg5 arg6 harg6 arg7 harg7 arg8 harg8 arg9 harg9) := rfl

abbrev rW : Rect S1x2048x1024 := Rect.unit (s := S1x2048x1024) ![0, 0, 0] S1x2048x1024.size inb_S1x2048x1024_S1x2048x1024_0_0_0
abbrev rS : Rect S2048x1024 := Rect.unit (s := S2048x1024) ![0, 0] S2048x1024.size inb_S2048x1024_S2048x1024_0_0
abbrev rX : Rect S512x2048 := Rect.unit (s := S512x2048) ![0, 0] S512x2048.size inb_S512x2048_S512x2048_0_0
abbrev rO : Rect S512x1024 := Rect.unit (s := S512x1024) ![0, 0] S512x1024.size inb_S512x1024_S512x1024_0_0

/-- The two scratches after a load of the weights blocks. -/
def fill1 (w : Vec F S1x2048x1024 .f32) : Vec F S2048x1024 .bf16 := View.canon [⟨rS, k0_pay1 (View.ld w rW)⟩]
def fill2 (w : Vec F S1x2048x1024 .f32) : Vec F S2048x1024 .bf16 := View.canon [⟨rS, k0_pay2 (View.ld w rW)⟩]
/-- The output block of the rows `x` with the scratches at `s1` and `s2`. -/
def outv (x : Vec F S512x2048 .bf16) (s1 s2 : Vec F S2048x1024 .bf16) : Vec F S512x1024 .bf16 :=
  View.canon [⟨rO, k0_pay3 (View.ld x rX) (View.ld s1 rS) (View.ld s2 rS)⟩]
/-- The output block of a tile past the last used one. -/
def zerov : Vec F S512x1024 .bf16 := View.canon [⟨rO, k0_pay4⟩]

theorem coverS (p0 : Vec F S2048x1024 .bf16) (y : S2048x1024.Idx) :
    ∃ pc ∈ ([⟨rS, p0⟩] : List (View.Piece (Elt F) S2048x1024 .bf16)), y ∈ pc.1.set :=
  View.cover_of_tiled [⟨rS, p0⟩] S2048x1024.size (by rfl) y
theorem coverO (p0 : Vec F S512x1024 .bf16) (y : S512x1024.Idx) :
    ∃ pc ∈ ([⟨rO, p0⟩] : List (View.Piece (Elt F) S512x1024 .bf16)), y ∈ pc.1.set :=
  View.cover_of_tiled [⟨rO, p0⟩] S512x1024.size (by rfl) y

section Body

set_option maxHeartbeats 2000000 in
/-- A used point that loads its expert's weights. -/
theorem tail_new (c : Dev nD) (E : Set ℕ) (i : grid0.Coords) (v0 v4 v8 : BitVec 32)
    (arg4 : Memref sig .tc .vmem S512x2048 .bf16) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S512x1024 .bf16) (harg7 : arg7.IsWhole) (arg8 : Memref sig .tc .vmem S2048x1024 .bf16) (harg8 : arg8.IsWhole) (arg9 : Memref sig .tc .vmem S2048x1024 .bf16) (harg9 : arg9.IsWhole)
    (x0 : Vec F S512x2048 .bf16) (x1 x2 : Vec F S1x2048x1024 .f32) (s1 s2 : Vec F S2048x1024 .bf16) (K : PUnit → sProp 𝕄)
    (hn : newb i v0 v4 v8 = 1#1) (hu : k0_cond2 i v0 = 1#1) (h3 : ¬ k0_cond3 i v0 = 1#1) :
    iprop(owns (c : Thread nD τ) arg4 fullShare x0 ∗ owns (c : Thread nD τ) arg5 fullShare x1 ∗ owns (c : Thread nD τ) arg6 fullShare x2 ∗ (∃ d, owns (c : Thread nD τ) arg7 fullShare d) ∗ owns (c : Thread nD τ) arg8 fullShare s1 ∗ owns (c : Thread nD τ) arg9 fullShare s2
        ∗ (iprop(owns (c : Thread nD τ) arg4 fullShare x0 ∗ owns (c : Thread nD τ) arg5 fullShare x1 ∗ owns (c : Thread nD τ) arg6 fullShare x2 ∗ owns (c : Thread nD τ) arg7 fullShare (outv x0 (fill1 x1) (fill2 x2)) ∗ owns (c : Thread nD τ) arg8 fullShare (fill1 x1) ∗ owns (c : Thread nD τ) arg9 fullShare (fill2 x2)) -∗ K ⟨⟩))
      ⊢ wp frame (wpE (defs₀ (F := F)) Variants.none c none) E (tail i v0 v4 v8 arg4 harg4 arg5 harg5 arg6 harg6 arg7 harg7 arg8 harg8 arg9 harg9) K := by
  unfold tail
  rw [if_pos hn, dif_pos hu, dif_neg h3]
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  subst hf0 hf1 hf2 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (coverO _)]
    unfold outv fill1 fill2
    unfold tail_new.sl.v20 tail_new.sl.v22
    rw [View.readCov_eq_canon', View.readCov_eq_canon']
    unfold tail_new.sl.H4_1 tail_new.sl.H5_1
    rfl
  isplitl [H4]
  · iexists _; isplitr
    swap; · iexact H4
    ipureintro
    exact View.read_writes_eq_canon _ _ _ (coverS _)
  iexists _; isplitr
  swap; · iexact H5
  ipureintro
  exact View.read_writes_eq_canon _ _ _ (coverS _)

set_option maxHeartbeats 2000000 in
/-- A used point whose expert's weights are there already. -/
theorem tail_old (c : Dev nD) (E : Set ℕ) (i : grid0.Coords) (v0 v4 v8 : BitVec 32)
    (arg4 : Memref sig .tc .vmem S512x2048 .bf16) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S512x1024 .bf16) (harg7 : arg7.IsWhole) (arg8 : Memref sig .tc .vmem S2048x1024 .bf16) (harg8 : arg8.IsWhole) (arg9 : Memref sig .tc .vmem S2048x1024 .bf16) (harg9 : arg9.IsWhole)
    (x0 : Vec F S512x2048 .bf16) (x1 x2 : Vec F S1x2048x1024 .f32) (s1 s2 : Vec F S2048x1024 .bf16) (K : PUnit → sProp 𝕄)
    (hn : ¬ newb i v0 v4 v8 = 1#1) (hu : k0_cond2 i v0 = 1#1) (h3 : ¬ k0_cond3 i v0 = 1#1) :
    iprop(owns (c : Thread nD τ) arg4 fullShare x0 ∗ owns (c : Thread nD τ) arg5 fullShare x1 ∗ owns (c : Thread nD τ) arg6 fullShare x2 ∗ (∃ d, owns (c : Thread nD τ) arg7 fullShare d) ∗ owns (c : Thread nD τ) arg8 fullShare s1 ∗ owns (c : Thread nD τ) arg9 fullShare s2
        ∗ (iprop(owns (c : Thread nD τ) arg4 fullShare x0 ∗ owns (c : Thread nD τ) arg5 fullShare x1 ∗ owns (c : Thread nD τ) arg6 fullShare x2 ∗ owns (c : Thread nD τ) arg7 fullShare (outv x0 s1 s2) ∗ owns (c : Thread nD τ) arg8 fullShare s1 ∗ owns (c : Thread nD τ) arg9 fullShare s2) -∗ K ⟨⟩))
      ⊢ wp frame (wpE (defs₀ (F := F)) Variants.none c none) E (tail i v0 v4 v8 arg4 harg4 arg5 harg5 arg6 harg6 arg7 harg7 arg8 harg8 arg9 harg9) K := by
  unfold tail
  rw [if_neg hn, dif_pos hu, dif_neg h3]
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  subst hf0 hf1 hf2 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverO _)
  isplitl [H4]
  · iexists f4; isplitr; · ipureintro; rfl
    iexact H4
  iexists f5; isplitr; · ipureintro; rfl
  iexact H5

set_option maxHeartbeats 2000000 in
/-- A point past the last used tile. -/
theorem tail_none (c : Dev nD) (E : Set ℕ) (i : grid0.Coords) (v0 v4 v8 : BitVec 32)
    (arg4 : Memref sig .tc .vmem S512x2048 .bf16) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S512x1024 .bf16) (harg7 : arg7.IsWhole) (arg8 : Memref sig .tc .vmem S2048x1024 .bf16) (harg8 : arg8.IsWhole) (arg9 : Memref sig .tc .vmem S2048x1024 .bf16) (harg9 : arg9.IsWhole)
    (x0 : Vec F S512x2048 .bf16) (x1 x2 : Vec F S1x2048x1024 .f32) (s1 s2 : Vec F S2048x1024 .bf16) (K : PUnit → sProp 𝕄)
    (hn : ¬ newb i v0 v4 v8 = 1#1) (hu : ¬ k0_cond2 i v0 = 1#1) (h3 : k0_cond3 i v0 = 1#1) :
    iprop(owns (c : Thread nD τ) arg4 fullShare x0 ∗ owns (c : Thread nD τ) arg5 fullShare x1 ∗ owns (c : Thread nD τ) arg6 fullShare x2 ∗ (∃ d, owns (c : Thread nD τ) arg7 fullShare d) ∗ owns (c : Thread nD τ) arg8 fullShare s1 ∗ owns (c : Thread nD τ) arg9 fullShare s2
        ∗ (iprop(owns (c : Thread nD τ) arg4 fullShare x0 ∗ owns (c : Thread nD τ) arg5 fullShare x1 ∗ owns (c : Thread nD τ) arg6 fullShare x2 ∗ owns (c : Thread nD τ) arg7 fullShare (zerov (F := F)) ∗ owns (c : Thread nD τ) arg8 fullShare s1 ∗ owns (c : Thread nD τ) arg9 fullShare s2) -∗ K ⟨⟩))
      ⊢ wp frame (wpE (defs₀ (F := F)) Variants.none c none) E (tail i v0 v4 v8 arg4 harg4 arg5 harg5 arg6 harg6 arg7 harg7 arg8 harg8 arg9 harg9) K := by
  unfold tail
  rw [if_neg hn, dif_neg hu, dif_pos h3]
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  subst hf0 hf1 hf2 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverO _)
  isplitl [H4]
  · iexists f4; isplitr; · ipureintro; rfl
    iexact H4
  iexists f5; isplitr; · ipureintro; rfl
  iexact H5

/-- What the body leaves in a scratch, from what it would load and what it found there. -/
def scr (i : grid0.Coords) (v0 v4 v8 : BitVec 32) (w s : Vec F S2048x1024 .bf16) : Vec F S2048x1024 .bf16 := if newb i v0 v4 v8 = 1#1 then w else s
/-- What it leaves in the output block, from what it leaves in the scratches. -/
def outw (i : grid0.Coords) (v0 : BitVec 32) (x0 : Vec F S512x2048 .bf16) (s1 s2 : Vec F S2048x1024 .bf16) : Vec F S512x1024 .bf16 := if k0_cond2 i v0 = 1#1 then outv x0 s1 s2 else zerov

set_option maxHeartbeats 2000000 in
/-- The body's three branches together. -/
theorem sound_tail (c : Dev nD) (E : Set ℕ) (i : grid0.Coords) (v0 v4 v8 : BitVec 32)
    (arg4 : Memref sig .tc .vmem S512x2048 .bf16) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S512x1024 .bf16) (harg7 : arg7.IsWhole) (arg8 : Memref sig .tc .vmem S2048x1024 .bf16) (harg8 : arg8.IsWhole) (arg9 : Memref sig .tc .vmem S2048x1024 .bf16) (harg9 : arg9.IsWhole)
    (x0 : Vec F S512x2048 .bf16) (x1 x2 : Vec F S1x2048x1024 .f32) (s1 s2 : Vec F S2048x1024 .bf16) (K : PUnit → sProp 𝕄)
     :
    iprop(owns (c : Thread nD τ) arg4 fullShare x0 ∗ owns (c : Thread nD τ) arg5 fullShare x1 ∗ owns (c : Thread nD τ) arg6 fullShare x2 ∗ (∃ d, owns (c : Thread nD τ) arg7 fullShare d) ∗ owns (c : Thread nD τ) arg8 fullShare s1 ∗ owns (c : Thread nD τ) arg9 fullShare s2
        ∗ (iprop(owns (c : Thread nD τ) arg4 fullShare x0 ∗ owns (c : Thread nD τ) arg5 fullShare x1 ∗ owns (c : Thread nD τ) arg6 fullShare x2 ∗ owns (c : Thread nD τ) arg7 fullShare (outw i v0 x0 (scr i v0 v4 v8 (fill1 x1) s1) (scr i v0 v4 v8 (fill2 x2) s2)) ∗ owns (c : Thread nD τ) arg8 fullShare (scr i v0 v4 v8 (fill1 x1) s1) ∗ owns (c : Thread nD τ) arg9 fullShare (scr i v0 v4 v8 (fill2 x2) s2)) -∗ K ⟨⟩))
      ⊢ wp frame (wpE (defs₀ (F := F)) Variants.none c none) E (tail i v0 v4 v8 arg4 harg4 arg5 harg5 arg6 harg6 arg7 harg7 arg8 harg8 arg9 harg9) K := by
  unfold scr outw
  by_cases hu : k0_cond2 i v0 = 1#1
  · have h3 : ¬ k0_cond3 i v0 = 1#1 := fun h => (cond3_iff i v0).1 h hu
    by_cases hn : newb i v0 v4 v8 = 1#1
    · simp only [if_pos hn, if_pos hu]
      exact tail_new c E i v0 v4 v8 arg4 harg4 arg5 harg5 arg6 harg6 arg7 harg7 arg8 harg8 arg9 harg9 x0 x1 x2 s1 s2 K hn hu h3
    · simp only [if_neg hn, if_pos hu]
      exact tail_old c E i v0 v4 v8 arg4 harg4 arg5 harg5 arg6 harg6 arg7 harg7 arg8 harg8 arg9 harg9 x0 x1 x2 s1 s2 K hn hu h3
  · have hn : ¬ newb i v0 v4 v8 = 1#1 := fun h => hu (newb_used i v0 v4 v8 h)
    simp only [if_neg hn, if_neg hu]
    exact tail_none c E i v0 v4 v8 arg4 harg4 arg5 harg5 arg6 harg6 arg7 harg7 arg8 harg8 arg9 harg9 x0 x1 x2 s1 s2 K hn hu ((cond3_iff i v0).2 hu)

end Body

end Cert.Kernel4Ideal.Moe

end
-- ==== Proof.UpRun.lean ====
/- The experts' gate and up products: the launch at the tables' contents, and the run. -/
module

public import proofs.«01_k».proof.Proof.UpBody
public import proofs.«01_k».proof.Proof.Gen.Pre_experts4

@[expose] public section

set_option maxRecDepth 16384

noncomputable section

namespace Cert.Kernel4Ideal.Moe

open Cert.Kernel4Ideal Cert.Kernel4Ideal.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables -/

/-- The tables' contents at launch. -/
def pfm : pre0.Contents (Elt F) := fun k => m (((0 : Dev nD) : Thread nD τ).loc (pre0.ref k))
/-- The tiles' experts. -/
def teW : S72.Idx → BitVec 32 := fun x => pfm m 0 x
/-- The number of used tiles. -/
def nuW : BitVec 32 := (fun x : S1.Idx => pfm m 1 x) (ix1 0)

theorem tr1 (i : grid0.Coords) :
    cc0_transform_1 k0_off1_inb numel1_S1 (pfm m) i = ![(teW m (ix1 (show Fin 72 from i 1))).toNat, 0, (i 0).val] := by
  have h0 : (i 0).val < 7 := (i 0).isLt
  have h1 : (i 1).val < 72 := (i 1).isLt
  funext a
  fin_cases a
  · show (pfm m 0 _).toNat = (pfm m 0 _).toNat
    congr 2
    funext b
    fin_cases b
    apply Fin.ext
    show (BitVec.ofNat 32 (i 1).val).toNat + _ = (i 1).val
    simp only [BitVec.toNat_ofNat]
    rw [Nat.mod_eq_of_lt (by omega)]
    rfl
  · rfl
  · show (BitVec.ofNat 32 (i 0).val).toNat = (i 0).val
    simp only [BitVec.toNat_ofNat]
    omega

theorem tr2 (i : grid0.Coords) :
    cc0_transform_2 k0_off1_inb numel1_S1 (pfm m) i = ![(teW m (ix1 (show Fin 72 from i 1))).toNat, 0, (i 0).val] := by
  have h0 : (i 0).val < 7 := (i 0).isLt
  have h1 : (i 1).val < 72 := (i 1).isLt
  funext a
  fin_cases a
  · show (pfm m 0 _).toNat = (pfm m 0 _).toNat
    congr 2
    funext b
    fin_cases b
    apply Fin.ext
    show (BitVec.ofNat 32 (i 1).val).toNat + _ = (i 1).val
    simp only [BitVec.toNat_ofNat]
    rw [Nat.mod_eq_of_lt (by omega)]
    rfl
  · rfl
  · show (BitVec.ofNat 32 (i 0).val).toNat = (i 0).val
    simp only [BitVec.toNat_ofNat]
    omega

theorem ok_pfm (h : ∀ x, (teW m x).toNat < 8) : ok0 (pfm m) := by
  have e : ∀ i : grid0.Coords, ∀ a, (![(teW m (ix1 (show Fin 72 from i 1))).toNat, 0, (i 0).val] a + 1) * S1x2048x1024.size a ≤ S8x2048x7168.size a := by
    intro i a
    have h0 : (i 0).val < 7 := (i 0).isLt
    have h1 := h (ix1 (show Fin 72 from i 1))
    fin_cases a
    · show ((teW m (ix1 (show Fin 72 from i 1))).toNat + 1) * 1 ≤ 8; omega
    · show (0 + 1) * 2048 ≤ 2048; omega
    · show ((i 0).val + 1) * 1024 ≤ 7168; omega
  unfold ok0
  refine ⟨fun i => ⟨?_, Or.inl rfl⟩, fun i => ⟨?_, Or.inl rfl⟩⟩
  · rw [tr1]; exact e i
  · rw [tr2]; exact e i

section Data

variable (h : ∀ x, (teW m x).toNat < 8)

def adm : (pcfg0 (F := F)).Adm := ⟨pfm m, ok_pfm m h⟩

abbrev cfgA : Pipeline.Cfg sig Λ₀ := cfg0 (adm m h)

/-- Window `w`'s block at point `t`. -/
def iblk (c : Dev nD) (w : Fin (cfgA m h).W) (t : Fin (cfgA m h).N) : (((cfgA m h).win w).xblock ((cfgA m h).grid.coords t)).Idx → Elt F ((cfgA m h).win w).elt :=
  (((cfgA m h).win w).blk t).view.read (Elt F) (m ((c : Thread nD τ).loc (Pipeline.arrRef spec0 w)))

/-- The rows of point `t`, and its expert's weights. -/
abbrev xb (c : Dev nD) (t : Fin grid0.N) : Vec F S512x2048 .bf16 := iblk m h c 0 t
abbrev gb (c : Dev nD) (t : Fin grid0.N) : Vec F S1x2048x1024 .f32 := iblk m h c 1 t
abbrev ub (c : Dev nD) (t : Fin grid0.N) : Vec F S1x2048x1024 .f32 := iblk m h c 2 t

theorem idx0 : ∀ t : Fin grid0.N, cc0_transform_0 (grid0.coords t) = ![(grid0.coords t 1).val, 0] := by decide +kernel
theorem idx3 : ∀ t : Fin grid0.N, cc0_transform_3 (grid0.coords t) = ![(grid0.coords t 1).val, (grid0.coords t 0).val] := by decide +kernel
theorem coords_eq : ∀ t : Fin grid0.N, (grid0.coords t 0).val = t.val / 72 ∧ (grid0.coords t 1).val = t.val % 72 := by decide +kernel

theorem index1 (t : Fin grid0.N) : ((cfgA m h).win 1).index t = ![(teW m (ix1 (show Fin 72 from grid0.coords t 1))).toNat, 0, (grid0.coords t 0).val] :=
  tr1 m _
theorem index2 (t : Fin grid0.N) : ((cfgA m h).win 2).index t = ![(teW m (ix1 (show Fin 72 from grid0.coords t 1))).toNat, 0, (grid0.coords t 0).val] :=
  tr2 m _

/-- The weights' blocks at a point, entry by entry. -/
theorem gb_at (c : Dev nD) (t : Fin grid0.N) (r : Fin 2048) (d : Fin 1024) :
    gb m h c t (ix3 0 r d) = (m ((c : Thread nD τ).loc main_arg3) : Vec F S8x2048x7168 .f32)
      (ix3 ⟨(teW m (ix1 (show Fin 72 from grid0.coords t 1))).toNat, h _⟩ r ⟨(grid0.coords t 0).val * 1024 + d.val, by have : (grid0.coords t 0).val < 7 := (grid0.coords t 0).isLt; omega⟩) := by
  blk_ext [iblk, index1 m h t]

theorem ub_at (c : Dev nD) (t : Fin grid0.N) (r : Fin 2048) (d : Fin 1024) :
    ub m h c t (ix3 0 r d) = (m ((c : Thread nD τ).loc main_arg4) : Vec F S8x2048x7168 .f32)
      (ix3 ⟨(teW m (ix1 (show Fin 72 from grid0.coords t 1))).toNat, h _⟩ r ⟨(grid0.coords t 0).val * 1024 + d.val, by have : (grid0.coords t 0).val < 7 := (grid0.coords t 0).isLt; omega⟩) := by
  blk_ext [iblk, index2 m h t]

theorem wb_congr (c : Dev nD) (t t' : Fin grid0.N) (h0 : (grid0.coords t 0).val = (grid0.coords t' 0).val)
    (h1 : teW m (ix1 (show Fin 72 from grid0.coords t 1)) = teW m (ix1 (show Fin 72 from grid0.coords t' 1))) :
    gb m h c t = gb m h c t' ∧ ub m h c t = ub m h c t' := by
  constructor <;> funext y <;> idx_vars y <;> obtain rfl : y0 = 0 := Subsingleton.elim _ _
  · rw [gb_at, gb_at]
    congr 1
    simp only [h0, h1]
  · rw [ub_at, ub_at]
    congr 1
    simp only [h0, h1]

/-! ## The invariant and the data -/

/-- Before a point, the scratches hold the weights of the point before it, if that one is used. -/
def inv (c : Dev nD) (t : Fin (grid0.N + 1)) (s1 s2 : Vec F S2048x1024 .bf16) : Prop :=
  ∀ t' : Fin grid0.N, t'.val + 1 = t.val → k0_cond2 (grid0.coords t') (nuW m) = 1#1 → s1 = fill1 (gb m h c t') ∧ s2 = fill2 (ub m h c t')

def scrPts (c : Dev nD) (t : Fin (grid0.N + 1)) : sProp 𝕄 :=
  iprop(∃ s1, ∃ s2, ⌜inv m h c t s1 s2⌝ ∗ owns (c : Thread nD τ) (Memref.whole cc0_scratch0) fullShare s1 ∗ owns (c : Thread nD τ) (Memref.whole cc0_scratch1) fullShare s2)

def outb (c : Dev nD) (t : Fin grid0.N) : Vec F S512x1024 .bf16 := outw (grid0.coords t) (nuW m) (xb m h c t) (fill1 (gb m h c t)) (fill2 (ub m h c t))

def dats (_ : Fin 1) (c : Dev nD) : Dat τ (Elt F) Unit ℕ (UR sig nD τ) ℕ (cfgA m h) c where
  A w := m ((c : Thread nD τ).loc (Pipeline.arrRef spec0 w))
  after w t := match w with
    | ⟨0, _⟩ => xb m h c t
    | ⟨1, _⟩ => gb m h c t
    | ⟨2, _⟩ => ub m h c t
    | ⟨3, _⟩ => outb m h c t
  Φ t := iprop(scrPts m h c t ∗ (∃ r, prngReg c r) ∗ Pipeline.prefHeld pre0 c (fun _ => fullShare.right) (pfm m))
  q _ := fullShare
  owed _ := 0

theorem after0 (c : Dev nD) (t : Fin grid0.N) : (dats m h 0 c).after 0 t = xb m h c t := by dsimp only [dats]; rfl
theorem after1 (c : Dev nD) (t : Fin grid0.N) : (dats m h 0 c).after 1 t = gb m h c t := by dsimp only [dats]; rfl
theorem after2 (c : Dev nD) (t : Fin grid0.N) : (dats m h 0 c).after 2 t = ub m h c t := by dsimp only [dats]; rfl
theorem after3 (c : Dev nD) (t : Fin grid0.N) : (dats m h 0 c).after 3 t = outb m h c t := by dsimp only [dats]; rfl

theorem A_eq (c : Dev nD) (w : Fin (cfgA m h).W) : (dats m h 0 c).A w = m ((c : Thread nD τ).loc (Pipeline.arrRef spec0 w)) := by
  dsimp only [dats]

theorem before0 (c : Dev nD) (t : Fin grid0.N) (d) : (dats m h 0 c).before 0 t d = xb m h c t :=
  ((dats m h 0 c).before_in_eq_fetched 0 rfl (fun _ => rfl) (fun _ _ _ => rfl) (fun t => by rw [after0]; unfold Dat.blockOf xb iblk; rw [A_eq]; try rfl) t d).trans
    (by unfold Dat.fetched Dat.blockOf xb iblk; rw [A_eq]; try rfl)
theorem before1 (c : Dev nD) (t : Fin grid0.N) (d) : (dats m h 0 c).before 1 t d = gb m h c t :=
  ((dats m h 0 c).before_in_eq_fetched 1 rfl (fun _ => rfl) (fun _ _ _ => rfl) (fun t => by rw [after1]; unfold Dat.blockOf gb iblk; rw [A_eq]; try rfl) t d).trans
    (by unfold Dat.fetched Dat.blockOf gb iblk; rw [A_eq]; try rfl)

theorem before2 (c : Dev nD) (t : Fin grid0.N) (d) : (dats m h 0 c).before 2 t d = ub m h c t :=
  ((dats m h 0 c).before_in_eq_fetched 2 rfl (fun _ => rfl) (fun _ _ _ => rfl) (fun t => by rw [after2]; unfold Dat.blockOf ub iblk; rw [A_eq]; try rfl) t d).trans
    (by unfold Dat.fetched Dat.blockOf ub iblk; rw [A_eq]; try rfl)

/-- The output window is written at every point. -/
theorem idle3 (pf : pre0.Contents (Elt F)) (i : grid0.Coords) : idle0 pf 3 i = false := by
  have e : ∀ v : BitVec 32, (!(k0_cond2 i v == 1#1) && !(k0_cond3 i v == 1#1)) = false := by
    intro v
    rw [cond3_eq]
    generalize k0_cond2 i v = b
    revert b; decide
  exact e _

/-- The expert of the tile before point `t`'s. -/
theorem off2_eq (i : grid0.Coords) : k0_off2 i = ![(i 1).val - 1] := by
  have hi : (i 1).val < 72 := (i 1).isLt
  have e : ∀ n : Fin 72, (Scalar.indexCast (Scalar.maxsi (Scalar.subi (BitVec.ofNat 32 n.val) 1#32) 0#32) : Index).toNat = n.val - 1 := by
    decide +kernel
  exact congrArg (fun n => ![n]) (e ⟨(i 1).val, hi⟩)

theorem off1_eq (i : grid0.Coords) : k0_off1 i = ![(i 1).val] := by
  have hi : (i 1).val < 72 := (i 1).isLt
  have e : ∀ n : Fin 72, (Scalar.indexCast (BitVec.ofNat 32 n.val) : Index).toNat = n.val := by
    decide +kernel
  exact congrArg (fun n => ![n]) (e ⟨(i 1).val, hi⟩)

def tePrev (i : grid0.Coords) : BitVec 32 := teW m (ix1 (⟨(i 1).val - 1, by have : (i 1).val < 72 := (i 1).isLt; omega⟩ : Fin 72))
def teCur (i : grid0.Coords) : BitVec 32 := teW m (ix1 (show Fin 72 from i 1))

/-- The step of the invariant. -/
theorem scr_step (c : Dev nD) (t : Fin grid0.N) (s1 s2 : Vec F S2048x1024 .bf16) (hs : inv m h c t.castSucc s1 s2)
    (hu : k0_cond2 (grid0.coords t) (nuW m) = 1#1) :
    scr (grid0.coords t) (nuW m) (teCur m (grid0.coords t)) (tePrev m (grid0.coords t)) (fill1 (gb m h c t)) s1 = fill1 (gb m h c t)
      ∧ scr (grid0.coords t) (nuW m) (teCur m (grid0.coords t)) (tePrev m (grid0.coords t)) (fill2 (ub m h c t)) s2 = fill2 (ub m h c t) := by
  unfold scr
  split
  · exact ⟨rfl, rfl⟩
  · next hn =>
    obtain ⟨h0, he⟩ := not_newb _ _ _ _ hn hu
    obtain ⟨e0, e1⟩ := coords_eq t
    have hlt : t.val < 504 := t.isLt
    have ht : t.val - 1 < grid0.N := lt_of_le_of_lt (Nat.sub_le _ _) t.isLt
    have f0 : (grid0.coords ⟨t.val - 1, ht⟩ 0).val = (t.val - 1) / 72 := (coords_eq ⟨t.val - 1, ht⟩).1
    have f1 : (grid0.coords ⟨t.val - 1, ht⟩ 1).val = (t.val - 1) % 72 := (coords_eq ⟨t.val - 1, ht⟩).2
    have g1 : (grid0.coords ⟨t.val - 1, ht⟩ 1).val + 1 = (grid0.coords t 1).val := by
      rw [e1, f1]; rw [e1] at h0; omega
    have g0 : (grid0.coords ⟨t.val - 1, ht⟩ 0).val = (grid0.coords t 0).val := by
      rw [e0, f0]; rw [e1] at h0; omega
    obtain ⟨q1, q2⟩ := hs ⟨t.val - 1, ht⟩ (by show t.val - 1 + 1 = t.val; rw [e1] at h0; omega) (used_pred _ _ _ g1 hu)
    have hw : teW m (ix1 (show Fin 72 from grid0.coords ⟨t.val - 1, ht⟩ 1)) = teW m (ix1 (show Fin 72 from grid0.coords t 1)) := by
      refine Eq.trans ?_ he.symm
      unfold tePrev
      congr 2
      apply Fin.ext
      show (grid0.coords ⟨t.val - 1, ht⟩ 1).val = (grid0.coords t 1).val - 1
      omega
    obtain ⟨w1, w2⟩ := wb_congr m h c _ _ g0 hw
    exact ⟨q1.trans (congrArg fill1 w1), q2.trans (congrArg fill2 w2)⟩

theorem inv_step (c : Dev nD) (t : Fin grid0.N) (s1 s2 : Vec F S2048x1024 .bf16) (hs : inv m h c t.castSucc s1 s2) :
    inv m h c t.succ (scr (grid0.coords t) (nuW m) (teCur m (grid0.coords t)) (tePrev m (grid0.coords t)) (fill1 (gb m h c t)) s1)
      (scr (grid0.coords t) (nuW m) (teCur m (grid0.coords t)) (tePrev m (grid0.coords t)) (fill2 (ub m h c t)) s2) := by
  intro t' ht hu
  obtain rfl : t' = t := Fin.ext (by simpa using ht)
  exact scr_step m h c t' s1 s2 hs hu

theorem out_step (c : Dev nD) (t : Fin grid0.N) (s1 s2 : Vec F S2048x1024 .bf16) (hs : inv m h c t.castSucc s1 s2) :
    outw (grid0.coords t) (nuW m) (xb m h c t) (scr (grid0.coords t) (nuW m) (teCur m (grid0.coords t)) (tePrev m (grid0.coords t)) (fill1 (gb m h c t)) s1)
      (scr (grid0.coords t) (nuW m) (teCur m (grid0.coords t)) (tePrev m (grid0.coords t)) (fill2 (ub m h c t)) s2) = outb m h c t := by
  unfold outb outw
  split
  · next hu => rw [(scr_step m h c t s1 s2 hs hu).1, (scr_step m h c t s1 s2 hs hu).2]
  · rfl

/-! ## The body obligation -/

/-- The two tables' buffers. -/
def tabT (c : Dev nD) : Buf (Elt F) ((c : Thread nD τ).loc main_arg0) := pfm m 0
def tabN (c : Dev nD) : Buf (Elt F) ((c : Thread nD τ).loc main_arg1) := pfm m 1

/-- The two tables, apart. -/
theorem prefHeld_pair (c : Dev nD) :
    (Pipeline.prefHeld pre0 c (fun _ => fullShare.right) (pfm m) : sProp 𝕄)
      = iprop((((c : Thread nD τ).loc main_arg0) ↦{fullShare.right} tabT m c) ∗ (((c : Thread nD τ).loc main_arg1) ↦{fullShare.right} tabN m c)) := by
  unfold Pipeline.prefHeld
  rw [show (Finset.univ : Finset (Fin 2)) = insert 0 {1} from by decide, bigSep_insert (by decide), bigSep_singleton]
  rfl

theorem rd_nu (c : Dev nD) (x : S1.Idx) :
    (((Memref.whole main_arg1).access (Rect.unit (s := S1) ![0] S1.size inb_S1_S1_0) : View sig .tc _ _ _).read (Elt F) (tabN m c)) x = nuW m := by
  show pfm m 1 _ = pfm m 1 _
  congr 1
  funext a
  fin_cases a
  exact Subsingleton.elim (α := Fin 1) _ _

theorem rd_cur (c : Dev nD) (i : grid0.Coords) (x : S1.Idx) :
    (((Memref.whole main_arg0).access (Rect.unit (s := S72) (k0_off1 i) S1.size (k0_off1_inb i)) : View sig .tc _ _ _).read (Elt F) (tabT m c)) x = teCur m i := by
  show pfm m 0 _ = pfm m 0 _
  congr 1
  funext a
  fin_cases a
  apply Fin.ext
  show k0_off1 i 0 + 1 * (x 0).val = (i 1).val
  have : (x 0).val < 1 := (x 0).isLt
  rw [off1_eq]
  show (i 1).val + 1 * (x 0).val = (i 1).val
  omega

theorem rd_prev (c : Dev nD) (i : grid0.Coords) (x : S1.Idx) :
    (((Memref.whole main_arg0).access (Rect.unit (s := S72) (k0_off2 i) S1.size (k0_off2_inb i)) : View sig .tc _ _ _).read (Elt F) (tabT m c)) x = tePrev m i := by
  show pfm m 0 _ = pfm m 0 _
  congr 1
  funext a
  fin_cases a
  apply Fin.ext
  show k0_off2 i 0 + 1 * (x 0).val = (i 1).val - 1
  have : (x 0).val < 1 := (x 0).isLt
  rw [off2_eq]
  show (i 1).val - 1 + 1 * (x 0).val = (i 1).val - 1
  omega

abbrev st0 (t : Fin grid0.N) := ((cfgA m h).win 0).stage ((cfgA m h).slots t 0)
abbrev st1 (t : Fin grid0.N) := ((cfgA m h).win 1).stage ((cfgA m h).slots t 1)
abbrev st2 (t : Fin grid0.N) := ((cfgA m h).win 2).stage ((cfgA m h).slots t 2)
abbrev st3 (t : Fin grid0.N) := ((cfgA m h).win 3).stage ((cfgA m h).slots t 3)

/-- The body at point `t`. -/
abbrev bodyAt (t : Fin grid0.N) : Prog (TpuEff nD τ sig (Elt F) Λ₀ .tc) PUnit :=
  cc0_moe_gateup (grid0.coords t) (Memref.whole main_arg0) (Memref.isWhole_whole _) (Memref.whole main_arg1) (Memref.isWhole_whole _)
    (spec0_0.stage ((cfgA m h).slots t 0)) (hstage0_0 (((cfgA m h).slots t 0).cast nbuf0_0)) (spec0_1.stage ((cfgA m h).slots t 1)) (hstage0_1 (((cfgA m h).slots t 1).cast nbuf0_1))
    (spec0_2.stage ((cfgA m h).slots t 2)) (hstage0_2 (((cfgA m h).slots t 2).cast nbuf0_2)) (spec0_3.stage ((cfgA m h).slots t 3)) (hstage0_3 (((cfgA m h).slots t 3).cast nbuf0_3)) (Memref.whole cc0_scratch0) (Memref.isWhole_whole _) (Memref.whole cc0_scratch1) (Memref.isWhole_whole _)

theorem bodyAt_eq (t : Fin grid0.N) : bodyAt m h t = (do
      let v0 : Elt F .i32 ← smemLoad (Memref.whole main_arg1) (Rect.unit (s := S1) ![0] S1.size inb_S1_S1_0) numel1_S1 rfl
      let v4 : Elt F .i32 ← smemLoad (Memref.whole main_arg0) (Rect.unit (s := S72) (k0_off1 (grid0.coords t)) S1.size (k0_off1_inb _)) numel1_S1 rfl
      let v8 : Elt F .i32 ← smemLoad (Memref.whole main_arg0) (Rect.unit (s := S72) (k0_off2 (grid0.coords t)) S1.size (k0_off2_inb _)) numel1_S1 rfl
      tail (grid0.coords t) v0 v4 v8 (spec0_0.stage ((cfgA m h).slots t 0)) (hstage0_0 (((cfgA m h).slots t 0).cast nbuf0_0)) (spec0_1.stage ((cfgA m h).slots t 1)) (hstage0_1 (((cfgA m h).slots t 1).cast nbuf0_1))
        (spec0_2.stage ((cfgA m h).slots t 2)) (hstage0_2 (((cfgA m h).slots t 2).cast nbuf0_2)) (spec0_3.stage ((cfgA m h).slots t 3)) (hstage0_3 (((cfgA m h).slots t 3).cast nbuf0_3)) (Memref.whole cc0_scratch0) (Memref.isWhole_whole _) (Memref.whole cc0_scratch1) (Memref.isWhole_whole _)) := by
  unfold bodyAt
  rw [cc0_moe_gateup_eq_skeleton]
  exact skel_eq _ _ _ _ _ _ _ _ _ _ _ _ _ _ _ _ _

def bodyPre (c : Dev nD) (t : Fin grid0.N) : sProp 𝕄 :=
  iprop((dats m h 0 c).Φ t.castSucc ∗ (dats m h 0 c).owesAt () t.castSucc
    ∗ (∃ d, owns (c : Thread nD τ) (st0 m h t) fullShare ((dats m h 0 c).before 0 t d))
    ∗ (∃ d, owns (c : Thread nD τ) (st1 m h t) fullShare ((dats m h 0 c).before 1 t d))
    ∗ (∃ d, owns (c : Thread nD τ) (st2 m h t) fullShare ((dats m h 0 c).before 2 t d))
    ∗ (∃ d, owns (c : Thread nD τ) (st3 m h t) fullShare ((dats m h 0 c).before 3 t d)))

def bodyPost (c : Dev nD) (t : Fin grid0.N) : sProp 𝕄 :=
  iprop((dats m h 0 c).Φ t.succ ∗ (dats m h 0 c).owesAt () t.succ
    ∗ owns (c : Thread nD τ) (st0 m h t) fullShare ((dats m h 0 c).after 0 t)
    ∗ owns (c : Thread nD τ) (st1 m h t) fullShare ((dats m h 0 c).after 1 t)
    ∗ owns (c : Thread nD τ) (st2 m h t) fullShare ((dats m h 0 c).after 2 t)
    ∗ owns (c : Thread nD τ) (st3 m h t) fullShare ((dats m h 0 c).after 3 t))

theorem Φ_eq (c : Dev nD) (t : Fin (grid0.N + 1)) : (dats m h 0 c).Φ t
    = iprop(scrPts m h c t ∗ (∃ r, prngReg c r) ∗ Pipeline.prefHeld pre0 c (fun _ => fullShare.right) (pfm m)) := by
  dsimp only [dats]

set_option maxHeartbeats 1000000 in
theorem sound_body (c : Dev nD) (t : Fin grid0.N) :
    bodyPre m h c t ⊢ wp frame (wpE (defs₀ (F := F)) Variants.none c none) Set.univ (bodyAt m h t) (fun _ => bodyPost m h c t) := by
  rw [bodyAt_eq]
  unfold bodyPre bodyPost
  simp only [before0, before1, before2]
  rw [show (dats m h 0 c).owesAt () t.succ = (dats m h 0 c).owesAt () t.castSucc from rfl, after0, after1, after2, after3, Φ_eq, Φ_eq, prefHeld_pair]
  unfold scrPts smemLoad smemLoadElt
  iintro ⟨⟨⟨%s1, %s2, %hs, HS, HS2⟩, HR, HT, HN⟩, Ho, ⟨%d0, H0⟩, ⟨%d1, H1⟩, ⟨%d2, H2⟩, ⟨%d3, H3⟩⟩
  simp only [Prog.bind_op, Prog.bind_ret]
  iapply (wp_load_rect Variants.none (c : Thread nD τ) none Set.univ (m := Memref.whole main_arg1) (r := Rect.unit (s := S1) ![0] S1.size inb_S1_S1_0) (Finset.subset_univ _)) $$ HN
  iintro HN
  iapply (wp_load_rect Variants.none (c : Thread nD τ) none Set.univ (m := Memref.whole main_arg0) (r := Rect.unit (s := S72) (k0_off1 (grid0.coords t)) S1.size (k0_off1_inb _)) (Finset.subset_univ _)) $$ HT
  iintro HT
  iapply (wp_load_rect Variants.none (c : Thread nD τ) none Set.univ (m := Memref.whole main_arg0) (r := Rect.unit (s := S72) (k0_off2 (grid0.coords t)) S1.size (k0_off2_inb _)) (Finset.subset_univ _)) $$ HT
  iintro HT
  rw [rd_nu m c, rd_cur m c, rd_prev m c]
  iapply (sound_tail c Set.univ (grid0.coords t) (nuW m) (teCur m (grid0.coords t)) (tePrev m (grid0.coords t)) _ _ _ _ _ _ _ _ _ _ _ _ (xb m h c t) (gb m h c t) (ub m h c t) s1 s2 _)
  isplitl [H0]; · iexact H0
  isplitl [H1]; · iexact H1
  isplitl [H2]; · iexact H2
  isplitl [H3]; · iexists _; iexact H3
  isplitl [HS]; · iexact HS
  isplitl [HS2]; · iexact HS2
  iintro ⟨H0, H1, H2, H3, HS, HS2⟩
  isplitl [HS HS2 HR HT HN]
  · isplitl [HS HS2]
    · iexists _; iexists _; isplitr
      swap
      · isplitl [HS]; · iexact HS
        iexact HS2
      ipureintro; exact inv_step m h c t s1 s2 hs
    isplitl [HR]; · iexact HR
    isplitl [HT]; · iexact HT
    iexact HN
  isplitl [Ho]; · iexact Ho
  isplitl [H0]; · iexact H0
  isplitl [H1]; · iexact H1
  isplitl [H2]; · iexact H2
  rw [out_step m h c t s1 s2 hs]
  iexact H3

theorem defs_row (t : Fin grid0.N) :
    defs₀ (F := F) .tc (cfgA m h).body ((cfgA m h).bodyArgs t ((cfgA m h).slots t)) = bodyAt m h t := by
  unfold defs₀; rw [Defs.onTc_tc]

theorem body_obligation (c : Dev nD) : BodyObligation (dats m h 0 c) (defs₀ (F := F)) Variants.none () Set.univ := fun t => by
  rw [bigSep_W0, bigSep_W0, defs_row m h t]
  refine triple_restated (sound_body m h c t) rfl .rfl fun _ => ?_
  unfold bodyPost
  iintro ⟨A, B, C, D, D2, E⟩
  isplitl [A]; · iexact A
  isplitl [B]; · iexact B
  isplitl [C]; · iexact C
  isplitl [D]; · iexact D
  isplitl [D2]; · iexact D2
  simp only [show (cfgA m h).idle 3 ((cfgA m h).grid.coords t) = false from idle3 _ _]
  have e : idle0 (F := F) (adm m h).1 3 ((pcfg0.gridAt (adm m h).1).coords t) = false := idle3 _ _
  rw [e]
  iexact E

/-! ## The run -/

omit [FloatOps F] in
theorem scr_in (c : Dev nD) : (iprop(∃ f : Buf (Elt F) ((c : Thread nD τ).loc cc0_scratch0), ((c : Thread nD τ).loc cc0_scratch0) ↦{fullShare} f) : sProp 𝕄)
    ⊢ iprop(∃ s, owns (c : Thread nD τ) (Memref.whole cc0_scratch0) fullShare s) := by
  simp only [owns_whole_eq]
  iintro ⟨%f, H⟩; iexists f; iexists f; isplitr; · ipureintro; rfl
  iexact H

omit [FloatOps F] in
theorem scr_out (c : Dev nD) (s) : (owns (c : Thread nD τ) (Memref.whole cc0_scratch0) fullShare s : sProp 𝕄)
    ⊢ (iprop(∃ f : Buf (Elt F) ((c : Thread nD τ).loc cc0_scratch0), ((c : Thread nD τ).loc cc0_scratch0) ↦{fullShare} f) : sProp 𝕄) := by
  rw [owns_whole_eq]
  iintro ⟨%f, %_, H⟩; iexists f; iexact H

omit [FloatOps F] in
theorem scr_in2 (c : Dev nD) : (iprop(∃ f : Buf (Elt F) ((c : Thread nD τ).loc cc0_scratch1), ((c : Thread nD τ).loc cc0_scratch1) ↦{fullShare} f) : sProp 𝕄)
    ⊢ iprop(∃ s, owns (c : Thread nD τ) (Memref.whole cc0_scratch1) fullShare s) := by
  simp only [owns_whole_eq]
  iintro ⟨%f, H⟩; iexists f; iexists f; isplitr; · ipureintro; rfl
  iexact H

omit [FloatOps F] in
theorem scr_out2 (c : Dev nD) (s) : (owns (c : Thread nD τ) (Memref.whole cc0_scratch1) fullShare s : sProp 𝕄)
    ⊢ (iprop(∃ f : Buf (Elt F) ((c : Thread nD τ).loc cc0_scratch1), ((c : Thread nD τ).loc cc0_scratch1) ↦{fullShare} f) : sProp 𝕄) := by
  rw [owns_whole_eq]
  iintro ⟨%f, %_, H⟩; iexists f; iexact H

theorem hin (c : Dev nD) : iprop(Pipeline.ΦA spec0 c ∗ Pipeline.ΦT pre0 (pfm m) c) ⊢ (dats m h 0 c).Φ 0 := by
  rw [Φ_eq]
  unfold Pipeline.ΦA Pipeline.ΦT scrPts
  rw [scopedRest0_eq]
  iintro ⟨⟨⟨HS, HU⟩, HR⟩, HT⟩
  isplitl [HS HU]
  · ihave HS2 := (scr_in (F := F) c) $$ HS
    icases HS2 with ⟨%s1, HS2⟩
    ihave HU2 := (scr_in2 (F := F) c) $$ HU
    icases HU2 with ⟨%s2, HU2⟩
    iexists s1; iexists s2
    isplitr
    · ipureintro
      exact fun t' ht => absurd ht (Nat.succ_ne_zero _)
    isplitl [HS2]; · iexact HS2
    iexact HU2
  isplitl [HR]; · iexact HR
  iexact HT

theorem hout (c : Dev nD) : (dats m h 0 c).Φ (Fin.last grid0.N) ⊢ Pipeline.ΦA spec0 c := by
  rw [Φ_eq]
  unfold Pipeline.ΦA scrPts
  rw [scopedRest0_eq]
  iintro ⟨⟨%s1, %s2, %_, HS, HU⟩, HR, HT⟩
  isplitl [HS HU]
  · isplitl [HS]
    · iapply (scr_out (F := F) c s1); iexact HS
    iapply (scr_out2 (F := F) c s2); iexact HU
  iexact HR

abbrev V (c : Dev nD) (b : Ref sig .tc) : Buf (Elt F) ((c : Thread nD τ).loc b) := m ((c : Thread nD τ).loc b)

abbrev datsP : (p : Fin 1) → (c : Dev nD) → Dat τ (Elt F) Unit ℕ (UR sig nD τ) ℕ (Pipeline.pin (pcfgs (F := F)) (fun _ => adm m h) p) c :=
  fun p c => dats m h p c

set_option backward.isDefEq.respectTransparency.types false in
set_option maxHeartbeats 800000 in
/-- Every fair execution ends, with the pipeline's arrays at what its data says and the counters at zero. -/
theorem run_main : θ_run defs (onTc (τ := τ) (main (F := F))) (s₀ m ρ)
    (fun r => Pipeline.FramePost (Pipeline.pin (pcfgs (F := F)) (fun _ => adm m h)) (datsP m h) 0 (V m) r ∧ r.2.sem = fun _ => 0) :=
  Pipeline.θ_run_frameP_track (Q' := _) (pcfgs (F := F)) (fun _ => adm m h) (datsP m h) (0 : Fin 1) launch0 defs₀ Variants.none m ρ main
    (hbody := fun c => (body_obligation m h c).loose) (hshare := fun c => (dats m h 0 c).share_full fun _ => rfl)
    (howed := fun _ _ => rfl) (V := V m) (hmain := Pipeline.hmainP_region (pcfgs (F := F)) 0 defs₀ Variants.none m main (fun _ => rfl)) (hA := A_eq m h)
    (hpf := fun c k => by obtain rfl : c = 0 := Subsingleton.elim _ _; rfl) (hin := hin m h) (hout := hout m h)

theorem rest0 : ∀ w : Fin 4, (spec0 w).arr.view.ref ≠ main_arg0 := by decide
theorem rest1 : ∀ w : Fin 4, (spec0 w).arr.view.ref ≠ main_arg1 := by decide

/-- The run: the result array, and the arguments as they were. -/
theorem run_blocks : θ_run defs (onTc (τ := τ) (main (F := F))) ⟨m, fun _ => 0, ρ⟩ (fun r => (∀ c : Dev nD,
      r.2.mem ((c.tc : Thread nD τ).loc main_v0) = (dats m h 0 c).arrAt 3 grid0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r hr => ⟨fun c => ⟨(hr.1 c).1 3,
      (hr.1 c).2 main_arg0 (Pipeline.mem_restRefs_of main_arg0 (by decide) rest0),
      (hr.1 c).2 main_arg1 (Pipeline.mem_restRefs_of main_arg1 (by decide) rest1),
      ((hr.1 c).1 0).trans (((dats m h 0 c).arrAt_in 0 rfl _).trans (A_eq m h c 0)),
      ((hr.1 c).1 1).trans (((dats m h 0 c).arrAt_in 1 rfl _).trans (A_eq m h c 1)),
      ((hr.1 c).1 2).trans (((dats m h 0 c).arrAt_in 2 rfl _).trans (A_eq m h c 2))⟩, hr.2⟩) (run_main m ρ h)

include h in
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r hr => ⟨fun c => (hr.1 c).2, hr.2⟩) (run_blocks m ρ h)

end Data

/-! ## The precondition -/

theorem word_lt (v : BitVec 32) (h : BitVec.ofBool ((0#32).sle v) &&& BitVec.ofBool (v.slt 8#32) = 1#1) : v.toNat < 8 := by
  have e : ∀ a b : Bool, BitVec.ofBool a &&& BitVec.ofBool b = 1#1 → a = true ∧ b = true := by decide
  obtain ⟨h1, h2⟩ := e _ _ h
  rw [BitVec.sle, decide_eq_true_iff] at h1
  rw [BitVec.slt, decide_eq_true_iff] at h2
  have h8 : (8#32 : BitVec 32).toInt = 8 := by decide
  have h0 : (0#32 : BitVec 32).toInt = 0 := by decide
  rw [h8, BitVec.toInt_eq_toNat_cond] at h2
  rw [h0, BitVec.toInt_eq_toNat_cond] at h1
  split at h1 <;> split at h2 <;> omega

/-- The precondition's range of the experts. -/
theorem te_lt (hp : ∀ c : Dev nD, Cert.Pre_experts4.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = fun _ => 1#1)
    (x : S72.Idx) : (teW m x).toNat < 8 := by
  have := congrFun (hp 0) x
  exact word_lt _ this

end Cert.Kernel4Ideal.Moe

end
-- ==== Proof.Experts.lean ====
/- A sum over the experts of which at most one, the row's own, is taken. -/
module

public import Idealize.ShloMosaic.Lib.Pointwise
public import Idealize.ShloMosaic.PureOps.Ideal

@[expose] public section

noncomputable section

namespace Cert.Moe

open Idealize.ShloMosaic

theorem tile_lt (r : Fin 36864) : r.val / 512 < 72 := by have := r.isLt; omega

/-- Expert `e`'s part in a row of expert `te`, which is used if `u`. -/
def part (te : BitVec 32) (u : BitVec 1) (f : Fin 8 → EReal) (e : Fin 8) : EReal :=
  Scalar.select (IntOp.andi (IntOp.cmpi .eq te (BitVec.ofNat 32 e.val)) u) (f e) 0

theorem part_eq (n : Fin 8) (u : BitVec 1) (f : Fin 8 → EReal) (e : Fin 8) :
    part (BitVec.ofNat 32 n.val) u f e = if n = e ∧ u = 1#1 then f e else 0 := by
  have hb : ∀ (n e : Fin 8) (u : BitVec 1), (IntOp.andi (IntOp.cmpi .eq (BitVec.ofNat 32 n.val) (BitVec.ofNat 32 e.val)) u = 1#1) ↔ (n = e ∧ u = 1#1) := by decide
  show (if _ = 1#1 then _ else _) = _
  exact if_congr (hb n e u) rfl rfl

/-- The parts' sum is the row's own expert's. -/
theorem collapse (te : BitVec 32) (hte : te.toNat < 8) (u : BitVec 1) (f : Fin 8 → EReal) :
    0 + part te u f 0 + part te u f 1 + part te u f 2 + part te u f 3 + part te u f 4 + part te u f 5 + part te u f 6 + part te u f 7
      = if u = 1#1 then f ⟨te.toNat, hte⟩ else 0 := by
  obtain ⟨n, hn, hv⟩ : ∃ (n : Fin 8), te = BitVec.ofNat 32 n.val ∧ (⟨te.toNat, hte⟩ : Fin 8) = n :=
    ⟨⟨te.toNat, hte⟩, by simp, rfl⟩
  rw [hv, hn]
  simp only [part_eq]
  by_cases hu : u = 1#1
  · simp only [hu, and_true, if_true]
    fin_cases n <;> simp
  · simp only [hu, and_false, if_false, add_zero]

end Cert.Moe

end
-- ==== Proof.UpValue.lean ====
/- The experts' gate and up products: the kernel's array and the reference's, entry by entry. -/
module

public import proofs.«01_k».proof.Defs
public import proofs.«01_k».proof.Proof.Experts
public import proofs.«01_k».proof.Proof.Gateup
public import proofs.«01_k».proof.Proof.UpRun
public import proofs.«01_k».proof.Proof.Gen.Reference4Ideal.Run
public import proofs.«01_k».proof.Proof.Gen.Reference4Ideal.Read
public import Idealize.ShloMosaic.Lib.Pipeline.ValueKit
public import Idealize.ShloMosaic.Lib.Pipeline.Covers
public import Idealize.ShloMosaic.Lib.Pointwise

@[expose] public section

set_option maxRecDepth 16384

noncomputable section

namespace Cert.MoeUp

open Idealize.ShloMosaic Idealize.ShloMosaic.TcCoe Idealize.ShloMosaic.Tactic Idealize.ShloMosaic.Pointwise
open Idealize.SL.Sem
open Cert.Moe
open Cert.Ffn (silu)

section Kernel

open Cert.Kernel4Ideal Cert.Kernel4Ideal.Gen Cert.Kernel4Ideal.Moe

variable (m : (ℓ : Loc nD τ sig) → Buf (Elt Ideal) ℓ) (h : ∀ x, (teW m x).toNat < 8) (c : Dev nD)

/-- The rows and the experts' weights. -/
abbrev hs : FVec Ideal S36864x2048 .bf16 := m ((c : Thread nD τ).loc main_arg2)
abbrev wg : FVec Ideal S8x2048x7168 .f32 := m ((c : Thread nD τ).loc main_arg3)
abbrev wu : FVec Ideal S8x2048x7168 .f32 := m ((c : Thread nD τ).loc main_arg4)

/-- A used tile's block: its rows through the gate and the up products. -/
theorem block_eq (x : Vec Ideal S512x2048 .bf16) (g u : Vec Ideal S1x2048x1024 .f32) (r : Fin 512) (d : Fin 1024) :
    outv x (fill1 g) (fill2 u) (ix2 r d)
      = silu (∑ k : Fin 2048, x (ix2 r k) * g (ix3 0 k d)) (∑ k : Fin 2048, x (ix2 r k) * u (ix3 0 k d)) := by
  unfold outv fill1 fill2
  rw [View.canon_unit_zero (by decide), View.canon_unit_zero (by decide), View.canon_unit_zero (by decide), View.ld_unit_zero (by decide), View.ld_unit_zero (by decide), View.ld_unit_zero (by decide), View.ld_unit_zero (by decide), View.ld_unit_zero (by decide)]
  pointwise [k0_pay1, k0_pay2, k0_pay3, silu]

/-- A tile that is not used is zero. -/
theorem zero_eq (r : Fin 512) (d : Fin 1024) : zerov (F := Ideal) (ix2 r d) = 0 := by
  unfold zerov
  rw [View.canon_unit_zero (by decide)]
  pointwise [k0_pay4]

theorem hs_at (t : Fin grid0.N) (r : Fin 512) (k : Fin 2048) (hr : 512 * (grid0.coords t 1).val + r.val < 36864) :
    xb m h c t (ix2 r k) = hs m c (ix2 ⟨512 * (grid0.coords t 1).val + r.val, hr⟩ k) := by
  have e : ((cfgA m h).win 0).index t = ![(grid0.coords t 1).val, 0] := idx0 t
  blk_ext [iblk, e]

/-- The kernel's array. -/
def rows : S36864x7168.Idx → EReal := fun i =>
  if IntOp.cmpi .slt (BitVec.ofNat 32 ((i 0).val / 512)) (nuW m) = 1#1 then
    silu (∑ k : Fin 2048, hs m c (ix2 (i 0) k) * wg m c (ix3 ⟨(teW m (ix1 ⟨(i 0).val / 512, tile_lt (i 0)⟩)).toNat, h _⟩ k (i 1)))
      (∑ k : Fin 2048, hs m c (ix2 (i 0) k) * wu m c (ix3 ⟨(teW m (ix1 ⟨(i 0).val / 512, tile_lt (i 0)⟩)).toNat, h _⟩ k (i 1))) else 0

/-- A point's block is the array's. -/
theorem point_eq (t : Fin grid0.N) (y0 : Fin 512) (y1 : Fin 1024) (h0 : 512 * (grid0.coords t 1).val + y0.val < 36864) (h1 : (grid0.coords t 0).val * 1024 + y1.val < 7168) :
    outb m h c t (ix2 y0 y1) = rows m h c (ix2 ⟨512 * (grid0.coords t 1).val + y0.val, h0⟩ ⟨(grid0.coords t 0).val * 1024 + y1.val, h1⟩) := by
  have c1 : (grid0.coords t 1).val < 72 := (grid0.coords t 1).isLt
  have d0 : (⟨(512 * (grid0.coords t 1).val + y0.val) / 512, by omega⟩ : Fin 72) = (show Fin 72 from grid0.coords t 1) := Fin.ext (by show (512 * (grid0.coords t 1).val + y0.val) / 512 = (grid0.coords t 1).val; omega)
  have hc : IntOp.cmpi .slt (BitVec.ofNat 32 ((512 * (grid0.coords t 1).val + y0.val) / 512)) (nuW m) = k0_cond2 (grid0.coords t) (nuW m) := by
    rw [cond2_eq, show (512 * (grid0.coords t 1).val + y0.val) / 512 = (grid0.coords t 1).val from congrArg Fin.val d0]; rfl
  unfold outb outw rows
  show _ = if IntOp.cmpi .slt (BitVec.ofNat 32 ((512 * (grid0.coords t 1).val + y0.val) / 512)) (nuW m) = 1#1 then _ else _
  rw [hc]
  by_cases hu : k0_cond2 (grid0.coords t) (nuW m) = 1#1
  · rw [if_pos hu, if_pos hu]
    refine (block_eq _ _ _ y0 y1).trans ?_
    have G : (∑ k : Fin 2048, xb m h c t (ix2 y0 k) * gb m h c t (ix3 0 k y1))
        = ∑ k : Fin 2048, hs m c (ix2 ⟨512 * (grid0.coords t 1).val + y0.val, h0⟩ k)
          * wg m c (ix3 ⟨(teW m (ix1 ⟨(512 * (grid0.coords t 1).val + y0.val) / 512, tile_lt ⟨512 * (grid0.coords t 1).val + y0.val, h0⟩⟩)).toNat, h _⟩ k ⟨(grid0.coords t 0).val * 1024 + y1.val, h1⟩) := by
      refine Finset.sum_congr rfl fun k _ => ?_
      rw [hs_at m h c t y0 k h0, gb_at m h c t k y1]
      refine congrArg (_ * ·) (congrArg (wg m c) ?_)
      exact congrArg (fun e => ix3 e k (⟨(grid0.coords t 0).val * 1024 + y1.val, h1⟩ : Fin 7168)) (Fin.ext (congrArg (fun q : Fin 72 => (teW m (ix1 q)).toNat) d0.symm))
    have U : (∑ k : Fin 2048, xb m h c t (ix2 y0 k) * ub m h c t (ix3 0 k y1))
        = ∑ k : Fin 2048, hs m c (ix2 ⟨512 * (grid0.coords t 1).val + y0.val, h0⟩ k)
          * wu m c (ix3 ⟨(teW m (ix1 ⟨(512 * (grid0.coords t 1).val + y0.val) / 512, tile_lt ⟨512 * (grid0.coords t 1).val + y0.val, h0⟩⟩)).toNat, h _⟩ k ⟨(grid0.coords t 0).val * 1024 + y1.val, h1⟩) := by
      refine Finset.sum_congr rfl fun k _ => ?_
      rw [hs_at m h c t y0 k h0, ub_at m h c t k y1]
      refine congrArg (_ * ·) (congrArg (wu m c) ?_)
      exact congrArg (fun e => ix3 e k (⟨(grid0.coords t 0).val * 1024 + y1.val, h1⟩ : Fin 7168)) (Fin.ext (congrArg (fun q : Fin 72 => (teW m (ix1 q)).toNat) d0.symm))
    exact congrArg₂ silu G U
  · rw [if_neg hu, if_neg hu]
    exact zero_eq y0 y1

theorem covers : ((cfgA m h).win 3).Covers :=
  ((cfgA m h).win 3).covers_of_indexMap_surj rfl (by intro a; match a with | ⟨0, _⟩ => exact (by decide : 0 < 512) | ⟨1, _⟩ => exact (by decide : 0 < 1024)) fun β =>
    have h0 : (β ⟨0, Nat.zero_lt_two⟩).val < 72 := lt_of_lt_of_eq (β ⟨0, Nat.zero_lt_two⟩).isLt (by show (36864 + 512 - 1) / 512 = 72; decide)
    have h1 : (β ⟨1, Nat.one_lt_two⟩).val < 7 := lt_of_lt_of_eq (β ⟨1, Nat.one_lt_two⟩).isLt (by show (7168 + 1024 - 1) / 1024 = 7; decide)
    ⟨(fun a : Fin 2 => match a with | 0 => ⟨(β ⟨1, Nat.one_lt_two⟩).val, h1⟩ | 1 => ⟨(β ⟨0, Nat.zero_lt_two⟩).val, h0⟩ : grid0.Coords), fun a => match a with
      | ⟨0, _⟩ => by
        show (BitVec.ofNat 32 (β ⟨0, Nat.zero_lt_two⟩).val).toNat = (β ⟨0, Nat.zero_lt_two⟩).val
        simp only [BitVec.toNat_ofNat]; omega
      | ⟨1, _⟩ => by
        show (BitVec.ofNat 32 (β ⟨1, Nat.one_lt_two⟩).val).toNat = (β ⟨1, Nat.one_lt_two⟩).val
        simp only [BitVec.toNat_ofNat]; omega⟩

theorem array_eq : (dats m h 0 c).arrAt 3 grid0.N = rows m h c := by
  refine (dats m h 0 c).arrAt_eq_of_covers 3 _ (covers m h) fun t hf (y : S512x1024.Idx) => ?_
  rw [after3]
  have c0 : (grid0.coords t 0).val < 7 := (grid0.coords t 0).isLt
  have c1 : (grid0.coords t 1).val < 72 := (grid0.coords t 1).isLt
  obtain ⟨y0, y1, rfl⟩ : ∃ (y0 : Fin 512) (y1 : Fin 1024), y = ix2 y0 y1 := ⟨y 0, y 1, by idx_vars y⟩
  have e : ((cfgA m h).win 3).index t = ![(grid0.coords t 1).val, (grid0.coords t 0).val] := idx3 t
  have E : rows m h c ((((cfgA m h).win 3).blk t).view.emb (ix2 y0 y1))
      = rows m h c (ix2 ⟨512 * (grid0.coords t 1).val + y0.val, by omega⟩ ⟨(grid0.coords t 0).val * 1024 + y1.val, by omega⟩) := by
    blk_ext [e]
  refine Eq.trans ?_ E.symm
  show outb m h c t (ix2 y0 y1) = _
  exact point_eq m h c t y0 y1 _ _

end Kernel

section Reference

open Cert.Reference4Ideal Cert.Reference4Ideal.Read

variable (x0 : IVec S72 32) (x1 : IVec S1 32) (x2 : FVec Ideal S36864x2048 .bf16) (x3 x4 : FVec Ideal S8x2048x7168 .f32)
  (r : Fin 36864) (d : Fin 7168)

/-- Whether the row's tile is used. -/
def used : BitVec 1 := IntOp.cmpi .slt (BitVec.ofNat 32 (r.val / 512)) (x1 (ix1 0))

/-- The row through an expert's gate and up products. -/
def prod (e : Fin 8) : EReal :=
  silu (∑ k : Fin 2048, x2 (ix2 r k) * x3 (ix3 e k d)) (∑ k : Fin 2048, x2 (ix2 r k) * x4 (ix3 e k d))

theorem zero_word : id (constant (F := Ideal) S_ .f32 0x00000000#32) ix0 = (0 : EReal) := by
  show constant (F := Ideal) S_ .f32 0x00000000#32 ix0 = (0 : EReal)
  pointwise

theorem zero_eq' : val_main_v0 (F := Ideal) (ix2 r d) = (0 : EReal) := by
  pointwise [val_main_v0, val_main_cst]

theorem term0 : val_main_v20 (F := Ideal) x0 x1 x2 x3 x4 (ix2 r d) = part (x0 (ix1 ⟨r.val / 512, tile_lt r⟩)) (used x1 r) (prod x2 x3 x4 r d) 0 := by
  pointwise [val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_call0_v0, val_main_call0_v1, val_main_call0_cst, val_main_call0_v2, val_main_call0_v3, val_main_call0_cst_0, val_main_call0_v4, val_main_call0_v5, val_main_call1_v0, val_main_call1_v1, val_main_call1_v2, val_main_c, val_main_cst_0, part, used, prod, silu]
  exact congrArg (Scalar.select _ _) zero_word

theorem term1 : val_main_v41 (F := Ideal) x0 x1 x2 x3 x4 (ix2 r d) = part (x0 (ix1 ⟨r.val / 512, tile_lt r⟩)) (used x1 r) (prod x2 x3 x4 r d) 1 := by
  pointwise [val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_call2_v0, val_main_call2_v1, val_main_call2_cst, val_main_call2_v2, val_main_call2_v3, val_main_call2_cst_0, val_main_call2_v4, val_main_call2_v5, val_main_call3_v0, val_main_call3_v1, val_main_call3_v2, val_main_c_1, val_main_cst_2, part, used, prod, silu]
  exact congrArg (Scalar.select _ _) zero_word

theorem term2 : val_main_v62 (F := Ideal) x0 x1 x2 x3 x4 (ix2 r d) = part (x0 (ix1 ⟨r.val / 512, tile_lt r⟩)) (used x1 r) (prod x2 x3 x4 r d) 2 := by
  pointwise [val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_call4_v0, val_main_call4_v1, val_main_call4_cst, val_main_call4_v2, val_main_call4_v3, val_main_call4_cst_0, val_main_call4_v4, val_main_call4_v5, val_main_call5_v0, val_main_call5_v1, val_main_call5_v2, val_main_c_3, val_main_cst_4, part, used, prod, silu]
  exact congrArg (Scalar.select _ _) zero_word

theorem term3 : val_main_v83 (F := Ideal) x0 x1 x2 x3 x4 (ix2 r d) = part (x0 (ix1 ⟨r.val / 512, tile_lt r⟩)) (used x1 r) (prod x2 x3 x4 r d) 3 := by
  pointwise [val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_call6_v0, val_main_call6_v1, val_main_call6_cst, val_main_call6_v2, val_main_call6_v3, val_main_call6_cst_0, val_main_call6_v4, val_main_call6_v5, val_main_call7_v0, val_main_call7_v1, val_main_call7_v2, val_main_c_5, val_main_cst_6, part, used, prod, silu]
  exact congrArg (Scalar.select _ _) zero_word

theorem term4 : val_main_v104 (F := Ideal) x0 x1 x2 x3 x4 (ix2 r d) = part (x0 (ix1 ⟨r.val / 512, tile_lt r⟩)) (used x1 r) (prod x2 x3 x4 r d) 4 := by
  pointwise [val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_call8_v0, val_main_call8_v1, val_main_call8_cst, val_main_call8_v2, val_main_call8_v3, val_main_call8_cst_0, val_main_call8_v4, val_main_call8_v5, val_main_call9_v0, val_main_call9_v1, val_main_call9_v2, val_main_c_7, val_main_cst_8, part, used, prod, silu]
  exact congrArg (Scalar.select _ _) zero_word

theorem term5 : val_main_v125 (F := Ideal) x0 x1 x2 x3 x4 (ix2 r d) = part (x0 (ix1 ⟨r.val / 512, tile_lt r⟩)) (used x1 r) (prod x2 x3 x4 r d) 5 := by
  pointwise [val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_call10_v0, val_main_call10_v1, val_main_call10_cst, val_main_call10_v2, val_main_call10_v3, val_main_call10_cst_0, val_main_call10_v4, val_main_call10_v5, val_main_call11_v0, val_main_call11_v1, val_main_call11_v2, val_main_c_9, val_main_cst_10, part, used, prod, silu]
  exact congrArg (Scalar.select _ _) zero_word

theorem term6 : val_main_v146 (F := Ideal) x0 x1 x2 x3 x4 (ix2 r d) = part (x0 (ix1 ⟨r.val / 512, tile_lt r⟩)) (used x1 r) (prod x2 x3 x4 r d) 6 := by
  pointwise [val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_call12_v0, val_main_call12_v1, val_main_call12_cst, val_main_call12_v2, val_main_call12_v3, val_main_call12_cst_0, val_main_call12_v4, val_main_call12_v5, val_main_call13_v0, val_main_call13_v1, val_main_call13_v2, val_main_c_11, val_main_cst_12, part, used, prod, silu]
  exact congrArg (Scalar.select _ _) zero_word

theorem term7 : val_main_v167 (F := Ideal) x0 x1 x2 x3 x4 (ix2 r d) = part (x0 (ix1 ⟨r.val / 512, tile_lt r⟩)) (used x1 r) (prod x2 x3 x4 r d) 7 := by
  pointwise [val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_call14_v0, val_main_call14_v1, val_main_call14_cst, val_main_call14_v2, val_main_call14_v3, val_main_call14_cst_0, val_main_call14_v4, val_main_call14_v5, val_main_call15_v0, val_main_call15_v1, val_main_call15_v2, val_main_c_13, val_main_cst_14, part, used, prod, silu]
  exact congrArg (Scalar.select _ _) zero_word

theorem reference_eq (h : ∀ x, (x0 x).toNat < 8) :
    val_main_v169 (F := Ideal) x0 x1 x2 x3 x4 (ix2 r d) =
      if used x1 r = 1#1 then prod x2 x3 x4 r d ⟨(x0 (ix1 ⟨r.val / 512, tile_lt r⟩)).toNat, h _⟩ else 0 := by
  show val_main_v168 (F := Ideal) x0 x1 x2 x3 x4 (ix2 r d) = _
  rw [val_main_v168_apply, val_main_v147_apply, val_main_v126_apply, val_main_v105_apply, val_main_v84_apply, val_main_v63_apply, val_main_v42_apply, val_main_v21_apply, zero_eq']
  rw [term0 x0 x1 x2 x3 x4 r d, term1 x0 x1 x2 x3 x4 r d, term2 x0 x1 x2 x3 x4 r d, term3 x0 x1 x2 x3 x4 r d, term4 x0 x1 x2 x3 x4 r d, term5 x0 x1 x2 x3 x4 r d, term6 x0 x1 x2 x3 x4 r d, term7 x0 x1 x2 x3 x4 r d]
  exact collapse _ (h _) _ _

end Reference

theorem frame_r4 : Cert.quiescent_Reference4Ideal := by
  intro m ρ _
  exact (θ_run Cert.Reference4Ideal.defs _ _).mono
    (fun r h => ⟨fun c => (h c).2, Idealize.ShloMosaic.sem_eq_zero_of_no_sems (by decide) r.2⟩)
    (Cert.Reference4Ideal.Value.run (F := Ideal) m ρ)

theorem frame_r4_pre : Cert.quiescent_Reference4Ideal_pre_experts4 := fun m ρ _ => frame_r4 m ρ trivial

theorem algebraic4 : Cert.algebraic_Kernel4Ideal_Reference4Ideal := by
  intro m g m' g' hp hagree
  have h := Cert.Kernel4Ideal.Moe.te_lt m hp
  refine ⟨fun c => (Cert.Kernel4Ideal.Moe.dats m h 0 c).arrAt 3 Cert.Kernel4Ideal.grid0.N,
    (θ_run Cert.Kernel4Ideal.defs _ _).mono (fun r hr => hr.1) (Cert.Kernel4Ideal.Moe.run_blocks m g h), ?_⟩
  refine (θ_run Cert.Reference4Ideal.defs _ _).mono (fun r hr c => ⟨(hr c).1.trans ?_, (hr c).2⟩) (Cert.Reference4Ideal.Value.run (F := Ideal) m' g')
  obtain ⟨h0, h1, h2, h3, h4⟩ := hagree c
  refine Eq.trans ?_ (array_eq m h c).symm
  rw [Cert.Reference4Ideal.Read.val_main_v169_eq]
  show Cert.Reference4Ideal.Read.val_main_v169 (F := Ideal) (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2))
      (m' ((c.tc : Thread Cert.Reference4Ideal.nD Cert.Reference4Ideal.τ).loc Cert.Reference4Ideal.main_arg3))
      (m' ((c.tc : Thread Cert.Reference4Ideal.nD Cert.Reference4Ideal.τ).loc Cert.Reference4Ideal.main_arg4)) = _
  rw [h0, h1, h2, h3, h4]
  obtain rfl : c = 0 := Subsingleton.elim _ _
  funext i
  idx_vars i
  exact reference_eq _ _ _ _ _ i0 i1 h

end Cert.MoeUp

end
-- ==== Proof.DownBody.lean ====
/- The experts' down product: what a grid point leaves in its buffers, and the run from any memory whose table of
   experts is in range. -/
module

public import proofs.«01_k».proof.Defs
public import proofs.«01_k».proof.Proof.Gen.Kernel5Ideal.Launch
public import proofs.«01_k».proof.Proof.Gen.Kernel5Ideal.Skeleton
public import Idealize.ShloMosaic.Lib.Pipeline.FrameBody
public import Idealize.ShloMosaic.Lib.Pipeline.ValueKit
public import Idealize.ShloMosaic.Lib.Claim
public import Idealize.ShloMosaic.Lib.Ring
public import Idealize.ShloMosaic.Lib.Tactic
public import Idealize.ShloMosaic.Lib.WordCmp
public import Idealize.ShloMosaic.Lib.Pointwise

@[expose] public section

set_option maxRecDepth 16384

noncomputable section

namespace Cert.Kernel5Ideal.Moe

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branches -/

/-- Whether the point loads its expert's weights anew, from the words it read: the count, its expert, the expert before. -/
def newb (i : grid0.Coords) (v0 v4 v8 : BitVec 32) : BitVec 1 :=
  Scalar.cmpi .ne (Scalar.extui (Scalar.andi (Scalar.cmpi .slt (BitVec.ofNat 32 (i 1).val) v0)
    (Scalar.ori (Scalar.cmpi .eq (BitVec.ofNat 32 (i 1).val) 0#32) (Scalar.cmpi .ne v4 v8)))) (0#32)

theorem ne_extui (b : BitVec 1) : (Scalar.cmpi .ne (Scalar.extui b : BitVec 32) 0#32 : BitVec 1) = b := by
  revert b; decide

theorem cond2_eq (i : grid0.Coords) (v0 : BitVec 32) : k0_cond2 i v0 = Scalar.cmpi .slt (BitVec.ofNat 32 (i 1).val) v0 :=
  ne_extui _

theorem cond3_eq (i : grid0.Coords) (v0 : BitVec 32) : k0_cond3 i v0 = Scalar.xori (k0_cond2 i v0) 1#1 := by
  rw [cond2_eq]; exact ne_extui _

theorem xor_one (b : BitVec 1) : (Scalar.xori b 1#1 = 1#1) ↔ ¬ b = 1#1 := by
  revert b; decide

theorem cond3_iff (i : grid0.Coords) (v0 : BitVec 32) : k0_cond3 i v0 = 1#1 ↔ ¬ k0_cond2 i v0 = 1#1 := by
  rw [cond3_eq]; exact xor_one _

theorem newb_eq (i : grid0.Coords) (v0 v4 v8 : BitVec 32) : newb i v0 v4 v8
    = Scalar.andi (k0_cond2 i v0) (Scalar.ori (Scalar.cmpi .eq (BitVec.ofNat 32 (i 1).val) 0#32) (Scalar.cmpi .ne v4 v8)) := by
  rw [cond2_eq]; exact ne_extui _

theorem and_or_one (a b c : BitVec 1) : (Scalar.andi a (Scalar.ori b c) = 1#1) ↔ a = 1#1 ∧ (b = 1#1 ∨ c = 1#1) := by
  revert a b c; decide

theorem newb_used (i : grid0.Coords) (v0 v4 v8 : BitVec 32) (h : newb i v0 v4 v8 = 1#1) : k0_cond2 i v0 = 1#1 := by
  rw [newb_eq, and_or_one] at h; exact h.1

theorem not_newb (i : grid0.Coords) (v0 v4 v8 : BitVec 32) (h : ¬ newb i v0 v4 v8 = 1#1) (hu : k0_cond2 i v0 = 1#1) :
    (i 1).val ≠ 0 ∧ v4 = v8 := by
  rw [newb_eq, and_or_one] at h
  have hb := fun hb => h ⟨hu, Or.inl hb⟩
  have hc := fun hc => h ⟨hu, Or.inr hc⟩
  constructor
  · intro h0
    apply hb
    rw [h0]; decide
  · by_contra hne
    apply hc
    have e : ∀ b : Bool, b = true → BitVec.ofBool b = 1#1 := by decide
    exact e _ (bne_iff_ne.mpr hne)

/-- A tile before a used tile is used. -/
theorem used_pred (i i' : grid0.Coords) (v0 : BitVec 32) (h : (i' 1).val + 1 = (i 1).val) (hu : k0_cond2 i v0 = 1#1) :
    k0_cond2 i' v0 = 1#1 := by
  rw [cond2_eq] at hu ⊢
  have hi : (i 1).val < 72 := (i 1).isLt
  have e : ∀ n, n < 72 → ((Scalar.cmpi .slt (BitVec.ofNat 32 n) v0 : BitVec 1) = 1#1 ↔ (n : Int) < v0.toInt) := by
    intro n hn
    show BitVec.ofBool ((BitVec.ofNat 32 n).slt v0) = 1#1 ↔ _
    have e1 : (BitVec.ofNat 32 n).toInt = n := by
      rw [BitVec.toInt_eq_toNat_of_lt] <;> simp only [BitVec.toNat_ofNat] <;> omega
    have e : ∀ b : Bool, BitVec.ofBool b = 1#1 ↔ b = true := by decide
    rw [e, BitVec.slt, e1, decide_eq_true_iff]
  rw [e _ hi] at hu
  rw [e _ (by omega)]
  omega

/-! ## The body -/

/-- The body after its three table words. -/
def tail (i : grid0.Coords) (v0 v4 v8 : BitVec 32) (arg4 : Memref sig .tc .vmem S512x7168 .bf16) (harg4 : arg4.IsWhole) (arg5 : Memref sig .tc .vmem S1x7168x512 .f32) (harg5 : arg5.IsWhole) (arg6 : Memref sig .tc .vmem S512x512 .f32) (harg6 : arg6.IsWhole) (arg7 : Memref sig .tc .vmem S7168x512 .bf16) (harg7 : arg7.IsWhole) :
    Prog (TpuEff nD τ sig (Elt F) Λ₀ .tc) PUnit := do
  if newb i v0 v4 v8 = 1#1 then do
    let v19 : Vec F S1x7168x512 .f32 ← Prog.lift (.load arg5 (Rect.unit (s := S1x7168x512) ![0, 0, 0] S1x7168x512.size inb_S1x7168x512_S1x7168x512_0_0_0).toLoadRect (View.loadsAt_vmem h_S1x7168x512))
    let v22 : Vec F S7168x512 .bf16 ← Prog.lift (.load arg7 (Rect.unit (s := S7168x512) ![0, 0] S7168x512.size inb_S7168x512_S7168x512_0_0).toLoadRect (View.loadsAt_vmem h_S7168x512))
    Prog.lift (.store arg7 (Rect.unit (s := S7168x512) ![0, 0] S7168x512.size inb_S7168x512_S7168x512_0_0) (k0_pay1 v19) Finset.univ (View.stores_vmem h_S7168x512 (harg7.storeExact_slice rfl _ packedbf16_S7168x512_S7168x512_0_0) (fun _ => rfl)) (.inl rfl))
    pure ⟨⟩
  else do
    pure ⟨⟩
  if k0_h2 : k0_cond2 i v0 = 1#1 then do
    let v19 : Vec F S512x7168 .bf16 ← Prog.lift (.load arg4 (Rect.unit (s := S512x7168) ![0, 0] S512x7168.size inb_S512x7168_S512x7168_0_0).toLoadRect (View.loadsAt_vmem h_S512x7168))
    let v20 : Vec F S7168x512 .bf16 ← Prog.lift (.load arg7 (Rect.unit (s := S7168x512) ![0, 0] S7168x512.size inb_S7168x512_S7168x512_0_0).toLoadRect (View.loadsAt_vmem h_S7168x512))
    let v22 : Vec F S512x512 .f32 ← Prog.lift (.load arg6 (Rect.unit (s := S512x512) ![0, 0] S512x512.size inb_S512x512_S512x512_0_0).toLoadRect (View.loadsAt_vmem h_S512x512))
    Prog.lift (.store arg6 (Rect.unit (s := S512x512) ![0, 0] S512x512.size inb_S512x512_S512x512_0_0) (k0_pay2 v19 v20) Finset.univ (View.stores_vmem_bits_univ h_S512x512 rfl) (.inl rfl))
    pure ⟨⟩
  else do
    pure ⟨⟩
  if k0_h3 : k0_cond3 i v0 = 1#1 then do
    let v20 : Vec F S512x512 .f32 ← Prog.lift (.load arg6 (Rect.unit (s := S512x512) ![0, 0] S512x512.size inb_S512x512_S512x512_0_0).toLoadRect (View.loadsAt_vmem h_S512x512))
    Prog.lift (.store arg6 (Rect.unit (s := S512x512) ![0, 0] S512x512.size inb_S512x512_S512x512_0_0) (k0_pay3 (F := F)) Finset.univ (View.stores_vmem_bits_univ h_S512x512 rfl) (.inl rfl))
    pure ⟨⟩
  else do
    pure ⟨⟩
  pure ⟨⟩

/-- The body: the three words, then the rest. -/
theorem skel_eq (i : grid0.Coords) (arg2 : Memref sig .tc .smem S72 .i32) (harg2 : arg2.IsWhole) (arg3 : Memref sig .tc .smem S1 .i32) (harg3 : arg3.IsWhole) (arg4 : Memref sig .tc .vmem S512x7168 .bf16) (harg4 : arg4.IsWhole) (arg5 : Memref sig .tc .vmem S1x7168x512 .f32) (harg5 : arg5.IsWhole) (arg6 : Memref sig .tc .vmem S512x512 .f32) (harg6 : arg6.IsWhole) (arg7 : Memref sig .tc .vmem S7168x512 .bf16) (harg7 : arg7.IsWhole) :
    cc0_moe_down_skel (F := F) i arg2 harg2 arg3 harg3 arg4 harg4 arg5 harg5 arg6 harg6 arg7 harg7 = (do
      let v0 : Elt F .i32 ← smemLoad arg3 (Rect.unit (s := S1) ![0] S1.size inb_S1_S1_0) numel1_S1 rfl
      let v4 : Elt F .i32 ← smemLoad arg2 (Rect.unit (s := S72) (k0_off1 i) S1.size (k0_off1_inb i)) numel1_S1 rfl
      let v8 : Elt F .i32 ← smemLoad arg2 (Rect.unit (s := S72) (k0_off2 i) S1.size (k0_off2_inb i)) numel1_S1 rfl
      tail i v0 v4 v8 arg4 harg4 arg5 harg5 arg6 harg6 arg7 harg7) := rfl

abbrev rW : Rect S1x7168x512 := Rect.unit (s := S1x7168x512) ![0, 0, 0] S1x7168x512.size inb_S1x7168x512_S1x7168x512_0_0_0
abbrev rS : Rect S7168x512 := Rect.unit (s := S7168x512) ![0, 0] S7168x512.size inb_S7168x512_S7168x512_0_0
abbrev rX : Rect S512x7168 := Rect.unit (s := S512x7168) ![0, 0] S512x7168.size inb_S512x7168_S512x7168_0_0
abbrev rO : Rect S512x512 := Rect.unit (s := S512x512) ![0, 0] S512x512.size inb_S512x512_S512x512_0_0

/-- The scratch after a load of the weights block `w`. -/
def fillv (w : Vec F S1x7168x512 .f32) : Vec F S7168x512 .bf16 := View.canon [⟨rS, k0_pay1 (View.ld w rW)⟩]
/-- The output block of the rows `x` with the scratch at `s`. -/
def outv (x : Vec F S512x7168 .bf16) (s : Vec F S7168x512 .bf16) : Vec F S512x512 .f32 :=
  View.canon [⟨rO, k0_pay2 (View.ld x rX) (View.ld s rS)⟩]
/-- The output block of a tile past the last used one. -/
def zerov : Vec F S512x512 .f32 := View.canon [⟨rO, k0_pay3⟩]

theorem coverS (p0 : Vec F S7168x512 .bf16) (y : S7168x512.Idx) :
    ∃ pc ∈ ([⟨rS, p0⟩] : List (View.Piece (Elt F) S7168x512 .bf16)), y ∈ pc.1.set :=
  View.cover_of_tiled [⟨rS, p0⟩] S7168x512.size (by rfl) y
theorem coverO (p0 : Vec F S512x512 .f32) (y : S512x512.Idx) :
    ∃ pc ∈ ([⟨rO, p0⟩] : List (View.Piece (Elt F) S512x512 .f32)), y ∈ pc.1.set :=
  View.cover_of_tiled [⟨rO, p0⟩] S512x512.size (by rfl) y

section Body

set_option maxHeartbeats 1000000 in
/-- A used point that loads its expert's weights. -/
theorem tail_new (c : Dev nD) (E : Set ℕ) (i : grid0.Coords) (v0 v4 v8 : BitVec 32)
    (arg4 : Memref sig .tc .vmem S512x7168 .bf16) (harg4 : arg4.IsWhole) (arg5 : Memref sig .tc .vmem S1x7168x512 .f32) (harg5 : arg5.IsWhole) (arg6 : Memref sig .tc .vmem S512x512 .f32) (harg6 : arg6.IsWhole) (arg7 : Memref sig .tc .vmem S7168x512 .bf16) (harg7 : arg7.IsWhole)
    (x0 : Vec F S512x7168 .bf16) (x1 : Vec F S1x7168x512 .f32) (s : Vec F S7168x512 .bf16) (K : PUnit → sProp 𝕄)
    (hn : newb i v0 v4 v8 = 1#1) (hu : k0_cond2 i v0 = 1#1) (h3 : ¬ k0_cond3 i v0 = 1#1) :
    iprop(owns (c : Thread nD τ) arg4 fullShare x0 ∗ owns (c : Thread nD τ) arg5 fullShare x1 ∗ (∃ d, owns (c : Thread nD τ) arg6 fullShare d) ∗ owns (c : Thread nD τ) arg7 fullShare s
        ∗ (iprop(owns (c : Thread nD τ) arg4 fullShare x0 ∗ owns (c : Thread nD τ) arg5 fullShare x1 ∗ owns (c : Thread nD τ) arg6 fullShare (outv x0 (fillv x1)) ∗ owns (c : Thread nD τ) arg7 fullShare (fillv x1)) -∗ K ⟨⟩))
      ⊢ wp frame (wpE (defs₀ (F := F)) Variants.none c none) E (tail i v0 v4 v8 arg4 harg4 arg5 harg5 arg6 harg6 arg7 harg7) K := by
  unfold tail
  rw [if_pos hn, dif_pos hu, dif_neg h3]
  unfold owns
  iintro ⟨⟨%f0, %hf0, H0⟩, ⟨%f1, %hf1, H1⟩, ⟨%d2, %f2, -, H2⟩, ⟨%f3, %hf3, H3⟩, Hk⟩
  subst hf0 hf1 hf3
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (coverO _)]
    unfold outv fillv
    unfold tail_new.sl.v20
    rw [View.readCov_eq_canon']
    unfold tail_new.sl.H3_1
    rfl
  iexists _; isplitr
  swap; · iexact H3
  ipureintro
  exact View.read_writes_eq_canon _ _ _ (coverS _)

set_option maxHeartbeats 1000000 in
/-- A used point whose expert's weights are there already. -/
theorem tail_old (c : Dev nD) (E : Set ℕ) (i : grid0.Coords) (v0 v4 v8 : BitVec 32)
    (arg4 : Memref sig .tc .vmem S512x7168 .bf16) (harg4 : arg4.IsWhole) (arg5 : Memref sig .tc .vmem S1x7168x512 .f32) (harg5 : arg5.IsWhole) (arg6 : Memref sig .tc .vmem S512x512 .f32) (harg6 : arg6.IsWhole) (arg7 : Memref sig .tc .vmem S7168x512 .bf16) (harg7 : arg7.IsWhole)
    (x0 : Vec F S512x7168 .bf16) (x1 : Vec F S1x7168x512 .f32) (s : Vec F S7168x512 .bf16) (K : PUnit → sProp 𝕄)
    (hn : ¬ newb i v0 v4 v8 = 1#1) (hu : k0_cond2 i v0 = 1#1) (h3 : ¬ k0_cond3 i v0 = 1#1) :
    iprop(owns (c : Thread nD τ) arg4 fullShare x0 ∗ owns (c : Thread nD τ) arg5 fullShare x1 ∗ (∃ d, owns (c : Thread nD τ) arg6 fullShare d) ∗ owns (c : Thread nD τ) arg7 fullShare s
        ∗ (iprop(owns (c : Thread nD τ) arg4 fullShare x0 ∗ owns (c : Thread nD τ) arg5 fullShare x1 ∗ owns (c : Thread nD τ) arg6 fullShare (outv x0 s) ∗ owns (c : Thread nD τ) arg7 fullShare s) -∗ K ⟨⟩))
      ⊢ wp frame (wpE (defs₀ (F := F)) Variants.none c none) E (tail i v0 v4 v8 arg4 harg4 arg5 harg5 arg6 harg6 arg7 harg7) K := by
  unfold tail
  rw [if_neg hn, dif_pos hu, dif_neg h3]
  unfold owns
  iintro ⟨⟨%f0, %hf0, H0⟩, ⟨%f1, %hf1, H1⟩, ⟨%d2, %f2, -, H2⟩, ⟨%f3, %hf3, H3⟩, Hk⟩
  subst hf0 hf1 hf3
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverO _)
  iexists f3; isplitr; · ipureintro; rfl
  iexact H3

set_option maxHeartbeats 1000000 in
/-- A point past the last used tile. -/
theorem tail_none (c : Dev nD) (E : Set ℕ) (i : grid0.Coords) (v0 v4 v8 : BitVec 32)
    (arg4 : Memref sig .tc .vmem S512x7168 .bf16) (harg4 : arg4.IsWhole) (arg5 : Memref sig .tc .vmem S1x7168x512 .f32) (harg5 : arg5.IsWhole) (arg6 : Memref sig .tc .vmem S512x512 .f32) (harg6 : arg6.IsWhole) (arg7 : Memref sig .tc .vmem S7168x512 .bf16) (harg7 : arg7.IsWhole)
    (x0 : Vec F S512x7168 .bf16) (x1 : Vec F S1x7168x512 .f32) (s : Vec F S7168x512 .bf16) (K : PUnit → sProp 𝕄)
    (hn : ¬ newb i v0 v4 v8 = 1#1) (hu : ¬ k0_cond2 i v0 = 1#1) (h3 : k0_cond3 i v0 = 1#1) :
    iprop(owns (c : Thread nD τ) arg4 fullShare x0 ∗ owns (c : Thread nD τ) arg5 fullShare x1 ∗ (∃ d, owns (c : Thread nD τ) arg6 fullShare d) ∗ owns (c : Thread nD τ) arg7 fullShare s
        ∗ (iprop(owns (c : Thread nD τ) arg4 fullShare x0 ∗ owns (c : Thread nD τ) arg5 fullShare x1 ∗ owns (c : Thread nD τ) arg6 fullShare (zerov (F := F)) ∗ owns (c : Thread nD τ) arg7 fullShare s) -∗ K ⟨⟩))
      ⊢ wp frame (wpE (defs₀ (F := F)) Variants.none c none) E (tail i v0 v4 v8 arg4 harg4 arg5 harg5 arg6 harg6 arg7 harg7) K := by
  unfold tail
  rw [if_neg hn, dif_neg hu, dif_pos h3]
  unfold owns
  iintro ⟨⟨%f0, %hf0, H0⟩, ⟨%f1, %hf1, H1⟩, ⟨%d2, %f2, -, H2⟩, ⟨%f3, %hf3, H3⟩, Hk⟩
  subst hf0 hf1 hf3
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverO _)
  iexists f3; isplitr; · ipureintro; rfl
  iexact H3

/-- What the body leaves in the scratch, from what it found there. -/
def scr (i : grid0.Coords) (v0 v4 v8 : BitVec 32) (x1 : Vec F S1x7168x512 .f32) (s : Vec F S7168x512 .bf16) : Vec F S7168x512 .bf16 := if newb i v0 v4 v8 = 1#1 then fillv x1 else s
/-- What it leaves in the output block, from what it leaves in the scratch. -/
def outw (i : grid0.Coords) (v0 : BitVec 32) (x0 : Vec F S512x7168 .bf16) (s : Vec F S7168x512 .bf16) : Vec F S512x512 .f32 := if k0_cond2 i v0 = 1#1 then outv x0 s else zerov

theorem sound_tail (c : Dev nD) (E : Set ℕ) (i : grid0.Coords) (v0 v4 v8 : BitVec 32)
    (arg4 : Memref sig .tc .vmem S512x7168 .bf16) (harg4 : arg4.IsWhole) (arg5 : Memref sig .tc .vmem S1x7168x512 .f32) (harg5 : arg5.IsWhole) (arg6 : Memref sig .tc .vmem S512x512 .f32) (harg6 : arg6.IsWhole) (arg7 : Memref sig .tc .vmem S7168x512 .bf16) (harg7 : arg7.IsWhole)
    (x0 : Vec F S512x7168 .bf16) (x1 : Vec F S1x7168x512 .f32) (s : Vec F S7168x512 .bf16) (K : PUnit → sProp 𝕄) :
    iprop(owns (c : Thread nD τ) arg4 fullShare x0 ∗ owns (c : Thread nD τ) arg5 fullShare x1 ∗ (∃ d, owns (c : Thread nD τ) arg6 fullShare d) ∗ owns (c : Thread nD τ) arg7 fullShare s
        ∗ (iprop(owns (c : Thread nD τ) arg4 fullShare x0 ∗ owns (c : Thread nD τ) arg5 fullShare x1 ∗ owns (c : Thread nD τ) arg6 fullShare (outw i v0 x0 (scr i v0 v4 v8 x1 s)) ∗ owns (c : Thread nD τ) arg7 fullShare (scr i v0 v4 v8 x1 s)) -∗ K ⟨⟩))
      ⊢ wp frame (wpE (defs₀ (F := F)) Variants.none c none) E (tail i v0 v4 v8 arg4 harg4 arg5 harg5 arg6 harg6 arg7 harg7) K := by
  unfold scr outw
  by_cases hu : k0_cond2 i v0 = 1#1
  · have h3 : ¬ k0_cond3 i v0 = 1#1 := fun h => (cond3_iff i v0).1 h hu
    by_cases hn : newb i v0 v4 v8 = 1#1
    · simp only [if_pos hn, if_pos hu]
      exact tail_new c E i v0 v4 v8 arg4 harg4 arg5 harg5 arg6 harg6 arg7 harg7 x0 x1 s K hn hu h3
    · simp only [if_neg hn, if_pos hu]
      exact tail_old c E i v0 v4 v8 arg4 harg4 arg5 harg5 arg6 harg6 arg7 harg7 x0 x1 s K hn hu h3
  · have hn : ¬ newb i v0 v4 v8 = 1#1 := fun h => hu (newb_used i v0 v4 v8 h)
    simp only [if_neg hn, if_neg hu]
    exact tail_none c E i v0 v4 v8 arg4 harg4 arg5 harg5 arg6 harg6 arg7 harg7 x0 x1 s K hn hu ((cond3_iff i v0).2 hu)

end Body

end Cert.Kernel5Ideal.Moe

end
-- ==== Proof.DownRun.lean ====
/- The experts' down product: the launch at the tables' contents, and the run. -/
module

public import proofs.«01_k».proof.Proof.DownBody
public import proofs.«01_k».proof.Proof.Gen.Pre_experts5

@[expose] public section

set_option maxRecDepth 16384

noncomputable section

namespace Cert.Kernel5Ideal.Moe

open Cert.Kernel5Ideal Cert.Kernel5Ideal.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables -/

/-- The tables' contents at launch. -/
def pfm : pre0.Contents (Elt F) := fun k => m (((0 : Dev nD) : Thread nD τ).loc (pre0.ref k))
/-- The tiles' experts. -/
def teW : S72.Idx → BitVec 32 := fun x => pfm m 0 x
/-- The number of used tiles. -/
def nuW : BitVec 32 := (fun x : S1.Idx => pfm m 1 x) (ix1 0)

theorem tr1 (i : grid0.Coords) :
    cc0_transform_1 k0_off1_inb numel1_S1 (pfm m) i = ![(teW m (ix1 (show Fin 72 from i 1))).toNat, 0, (i 0).val] := by
  have h0 : (i 0).val < 4 := (i 0).isLt
  have h1 : (i 1).val < 72 := (i 1).isLt
  funext a
  fin_cases a
  · show (pfm m 0 _).toNat = (pfm m 0 _).toNat
    congr 2
    funext b
    fin_cases b
    apply Fin.ext
    show (BitVec.ofNat 32 (i 1).val).toNat + _ = (i 1).val
    simp only [BitVec.toNat_ofNat]
    rw [Nat.mod_eq_of_lt (by omega)]
    rfl
  · rfl
  · show (BitVec.ofNat 32 (i 0).val).toNat = (i 0).val
    simp only [BitVec.toNat_ofNat]
    omega

theorem ok_pfm (h : ∀ x, (teW m x).toNat < 8) : ok0 (pfm m) := by
  unfold ok0
  intro i
  refine ⟨?_, Or.inl rfl⟩
  rw [tr1]
  have h0 : (i 0).val < 4 := (i 0).isLt
  have h1 := h (ix1 (show Fin 72 from i 1))
  intro a
  fin_cases a
  · show ((teW m (ix1 (show Fin 72 from i 1))).toNat + 1) * 1 ≤ 8; omega
  · show (0 + 1) * 7168 ≤ 7168; omega
  · show ((i 0).val + 1) * 512 ≤ 2048; omega

section Data

variable (h : ∀ x, (teW m x).toNat < 8)

def adm : (pcfg0 (F := F)).Adm := ⟨pfm m, ok_pfm m h⟩

abbrev cfgA : Pipeline.Cfg sig Λ₀ := cfg0 (adm m h)

/-- Window `w`'s block at point `t`. -/
def iblk (c : Dev nD) (w : Fin (cfgA m h).W) (t : Fin (cfgA m h).N) : (((cfgA m h).win w).xblock ((cfgA m h).grid.coords t)).Idx → Elt F ((cfgA m h).win w).elt :=
  (((cfgA m h).win w).blk t).view.read (Elt F) (m ((c : Thread nD τ).loc (Pipeline.arrRef spec0 w)))

/-- The rows of point `t`, and its expert's weights. -/
abbrev xb (c : Dev nD) (t : Fin grid0.N) : Vec F S512x7168 .bf16 := iblk m h c 0 t
abbrev wb (c : Dev nD) (t : Fin grid0.N) : Vec F S1x7168x512 .f32 := iblk m h c 1 t

theorem idx0 : ∀ t : Fin grid0.N, cc0_transform_0 (grid0.coords t) = ![(grid0.coords t 1).val, 0] := by decide +kernel
theorem idx2 : ∀ t : Fin grid0.N, cc0_transform_2 (grid0.coords t) = ![(grid0.coords t 1).val, (grid0.coords t 0).val] := by decide +kernel
theorem coords_eq : ∀ t : Fin grid0.N, (grid0.coords t 0).val = t.val / 72 ∧ (grid0.coords t 1).val = t.val % 72 := by decide +kernel

theorem index1 (t : Fin grid0.N) : ((cfgA m h).win 1).index t = ![(teW m (ix1 (show Fin 72 from grid0.coords t 1))).toNat, 0, (grid0.coords t 0).val] :=
  tr1 m _

/-- The weights' block at a point, entry by entry. -/
theorem wb_at (c : Dev nD) (t : Fin grid0.N) (r : Fin 7168) (d : Fin 512) :
    wb m h c t (ix3 0 r d) = (m ((c : Thread nD τ).loc main_arg3) : Vec F S8x7168x2048 .f32)
      (ix3 ⟨(teW m (ix1 (show Fin 72 from grid0.coords t 1))).toNat, h _⟩ r ⟨(grid0.coords t 0).val * 512 + d.val, by have : (grid0.coords t 0).val < 4 := (grid0.coords t 0).isLt; omega⟩) := by
  blk_ext [iblk, index1 m h t]

theorem wb_congr (c : Dev nD) (t t' : Fin grid0.N) (h0 : (grid0.coords t 0).val = (grid0.coords t' 0).val)
    (h1 : teW m (ix1 (show Fin 72 from grid0.coords t 1)) = teW m (ix1 (show Fin 72 from grid0.coords t' 1))) :
    wb m h c t = wb m h c t' := by
  funext y
  idx_vars y
  obtain rfl : y0 = 0 := Subsingleton.elim _ _
  rw [wb_at, wb_at]
  congr 1
  simp only [h0, h1]

/-! ## The invariant and the data -/

/-- Before a point, the scratch holds the weights of the point before it, if that one is used. -/
def inv (c : Dev nD) (t : Fin (grid0.N + 1)) (s : Vec F S7168x512 .bf16) : Prop :=
  ∀ t' : Fin grid0.N, t'.val + 1 = t.val → k0_cond2 (grid0.coords t') (nuW m) = 1#1 → s = fillv (wb m h c t')

def scrPts (c : Dev nD) (t : Fin (grid0.N + 1)) : sProp 𝕄 :=
  iprop(∃ s, ⌜inv m h c t s⌝ ∗ owns (c : Thread nD τ) (Memref.whole cc0_scratch0) fullShare s)

def outb (c : Dev nD) (t : Fin grid0.N) : Vec F S512x512 .f32 := outw (grid0.coords t) (nuW m) (xb m h c t) (fillv (wb m h c t))

def dats (_ : Fin 1) (c : Dev nD) : Dat τ (Elt F) Unit ℕ (UR sig nD τ) ℕ (cfgA m h) c where
  A w := m ((c : Thread nD τ).loc (Pipeline.arrRef spec0 w))
  after w t := match w with
    | ⟨0, _⟩ => xb m h c t
    | ⟨1, _⟩ => wb m h c t
    | ⟨2, _⟩ => outb m h c t
  Φ t := iprop(scrPts m h c t ∗ (∃ r, prngReg c r) ∗ Pipeline.prefHeld pre0 c (fun _ => fullShare.right) (pfm m))
  q _ := fullShare
  owed _ := 0

theorem after0 (c : Dev nD) (t : Fin grid0.N) : (dats m h 0 c).after 0 t = xb m h c t := by dsimp only [dats]; rfl
theorem after1 (c : Dev nD) (t : Fin grid0.N) : (dats m h 0 c).after 1 t = wb m h c t := by dsimp only [dats]; rfl
theorem after2 (c : Dev nD) (t : Fin grid0.N) : (dats m h 0 c).after 2 t = outb m h c t := by dsimp only [dats]; rfl

theorem A_eq (c : Dev nD) (w : Fin (cfgA m h).W) : (dats m h 0 c).A w = m ((c : Thread nD τ).loc (Pipeline.arrRef spec0 w)) := by
  dsimp only [dats]

theorem before0 (c : Dev nD) (t : Fin grid0.N) (d) : (dats m h 0 c).before 0 t d = xb m h c t :=
  ((dats m h 0 c).before_in_eq_fetched 0 rfl (fun _ => rfl) (fun _ _ _ => rfl) (fun t => by rw [after0]; unfold Dat.blockOf xb iblk; rw [A_eq]; try rfl) t d).trans
    (by unfold Dat.fetched Dat.blockOf xb iblk; rw [A_eq]; try rfl)
theorem before1 (c : Dev nD) (t : Fin grid0.N) (d) : (dats m h 0 c).before 1 t d = wb m h c t :=
  ((dats m h 0 c).before_in_eq_fetched 1 rfl (fun _ => rfl) (fun _ _ _ => rfl) (fun t => by rw [after1]; unfold Dat.blockOf wb iblk; rw [A_eq]; try rfl) t d).trans
    (by unfold Dat.fetched Dat.blockOf wb iblk; rw [A_eq]; try rfl)

/-- The output window is written at every point. -/
theorem idle2 (pf : pre0.Contents (Elt F)) (i : grid0.Coords) : idle0 pf 2 i = false := by
  have e : ∀ v : BitVec 32, (!(k0_cond2 i v == 1#1) && !(k0_cond3 i v == 1#1)) = false := by
    intro v
    rw [cond3_eq]
    generalize k0_cond2 i v = b
    revert b; decide
  exact e _

/-- The expert of the tile before point `t`'s. -/
theorem off2_eq (i : grid0.Coords) : k0_off2 i = ![(i 1).val - 1] := by
  have hi : (i 1).val < 72 := (i 1).isLt
  have e : ∀ n : Fin 72, (Scalar.indexCast (Scalar.maxsi (Scalar.subi (BitVec.ofNat 32 n.val) 1#32) 0#32) : Index).toNat = n.val - 1 := by
    decide +kernel
  exact congrArg (fun n => ![n]) (e ⟨(i 1).val, hi⟩)

theorem off1_eq (i : grid0.Coords) : k0_off1 i = ![(i 1).val] := by
  have hi : (i 1).val < 72 := (i 1).isLt
  have e : ∀ n : Fin 72, (Scalar.indexCast (BitVec.ofNat 32 n.val) : Index).toNat = n.val := by
    decide +kernel
  exact congrArg (fun n => ![n]) (e ⟨(i 1).val, hi⟩)

def tePrev (i : grid0.Coords) : BitVec 32 := teW m (ix1 (⟨(i 1).val - 1, by have : (i 1).val < 72 := (i 1).isLt; omega⟩ : Fin 72))
def teCur (i : grid0.Coords) : BitVec 32 := teW m (ix1 (show Fin 72 from i 1))

/-- The step of the invariant. -/
theorem scr_step (c : Dev nD) (t : Fin grid0.N) (s : Vec F S7168x512 .bf16) (hs : inv m h c t.castSucc s)
    (hu : k0_cond2 (grid0.coords t) (nuW m) = 1#1) :
    scr (grid0.coords t) (nuW m) (teCur m (grid0.coords t)) (tePrev m (grid0.coords t)) (wb m h c t) s = fillv (wb m h c t) := by
  unfold scr
  split
  · rfl
  · next hn =>
    obtain ⟨h0, he⟩ := not_newb _ _ _ _ hn hu
    obtain ⟨e0, e1⟩ := coords_eq t
    have hlt : t.val < 288 := t.isLt
    have ht : t.val - 1 < grid0.N := lt_of_le_of_lt (Nat.sub_le _ _) t.isLt
    have f0 : (grid0.coords ⟨t.val - 1, ht⟩ 0).val = (t.val - 1) / 72 := (coords_eq ⟨t.val - 1, ht⟩).1
    have f1 : (grid0.coords ⟨t.val - 1, ht⟩ 1).val = (t.val - 1) % 72 := (coords_eq ⟨t.val - 1, ht⟩).2
    have g1 : (grid0.coords ⟨t.val - 1, ht⟩ 1).val + 1 = (grid0.coords t 1).val := by
      rw [e1, f1]; rw [e1] at h0; omega
    have g0 : (grid0.coords ⟨t.val - 1, ht⟩ 0).val = (grid0.coords t 0).val := by
      rw [e0, f0]; rw [e1] at h0; omega
    rw [hs ⟨t.val - 1, ht⟩ (by show t.val - 1 + 1 = t.val; rw [e1] at h0; omega) (used_pred _ _ _ g1 hu)]
    congr 1
    apply wb_congr m h c _ _ g0
    refine Eq.trans ?_ he.symm
    unfold tePrev
    congr 2
    apply Fin.ext
    show (grid0.coords ⟨t.val - 1, ht⟩ 1).val = (grid0.coords t 1).val - 1
    omega

theorem inv_step (c : Dev nD) (t : Fin grid0.N) (s : Vec F S7168x512 .bf16) (hs : inv m h c t.castSucc s) :
    inv m h c t.succ (scr (grid0.coords t) (nuW m) (teCur m (grid0.coords t)) (tePrev m (grid0.coords t)) (wb m h c t) s) := by
  intro t' ht hu
  obtain rfl : t' = t := Fin.ext (by simpa using ht)
  exact scr_step m h c t' s hs hu

theorem out_step (c : Dev nD) (t : Fin grid0.N) (s : Vec F S7168x512 .bf16) (hs : inv m h c t.castSucc s) :
    outw (grid0.coords t) (nuW m) (xb m h c t) (scr (grid0.coords t) (nuW m) (teCur m (grid0.coords t)) (tePrev m (grid0.coords t)) (wb m h c t) s)
      = outb m h c t := by
  unfold outb outw
  split
  · next hu => rw [scr_step m h c t s hs hu]
  · rfl

/-! ## The body obligation -/

/-- The two tables' buffers. -/
def tabT (c : Dev nD) : Buf (Elt F) ((c : Thread nD τ).loc main_arg0) := pfm m 0
def tabN (c : Dev nD) : Buf (Elt F) ((c : Thread nD τ).loc main_arg1) := pfm m 1

/-- The two tables, apart. -/
theorem prefHeld_pair (c : Dev nD) :
    (Pipeline.prefHeld pre0 c (fun _ => fullShare.right) (pfm m) : sProp 𝕄)
      = iprop((((c : Thread nD τ).loc main_arg0) ↦{fullShare.right} tabT m c) ∗ (((c : Thread nD τ).loc main_arg1) ↦{fullShare.right} tabN m c)) := by
  unfold Pipeline.prefHeld
  rw [show (Finset.univ : Finset (Fin 2)) = insert 0 {1} from by decide, bigSep_insert (by decide), bigSep_singleton]
  rfl

theorem rd_nu (c : Dev nD) (x : S1.Idx) :
    (((Memref.whole main_arg1).access (Rect.unit (s := S1) ![0] S1.size inb_S1_S1_0) : View sig .tc _ _ _).read (Elt F) (tabN m c)) x = nuW m := by
  show pfm m 1 _ = pfm m 1 _
  congr 1
  funext a
  fin_cases a
  exact Subsingleton.elim (α := Fin 1) _ _

theorem rd_cur (c : Dev nD) (i : grid0.Coords) (x : S1.Idx) :
    (((Memref.whole main_arg0).access (Rect.unit (s := S72) (k0_off1 i) S1.size (k0_off1_inb i)) : View sig .tc _ _ _).read (Elt F) (tabT m c)) x = teCur m i := by
  show pfm m 0 _ = pfm m 0 _
  congr 1
  funext a
  fin_cases a
  apply Fin.ext
  show k0_off1 i 0 + 1 * (x 0).val = (i 1).val
  have : (x 0).val < 1 := (x 0).isLt
  rw [off1_eq]
  show (i 1).val + 1 * (x 0).val = (i 1).val
  omega

theorem rd_prev (c : Dev nD) (i : grid0.Coords) (x : S1.Idx) :
    (((Memref.whole main_arg0).access (Rect.unit (s := S72) (k0_off2 i) S1.size (k0_off2_inb i)) : View sig .tc _ _ _).read (Elt F) (tabT m c)) x = tePrev m i := by
  show pfm m 0 _ = pfm m 0 _
  congr 1
  funext a
  fin_cases a
  apply Fin.ext
  show k0_off2 i 0 + 1 * (x 0).val = (i 1).val - 1
  have : (x 0).val < 1 := (x 0).isLt
  rw [off2_eq]
  show (i 1).val - 1 + 1 * (x 0).val = (i 1).val - 1
  omega

abbrev st0 (t : Fin grid0.N) := ((cfgA m h).win 0).stage ((cfgA m h).slots t 0)
abbrev st1 (t : Fin grid0.N) := ((cfgA m h).win 1).stage ((cfgA m h).slots t 1)
abbrev st2 (t : Fin grid0.N) := ((cfgA m h).win 2).stage ((cfgA m h).slots t 2)

/-- The body at point `t`. -/
abbrev bodyAt (t : Fin grid0.N) : Prog (TpuEff nD τ sig (Elt F) Λ₀ .tc) PUnit :=
  cc0_moe_down (grid0.coords t) (Memref.whole main_arg0) (Memref.isWhole_whole _) (Memref.whole main_arg1) (Memref.isWhole_whole _)
    (spec0_0.stage ((cfgA m h).slots t 0)) (hstage0_0 (((cfgA m h).slots t 0).cast nbuf0_0)) (spec0_1.stage ((cfgA m h).slots t 1)) (hstage0_1 (((cfgA m h).slots t 1).cast nbuf0_1))
    (spec0_2.stage ((cfgA m h).slots t 2)) (hstage0_2 (((cfgA m h).slots t 2).cast nbuf0_2)) (Memref.whole cc0_scratch0) (Memref.isWhole_whole _)

theorem bodyAt_eq (t : Fin grid0.N) : bodyAt m h t = (do
      let v0 : Elt F .i32 ← smemLoad (Memref.whole main_arg1) (Rect.unit (s := S1) ![0] S1.size inb_S1_S1_0) numel1_S1 rfl
      let v4 : Elt F .i32 ← smemLoad (Memref.whole main_arg0) (Rect.unit (s := S72) (k0_off1 (grid0.coords t)) S1.size (k0_off1_inb _)) numel1_S1 rfl
      let v8 : Elt F .i32 ← smemLoad (Memref.whole main_arg0) (Rect.unit (s := S72) (k0_off2 (grid0.coords t)) S1.size (k0_off2_inb _)) numel1_S1 rfl
      tail (grid0.coords t) v0 v4 v8 (spec0_0.stage ((cfgA m h).slots t 0)) (hstage0_0 (((cfgA m h).slots t 0).cast nbuf0_0)) (spec0_1.stage ((cfgA m h).slots t 1)) (hstage0_1 (((cfgA m h).slots t 1).cast nbuf0_1))
        (spec0_2.stage ((cfgA m h).slots t 2)) (hstage0_2 (((cfgA m h).slots t 2).cast nbuf0_2)) (Memref.whole cc0_scratch0) (Memref.isWhole_whole _)) := by
  unfold bodyAt
  rw [cc0_moe_down_eq_skeleton]
  exact skel_eq _ _ _ _ _ _ _ _ _ _ _ _ _

def bodyPre (c : Dev nD) (t : Fin grid0.N) : sProp 𝕄 :=
  iprop((dats m h 0 c).Φ t.castSucc ∗ (dats m h 0 c).owesAt () t.castSucc
    ∗ (∃ d, owns (c : Thread nD τ) (st0 m h t) fullShare ((dats m h 0 c).before 0 t d))
    ∗ (∃ d, owns (c : Thread nD τ) (st1 m h t) fullShare ((dats m h 0 c).before 1 t d))
    ∗ (∃ d, owns (c : Thread nD τ) (st2 m h t) fullShare ((dats m h 0 c).before 2 t d)))

def bodyPost (c : Dev nD) (t : Fin grid0.N) : sProp 𝕄 :=
  iprop((dats m h 0 c).Φ t.succ ∗ (dats m h 0 c).owesAt () t.succ
    ∗ owns (c : Thread nD τ) (st0 m h t) fullShare ((dats m h 0 c).after 0 t)
    ∗ owns (c : Thread nD τ) (st1 m h t) fullShare ((dats m h 0 c).after 1 t)
    ∗ owns (c : Thread nD τ) (st2 m h t) fullShare ((dats m h 0 c).after 2 t))

theorem Φ_eq (c : Dev nD) (t : Fin (grid0.N + 1)) : (dats m h 0 c).Φ t
    = iprop(scrPts m h c t ∗ (∃ r, prngReg c r) ∗ Pipeline.prefHeld pre0 c (fun _ => fullShare.right) (pfm m)) := by
  dsimp only [dats]

set_option maxHeartbeats 1000000 in
theorem sound_body (c : Dev nD) (t : Fin grid0.N) :
    bodyPre m h c t ⊢ wp frame (wpE (defs₀ (F := F)) Variants.none c none) Set.univ (bodyAt m h t) (fun _ => bodyPost m h c t) := by
  rw [bodyAt_eq]
  unfold bodyPre bodyPost
  simp only [before0, before1]
  rw [show (dats m h 0 c).owesAt () t.succ = (dats m h 0 c).owesAt () t.castSucc from rfl, after0, after1, after2, Φ_eq, Φ_eq, prefHeld_pair]
  unfold scrPts smemLoad smemLoadElt
  iintro ⟨⟨⟨%s, %hs, HS⟩, HR, HT, HN⟩, Ho, ⟨%d0, H0⟩, ⟨%d1, H1⟩, ⟨%d2, H2⟩⟩
  simp only [Prog.bind_op, Prog.bind_ret]
  iapply (wp_load_rect Variants.none (c : Thread nD τ) none Set.univ (m := Memref.whole main_arg1) (r := Rect.unit (s := S1) ![0] S1.size inb_S1_S1_0) (Finset.subset_univ _)) $$ HN
  iintro HN
  iapply (wp_load_rect Variants.none (c : Thread nD τ) none Set.univ (m := Memref.whole main_arg0) (r := Rect.unit (s := S72) (k0_off1 (grid0.coords t)) S1.size (k0_off1_inb _)) (Finset.subset_univ _)) $$ HT
  iintro HT
  iapply (wp_load_rect Variants.none (c : Thread nD τ) none Set.univ (m := Memref.whole main_arg0) (r := Rect.unit (s := S72) (k0_off2 (grid0.coords t)) S1.size (k0_off2_inb _)) (Finset.subset_univ _)) $$ HT
  iintro HT
  rw [rd_nu m c, rd_cur m c, rd_prev m c]
  iapply (sound_tail c Set.univ (grid0.coords t) (nuW m) (teCur m (grid0.coords t)) (tePrev m (grid0.coords t)) _ _ _ _ _ _ _ _ (xb m h c t) (wb m h c t) s _)
  isplitl [H0]; · iexact H0
  isplitl [H1]; · iexact H1
  isplitl [H2]; · iexists _; iexact H2
  isplitl [HS]; · iexact HS
  iintro ⟨H0, H1, H2, HS⟩
  isplitl [HS HR HT HN]
  · isplitl [HS]
    · iexists _; isplitr
      swap; · iexact HS
      ipureintro; exact inv_step m h c t s hs
    isplitl [HR]; · iexact HR
    isplitl [HT]; · iexact HT
    iexact HN
  isplitl [Ho]; · iexact Ho
  isplitl [H0]; · iexact H0
  isplitl [H1]; · iexact H1
  rw [out_step m h c t s hs]
  iexact H2

theorem defs_row (t : Fin grid0.N) :
    defs₀ (F := F) .tc (cfgA m h).body ((cfgA m h).bodyArgs t ((cfgA m h).slots t)) = bodyAt m h t := by
  unfold defs₀; rw [Defs.onTc_tc]

theorem body_obligation (c : Dev nD) : BodyObligation (dats m h 0 c) (defs₀ (F := F)) Variants.none () Set.univ := fun t => by
  rw [bigSep_W0, bigSep_W0, defs_row m h t]
  refine triple_restated (sound_body m h c t) rfl .rfl fun _ => ?_
  unfold bodyPost
  iintro ⟨A, B, C, D, E⟩
  isplitl [A]; · iexact A
  isplitl [B]; · iexact B
  isplitl [C]; · iexact C
  isplitl [D]; · iexact D
  simp only [show (cfgA m h).idle 2 ((cfgA m h).grid.coords t) = false from idle2 _ _]
  have e : idle0 (F := F) (adm m h).1 2 ((pcfg0.gridAt (adm m h).1).coords t) = false := idle2 _ _
  rw [e]
  iexact E

/-! ## The run -/

omit [FloatOps F] in
theorem scr_in (c : Dev nD) : (iprop(∃ f : Buf (Elt F) ((c : Thread nD τ).loc cc0_scratch0), ((c : Thread nD τ).loc cc0_scratch0) ↦{fullShare} f) : sProp 𝕄)
    ⊢ iprop(∃ s, owns (c : Thread nD τ) (Memref.whole cc0_scratch0) fullShare s) := by
  simp only [owns_whole_eq]
  iintro ⟨%f, H⟩; iexists f; iexists f; isplitr; · ipureintro; rfl
  iexact H

omit [FloatOps F] in
theorem scr_out (c : Dev nD) (s) : (owns (c : Thread nD τ) (Memref.whole cc0_scratch0) fullShare s : sProp 𝕄)
    ⊢ (iprop(∃ f : Buf (Elt F) ((c : Thread nD τ).loc cc0_scratch0), ((c : Thread nD τ).loc cc0_scratch0) ↦{fullShare} f) : sProp 𝕄) := by
  rw [owns_whole_eq]
  iintro ⟨%f, %_, H⟩; iexists f; iexact H

theorem hin (c : Dev nD) : iprop(Pipeline.ΦA spec0 c ∗ Pipeline.ΦT pre0 (pfm m) c) ⊢ (dats m h 0 c).Φ 0 := by
  rw [Φ_eq]
  unfold Pipeline.ΦA Pipeline.ΦT scrPts
  rw [scopedRest0_eq]
  iintro ⟨⟨HS, HR⟩, HT⟩
  isplitl [HS]
  · ihave HS2 := (scr_in (F := F) c) $$ HS
    icases HS2 with ⟨%s, HS2⟩
    iexists s
    isplitr
    · ipureintro
      exact fun t' ht => absurd ht (Nat.succ_ne_zero _)
    iexact HS2
  isplitl [HR]; · iexact HR
  iexact HT

theorem hout (c : Dev nD) : (dats m h 0 c).Φ (Fin.last grid0.N) ⊢ Pipeline.ΦA spec0 c := by
  rw [Φ_eq]
  unfold Pipeline.ΦA scrPts
  rw [scopedRest0_eq]
  iintro ⟨⟨%s, %_, HS⟩, HR, HT⟩
  isplitl [HS]
  · iapply (scr_out (F := F) c s); iexact HS
  iexact HR

abbrev V (c : Dev nD) (b : Ref sig .tc) : Buf (Elt F) ((c : Thread nD τ).loc b) := m ((c : Thread nD τ).loc b)

abbrev datsP : (p : Fin 1) → (c : Dev nD) → Dat τ (Elt F) Unit ℕ (UR sig nD τ) ℕ (Pipeline.pin (pcfgs (F := F)) (fun _ => adm m h) p) c :=
  fun p c => dats m h p c

set_option backward.isDefEq.respectTransparency.types false in
set_option maxHeartbeats 800000 in
/-- Every fair execution ends, with the pipeline's arrays at what its data says and the counters at zero. -/
theorem run_main : θ_run defs (onTc (τ := τ) (main (F := F))) (s₀ m ρ)
    (fun r => Pipeline.FramePost (Pipeline.pin (pcfgs (F := F)) (fun _ => adm m h)) (datsP m h) 0 (V m) r ∧ r.2.sem = fun _ => 0) :=
  Pipeline.θ_run_frameP_track (Q' := _) (pcfgs (F := F)) (fun _ => adm m h) (datsP m h) (0 : Fin 1) launch0 defs₀ Variants.none m ρ main
    (hbody := fun c => (body_obligation m h c).loose) (hshare := fun c => (dats m h 0 c).share_full fun _ => rfl)
    (howed := fun _ _ => rfl) (V := V m) (hmain := Pipeline.hmainP_region (pcfgs (F := F)) 0 defs₀ Variants.none m main (fun _ => rfl)) (hA := A_eq m h)
    (hpf := fun c k => by obtain rfl : c = 0 := Subsingleton.elim _ _; rfl) (hin := hin m h) (hout := hout m h)

theorem rest0 : ∀ w : Fin 3, (spec0 w).arr.view.ref ≠ main_arg0 := by decide
theorem rest1 : ∀ w : Fin 3, (spec0 w).arr.view.ref ≠ main_arg1 := by decide

/-- The run: the result array, and the arguments as they were. -/
theorem run_blocks : θ_run defs (onTc (τ := τ) (main (F := F))) ⟨m, fun _ => 0, ρ⟩ (fun r => (∀ c : Dev nD,
      r.2.mem ((c.tc : Thread nD τ).loc main_v0) = (dats m h 0 c).arrAt 2 grid0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r hr => ⟨fun c => ⟨(hr.1 c).1 2,
      (hr.1 c).2 main_arg0 (Pipeline.mem_restRefs_of main_arg0 (by decide) rest0),
      (hr.1 c).2 main_arg1 (Pipeline.mem_restRefs_of main_arg1 (by decide) rest1),
      ((hr.1 c).1 0).trans (((dats m h 0 c).arrAt_in 0 rfl _).trans (A_eq m h c 0)),
      ((hr.1 c).1 1).trans (((dats m h 0 c).arrAt_in 1 rfl _).trans (A_eq m h c 1))⟩, hr.2⟩) (run_main m ρ h)

include h in
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r hr => ⟨fun c => (hr.1 c).2, hr.2⟩) (run_blocks m ρ h)

end Data

/-! ## The precondition -/

theorem word_lt (v : BitVec 32) (h : BitVec.ofBool ((0#32).sle v) &&& BitVec.ofBool (v.slt 8#32) = 1#1) : v.toNat < 8 := by
  have e : ∀ a b : Bool, BitVec.ofBool a &&& BitVec.ofBool b = 1#1 → a = true ∧ b = true := by decide
  obtain ⟨h1, h2⟩ := e _ _ h
  rw [BitVec.sle, decide_eq_true_iff] at h1
  rw [BitVec.slt, decide_eq_true_iff] at h2
  have h8 : (8#32 : BitVec 32).toInt = 8 := by decide
  have h0 : (0#32 : BitVec 32).toInt = 0 := by decide
  rw [h8, BitVec.toInt_eq_toNat_cond] at h2
  rw [h0, BitVec.toInt_eq_toNat_cond] at h1
  split at h1 <;> split at h2 <;> omega

/-- The precondition's range of the experts. -/
theorem te_lt (hp : ∀ c : Dev nD, Cert.Pre_experts5.fn (F := F) (m ((c.tc : Thread nD τ).loc main_arg0)) (m ((c.tc : Thread nD τ).loc main_arg1)) (m ((c.tc : Thread nD τ).loc main_arg2)) (m ((c.tc : Thread nD τ).loc main_arg3)) = fun _ => 1#1)
    (x : S72.Idx) : (teW m x).toNat < 8 := by
  have := congrFun (hp 0) x
  exact word_lt _ this

end Cert.Kernel5Ideal.Moe

end
-- ==== Proof.DownValue.lean ====
/- The experts' down product: the kernel's array and the reference's, entry by entry. -/
module

public import proofs.«01_k».proof.Defs
public import proofs.«01_k».proof.Proof.Experts
public import proofs.«01_k».proof.Proof.DownRun
public import proofs.«01_k».proof.Proof.Gen.Reference5Ideal.Run
public import proofs.«01_k».proof.Proof.Gen.Reference5Ideal.Read
public import Idealize.ShloMosaic.Lib.Pipeline.ValueKit
public import Idealize.ShloMosaic.Lib.Pipeline.Covers
public import Idealize.ShloMosaic.Lib.Pointwise

@[expose] public section

set_option maxRecDepth 16384

noncomputable section

namespace Cert.MoeDown

open Idealize.ShloMosaic Idealize.ShloMosaic.TcCoe Idealize.ShloMosaic.Tactic Idealize.ShloMosaic.Pointwise
open Idealize.SL.Sem
open Cert.Moe

section Kernel

open Cert.Kernel5Ideal Cert.Kernel5Ideal.Gen Cert.Kernel5Ideal.Moe

variable (m : (ℓ : Loc nD τ sig) → Buf (Elt Ideal) ℓ) (h : ∀ x, (teW m x).toNat < 8) (c : Dev nD)

/-- The rows and the experts' weights. -/
abbrev act : FVec Ideal S36864x7168 .bf16 := m ((c : Thread nD τ).loc main_arg2)
abbrev wd : FVec Ideal S8x7168x2048 .f32 := m ((c : Thread nD τ).loc main_arg3)

/-- A used tile's block: its rows times its weights. -/
theorem block_eq (x : Vec Ideal S512x7168 .bf16) (w : Vec Ideal S1x7168x512 .f32) (r d : Fin 512) :
    outv x (fillv w) (ix2 r d) = ∑ k : Fin 7168, x (ix2 r k) * w (ix3 0 k d) := by
  unfold outv fillv
  rw [View.canon_unit_zero (by decide), View.canon_unit_zero (by decide), View.ld_unit_zero (by decide), View.ld_unit_zero (by decide), View.ld_unit_zero (by decide)]
  pointwise [k0_pay1, k0_pay2]

/-- A tile that is not used is zero. -/
theorem zero_eq (r d : Fin 512) : zerov (F := Ideal) (ix2 r d) = 0 := by
  unfold zerov
  rw [View.canon_unit_zero (by decide)]
  pointwise [k0_pay3]

theorem act_at (t : Fin grid0.N) (r : Fin 512) (k : Fin 7168) (hr : 512 * (grid0.coords t 1).val + r.val < 36864) :
    xb m h c t (ix2 r k) = act m c (ix2 ⟨512 * (grid0.coords t 1).val + r.val, hr⟩ k) := by
  have e : ((cfgA m h).win 0).index t = ![(grid0.coords t 1).val, 0] := idx0 t
  blk_ext [iblk, e]

/-- The kernel's array. -/
def rows : S36864x2048.Idx → EReal := fun i =>
  if IntOp.cmpi .slt (BitVec.ofNat 32 ((i 0).val / 512)) (nuW m) = 1#1 then
    ∑ k : Fin 7168, act m c (ix2 (i 0) k) * wd m c (ix3 ⟨(teW m (ix1 ⟨(i 0).val / 512, tile_lt (i 0)⟩)).toNat, h _⟩ k (i 1)) else 0

/-- A point's block is the array's. -/
theorem point_eq (t : Fin grid0.N) (y0 y1 : Fin 512) (h0 : 512 * (grid0.coords t 1).val + y0.val < 36864) (h1 : (grid0.coords t 0).val * 512 + y1.val < 2048) :
    outb m h c t (ix2 y0 y1) = rows m h c (ix2 ⟨512 * (grid0.coords t 1).val + y0.val, h0⟩ ⟨(grid0.coords t 0).val * 512 + y1.val, h1⟩) := by
  have c1 : (grid0.coords t 1).val < 72 := (grid0.coords t 1).isLt
  have d0 : (⟨(512 * (grid0.coords t 1).val + y0.val) / 512, by omega⟩ : Fin 72) = (show Fin 72 from grid0.coords t 1) := Fin.ext (by show (512 * (grid0.coords t 1).val + y0.val) / 512 = (grid0.coords t 1).val; omega)
  have hc : IntOp.cmpi .slt (BitVec.ofNat 32 ((512 * (grid0.coords t 1).val + y0.val) / 512)) (nuW m) = k0_cond2 (grid0.coords t) (nuW m) := by
    rw [cond2_eq, show (512 * (grid0.coords t 1).val + y0.val) / 512 = (grid0.coords t 1).val from congrArg Fin.val d0]; rfl
  unfold outb outw rows
  show _ = if IntOp.cmpi .slt (BitVec.ofNat 32 ((512 * (grid0.coords t 1).val + y0.val) / 512)) (nuW m) = 1#1 then _ else _
  rw [hc]
  by_cases hu : k0_cond2 (grid0.coords t) (nuW m) = 1#1
  · rw [if_pos hu, if_pos hu]
    refine (block_eq _ _ y0 y1).trans (Finset.sum_congr rfl fun k _ => ?_)
    rw [act_at m h c t y0 k h0, wb_at m h c t k y1]
    refine congrArg (_ * ·) (congrArg (wd m c) ?_)
    exact congrArg (fun e => ix3 e k (⟨(grid0.coords t 0).val * 512 + y1.val, h1⟩ : Fin 2048)) (Fin.ext (congrArg (fun q : Fin 72 => (teW m (ix1 q)).toNat) d0.symm))
  · rw [if_neg hu, if_neg hu]
    exact zero_eq y0 y1

theorem covers : ((cfgA m h).win 2).Covers :=
  ((cfgA m h).win 2).covers_of_indexMap_surj rfl (by intro a; match a with | ⟨0, _⟩ => exact (by decide : 0 < 512) | ⟨1, _⟩ => exact (by decide : 0 < 512)) fun β =>
    have h0 : (β ⟨0, Nat.zero_lt_two⟩).val < 72 := lt_of_lt_of_eq (β ⟨0, Nat.zero_lt_two⟩).isLt (by show (36864 + 512 - 1) / 512 = 72; decide)
    have h1 : (β ⟨1, Nat.one_lt_two⟩).val < 4 := lt_of_lt_of_eq (β ⟨1, Nat.one_lt_two⟩).isLt (by show (2048 + 512 - 1) / 512 = 4; decide)
    ⟨(fun a : Fin 2 => match a with | 0 => ⟨(β ⟨1, Nat.one_lt_two⟩).val, h1⟩ | 1 => ⟨(β ⟨0, Nat.zero_lt_two⟩).val, h0⟩ : grid0.Coords), fun a => match a with
      | ⟨0, _⟩ => by
        show (BitVec.ofNat 32 (β ⟨0, Nat.zero_lt_two⟩).val).toNat = (β ⟨0, Nat.zero_lt_two⟩).val
        simp only [BitVec.toNat_ofNat]; omega
      | ⟨1, _⟩ => by
        show (BitVec.ofNat 32 (β ⟨1, Nat.one_lt_two⟩).val).toNat = (β ⟨1, Nat.one_lt_two⟩).val
        simp only [BitVec.toNat_ofNat]; omega⟩

theorem array_eq : (dats m h 0 c).arrAt 2 grid0.N = rows m h c := by
  refine (dats m h 0 c).arrAt_eq_of_covers 2 _ (covers m h) fun t hf (y : S512x512.Idx) => ?_
  rw [after2]
  have c0 : (grid0.coords t 0).val < 4 := (grid0.coords t 0).isLt
  have c1 : (grid0.coords t 1).val < 72 := (grid0.coords t 1).isLt
  obtain ⟨y0, y1, rfl⟩ : ∃ y0 y1 : Fin 512, y = ix2 y0 y1 := ⟨y 0, y 1, by idx_vars y⟩
  have e : ((cfgA m h).win 2).index t = ![(grid0.coords t 1).val, (grid0.coords t 0).val] := idx2 t
  have E : rows m h c ((((cfgA m h).win 2).blk t).view.emb (ix2 y0 y1))
      = rows m h c (ix2 ⟨512 * (grid0.coords t 1).val + y0.val, by omega⟩ ⟨(grid0.coords t 0).val * 512 + y1.val, by omega⟩) := by
    blk_ext [e]
  refine Eq.trans ?_ E.symm
  show outb m h c t (ix2 y0 y1) = _
  exact point_eq m h c t y0 y1 _ _

end Kernel

section Reference

open Cert.Reference5Ideal Cert.Reference5Ideal.Read

variable (x0 : IVec S72 32) (x1 : IVec S1 32) (x2 : FVec Ideal S36864x7168 .bf16) (x3 : FVec Ideal S8x7168x2048 .f32)
  (r : Fin 36864) (d : Fin 2048)

/-- Whether the row's tile is used. -/
def used : BitVec 1 := IntOp.cmpi .slt (BitVec.ofNat 32 (r.val / 512)) (x1 (ix1 0))

/-- The row times an expert's weights. -/
def prod (e : Fin 8) : EReal := ∑ k : Fin 7168, x2 (ix2 r k) * x3 (ix3 e k d)

theorem zero_word : id (constant (F := Ideal) S_ .f32 0x00000000#32) ix0 = (0 : EReal) := by
  show constant (F := Ideal) S_ .f32 0x00000000#32 ix0 = (0 : EReal)
  pointwise

theorem zero_eq' : val_main_v0 (F := Ideal) (ix2 r d) = (0 : EReal) := by
  pointwise [val_main_v0, val_main_cst]

theorem term0 : val_main_v15 (F := Ideal) x0 x1 x2 x3 (ix2 r d) = part (x0 (ix1 ⟨r.val / 512, tile_lt r⟩)) (used x1 r) (prod x2 x3 r d) 0 := by
  pointwise [val_main_v1, val_main_v2, val_main_v3, val_main_v4, val_main_v5, val_main_v6, val_main_v7, val_main_v8, val_main_v9, val_main_v10, val_main_v11, val_main_v12, val_main_v13, val_main_v14, val_main_v15, val_main_call0_v0, val_main_call0_v1, val_main_call0_v2, val_main_c, val_main_cst_0, part, used, prod]
  exact congrArg (Scalar.select _ _) zero_word

theorem term1 : val_main_v31 (F := Ideal) x0 x1 x2 x3 (ix2 r d) = part (x0 (ix1 ⟨r.val / 512, tile_lt r⟩)) (used x1 r) (prod x2 x3 r d) 1 := by
  pointwise [val_main_v17, val_main_v18, val_main_v19, val_main_v20, val_main_v21, val_main_v22, val_main_v23, val_main_v24, val_main_v25, val_main_v26, val_main_v27, val_main_v28, val_main_v29, val_main_v30, val_main_v31, val_main_call1_v0, val_main_call1_v1, val_main_call1_v2, val_main_c_1, val_main_cst_2, part, used, prod]
  exact congrArg (Scalar.select _ _) zero_word

theorem term2 : val_main_v47 (F := Ideal) x0 x1 x2 x3 (ix2 r d) = part (x0 (ix1 ⟨r.val / 512, tile_lt r⟩)) (used x1 r) (prod x2 x3 r d) 2 := by
  pointwise [val_main_v33, val_main_v34, val_main_v35, val_main_v36, val_main_v37, val_main_v38, val_main_v39, val_main_v40, val_main_v41, val_main_v42, val_main_v43, val_main_v44, val_main_v45, val_main_v46, val_main_v47, val_main_call2_v0, val_main_call2_v1, val_main_call2_v2, val_main_c_3, val_main_cst_4, part, used, prod]
  exact congrArg (Scalar.select _ _) zero_word

theorem term3 : val_main_v63 (F := Ideal) x0 x1 x2 x3 (ix2 r d) = part (x0 (ix1 ⟨r.val / 512, tile_lt r⟩)) (used x1 r) (prod x2 x3 r d) 3 := by
  pointwise [val_main_v49, val_main_v50, val_main_v51, val_main_v52, val_main_v53, val_main_v54, val_main_v55, val_main_v56, val_main_v57, val_main_v58, val_main_v59, val_main_v60, val_main_v61, val_main_v62, val_main_v63, val_main_call3_v0, val_main_call3_v1, val_main_call3_v2, val_main_c_5, val_main_cst_6, part, used, prod]
  exact congrArg (Scalar.select _ _) zero_word

theorem term4 : val_main_v79 (F := Ideal) x0 x1 x2 x3 (ix2 r d) = part (x0 (ix1 ⟨r.val / 512, tile_lt r⟩)) (used x1 r) (prod x2 x3 r d) 4 := by
  pointwise [val_main_v65, val_main_v66, val_main_v67, val_main_v68, val_main_v69, val_main_v70, val_main_v71, val_main_v72, val_main_v73, val_main_v74, val_main_v75, val_main_v76, val_main_v77, val_main_v78, val_main_v79, val_main_call4_v0, val_main_call4_v1, val_main_call4_v2, val_main_c_7, val_main_cst_8, part, used, prod]
  exact congrArg (Scalar.select _ _) zero_word

theorem term5 : val_main_v95 (F := Ideal) x0 x1 x2 x3 (ix2 r d) = part (x0 (ix1 ⟨r.val / 512, tile_lt r⟩)) (used x1 r) (prod x2 x3 r d) 5 := by
  pointwise [val_main_v81, val_main_v82, val_main_v83, val_main_v84, val_main_v85, val_main_v86, val_main_v87, val_main_v88, val_main_v89, val_main_v90, val_main_v91, val_main_v92, val_main_v93, val_main_v94, val_main_v95, val_main_call5_v0, val_main_call5_v1, val_main_call5_v2, val_main_c_9, val_main_cst_10, part, used, prod]
  exact congrArg (Scalar.select _ _) zero_word

theorem term6 : val_main_v111 (F := Ideal) x0 x1 x2 x3 (ix2 r d) = part (x0 (ix1 ⟨r.val / 512, tile_lt r⟩)) (used x1 r) (prod x2 x3 r d) 6 := by
  pointwise [val_main_v97, val_main_v98, val_main_v99, val_main_v100, val_main_v101, val_main_v102, val_main_v103, val_main_v104, val_main_v105, val_main_v106, val_main_v107, val_main_v108, val_main_v109, val_main_v110, val_main_v111, val_main_call6_v0, val_main_call6_v1, val_main_call6_v2, val_main_c_11, val_main_cst_12, part, used, prod]
  exact congrArg (Scalar.select _ _) zero_word

theorem term7 : val_main_v127 (F := Ideal) x0 x1 x2 x3 (ix2 r d) = part (x0 (ix1 ⟨r.val / 512, tile_lt r⟩)) (used x1 r) (prod x2 x3 r d) 7 := by
  pointwise [val_main_v113, val_main_v114, val_main_v115, val_main_v116, val_main_v117, val_main_v118, val_main_v119, val_main_v120, val_main_v121, val_main_v122, val_main_v123, val_main_v124, val_main_v125, val_main_v126, val_main_v127, val_main_call7_v0, val_main_call7_v1, val_main_call7_v2, val_main_c_13, val_main_cst_14, part, used, prod]
  exact congrArg (Scalar.select _ _) zero_word

theorem reference_eq (h : ∀ x, (x0 x).toNat < 8) :
    val_main_v128 (F := Ideal) x0 x1 x2 x3 (ix2 r d) =
      if used x1 r = 1#1 then prod x2 x3 r d ⟨(x0 (ix1 ⟨r.val / 512, tile_lt r⟩)).toNat, h _⟩ else 0 := by
  rw [val_main_v128_apply, val_main_v112_apply, val_main_v96_apply, val_main_v80_apply, val_main_v64_apply, val_main_v48_apply, val_main_v32_apply, val_main_v16_apply, zero_eq']
  rw [term0 x0 x1 x2 x3 r d, term1 x0 x1 x2 x3 r d, term2 x0 x1 x2 x3 r d, term3 x0 x1 x2 x3 r d, term4 x0 x1 x2 x3 r d, term5 x0 x1 x2 x3 r d, term6 x0 x1 x2 x3 r d, term7 x0 x1 x2 x3 r d]
  exact collapse _ (h _) _ _

end Reference

theorem frame_r5 : Cert.quiescent_Reference5Ideal := by
  intro m ρ _
  exact (θ_run Cert.Reference5Ideal.defs _ _).mono
    (fun r h => ⟨fun c => (h c).2, Idealize.ShloMosaic.sem_eq_zero_of_no_sems (by decide) r.2⟩)
    (Cert.Reference5Ideal.Value.run (F := Ideal) m ρ)

theorem frame_r5_pre : Cert.quiescent_Reference5Ideal_pre_experts5 := fun m ρ _ => frame_r5 m ρ trivial

theorem algebraic5 : Cert.algebraic_Kernel5Ideal_Reference5Ideal := by
  intro m g m' g' hp hagree
  have h := Cert.Kernel5Ideal.Moe.te_lt m hp
  refine ⟨fun c => (Cert.Kernel5Ideal.Moe.dats m h 0 c).arrAt 2 Cert.Kernel5Ideal.grid0.N,
    (θ_run Cert.Kernel5Ideal.defs _ _).mono (fun r hr => hr.1) (Cert.Kernel5Ideal.Moe.run_blocks m g h), ?_⟩
  refine (θ_run Cert.Reference5Ideal.defs _ _).mono (fun r hr c => ⟨(hr c).1.trans ?_, (hr c).2⟩) (Cert.Reference5Ideal.Value.run (F := Ideal) m' g')
  obtain ⟨h0, h1, h2, h3⟩ := hagree c
  refine Eq.trans ?_ (array_eq m h c).symm
  rw [Cert.Reference5Ideal.Read.val_main_v128_eq, h0, h1, h2, h3]
  obtain rfl : c = 0 := Subsingleton.elim _ _
  funext i
  idx_vars i
  exact reference_eq _ _ _ _ i0 i1 h

end Cert.MoeDown

end
-- ==== Proof.Outproj.lean ====
/- The attentions' output projection with its norm and residual, and the next norm: the kernel's arrays and the reference's. -/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Pointwise

@[expose] public section

set_option maxRecDepth 16384

noncomputable section

namespace Cert.Outproj

open Idealize.ShloMosaic Idealize.ShloMosaic.TcCoe Idealize.ShloMosaic.Tactic Idealize.ShloMosaic.Pointwise
open Idealize.SL.Sem

/-- One entry of `y / rms y * gain`, for a row `y`. -/
def normed (y : Fin 2048 → EReal) (gain : EReal) (e : Fin 2048) : EReal :=
  y e * Ideal.rsqrt (Ideal.div (∑ d : Fin 2048, y d * y d) (Ideal.ofBits .f32 0x45000000#32) + Ideal.ofBits .f32 0x358637BD#32) * gain

/-- One entry of a row of the three attentions' outputs times the output weights, a block of rows each. -/
def prod (x0 x1 : Fin 768 → EReal) (x2 : Fin 512 → EReal) (w : Fin 2048 → Fin 2048 → EReal) (d : Fin 2048) : EReal :=
  (∑ f : Fin 768, x0 f * w ⟨f.val, by omega⟩ d) + (∑ f : Fin 768, x1 f * w ⟨768 + f.val, by omega⟩ d)
    + ∑ f : Fin 512, x2 f * w ⟨1536 + f.val, by omega⟩ d

/-- One entry of the residual stream after the attentions. -/
def stream (y x gain gate : Fin 2048 → EReal) (e : Fin 2048) : EReal := x e + gate e * normed y (gain e) e

/-- One entry of the next layer's input: the stream's norm, scaled and shifted. -/
def next (y x gain gate gain' sc sh : Fin 2048 → EReal) (e : Fin 2048) : EReal :=
  normed (stream y x gain gate) (gain' e) e * (Ideal.ofBits .f32 0x3F800000#32 + sc e) + sh e

/-- A sum over the joined columns is the three blocks' sums. -/
theorem sum_split (g : Fin 2048 → EReal) :
    ∑ f : Fin 2048, g f = (∑ f : Fin 768, g ⟨f.val, by omega⟩) + (∑ f : Fin 768, g ⟨768 + f.val, by omega⟩)
      + ∑ f : Fin 512, g ⟨1536 + f.val, by omega⟩ := by
  refine (Fin.sum_univ_add (a := 1536) (b := 512) g).trans (congrArg (· + _) ?_)
  exact Fin.sum_univ_add (a := 768) (b := 768) fun f => g (Fin.castAdd 512 f)

section Kernel

open Cert.Kernel7Ideal Cert.Kernel7Ideal.Gen

variable (m : (ℓ : Loc nD τ sig) → Buf (Elt Ideal) ℓ) (c : Dev nD)

/-- The arguments. -/
abbrev a0 : FVec Ideal S16384x768 .f32 := m ((c : Thread nD τ).loc main_arg0)
abbrev a1 : FVec Ideal S16384x768 .f32 := m ((c : Thread nD τ).loc main_arg1)
abbrev a2 : FVec Ideal S16384x512 .f32 := m ((c : Thread nD τ).loc main_arg2)
abbrev a3 : FVec Ideal S2048x2048 .f32 := m ((c : Thread nD τ).loc main_arg3)
abbrev a4 : FVec Ideal S16384x2048 .f32 := m ((c : Thread nD τ).loc main_arg4)
abbrev a5 : FVec Ideal S2048 .f32 := m ((c : Thread nD τ).loc main_arg5)
abbrev a6 : FVec Ideal S1x2048 .f32 := m ((c : Thread nD τ).loc main_arg6)
abbrev a7 : FVec Ideal S2048 .f32 := m ((c : Thread nD τ).loc main_arg7)
abbrev a8 : FVec Ideal S1x2048 .f32 := m ((c : Thread nD τ).loc main_arg8)
abbrev a9 : FVec Ideal S1x2048 .f32 := m ((c : Thread nD τ).loc main_arg9)

theorem idxs : ∀ t : Fin cfg0.N,
    win0_0.index t = ![(grid0.coords t 0).val, 0] ∧
    win0_1.index t = ![(grid0.coords t 0).val, 0] ∧
    win0_2.index t = ![(grid0.coords t 0).val, 0] ∧
    win0_3.index t = ![0, 0] ∧
    win0_4.index t = ![1, 0] ∧
    win0_5.index t = ![3, 0] ∧
    win0_6.index t = ![(grid0.coords t 0).val, 0] ∧
    win0_7.index t = ![0, 0] ∧
    win0_8.index t = ![0, 0] ∧
    win0_9.index t = ![0, 0] ∧
    win0_10.index t = ![0, 0] ∧
    win0_11.index t = ![0, 0] ∧
    win0_12.index t = ![(grid0.coords t 0).val, 0] ∧
    win0_13.index t = ![(grid0.coords t 0).val, 0] := by
  decide +kernel

theorem V0 : V m c main_v0 = a0 m c := by
  unfold_abbrev_sides
  after_results
  rfl

theorem V1 : V m c main_v1 = a1 m c := by
  unfold_abbrev_sides
  after_results
  rfl

theorem V2 : V m c main_v2 = a2 m c := by
  unfold_abbrev_sides
  after_results
  rfl

theorem V3 : V m c main_v3 = a3 m c := by
  unfold_abbrev_sides
  after_results
  rfl

theorem V4 (d : Fin 2048) : V m c main_v4 (ix2 0 d) = a5 m c (ix1 d) := by
  unfold_abbrev_sides
  after_results
  pointwise

theorem V5 (d : Fin 2048) : V m c main_v5 (ix2 0 d) = a7 m c (ix1 d) := by
  unfold_abbrev_sides
  after_results
  pointwise

theorem blk0 (t : Fin cfg0.N) (r : Fin 512) (d : Fin 768) (hr : 512 * (grid0.coords t 0).val + r.val < 16384) :
    iblk m c 0 t (ix2 r d) = a0 m c (ix2 ⟨512 * (grid0.coords t 0).val + r.val, hr⟩ d) := by
  refine Eq.trans ?_ (congrFun (V0 m c) _)
  blk_ext [iblk, idxs t]

theorem blk1 (t : Fin cfg0.N) (r : Fin 512) (d : Fin 768) (hr : 512 * (grid0.coords t 0).val + r.val < 16384) :
    iblk m c 1 t (ix2 r d) = a1 m c (ix2 ⟨512 * (grid0.coords t 0).val + r.val, hr⟩ d) := by
  refine Eq.trans ?_ (congrFun (V1 m c) _)
  blk_ext [iblk, idxs t]

theorem blk2 (t : Fin cfg0.N) (r : Fin 512) (d : Fin 512) (hr : 512 * (grid0.coords t 0).val + r.val < 16384) :
    iblk m c 2 t (ix2 r d) = a2 m c (ix2 ⟨512 * (grid0.coords t 0).val + r.val, hr⟩ d) := by
  refine Eq.trans ?_ (congrFun (V2 m c) _)
  blk_ext [iblk, idxs t]

theorem blk3 (t : Fin cfg0.N) (d : Fin 768) (e : Fin 2048) : X0_3 m c t (ix2 d e) = a3 m c (ix2 ⟨d.val, by omega⟩ e) := by
  refine Eq.trans ?_ (congrFun (V3 m c) _)
  unfold X0_3 Pipeline.Window.fill
  rw [dif_pos (moved0_3 t _)]
  blk_ext [iblk, idxs t]

theorem blk4 (t : Fin cfg0.N) (d : Fin 768) (e : Fin 2048) : X0_4 m c t (ix2 d e) = a3 m c (ix2 ⟨768 + d.val, by omega⟩ e) := by
  refine Eq.trans ?_ (congrFun (V3 m c) _)
  unfold X0_4 Pipeline.Window.fill
  rw [dif_pos (moved0_4 t _)]
  blk_ext [iblk, idxs t]

theorem blk5 (t : Fin cfg0.N) (d : Fin 512) (e : Fin 2048) : iblk m c 5 t (ix2 d e) = a3 m c (ix2 ⟨1536 + d.val, by omega⟩ e) := by
  refine Eq.trans ?_ (congrFun (V3 m c) _)
  blk_ext [iblk, idxs t]

theorem blk6 (t : Fin cfg0.N) (r : Fin 512) (e : Fin 2048) (hr : 512 * (grid0.coords t 0).val + r.val < 16384) :
    iblk m c 6 t (ix2 r e) = a4 m c (ix2 ⟨512 * (grid0.coords t 0).val + r.val, hr⟩ e) := by
  refine Eq.trans ?_ (congrFun (V_main_arg4 m c) _)
  blk_ext [iblk, idxs t]

theorem blk7 (t : Fin cfg0.N) (e : Fin 2048) : iblk m c 7 t (ix2 0 e) = a5 m c (ix1 e) := by
  refine Eq.trans ?_ (V4 m c e)
  blk_ext [iblk, idxs t]

theorem blk8 (t : Fin cfg0.N) (e : Fin 2048) : iblk m c 8 t (ix2 0 e) = a6 m c (ix2 0 e) := by
  refine Eq.trans ?_ (congrFun (V_main_arg6 m c) _)
  blk_ext [iblk, idxs t]

theorem blk9 (t : Fin cfg0.N) (e : Fin 2048) : iblk m c 9 t (ix2 0 e) = a7 m c (ix1 e) := by
  refine Eq.trans ?_ (V5 m c e)
  blk_ext [iblk, idxs t]

theorem blk10 (t : Fin cfg0.N) (e : Fin 2048) : iblk m c 10 t (ix2 0 e) = a8 m c (ix2 0 e) := by
  refine Eq.trans ?_ (congrFun (V_main_arg8 m c) _)
  blk_ext [iblk, idxs t]

theorem blk11 (t : Fin cfg0.N) (e : Fin 2048) : iblk m c 11 t (ix2 0 e) = a9 m c (ix2 0 e) := by
  refine Eq.trans ?_ (congrFun (V_main_arg9 m c) _)
  blk_ext [iblk, idxs t]

section Block

variable (x0 x1 : Vec Ideal S512x768 .bf16) (x2 : Vec Ideal S512x512 .bf16) (x3 x4 : Vec Ideal S768x2048 .bf16) (x5 : Vec Ideal S512x2048 .bf16)
  (x6 : Vec Ideal S512x2048 .f32) (x7 x8 x9 x10 x11 : Vec Ideal S1x2048 .f32)

/-- A row of the block's product. -/
def row (r : Fin 512) (d : Fin 2048) : EReal :=
  (∑ f : Fin 768, x0 (ix2 r f) * x3 (ix2 f d)) + (∑ f : Fin 768, x1 (ix2 r f) * x4 (ix2 f d)) + ∑ f : Fin 512, x2 (ix2 r f) * x5 (ix2 f d)

theorem pay1_eq (r : Fin 512) (e : Fin 2048) :
    k0_pay1 (F := Ideal) x6 (k0_pay3 x0 x3 x1 x4 x2 x5 x7 x8) (ix2 r e) =
      stream (row x0 x1 x2 x3 x4 x5 r) (fun e => x6 (ix2 r e)) (fun e => x7 (ix2 0 e)) (fun e => x8 (ix2 0 e)) e := by
  pointwise [k0_pay1, k0_pay3]
  rfl

theorem pay2_eq (y : FVec Ideal S512x2048 .f32) (r : Fin 512) (e : Fin 2048) :
    k0_pay2 (F := Ideal) x6 y x9 x10 x11 (ix2 r e) =
      normed (fun d => k0_pay1 (F := Ideal) x6 y (ix2 r d)) (x9 (ix2 0 e)) e * (Ideal.ofBits .f32 0x3F800000#32 + x10 (ix2 0 e)) + x11 (ix2 0 e) := by
  pointwise [k0_pay2]
  rfl

variable (i : grid0.Coords)
  (arg1 : Memref sig .tc .vmem S512x768 .bf16) (harg1 : arg1.IsWhole)
  (arg2 : Memref sig .tc .vmem S512x768 .bf16) (harg2 : arg2.IsWhole)
  (arg3 : Memref sig .tc .vmem S512x512 .bf16) (harg3 : arg3.IsWhole)
  (arg4 : Memref sig .tc .vmem S768x2048 .bf16) (harg4 : arg4.IsWhole)
  (arg5 : Memref sig .tc .vmem S768x2048 .bf16) (harg5 : arg5.IsWhole)
  (arg6 : Memref sig .tc .vmem S512x2048 .bf16) (harg6 : arg6.IsWhole)
  (arg7 : Memref sig .tc .vmem S512x2048 .f32) (harg7 : arg7.IsWhole)
  (arg8 : Memref sig .tc .vmem S1x2048 .f32) (harg8 : arg8.IsWhole)
  (arg9 : Memref sig .tc .vmem S1x2048 .f32) (harg9 : arg9.IsWhole)
  (arg10 : Memref sig .tc .vmem S1x2048 .f32) (harg10 : arg10.IsWhole)
  (arg11 : Memref sig .tc .vmem S1x2048 .f32) (harg11 : arg11.IsWhole)
  (arg12 : Memref sig .tc .vmem S1x2048 .f32) (harg12 : arg12.IsWhole)
  (arg13 : Memref sig .tc .vmem S512x2048 .f32) (harg13 : arg13.IsWhole)
  (arg14 : Memref sig .tc .vmem S512x2048 .f32) (harg14 : arg14.IsWhole)

theorem out12_eq : out0_A_12 c i arg1 harg1 arg2 harg2 arg3 harg3 arg4 harg4 arg5 harg5 arg6 harg6 arg7 harg7 arg8 harg8 arg9 harg9 arg10 harg10 arg11 harg11 arg12 harg12 arg13 harg13 arg14 harg14
    x0 x1 x2 x3 x4 x5 x6 x7 x8 x9 x10 x11 = k0_pay1 (F := Ideal) x6 (k0_pay3 x0 x3 x1 x4 x2 x5 x7 x8) := by
  unfold out0_A_12
  rw [View.read_writes_eq_canon _ _ _ (cover0_A_12 c _ _ _ _ _ _ _ _ _ _ _ _ _ _ _ _ _ _ _ _ _ _ _ _ _ _ _ _ _ _ _ _ _ _ _ _ _ _ _ _ _)]
  unfold kernelRun0_A
  dsimp only
  refine (View.canon_cons_unit_zero (S := S512x2048) (by decide) _ _ _).trans ?_
  unfold kernelRun0_A.sl.r kernelRun0_A.sl.r_1
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread]
  rw [View.ld_unit_zero (by decide), View.ld_unit_zero (by decide), View.ld_unit_zero (by decide), View.ld_unit_zero (by decide), View.ld_unit_zero (by decide), View.ld_unit_zero (by decide), View.ld_unit_zero (by decide), View.ld_unit_zero (by decide), View.ld_unit_zero (by decide)]

theorem out13_eq : out0_A_13 c i arg1 harg1 arg2 harg2 arg3 harg3 arg4 harg4 arg5 harg5 arg6 harg6 arg7 harg7 arg8 harg8 arg9 harg9 arg10 harg10 arg11 harg11 arg12 harg12 arg13 harg13 arg14 harg14
    x0 x1 x2 x3 x4 x5 x6 x7 x8 x9 x10 x11 = k0_pay2 (F := Ideal) x6 (k0_pay3 x0 x3 x1 x4 x2 x5 x7 x8) x9 x10 x11 := by
  unfold out0_A_13
  rw [View.read_writes_eq_canon _ _ _ (cover0_A_13 c _ _ _ _ _ _ _ _ _ _ _ _ _ _ _ _ _ _ _ _ _ _ _ _ _ _ _ _ _ _ _ _ _ _ _ _ _ _ _ _ _)]
  unfold kernelRun0_A
  dsimp only
  refine (View.canon_cons_unit_zero (S := S512x2048) (by decide) _ _ _).trans ?_
  unfold kernelRun0_A.sl.r kernelRun0_A.sl.r_1
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread]
  rw [View.ld_unit_zero (by decide), View.ld_unit_zero (by decide), View.ld_unit_zero (by decide), View.ld_unit_zero (by decide), View.ld_unit_zero (by decide), View.ld_unit_zero (by decide), View.ld_unit_zero (by decide), View.ld_unit_zero (by decide), View.ld_unit_zero (by decide), View.ld_unit_zero (by decide), View.ld_unit_zero (by decide), View.ld_unit_zero (by decide)]

end Block

/-- The arguments' rows, as the result's rows take them. -/
abbrev prodA (n : Fin 16384) : Fin 2048 → EReal :=
  prod (fun f => a0 m c (ix2 n f)) (fun f => a1 m c (ix2 n f)) (fun f => a2 m c (ix2 n f)) (fun f d => a3 m c (ix2 f d))

theorem row_blk (t : Fin cfg0.N) (r : Fin 512) (hr : 512 * (grid0.coords t 0).val + r.val < 16384) :
    row (iblk m c 0 t) (iblk m c 1 t) (iblk m c 2 t) (X0_3 m c t) (X0_4 m c t) (iblk m c 5 t) r
      = prodA m c ⟨512 * (grid0.coords t 0).val + r.val, hr⟩ := by
  funext d
  unfold row prodA prod
  simp only [blk0 m c t r _ hr, blk1 m c t r _ hr, blk2 m c t r _ hr, blk3, blk4, blk5]

theorem stream_blk (t : Fin cfg0.N) (r : Fin 512) (hr : 512 * (grid0.coords t 0).val + r.val < 16384) (e : Fin 2048) :
    k0_pay1 (F := Ideal) (iblk m c 6 t) (k0_pay3 (iblk m c 0 t) (X0_3 m c t) (iblk m c 1 t) (X0_4 m c t) (iblk m c 2 t) (iblk m c 5 t)
      (iblk m c 7 t) (iblk m c 8 t)) (ix2 r e) =
    stream (prodA m c ⟨512 * (grid0.coords t 0).val + r.val, hr⟩) (fun e => a4 m c (ix2 ⟨512 * (grid0.coords t 0).val + r.val, hr⟩ e))
      (fun e => a5 m c (ix1 e)) (fun e => a6 m c (ix2 0 e)) e := by
  refine (pay1_eq _ _ _ _ _ _ _ _ _ r e).trans ?_
  rw [row_blk m c t r hr]
  simp only [blk6 m c t r _ hr, blk7, blk8]

theorem array12 : (dats m 0 c).arrAt 12 cfg0.N = fun i : S16384x2048.Idx =>
    stream (prodA m c (i 0)) (fun e => a4 m c (ix2 (i 0) e)) (fun e => a5 m c (ix1 e)) (fun e => a6 m c (ix2 0 e)) (i 1) := by
  refine (dats m 0 c).arrAt_eq_of_covers 12 _ (by decide +kernel) fun t hf y => ?_
  have c0 : (grid0.coords t 0).val < 32 := (grid0.coords t 0).isLt
  refine (congrFun (Cert.Kernel7Ideal.Value.flushed12_A m c t) y).trans ?_
  idx_vars y
  have e0 : (cfg0.win 12 |>.blk t).view.emb (ix2 y0 y1) 0 = (⟨512 * (grid0.coords t 0).val + y0.val, by omega⟩ : Fin 16384) :=
    Fin.ext (by blk_simp [idxs t]; exact congrArg (· + y0.val) (Nat.mul_comm _ _))
  have e1 : (cfg0.win 12 |>.blk t).view.emb (ix2 y0 y1) 1 = (y1 : Fin 2048) :=
    Fin.ext (by blk_simp [idxs t])
  refine (congrFun (out12_eq _ _ _ _ _ _ _ _ _ _ _ _ _ _ _ _ _ _ _ _ _ _ _ _ _ _ _ _ _ _ _ _ _ _ _ _ _ _ _ _ _ _) (ix2 y0 y1)).trans
    ((stream_blk m c t y0 (by omega) y1).trans ?_)
  show _ = stream (prodA m c ((cfg0.win 12 |>.blk t).view.emb (ix2 y0 y1) 0))
    (fun e => a4 m c (ix2 ((cfg0.win 12 |>.blk t).view.emb (ix2 y0 y1) 0) e)) (fun e => a5 m c (ix1 e)) (fun e => a6 m c (ix2 0 e))
    ((cfg0.win 12 |>.blk t).view.emb (ix2 y0 y1) 1)
  rw [e0, e1]

theorem array13 : (dats m 0 c).arrAt 13 cfg0.N = fun i : S16384x2048.Idx =>
    next (prodA m c (i 0)) (fun e => a4 m c (ix2 (i 0) e)) (fun e => a5 m c (ix1 e)) (fun e => a6 m c (ix2 0 e)) (fun e => a7 m c (ix1 e))
      (fun e => a8 m c (ix2 0 e)) (fun e => a9 m c (ix2 0 e)) (i 1) := by
  refine (dats m 0 c).arrAt_eq_of_covers 13 _ (by decide +kernel) fun t hf y => ?_
  have c0 : (grid0.coords t 0).val < 32 := (grid0.coords t 0).isLt
  refine (congrFun (Cert.Kernel7Ideal.Value.flushed13_A m c t) y).trans ?_
  idx_vars y
  have e0 : (cfg0.win 13 |>.blk t).view.emb (ix2 y0 y1) 0 = (⟨512 * (grid0.coords t 0).val + y0.val, by omega⟩ : Fin 16384) :=
    Fin.ext (by blk_simp [idxs t]; exact congrArg (· + y0.val) (Nat.mul_comm _ _))
  have e1 : (cfg0.win 13 |>.blk t).view.emb (ix2 y0 y1) 1 = (y1 : Fin 2048) :=
    Fin.ext (by blk_simp [idxs t])
  refine (congrFun (out13_eq _ _ _ _ _ _ _ _ _ _ _ _ _ _ _ _ _ _ _ _ _ _ _ _ _ _ _ _ _ _ _ _ _ _ _ _ _ _ _ _ _ _) (ix2 y0 y1)).trans
    ((pay2_eq _ _ _ _ _ y0 y1).trans ?_)
  show _ = next (prodA m c ((cfg0.win 13 |>.blk t).view.emb (ix2 y0 y1) 0))
    (fun e => a4 m c (ix2 ((cfg0.win 13 |>.blk t).view.emb (ix2 y0 y1) 0) e)) (fun e => a5 m c (ix1 e)) (fun e => a6 m c (ix2 0 e))
    (fun e => a7 m c (ix1 e)) (fun e => a8 m c (ix2 0 e)) (fun e => a9 m c (ix2 0 e)) ((cfg0.win 13 |>.blk t).view.emb (ix2 y0 y1) 1)
  rw [e0, e1]
  simp only [stream_blk m c t y0 (by omega), blk9, blk10, blk11]
  rfl

end Kernel

section Reference

open Cert.Reference7Ideal Cert.Reference7Ideal.Read

variable (a0 a1 : FVec Ideal S16384x768 .f32) (a2 : FVec Ideal S16384x512 .f32) (a3 : FVec Ideal S2048x2048 .f32)
  (a4 : FVec Ideal S16384x2048 .f32) (a5 : FVec Ideal S2048 .f32) (a6 : FVec Ideal S1x2048 .f32) (a7 : FVec Ideal S2048 .f32)
  (a8 a9 : FVec Ideal S1x2048 .f32)

theorem cat0 (r : Fin 16384) (f : Fin 768) : val_main_v0 (F := Ideal) a0 a1 a2 (ix2 r ⟨f.val, by omega⟩) = a0 (ix2 r f) := by
  pointwise [val_main_v0]

theorem cat1 (r : Fin 16384) (f : Fin 768) : val_main_v0 (F := Ideal) a0 a1 a2 (ix2 r ⟨768 + f.val, by omega⟩) = a1 (ix2 r f) := by
  pointwise [val_main_v0]

theorem cat2 (r : Fin 16384) (f : Fin 512) : val_main_v0 (F := Ideal) a0 a1 a2 (ix2 r ⟨1536 + f.val, by omega⟩) = a2 (ix2 r f) := by
  pointwise [val_main_v0]
  rw [dif_neg (by omega), dif_neg (by omega)]
  exact congrArg (fun f => a2 (ix2 r f)) (Fin.ext (by show 1536 + f.val - 768 - 768 = f.val; omega))

theorem v1_eq (r : Fin 16384) (d : Fin 2048) : val_main_v1 (F := Ideal) a0 a1 a2 a3 (ix2 r d) =
    prod (fun f => a0 (ix2 r f)) (fun f => a1 (ix2 r f)) (fun f => a2 (ix2 r f)) (fun f d => a3 (ix2 f d)) d := by
  refine (show _ = ∑ f : Fin 2048, val_main_v0 (F := Ideal) a0 a1 a2 (ix2 r f) * a3 (ix2 f d) by pointwise [val_main_v1]).trans ?_
  refine (sum_split _).trans ?_
  unfold prod
  simp only [cat0, cat1, cat2]

theorem v17_eq (r : Fin 16384) (e : Fin 2048) : val_main_v17 (F := Ideal) a0 a1 a2 a3 a4 a5 a6 (ix2 r e) =
    stream (fun d => val_main_v1 (F := Ideal) a0 a1 a2 a3 (ix2 r d)) (fun e => a4 (ix2 r e)) (fun e => a5 (ix1 e)) (fun e => a6 (ix2 0 e)) e := by
  generalize hy : val_main_v1 (F := Ideal) a0 a1 a2 a3 = y
  pointwise [val_main_v2, val_main_cst, val_main_v3, val_main_v4, val_main_cst_0, val_main_v5, val_main_v6, val_main_cst_1, val_main_v7,
    val_main_v8, val_main_v9, val_main_v10, val_main_v11, val_main_v12, val_main_v13, val_main_v14, val_main_v15, val_main_v16, val_main_v17, hy]
  rfl

theorem v36_eq (r : Fin 16384) (e : Fin 2048) : val_main_v36 (F := Ideal) a0 a1 a2 a3 a4 a5 a6 a7 a8 a9 (ix2 r e) =
    normed (fun d => val_main_v17 (F := Ideal) a0 a1 a2 a3 a4 a5 a6 (ix2 r d)) (a7 (ix1 e)) e * (Ideal.ofBits .f32 0x3F800000#32 + a8 (ix2 0 e)) + a9 (ix2 0 e) := by
  generalize hy : val_main_v17 (F := Ideal) a0 a1 a2 a3 a4 a5 a6 = y
  pointwise [val_main_v18, val_main_cst_2, val_main_v19, val_main_v20, val_main_cst_3, val_main_v21, val_main_v22, val_main_cst_4, val_main_v23,
    val_main_v24, val_main_v25, val_main_v26, val_main_v27, val_main_v28, val_main_v29, val_main_v30, val_main_cst_5, val_main_v31, val_main_v32,
    val_main_v33, val_main_v34, val_main_v35, val_main_v36, hy]
  rfl

end Reference

theorem frame_r7 : Cert.quiescent_Reference7Ideal := by
  intro m ρ _
  exact (θ_run Cert.Reference7Ideal.defs _ _).mono
    (fun r h => ⟨fun c => (h c).2.2, Idealize.ShloMosaic.sem_eq_zero_of_no_sems (by decide) r.2⟩)
    (Cert.Reference7Ideal.Value.run (F := Ideal) m ρ)

theorem algebraic7 : Cert.algebraic_Kernel7Ideal_Reference7Ideal := by
  intro m g m' g' _ hagree
  refine ⟨fun c => (Cert.Kernel7Ideal.Gen.dats m 0 c).arrAt 12 Cert.Kernel7Ideal.cfg0.N,
    fun c => (Cert.Kernel7Ideal.Gen.dats m 0 c).arrAt 13 Cert.Kernel7Ideal.cfg0.N, Cert.Kernel7Ideal.Value.run_blocks m g, ?_⟩
  refine (θ_run Cert.Reference7Ideal.defs _ _).mono (fun r h c => ⟨(h c).1.trans ?_, (h c).2.1.trans ?_, (h c).2.2⟩)
    (Cert.Reference7Ideal.Value.run (F := Ideal) m' g')
  · obtain ⟨h0, h1, h2, h3, h4, h5, h6, h7, h8, h9⟩ := hagree c
    refine Eq.trans ?_ (array12 m c).symm
    rw [Cert.Reference7Ideal.Read.val_main_v17_eq, h0, h1, h2, h3, h4, h5, h6]
    funext i
    idx_vars i
    refine (v17_eq _ _ _ _ _ _ _ i0 i1).trans ?_
    simp only [v1_eq]
  · obtain ⟨h0, h1, h2, h3, h4, h5, h6, h7, h8, h9⟩ := hagree c
    refine Eq.trans ?_ (array13 m c).symm
    rw [Cert.Reference7Ideal.Read.val_main_v36_eq, h0, h1, h2, h3, h4, h5, h6, h7, h8, h9]
    funext i
    idx_vars i
    refine (v36_eq _ _ _ _ _ _ _ _ _ _ i0 i1).trans ?_
    simp only [v17_eq, v1_eq]
    rfl

end Cert.Outproj

end
-- ==== Proof.DiffTile.lean ====
/- The differential attention's tile updates, one row at a time. A column of ones beside the values makes the product
   with the weights give the weights' sum as well; each update is a step of `Acc`, of each of the two score halves. -/
module

public import proofs.«01_k».proof.Proof.Tile
public import proofs.«01_k».proof.Proof.Gen.Kernel6Ideal.Skeleton

@[expose] public section

set_option maxRecDepth 16384

noncomputable section

namespace Cert.Diff

open Idealize.ShloMosaic Idealize.ShloMosaic.TcCoe Idealize.ShloMosaic.Tactic Idealize.ShloMosaic.Pointwise
open Cert.Attn (Row sc wt avg exp2_eq select_le)
open Cert.Kernel6Ideal Cert.Kernel6Ideal.Gen

/-- The values with a column of ones and 127 columns of zeros. -/
def ext (v : ℕ → Fin 128 → ℝ) (k : ℕ) (d : Fin 256) : ℝ :=
  if h : d.val < 128 then v k ⟨d.val, h⟩ else if d.val - 128 = 0 then 1 else 0

/-- What the running maximum and the sums of a row hold after the keys below `n`. -/
def Acc (s : ℕ → ℝ) (v : ℕ → Fin 128 → ℝ) (t n : ℕ) (m : EReal) (acc : Fin 256 → EReal) : Prop :=
  ∃ l, Row s (ext v) t n m l acc

theorem Acc.zero (s : ℕ → ℝ) (v : ℕ → Fin 128 → ℝ) (t : ℕ) : Acc s v t 0 ⊥ (fun _ => 0) := ⟨_, Row.zero s (ext v) t⟩

theorem Acc.step {s : ℕ → ℝ} {v : ℕ → Fin 128 → ℝ} {t n : ℕ} {m : EReal} {acc : Fin 256 → EReal}
    (h : Acc s v t n m acc) (w B : ℕ) (hB : w = 128 * B) (hw : 0 < w) (hn : n ≤ t) {m' : EReal} {acc' : Fin 256 → EReal}
    (hm : m' = max m (Finset.univ.fold max (⊥ : EReal) fun j : Fin w => sc s t (n + j)))
    (ha : ∀ d, acc' d = Ideal.exp2 (m - m') * acc d +
      ∑ k : Fin w, Ideal.exp2 (sc s t (n + k) - m') * ((ext v (n + k) d : ℝ) : EReal)) :
    Acc s v t (n + w) m' acc' := by
  obtain ⟨l, hl⟩ := h
  exact ⟨_, hl.step w B hB hw hn hm (fun _ => rfl) ha⟩

/-- At the end the average is the quotient of a value column by the ones' column. -/
theorem Acc.quotient {s : ℕ → ℝ} {v : ℕ → Fin 128 → ℝ} {t n : ℕ} {m : EReal} {acc : Fin 256 → EReal}
    (h : Acc s v t n m acc) (hn : t + 1 ≤ n) (d : Fin 128) :
    Ideal.div (acc ⟨d.val, by omega⟩) (acc ⟨128, by omega⟩) = (avg s v t d : EReal) := by
  obtain ⟨l, hl⟩ := h
  rcases hl with ⟨hn0, -⟩ | ⟨M, L, h1, h2, h3, h4⟩
  · omega
  have hr : Row s v t n m (fun j => if j = 0 then acc ⟨128, by omega⟩ else 0) (fun d : Fin 128 => acc ⟨d.val, by omega⟩) := by
    refine Or.inr ⟨M, fun j => if j = 0 then ∑ k ∈ Finset.range n, wt s t M k else 0, h1, fun j => ?_, ?_, fun d => ?_⟩
    · dsimp only
      split
      · rw [h4]
        simp [ext]
      · rfl
    · simp
    · dsimp only
      rw [h4]
      simp [ext, d.isLt]
  have := hr.quotient hn d
  simpa using this

/-- The named mask denotes minus infinity. -/
theorem mask_bot : (Named.named κ "mask6" 4048155338#32 : Ideal .f32) = (⊥ : EReal) :=
  IdealRules.named_const.ideal_named_scalar _ _ _ _ rfl

theorem sel_eq0 {α : Type} (a : ℕ) (ha : a < 2 ^ 31) (x y : α) :
    Scalar.select (IntOp.cmpi .eq (BitVec.ofNat 32 a) 0#32) x y = if a = 0 then x else y := by
  have h : IntOp.cmpi .eq (BitVec.ofNat 32 a) 0#32 = if a = 0 then 1#1 else 0#1 := by
    by_cases h : a = 0
    · subst h; rfl
    · have : BitVec.ofNat 32 a ≠ 0#32 := fun e => h (by
        have := congrArg BitVec.toNat e
        simp at this
        omega)
      rw [if_neg h]
      show BitVec.ofBool (BitVec.ofNat 32 a == 0#32) = 0#1
      rw [beq_eq_false_iff_ne.2 this]
      rfl
  rw [h]
  split <;> rfl

theorem cat2048 (V : Vec Ideal S2048x128 .bf16) (v : ℕ → Fin 128 → ℝ) (n : ℕ) (j : Fin 2048) (d : Fin 256)
    (hV : ∀ d : Fin 128, V (ix2 j d) = ((v (n + j) d : ℝ) : EReal)) :
    k0_pay12 (k0_pay8 (F := Ideal)) V (ix2 j d) = ((ext v (n + j) d : ℝ) : EReal) := by
  pointwise [k0_pay12, k0_pay8]
  unfold ext
  split_ifs with h h0
  · exact hV _
  · rw [sel_eq0 _ (by omega), if_pos h0]
    exact EReal.coe_one.symm
  · rw [sel_eq0 _ (by omega), if_neg h0]
    exact EReal.coe_zero.symm

theorem cat1024 (V : Vec Ideal S1024x128 .bf16) (v : ℕ → Fin 128 → ℝ) (n : ℕ) (j : Fin 1024) (d : Fin 256)
    (hV : ∀ d : Fin 128, V (ix2 j d) = ((v (n + j) d : ℝ) : EReal)) :
    k0_pay36 (k0_pay7 (F := Ideal)) V (ix2 j d) = ((ext v (n + j) d : ℝ) : EReal) := by
  pointwise [k0_pay36, k0_pay7]
  unfold ext
  split_ifs with h h0
  · exact hV _
  · rw [sel_eq0 _ (by omega), if_pos h0]
    exact EReal.coe_one.symm
  · rw [sel_eq0 _ (by omega), if_neg h0]
    exact EReal.coe_zero.symm

theorem cat512 (V : Vec Ideal S512x128 .bf16) (v : ℕ → Fin 128 → ℝ) (n : ℕ) (j : Fin 512) (d : Fin 256)
    (hV : ∀ d : Fin 128, V (ix2 j d) = ((v (n + j) d : ℝ) : EReal)) :
    k0_pay44 (k0_pay6 (F := Ideal)) V (ix2 j d) = ((ext v (n + j) d : ℝ) : EReal) := by
  pointwise [k0_pay44, k0_pay6]
  unfold ext
  split_ifs with h h0
  · exact hV _
  · rw [sel_eq0 _ (by omega), if_pos h0]
    exact EReal.coe_one.symm
  · rw [sel_eq0 _ (by omega), if_neg h0]
    exact EReal.coe_zero.symm

section
variable {s : ℕ → ℝ} {v : ℕ → Fin 128 → ℝ} {t n : ℕ}

/-- 2048 keys. -/
theorem tile2048 (q : FVec Ideal S1024x128 .bf16) (o : FVec Ideal S2048x128 .bf16) (m : FVec Ideal S1024x1 .f32) (acc : FVec Ideal S1024x256 .f32)
    (K V : Vec Ideal S2048x128 .bf16) (r : Fin 1024) (hn : n ≤ t)
    (hX : ∀ j : Fin 2048, k0_pay13 q K (ix2 r j) = sc s t (n + j))
    (hV : ∀ (j : Fin 2048) (d : Fin 256), k0_pay12 o V (ix2 j d) = ((ext v (n + j) d : ℝ) : EReal))
    (h : Acc s v t n (m (ix2 r 0)) (fun d => acc (ix2 r d))) :
    Acc s v t (n + 2048) (k0_pay15 q m K (ix2 r 0)) (fun d => k0_pay16 q o m acc K V (ix2 r d)) := by
  have hm : k0_pay15 q m K (ix2 r 0)
      = max (m (ix2 r 0)) (Finset.univ.fold max (⊥ : EReal) fun j : Fin 2048 => sc s t (n + j)) := Cert.Attn.newmax1024x2048 _ _ _ _ hX
  refine h.step 2048 16 rfl (by norm_num) hn hm fun d => ?_
  pointwise [k0_pay16]
  simp only [hX, hV, exp2_eq]

/-- 1024 keys. -/
theorem tile1024 (q : FVec Ideal S1024x128 .bf16) (o : FVec Ideal S1024x128 .bf16) (m : FVec Ideal S1024x1 .f32) (acc : FVec Ideal S1024x256 .f32)
    (K V : Vec Ideal S1024x128 .bf16) (r : Fin 1024) (hn : n ≤ t)
    (hX : ∀ j : Fin 1024, k0_pay37 q K (ix2 r j) = sc s t (n + j))
    (hV : ∀ (j : Fin 1024) (d : Fin 256), k0_pay36 o V (ix2 j d) = ((ext v (n + j) d : ℝ) : EReal))
    (h : Acc s v t n (m (ix2 r 0)) (fun d => acc (ix2 r d))) :
    Acc s v t (n + 1024) (k0_pay39 q m K (ix2 r 0)) (fun d => k0_pay40 q o m acc K V (ix2 r d)) := by
  have hm : k0_pay39 q m K (ix2 r 0)
      = max (m (ix2 r 0)) (Finset.univ.fold max (⊥ : EReal) fun j : Fin 1024 => sc s t (n + j)) := Cert.Attn.newmax1024x1024 _ _ _ _ hX
  refine h.step 1024 8 rfl (by norm_num) hn hm fun d => ?_
  pointwise [k0_pay40]
  simp only [hX, hV, exp2_eq]

section
variable (A : IVec S1024x1 32) (B : IVec S1x512 32) (C : BitVec 32) (D E : IVec S1x512 32) (G : BitVec 1)

/-- The first half of the diagonal: 512 keys. -/
theorem half1 (m : FVec Ideal S1024x1 .f32) (acc : FVec Ideal S1024x256 .f32) (Vp : FVec Ideal S512x256 .bf16) (X : FVec Ideal S1024x512 .f32)
    (r : Fin 1024) (hn : n ≤ t)
    (hX : ∀ j : Fin 512, k0_pay51 X A B C D E G (ix2 r j) = sc s t (n + j))
    (hV : ∀ (j : Fin 512) (d : Fin 256), Vp (ix2 j d) = ((ext v (n + j) d : ℝ) : EReal))
    (h : Acc s v t n (m (ix2 r 0)) (fun d => acc (ix2 r d))) :
    Acc s v t (n + 512) (k0_pay53 m X A B C D E G (ix2 r 0)) (fun d => k0_pay54 m acc Vp X A B C D E G (ix2 r d)) := by
  have hm : k0_pay53 m X A B C D E G (ix2 r 0)
      = max (m (ix2 r 0)) (Finset.univ.fold max (⊥ : EReal) fun j : Fin 512 => sc s t (n + j)) := Cert.Attn.newmax1024x512 _ _ _ _ hX
  refine h.step 512 4 rfl (by norm_num) hn hm fun d => ?_
  pointwise [k0_pay54]
  simp only [hX, hV, exp2_eq]

end

section
variable (A : IVec S512x1 32) (B : IVec S1x512 32) (C : BitVec 32) (D E : IVec S1x512 32)

/-- The sums after the second half of the diagonal. -/
def acc2 (m : FVec Ideal S512x1 .f32) (acc : FVec Ideal S512x256 .f32) (Vp : FVec Ideal S512x256 .bf16) (X : FVec Ideal S512x512 .f32) : FVec Ideal S512x256 .f32 :=
  addf (k0_pay72 m acc X A B C D E)
    (matmul dot_S512x512_S512x256_S512x256_1_0_0_1_n_n none (k0_pay73 m X A B C D E) Vp (constant S512x256 .f32 0x00000000#32))

theorem acc2_first (m : FVec Ideal S512x1 .f32) (acc : FVec Ideal S512x256 .f32) (Vp : FVec Ideal S512x256 .bf16) (X : FVec Ideal S512x512 .f32) :
    k0_pay70 m acc Vp X A B C D E = acc2 A B C D E m acc Vp X := rfl

theorem acc2_at (m : FVec Ideal S512x1 .f32) (acc : FVec Ideal S512x256 .f32) (Vp : FVec Ideal S512x256 .bf16) (X : FVec Ideal S512x512 .f32)
    (r : Fin 512) (d : Fin 256) : acc2 A B C D E m acc Vp X (ix2 r d) =
      (k0_pay72 m acc X A B C D E (ix2 r d) + ∑ x : Fin 512, k0_pay73 m X A B C D E (ix2 r x) * Vp (ix2 x d) : EReal) := by
  pointwise [acc2]

/-- The second half of the diagonal: 512 keys, for the lower rows. -/
theorem half2 (m : FVec Ideal S512x1 .f32) (acc : FVec Ideal S512x256 .f32) (Vp : FVec Ideal S512x256 .bf16) (X : FVec Ideal S512x512 .f32)
    (r : Fin 512) (hn : n ≤ t)
    (hX : ∀ j : Fin 512, k0_pay69 X A B C D E (ix2 r j) = sc s t (n + j))
    (hV : ∀ (j : Fin 512) (d : Fin 256), Vp (ix2 j d) = ((ext v (n + j) d : ℝ) : EReal))
    (h : Acc s v t n (m (ix2 r 0)) (fun d => acc (ix2 r d))) :
    Acc s v t (n + 512) (k0_pay71 m X A B C D E (ix2 r 0)) (fun d => acc2 A B C D E m acc Vp X (ix2 r d)) := by
  have hm : k0_pay71 m X A B C D E (ix2 r 0)
      = max (m (ix2 r 0)) (Finset.univ.fold max (⊥ : EReal) fun j : Fin 512 => sc s t (n + j)) := Cert.Attn.newmax512x512 _ _ _ _ hX
  refine h.step 512 4 rfl (by norm_num) hn hm fun d => ?_
  rw [acc2_at]
  pointwise [k0_pay72, k0_pay73]
  simp only [hX, hV, exp2_eq]

end

end

/-- The chunk number of a row of the block, as the body's words compute it. -/
theorem row47 (r : Fin 1024) : k0_pay47 (ix2 r 0) = BitVec.ofNat 32 (r.val / 64) := by
  pointwise [k0_pay47]
  revert r
  decide +kernel

theorem row65 (r : Fin 512) : k0_pay65 (ix2 r 0) = BitVec.ofNat 32 (r.val / 64) := by
  pointwise [k0_pay65]
  revert r
  decide +kernel

theorem mask50 (r : Fin 1024) (j : Fin 512) (X : FVec Ideal S1024x512 .f32) :
    k0_pay51 X k0_pay47 (iota .tc S1x512 32 [1] iota_S1x512_d1_w32) 64#32 k0_pay48 k0_pay49 (Scalar.cmpi .sgt 64#32 0#32) (ix2 r j)
      = if j.val / 64 ≤ r.val / 64 then (X (ix2 r j) : EReal) else ⊥ := by
  have h : k0_pay50 k0_pay47 (iota .tc S1x512 32 [1] iota_S1x512_d1_w32) 64#32 k0_pay48 k0_pay49 (Scalar.cmpi .sgt 64#32 0#32) (ix2 r j)
      = IntOp.cmpi .sle (BitVec.ofNat 32 (j.val / 64)) (BitVec.ofNat 32 (r.val / 64)) := by
    pointwise [k0_pay50, k0_pay48, k0_pay49]
    rw [row47]
    congr 1
    revert j
    decide +kernel
  pointwise [k0_pay51]
  rw [h, select_le _ _ (by omega) (by omega), mask_bot]

theorem mask68 (r : Fin 512) (j : Fin 512) (X : FVec Ideal S512x512 .f32) :
    k0_pay69 X k0_pay65 (iota .tc S1x512 32 [1] iota_S1x512_d1_w32) 64#32 k0_pay66 k0_pay67 (ix2 r j)
      = if j.val / 64 ≤ r.val / 64 then (X (ix2 r j) : EReal) else ⊥ := by
  have h : k0_pay68 k0_pay65 (iota .tc S1x512 32 [1] iota_S1x512_d1_w32) 64#32 k0_pay66 k0_pay67 (ix2 r j)
      = IntOp.cmpi .sle (BitVec.ofNat 32 (j.val / 64)) (BitVec.ofNat 32 (r.val / 64)) := by
    pointwise [k0_pay68, k0_pay66, k0_pay67]
    rw [row65]
    congr 1
    revert j
    decide +kernel
  pointwise [k0_pay69]
  rw [h, select_le _ _ (by omega) (by omega), mask_bot]

end Cert.Diff

end
-- ==== Proof.DiffFinish.lean ====
/- The end of the differential attention's body: the two quotients, their difference and its normalisation. -/
module

public import proofs.«01_k».proof.Proof.DiffTile
public import proofs.«01_k».proof.Proof.Finish

@[expose] public section

set_option maxRecDepth 16384

noncomputable section

namespace Cert.Diff

open Idealize.ShloMosaic Idealize.ShloMosaic.TcCoe Idealize.ShloMosaic.Tactic Idealize.ShloMosaic.Pointwise
open Cert.Attn (Row sc wt avg exp2_eq select_le rms)
open Cert.Kernel6Ideal Cert.Kernel6Ideal.Gen

/-- The weight of the second half, from its four rows of 64 parameters. -/
def lamf (L : FVec Ideal S4x64 .f32) : EReal :=
  Ideal.exp (∑ x : Fin 64, L (ix2 0 x) * L (ix2 1 x)) - Ideal.exp (∑ x : Fin 64, L (ix2 2 x) * L (ix2 3 x))
    + Ideal.ofBits .f32 1045220557#32

section
variable (v158 v171 : FVec Ideal S1024x256 .f32) (v185 : FVec Ideal S512x256 .bf16) (v259 v269 : FVec Ideal S512x256 .f32)
  (v270 : FVec Ideal S512x512 .bf16) (L : Vec Ideal S4x64 .f32) (g : Vec Ideal S1x128 .f32) (r : Fin 1024) (d : Fin 128)

theorem pay74_low (hr : r.val < 512) :
    k0_pay74 v158 v171 v185 v259 v269 v270 L g (ix2 r d)
      = rms (fun d => Ideal.div (v158 (ix2 r ⟨d.val, by omega⟩)) (v158 (ix2 r ⟨128, by omega⟩)) -
          lamf L * Ideal.div (v171 (ix2 r ⟨d.val, by omega⟩)) (v171 (ix2 r ⟨128, by omega⟩))) (fun d => g (ix2 0 d)) d := by
  pointwise [k0_pay74]
  simp only [dif_pos hr]
  rfl

theorem pay74_high (ρ : Fin 512) (hr : r.val = 512 + ρ.val) :
    k0_pay74 v158 v171 v185 v259 v269 v270 L g (ix2 r d)
      = rms (fun d => Ideal.div (v259 (ix2 ρ ⟨d.val, by omega⟩)) (v259 (ix2 ρ ⟨128, by omega⟩)) -
          lamf L * Ideal.div (v269 (ix2 ρ ⟨d.val, by omega⟩) + ∑ x : Fin 512, v270 (ix2 ρ x) * v185 (ix2 x ⟨d.val, by omega⟩))
            (v269 (ix2 ρ ⟨128, by omega⟩) + ∑ x : Fin 512, v270 (ix2 ρ x) * v185 (ix2 x ⟨128, by omega⟩))) (fun d => g (ix2 0 d)) d := by
  have hρ : ∀ h, (⟨r.val - 512, h⟩ : Fin 512) = ρ := fun h => Fin.ext (by simp [hr])
  have hn : ¬ r.val < 512 := by omega
  pointwise [k0_pay74]
  simp only [dif_neg hn, hρ]
  rfl

end

theorem pay1_at (a b : FVec Ideal S1024x128 .f32) (r : Fin 1024) (d : Fin 128) :
    k0_pay1 a b (ix2 r d) = (a (ix2 r d) * b (ix2 r d) : EReal) := by
  pointwise [k0_pay1]

theorem pay75_at (r : Fin 1024) (d : Fin 128) : k0_pay75 (F := Ideal) (ix2 r d) = Ideal.ofBits .f32 1061997773#32 := by
  pointwise [k0_pay75]

theorem pay13_at (q : FVec Ideal S1024x128 .bf16) (K : Vec Ideal S2048x128 .bf16) (r : Fin 1024) (j : Fin 2048) :
    k0_pay13 q K (ix2 r j) = (∑ x : Fin 128, q (ix2 r x) * K (ix2 j x) : EReal) := by
  pointwise [k0_pay13, k0_pay11]

theorem pay37_at (q : FVec Ideal S1024x128 .bf16) (K : Vec Ideal S1024x128 .bf16) (r : Fin 1024) (j : Fin 1024) :
    k0_pay37 q K (ix2 r j) = (∑ x : Fin 128, q (ix2 r x) * K (ix2 j x) : EReal) := by
  pointwise [k0_pay37, k0_pay35]

theorem pay45_at (q : FVec Ideal S1024x128 .bf16) (K : Vec Ideal S512x128 .bf16) (r : Fin 1024) (j : Fin 512) :
    k0_pay45 q K (ix2 r j) = (∑ x : Fin 128, q (ix2 r x) * K (ix2 j x) : EReal) := by
  pointwise [k0_pay45, k0_pay43]

theorem pay63_at (q : FVec Ideal S1024x128 .bf16) (K : Vec Ideal S512x128 .bf16) (r : Fin 512) (j : Fin 512) :
    k0_pay63 q K (ix2 r j) = (∑ x : Fin 128, q (ix2 ⟨512 + r.val, by omega⟩ x) * K (ix2 j x) : EReal) := by
  pointwise [k0_pay63, k0_pay61]

theorem pay57_at (m : FVec Ideal S1024x1 .f32) (r : Fin 512) : k0_pay57 m (ix2 r 0) = m (ix2 ⟨512 + r.val, by omega⟩ 0) := by
  pointwise [k0_pay57]

theorem pay58_at (m : FVec Ideal S1024x256 .f32) (r : Fin 512) (d : Fin 256) :
    k0_pay58 m (ix2 r d) = m (ix2 ⟨512 + r.val, by omega⟩ d) := by
  pointwise [k0_pay58]

section
variable (v8 v13 : FVec Ideal S1024x128 .bf16) (kA vA kB vB : Vec Ideal S512x128 .bf16) (L : Vec Ideal S4x64 .f32) (g : Vec Ideal S1x128 .f32)
  (m0 : FVec Ideal S1024x1 .f32) (a0 : FVec Ideal S1024x256 .f32) (m1 : FVec Ideal S1024x1 .f32) (a1 : FVec Ideal S1024x256 .f32)

/-- The numbers of the lanes, for the masks. -/
abbrev lanes : IVec S1x512 32 := iota .tc S1x512 32 [1] iota_S1x512_d1_w32

/-- One half's maximum and sums after the upper half of the diagonal tile. -/
abbrev mA (q : FVec Ideal S1024x128 .bf16) (m : FVec Ideal S1024x1 .f32) : FVec Ideal S1024x1 .f32 :=
  k0_pay53 m (k0_pay45 q kA) k0_pay47 lanes 64#32 k0_pay48 k0_pay49 1#1
abbrev aA (q : FVec Ideal S1024x128 .bf16) (m : FVec Ideal S1024x1 .f32) (a : FVec Ideal S1024x256 .f32) : FVec Ideal S1024x256 .f32 :=
  k0_pay54 m a (k0_pay44 k0_pay6 vA) (k0_pay45 q kA) k0_pay47 lanes 64#32 k0_pay48 k0_pay49 1#1

/-- The body's result, from what the loops leave. -/
def last : Vec Ideal S1024x128 .bf16 :=
  k0_pay1 (k0_pay74 (aA kA vA v8 m0 a0) (aA kA vA v13 m1 a1) (k0_pay44 k0_pay6 vB)
    (k0_pay70 (k0_pay57 (mA kA v8 m0)) (k0_pay58 (aA kA vA v8 m0 a0)) (k0_pay44 k0_pay6 vB) (k0_pay63 v8 kB) k0_pay65 lanes 64#32 k0_pay66 k0_pay67)
    (k0_pay72 (k0_pay57 (mA kA v13 m1)) (k0_pay58 (aA kA vA v13 m1 a1)) (k0_pay63 v13 kB) k0_pay65 lanes 64#32 k0_pay66 k0_pay67)
    (k0_pay73 (k0_pay57 (mA kA v13 m1)) (k0_pay63 v13 kB) k0_pay65 lanes 64#32 k0_pay66 k0_pay67) L g) k0_pay75

variable {s0 s1 : ℕ → ℝ} {v : ℕ → Fin 128 → ℝ} {b : ℕ}

/-- The last key that row `r` of the block at `b` sees: the end of its chunk of 64. -/
abbrev seen (b : ℕ) (r : ℕ) : ℕ := b + (64 * (r / 64) + 63)

theorem upper (q : FVec Ideal S1024x128 .bf16) (m : FVec Ideal S1024x1 .f32) (a : FVec Ideal S1024x256 .f32) (s : ℕ → ℝ) (r : Fin 1024)
    (hK : ∀ j : Fin 512, (∑ x : Fin 128, q (ix2 r x) * kA (ix2 j x) : EReal) = (s (b + j.val) : EReal))
    (hV : ∀ (j : Fin 512) (d : Fin 128), vA (ix2 j d) = ((v (b + j) d : ℝ) : EReal))
    (h : Acc s v (seen b r.val) b (m (ix2 r 0)) (fun d => a (ix2 r d))) :
    Acc s v (seen b r.val) (b + 512) (mA kA q m (ix2 r 0)) (fun d => aA kA vA q m a (ix2 r d)) := by
  refine half1 _ _ _ _ _ _ _ _ _ _ r (by unfold seen; omega) (fun j => ?_) (fun j d => cat512 vA v b j d (hV j)) h
  refine (mask50 r j _).trans ?_
  rw [pay45_at, hK, sc]
  exact if_congr (by unfold seen; omega) rfl rfl

theorem lower (q : FVec Ideal S1024x128 .bf16) (m : FVec Ideal S1024x1 .f32) (a : FVec Ideal S1024x256 .f32) (s : ℕ → ℝ) (r : Fin 1024) (ρ : Fin 512)
    (hr : r.val = 512 + ρ.val)
    (hK : ∀ j : Fin 512, (∑ x : Fin 128, q (ix2 r x) * kB (ix2 j x) : EReal) = (s (b + 512 + j.val) : EReal))
    (hV : ∀ (j : Fin 512) (d : Fin 128), vB (ix2 j d) = ((v (b + 512 + j) d : ℝ) : EReal))
    (h : Acc s v (seen b r.val) (b + 512) (m (ix2 r 0)) (fun d => a (ix2 r d))) :
    Acc s v (seen b r.val) (b + 512 + 512) (k0_pay71 (k0_pay57 m) (k0_pay63 q kB) k0_pay65 lanes 64#32 k0_pay66 k0_pay67 (ix2 ρ 0))
      (fun d => acc2 k0_pay65 lanes 64#32 k0_pay66 k0_pay67 (k0_pay57 m) (k0_pay58 a) (k0_pay44 k0_pay6 vB) (k0_pay63 q kB) (ix2 ρ d)) := by
  have hrr : ∀ h, (⟨512 + ρ.val, h⟩ : Fin 1024) = r := fun h => Fin.ext hr.symm
  refine half2 _ _ _ _ _ _ _ _ _ ρ (by unfold seen; omega) (fun j => ?_) (fun j d => cat512 vB v _ j d (hV j)) ?_
  · refine (mask68 ρ j _).trans ?_
    rw [pay63_at, hrr, hK, sc]
    exact if_congr (by unfold seen; omega) rfl rfl
  · simp only [pay57_at, pay58_at, hrr]
    exact h

/-- The body's result at a row. -/
theorem last_eq (r : Fin 1024) (d : Fin 128)
    (hA0 : ∀ j : Fin 512, (∑ x : Fin 128, v8 (ix2 r x) * kA (ix2 j x) : EReal) = (s0 (b + j.val) : EReal))
    (hA1 : ∀ j : Fin 512, (∑ x : Fin 128, v13 (ix2 r x) * kA (ix2 j x) : EReal) = (s1 (b + j.val) : EReal))
    (hVA : ∀ (j : Fin 512) (d : Fin 128), vA (ix2 j d) = ((v (b + j) d : ℝ) : EReal))
    (hB0 : ∀ j : Fin 512, (∑ x : Fin 128, v8 (ix2 r x) * kB (ix2 j x) : EReal) = (s0 (b + 512 + j.val) : EReal))
    (hB1 : ∀ j : Fin 512, (∑ x : Fin 128, v13 (ix2 r x) * kB (ix2 j x) : EReal) = (s1 (b + 512 + j.val) : EReal))
    (hVB : ∀ (j : Fin 512) (d : Fin 128), vB (ix2 j d) = ((v (b + 512 + j) d : ℝ) : EReal))
    (h0 : Acc s0 v (seen b r.val) b (m0 (ix2 r 0)) (fun d => a0 (ix2 r d)))
    (h1 : Acc s1 v (seen b r.val) b (m1 (ix2 r 0)) (fun d => a1 (ix2 r d))) :
    last v8 v13 kA vA kB vB L g m0 a0 m1 a1 (ix2 r d)
      = (rms (fun d => (avg s0 v (seen b r.val) d : EReal) - lamf L * (avg s1 v (seen b r.val) d : EReal)) (fun d => g (ix2 0 d)) d
        * Ideal.ofBits .f32 1061997773#32 : EReal) := by
  have u0 := upper kA vA v8 m0 a0 s0 r hA0 hVA h0
  have u1 := upper kA vA v13 m1 a1 s1 r hA1 hVA h1
  unfold last
  rw [pay1_at, pay75_at]
  congr 1
  by_cases hr : r.val < 512
  · rw [pay74_low _ _ _ _ _ _ _ _ _ _ hr]
    congr 1
    funext d
    rw [← u0.quotient (by unfold seen; omega) d, ← u1.quotient (by unfold seen; omega) d]
  · obtain ⟨ρ, hρ⟩ : ∃ ρ : Fin 512, r.val = 512 + ρ.val := ⟨⟨r.val - 512, by omega⟩, by simp; omega⟩
    have w0 := lower kB vB v8 _ _ s0 r ρ hρ hB0 hVB u0
    have w1 := lower kB vB v13 _ _ s1 r ρ hρ hB1 hVB u1
    rw [pay74_high _ _ _ _ _ _ _ _ _ _ ρ hρ]
    congr 1
    funext d
    rw [← w0.quotient (by unfold seen; omega) d, ← w1.quotient (by unfold seen; omega) d]
    simp only [acc2_first, acc2_at]

end

end Cert.Diff

end
-- ==== Proof.DiffLoops.lean ====
/- The loops of the differential attention's body: after them every row of the block has taken in the keys before its own
   tile, for both halves of the scores. -/
module

public import proofs.«01_k».proof.Proof.DiffFinish
public import proofs.«01_k».proof.Proof.Loops
public import proofs.«01_k».proof.Proof.Gen.Kernel6Ideal.Value
public import Idealize.ShloMosaic.Lib.Pipeline.ValueKit
public import Idealize.ShloMosaic.Lib.LoopRemainder

@[expose] public section

set_option maxRecDepth 16384

noncomputable section

namespace Cert.Diff

open Idealize.ShloMosaic Idealize.ShloMosaic.TcCoe Idealize.ShloMosaic.Tactic Idealize.ShloMosaic.Pointwise
open Cert.Attn (Row sc wt avg exp2_eq select_le rms ld_rows)
open Cert.Kernel6Ideal Cert.Kernel6Ideal.Gen

theorem trips1 : ∀ i : grid0.Coords, (k0_t1_loop i).trips = (i 1).val / 2 := by decide +kernel
theorem trips2 : ∀ i : grid0.Coords, (k0_t2_loop i).trips = 0 := by decide +kernel
theorem trips3 : ∀ i : grid0.Coords, (k0_t3_loop i).trips = (i 1).val % 2 := by decide +kernel
theorem trips4 : ∀ i : grid0.Coords, (k0_t4_loop i).trips = 0 := by decide +kernel

theorem off1 : ∀ (i : grid0.Coords) (k : Fin (k0_t1_loop i).trips), k0_off1 i k = ![2048 * k.val, 0] := by decide +kernel
theorem off3 : ∀ i : grid0.Coords, (i 1).val % 2 = 1 → k0_off3 i = ![1024 * ((i 1).val - 1), 0] := by decide +kernel
theorem off5 : ∀ i : grid0.Coords, k0_off5 i = ![1024 * (i 1).val, 0] := by decide +kernel
theorem off6 : ∀ i : grid0.Coords, k0_off6 i = ![1024 * (i 1).val + 512, 0] := by decide +kernel

/-- The first row of the block. -/
abbrev base (i : grid0.Coords) : ℕ := 1024 * (i 1).val

theorem base_lt (i : grid0.Coords) : base i + 1024 ≤ 16384 := by
  have : (i 1).val < 16 := (i 1).isLt
  unfold base
  omega

/-- The running maximum and sums of the two halves of the scores. -/
abbrev Carry := FVec Ideal S1024x1 .f32 × FVec Ideal S1024x256 .f32 × FVec Ideal S1024x1 .f32 × FVec Ideal S1024x256 .f32

/-- Every row of the block has taken in the first `n` keys, for both halves. -/
def Inv (s0 s1 : Fin 1024 → ℕ → ℝ) (v : ℕ → Fin 128 → ℝ) (b n : ℕ) (p : Carry) : Prop :=
  ∀ r : Fin 1024, Acc (s0 r) v (seen b r.val) n (p.1 (ix2 r 0)) (fun d => p.2.1 (ix2 r d)) ∧
    Acc (s1 r) v (seen b r.val) n (p.2.2.1 (ix2 r 0)) (fun d => p.2.2.2 (ix2 r d))

section
variable (c : Dev nD) (i : grid0.Coords) (arg2 : Memref sig .tc .vmem S1024x128 .bf16) (harg2 : arg2.IsWhole)
  (arg3 : Memref sig .tc .vmem S16384x128 .bf16) (harg3 : arg3.IsWhole)
  (arg4 : Memref sig .tc .vmem S16384x128 .bf16) (harg4 : arg4.IsWhole)
  (arg5 : Memref sig .tc .vmem S4x64 .f32) (harg5 : arg5.IsWhole)
  (arg6 : Memref sig .tc .vmem S1x128 .f32) (harg6 : arg6.IsWhole)
  (arg7 : Memref sig .tc .vmem S1024x128 .bf16) (harg7 : arg7.IsWhole)
  (x0 : Vec Ideal S1024x128 .bf16) (x1 : Vec Ideal S16384x128 .bf16) (x2 : Vec Ideal S16384x128 .bf16)
  (x3 : Vec Ideal S4x64 .f32) (x4 : Vec Ideal S1x128 .f32) (v8 v13 : FVec Ideal S1024x128 .bf16)

/-- The carried values after the loop over pairs of tiles. -/
def T1 : Carry :=
  st_k0_t1 (F := Ideal) Variants.none c none i arg2 harg2 arg3 harg3 arg4 harg4 arg5 harg5 arg6 harg6 arg7 harg7 (BitVec.ofNat 32 (i 1).val) v8 v13 k0_pay7 k0_pay8 k0_pay9 k0_pay10 2#32 (kernelRun0_A.sl.v37 i) (kernelRun0_A.sl.v39 i)
    (harg3.unread x1) (harg4.unread x2)
    (k0_pay9, k0_pay10, k0_pay9, k0_pay10) (k0_t1_loop i).trips

/-- The carried values after that loop's remainder. -/
def T2 : Carry :=
  let p := T1 c i arg2 harg2 arg3 harg3 arg4 harg4 arg5 harg5 arg6 harg6 arg7 harg7 x1 x2 v8 v13
  st_k0_t2 (F := Ideal) Variants.none c none i arg2 harg2 arg3 harg3 arg4 harg4 arg5 harg5 arg6 harg6 arg7 harg7 (BitVec.ofNat 32 (i 1).val) v8 v13 k0_pay7 k0_pay8 k0_pay9 k0_pay10 2#32 (kernelRun0_A.sl.v37 i) (kernelRun0_A.sl.v39 i)
    (harg3.unread x1) (harg4.unread x2)
    (p.1, p.2.1, p.2.2.1, p.2.2.2) (k0_t2_loop i).trips

/-- The carried values after the odd tile. -/
def T3 : Carry :=
  let p := T2 c i arg2 harg2 arg3 harg3 arg4 harg4 arg5 harg5 arg6 harg6 arg7 harg7 x1 x2 v8 v13
  st_k0_t3 (F := Ideal) Variants.none c none i arg2 harg2 arg3 harg3 arg4 harg4 arg5 harg5 arg6 harg6 arg7 harg7 (BitVec.ofNat 32 (i 1).val) v8 v13 k0_pay7 k0_pay8 k0_pay9 k0_pay10 2#32 (kernelRun0_A.sl.v37 i) (kernelRun0_A.sl.v39 i)
    (harg3.unread x1) (harg4.unread x2)
    (p.1, p.2.1, p.2.2.1, p.2.2.2) (k0_t3_loop i).trips

/-- The carried values after that loop's remainder. -/
def T4 : Carry :=
  let p := T3 c i arg2 harg2 arg3 harg3 arg4 harg4 arg5 harg5 arg6 harg6 arg7 harg7 x1 x2 v8 v13
  st_k0_t4 (F := Ideal) Variants.none c none i arg2 harg2 arg3 harg3 arg4 harg4 arg5 harg5 arg6 harg6 arg7 harg7 (BitVec.ofNat 32 (i 1).val) v8 v13 k0_pay7 k0_pay8 k0_pay9 k0_pay10 2#32 (kernelRun0_A.sl.v37 i) (kernelRun0_A.sl.v39 i)
    (harg3.unread x1) (harg4.unread x2)
    (p.1, p.2.1, p.2.2.1, p.2.2.2) (k0_t4_loop i).trips

/-- A half's score against key `k`, as the body's matrix product gives it, is the real number `s r k`. -/
def Scores (q : FVec Ideal S1024x128 .bf16) (s : Fin 1024 → ℕ → ℝ) : Prop :=
  ∀ (r : Fin 1024) (k : Fin 16384), (∑ x : Fin 128, q (ix2 r x) * x1 (ix2 k x) : EReal) = (s r k.val : EReal)

/-- The values are the real numbers `v`. -/
def Values (v : ℕ → Fin 128 → ℝ) : Prop := ∀ (k : Fin 16384) (d : Fin 128), x2 (ix2 k d) = ((v k.val d : ℝ) : EReal)

/-- What a trip of the loop over pairs of tiles yields. -/
theorem trip1_eq (k : Fin (k0_t1_loop i).trips) (p : Carry) :
    tripR_k0_t1 (F := Ideal) Variants.none c none i arg2 harg2 arg3 harg3 arg4 harg4 arg5 harg5 arg6 harg6 arg7 harg7 (BitVec.ofNat 32 (i 1).val) v8 v13 k0_pay7 k0_pay8 k0_pay9 k0_pay10 2#32 (kernelRun0_A.sl.v37 i) (kernelRun0_A.sl.v39 i)
    (harg3.unread x1) (harg4.unread x2) k p
    = (let K := View.ld x1 (Rect.unit (s := S16384x128) (k0_off1 i k) S2048x128.size (k0_off1_inb i k))
       let V := View.ld x2 (Rect.unit (s := S16384x128) (k0_off1 i k) S2048x128.size (k0_off1_inb i k))
       (k0_pay15 v8 p.1 K, k0_pay16 v8 k0_pay8 p.1 p.2.1 K V, k0_pay15 v13 p.2.2.1 K, k0_pay16 v13 k0_pay8 p.2.2.1 p.2.2.2 K V)) := by
  unfold tripR_k0_t1 trip_k0_t1
  dsimp only
  simp only [View.readAt_eq_ld, harg3.read_unread, harg4.read_unread]
  rfl

/-- What the odd tile's trip yields. -/
theorem trip3_eq (k : Fin (k0_t3_loop i).trips) (p : Carry) :
    tripR_k0_t3 (F := Ideal) Variants.none c none i arg2 harg2 arg3 harg3 arg4 harg4 arg5 harg5 arg6 harg6 arg7 harg7 (BitVec.ofNat 32 (i 1).val) v8 v13 k0_pay7 k0_pay8 k0_pay9 k0_pay10 2#32 (kernelRun0_A.sl.v37 i) (kernelRun0_A.sl.v39 i)
    (harg3.unread x1) (harg4.unread x2) k p
    = (let K := View.ld x1 (Rect.unit (s := S16384x128) (k0_off3 i) S1024x128.size (k0_off3_inb i k))
       let V := View.ld x2 (Rect.unit (s := S16384x128) (k0_off3 i) S1024x128.size (k0_off3_inb i k))
       (k0_pay39 v8 p.1 K, k0_pay40 v8 k0_pay7 p.1 p.2.1 K V, k0_pay39 v13 p.2.2.1 K, k0_pay40 v13 k0_pay7 p.2.2.1 p.2.2.2 K V)) := by
  unfold tripR_k0_t3 trip_k0_t3
  dsimp only
  simp only [View.readAt_eq_ld, harg3.read_unread, harg4.read_unread]
  rfl

variable {s0 s1 : Fin 1024 → ℕ → ℝ} {v : ℕ → Fin 128 → ℝ}

theorem half2048 (q : FVec Ideal S1024x128 .bf16) (s : Fin 1024 → ℕ → ℝ) (hS : Scores x1 q s) (hV : Values x2 v) (k : Fin (k0_t1_loop i).trips)
    (m : FVec Ideal S1024x1 .f32) (a : FVec Ideal S1024x256 .f32) (r : Fin 1024)
    (h : Acc (s r) v (seen (base i) r.val) (2048 * k.val) (m (ix2 r 0)) (fun d => a (ix2 r d))) :
    let K := View.ld x1 (Rect.unit (s := S16384x128) (k0_off1 i k) S2048x128.size (k0_off1_inb i k))
    let V := View.ld x2 (Rect.unit (s := S16384x128) (k0_off1 i k) S2048x128.size (k0_off1_inb i k))
    Acc (s r) v (seen (base i) r.val) (2048 * k.val + 2048) (k0_pay15 q m K (ix2 r 0)) (fun d => k0_pay16 q k0_pay8 m a K V (ix2 r d)) := by
  have hb := base_lt i
  have hk : 2048 * k.val + 2048 ≤ base i := by
    have h1 : k.val < (i 1).val / 2 := lt_of_lt_of_eq k.isLt (trips1 i)
    unfold base
    omega
  intro K V
  refine tile2048 q k0_pay8 m a K V r (by unfold seen; omega) (fun j => ?_) (fun j d => ?_) h
  · rw [pay13_at, sc, if_pos (by unfold seen; omega)]
    refine Eq.trans ?_ (hS r ⟨2048 * k.val + j.val, by omega⟩)
    exact Finset.sum_congr rfl fun x _ => congrArg _ (ld_rows x1 _ _ _ (off1 i k) j x (by omega))
  · exact cat2048 V v _ j d fun d' => (ld_rows x2 _ _ _ (off1 i k) j d' (by omega)).trans (hV _ _)

theorem half1024 (q : FVec Ideal S1024x128 .bf16) (s : Fin 1024 → ℕ → ℝ) (hS : Scores x1 q s) (hV : Values x2 v) (k : Fin (k0_t3_loop i).trips)
    (n : ℕ) (hn : n + 1024 = base i) (m : FVec Ideal S1024x1 .f32) (a : FVec Ideal S1024x256 .f32) (r : Fin 1024)
    (h : Acc (s r) v (seen (base i) r.val) n (m (ix2 r 0)) (fun d => a (ix2 r d))) :
    let K := View.ld x1 (Rect.unit (s := S16384x128) (k0_off3 i) S1024x128.size (k0_off3_inb i k))
    let V := View.ld x2 (Rect.unit (s := S16384x128) (k0_off3 i) S1024x128.size (k0_off3_inb i k))
    Acc (s r) v (seen (base i) r.val) (n + 1024) (k0_pay39 q m K (ix2 r 0)) (fun d => k0_pay40 q k0_pay7 m a K V (ix2 r d)) := by
  have hb := base_lt i
  have hodd : (i 1).val % 2 = 1 := by
    have h1 : k.val < (i 1).val % 2 := lt_of_lt_of_eq k.isLt (trips3 i)
    omega
  have hn' : n = 1024 * ((i 1).val - 1) := by unfold base at hn; omega
  intro K V
  refine tile1024 q k0_pay7 m a K V r (by unfold seen; omega) (fun j => ?_) (fun j d => ?_) h
  · rw [pay37_at, sc, if_pos (by unfold seen; omega)]
    refine Eq.trans ?_ (hS r ⟨n + j.val, by omega⟩)
    exact Finset.sum_congr rfl fun x _ => congrArg _ (ld_rows x1 _ _ _ ((off3 i hodd).trans (by rw [hn'])) j x (by omega))
  · exact cat1024 V v _ j d fun d' => (ld_rows x2 _ _ _ ((off3 i hodd).trans (by rw [hn'])) j d' (by omega)).trans (hV _ _)

theorem init_inv (b : ℕ) : Inv s0 s1 v b 0 (k0_pay9 (F := Ideal), k0_pay10 (F := Ideal), k0_pay9 (F := Ideal), k0_pay10 (F := Ideal)) := by
  intro r
  have h1 : k0_pay9 (F := Ideal) (ix2 r 0) = (⊥ : EReal) := mask_bot
  have h2 : ∀ j, k0_pay10 (F := Ideal) (ix2 r j) = (0 : EReal) := fun j => Ideal.ofBits_zero_f32
  simp only [h1, h2]
  exact ⟨Acc.zero _ _ _, Acc.zero _ _ _⟩

variable (hS0 : Scores x1 v8 s0) (hS1 : Scores x1 v13 s1) (hV : Values x2 v)

include hS0 hS1 hV in
theorem inv1 (n : ℕ) (hn : n ≤ (k0_t1_loop i).trips) :
    Inv s0 s1 v (base i) (2048 * n) (st_k0_t1 (F := Ideal) Variants.none c none i arg2 harg2 arg3 harg3 arg4 harg4 arg5 harg5 arg6 harg6 arg7 harg7 (BitVec.ofNat 32 (i 1).val) v8 v13 k0_pay7 k0_pay8 k0_pay9 k0_pay10 2#32 (kernelRun0_A.sl.v37 i) (kernelRun0_A.sl.v39 i)
    (harg3.unread x1) (harg4.unread x2)
    (k0_pay9, k0_pay10, k0_pay9, k0_pay10) n) := by
  induction n with
  | zero => exact init_inv _
  | succ n ih =>
    rw [st_k0_t1_succ (k := ⟨n, hn⟩), trip1_eq]
    intro r
    have h := ih (by omega) r
    exact ⟨half2048 i x1 x2 v8 s0 hS0 hV ⟨n, hn⟩ _ _ r h.1, half2048 i x1 x2 v13 s1 hS1 hV ⟨n, hn⟩ _ _ r h.2⟩

include hS0 hS1 hV in
theorem inv2 : Inv s0 s1 v (base i) (2048 * ((i 1).val / 2)) (T2 c i arg2 harg2 arg3 harg3 arg4 harg4 arg5 harg5 arg6 harg6 arg7 harg7 x1 x2 v8 v13) := by
  have h := inv1 c i arg2 harg2 arg3 harg3 arg4 harg4 arg5 harg5 arg6 harg6 arg7 harg7 x1 x2 v8 v13 hS0 hS1 hV _ le_rfl
  unfold T2
  dsimp only
  rw [trips2, st_k0_t2_zero]
  rw [trips1] at h
  unfold T1
  rw [trips1]
  exact h

include hS0 hS1 hV in
theorem inv3 : Inv s0 s1 v (base i) (base i) (T3 c i arg2 harg2 arg3 harg3 arg4 harg4 arg5 harg5 arg6 harg6 arg7 harg7 x1 x2 v8 v13) := by
  have h := inv2 c i arg2 harg2 arg3 harg3 arg4 harg4 arg5 harg5 arg6 harg6 arg7 harg7 x1 x2 v8 v13 hS0 hS1 hV
  unfold T3
  dsimp only
  rcases Nat.mod_two_eq_zero_or_one (i 1).val with h0 | h1
  · rw [trips3, h0, st_k0_t3_zero]
    have e : 2048 * ((i 1).val / 2) = base i := by unfold base; omega
    rw [e] at h
    exact h
  · have ht : (k0_t3_loop i).trips = 0 + 1 := by rw [trips3, h1]
    have hn : 2048 * ((i 1).val / 2) + 1024 = base i := by unfold base; omega
    have hlt : 0 < (k0_t3_loop i).trips := by omega
    rw [ht, st_k0_t3_succ (k := ⟨0, hlt⟩), st_k0_t3_zero, trip3_eq]
    intro r
    have h' := h r
    have a0 := half1024 i x1 x2 v8 s0 hS0 hV ⟨0, hlt⟩ _ hn _ _ r h'.1
    have a1 := half1024 i x1 x2 v13 s1 hS1 hV ⟨0, hlt⟩ _ hn _ _ r h'.2
    rw [hn] at a0 a1
    exact ⟨a0, a1⟩

include hS0 hS1 hV in
theorem inv4 : Inv s0 s1 v (base i) (base i) (T4 c i arg2 harg2 arg3 harg3 arg4 harg4 arg5 harg5 arg6 harg6 arg7 harg7 x1 x2 v8 v13) := by
  have h := inv3 c i arg2 harg2 arg3 harg3 arg4 harg4 arg5 harg5 arg6 harg6 arg7 harg7 x1 x2 v8 v13 hS0 hS1 hV
  unfold T4
  dsimp only
  rw [trips4, st_k0_t4_zero]
  exact h

end

end Cert.Diff

end
-- ==== Proof.DiffBlock.lean ====
/- What one grid point of the differential attention leaves in its output block. -/
module

public import proofs.«01_k».proof.Proof.DiffLoops

@[expose] public section

set_option maxRecDepth 16384

noncomputable section

namespace Cert.Diff

open Idealize.ShloMosaic Idealize.ShloMosaic.TcCoe Idealize.ShloMosaic.Tactic Idealize.ShloMosaic.Pointwise
open Cert.Attn (avg rms ld_rows)
open Cert.Kernel6Ideal Cert.Kernel6Ideal.Gen

section
variable (c : Dev nD) (i : grid0.Coords) (arg2 : Memref sig .tc .vmem S1024x128 .bf16) (harg2 : arg2.IsWhole)
  (arg3 : Memref sig .tc .vmem S16384x128 .bf16) (harg3 : arg3.IsWhole)
  (arg4 : Memref sig .tc .vmem S16384x128 .bf16) (harg4 : arg4.IsWhole)
  (arg5 : Memref sig .tc .vmem S4x64 .f32) (harg5 : arg5.IsWhole)
  (arg6 : Memref sig .tc .vmem S1x128 .f32) (harg6 : arg6.IsWhole)
  (arg7 : Memref sig .tc .vmem S1024x128 .bf16) (harg7 : arg7.IsWhole)
  (x0 : Vec Ideal S1024x128 .bf16) (x1 : Vec Ideal S16384x128 .bf16) (x2 : Vec Ideal S16384x128 .bf16)
  (x3 : Vec Ideal S4x64 .f32) (x4 : Vec Ideal S1x128 .f32)

/-- The query block, as the body loads it. -/
abbrev q0 : Vec Ideal S1024x128 .bf16 := View.ld x0 (Rect.unit (s := S1024x128) ![0, 0] S1024x128.size inb_S1024x128_S1024x128_0_0)

/-- The tiles of the diagonal and the two small arrays, as the body loads them. -/
abbrev dkA : Vec Ideal S512x128 .bf16 := View.ld x1 (Rect.unit (s := S16384x128) (k0_off5 i) S512x128.size (k0_off5_inb i))
abbrev dvA : Vec Ideal S512x128 .bf16 := View.ld x2 (Rect.unit (s := S16384x128) (k0_off5 i) S512x128.size (k0_off5_inb i))
abbrev dkB : Vec Ideal S512x128 .bf16 := View.ld x1 (Rect.unit (s := S16384x128) (k0_off6 i) S512x128.size (k0_off6_inb i))
abbrev dvB : Vec Ideal S512x128 .bf16 := View.ld x2 (Rect.unit (s := S16384x128) (k0_off6 i) S512x128.size (k0_off6_inb i))
abbrev l0 : Vec Ideal S4x64 .f32 := View.ld x3 (Rect.unit (s := S4x64) ![0, 0] S4x64.size inb_S4x64_S4x64_0_0)
abbrev g0 : Vec Ideal S1x128 .f32 := View.ld x4 (Rect.unit (s := S1x128) ![0, 0] S1x128.size inb_S1x128_S1x128_0_0)

theorem r_eq : kernelRun0_A.sl.r (F := Ideal) c arg2 harg2 x0 = k0_pay4 (q0 x0) := by
  unfold kernelRun0_A.sl.r
  rw [View.readAt_eq_ld, harg2.read_unread]

theorem r1_eq : kernelRun0_A.sl.r_1 (F := Ideal) c arg2 harg2 x0 = k0_pay5 (q0 x0) := by
  unfold kernelRun0_A.sl.r_1
  rw [View.readAt_eq_ld, harg2.read_unread]

theorem r2_eq : kernelRun0_A.sl.r_2 (F := Ideal) c i arg2 harg2 arg3 harg3 arg4 harg4 arg5 harg5 arg6 harg6 arg7 harg7 x0 x1 x2
    = (T4 c i arg2 harg2 arg3 harg3 arg4 harg4 arg5 harg5 arg6 harg6 arg7 harg7 x1 x2 (k0_pay4 (q0 x0)) (k0_pay5 (q0 x0))).1 := by
  unfold kernelRun0_A.sl.r_2 T4 T3 T2 T1
  rw [r_eq, r1_eq]

theorem r3_eq : kernelRun0_A.sl.r_3 (F := Ideal) c i arg2 harg2 arg3 harg3 arg4 harg4 arg5 harg5 arg6 harg6 arg7 harg7 x0 x1 x2
    = (T4 c i arg2 harg2 arg3 harg3 arg4 harg4 arg5 harg5 arg6 harg6 arg7 harg7 x1 x2 (k0_pay4 (q0 x0)) (k0_pay5 (q0 x0))).2.1 := by
  unfold kernelRun0_A.sl.r_3 T4 T3 T2 T1
  rw [r_eq, r1_eq]

theorem r4_eq : kernelRun0_A.sl.r_4 (F := Ideal) c i arg2 harg2 arg3 harg3 arg4 harg4 arg5 harg5 arg6 harg6 arg7 harg7 x0 x1 x2
    = (T4 c i arg2 harg2 arg3 harg3 arg4 harg4 arg5 harg5 arg6 harg6 arg7 harg7 x1 x2 (k0_pay4 (q0 x0)) (k0_pay5 (q0 x0))).2.2.1 := by
  unfold kernelRun0_A.sl.r_4 T4 T3 T2 T1
  rw [r_eq, r1_eq]

theorem r5_eq : kernelRun0_A.sl.r_5 (F := Ideal) c i arg2 harg2 arg3 harg3 arg4 harg4 arg5 harg5 arg6 harg6 arg7 harg7 x0 x1 x2
    = (T4 c i arg2 harg2 arg3 harg3 arg4 harg4 arg5 harg5 arg6 harg6 arg7 harg7 x1 x2 (k0_pay4 (q0 x0)) (k0_pay5 (q0 x0))).2.2.2 := by
  unfold kernelRun0_A.sl.r_5 T4 T3 T2 T1
  rw [r_eq, r1_eq]

theorem r6_eq : kernelRun0_A.sl.r_6 (F := Ideal) i arg4 harg4 x2 = k0_pay44 k0_pay6 (dvA i x2) := by
  unfold kernelRun0_A.sl.r_6
  rw [View.readAt_eq_ld, harg4.read_unread]

theorem r7_eq : kernelRun0_A.sl.r_7 (F := Ideal) c i arg2 harg2 arg3 harg3 x0 x1 = k0_pay45 (k0_pay4 (q0 x0)) (dkA i x1) := by
  unfold kernelRun0_A.sl.r_7
  rw [r_eq, View.readAt_eq_ld, harg3.read_unread]

theorem r8_eq : kernelRun0_A.sl.r_8 (F := Ideal) c i arg2 harg2 arg3 harg3 x0 x1 = k0_pay45 (k0_pay5 (q0 x0)) (dkA i x1) := by
  unfold kernelRun0_A.sl.r_8
  rw [r1_eq, View.readAt_eq_ld, harg3.read_unread]
  rfl

theorem r17_eq : kernelRun0_A.sl.r_17 (F := Ideal) i arg4 harg4 x2 = k0_pay44 k0_pay6 (dvB i x2) := by
  unfold kernelRun0_A.sl.r_17
  rw [View.readAt_eq_ld, harg4.read_unread]
  rfl

theorem r18_eq : kernelRun0_A.sl.r_18 (F := Ideal) c i arg2 harg2 arg3 harg3 x0 x1 = k0_pay63 (k0_pay4 (q0 x0)) (dkB i x1) := by
  unfold kernelRun0_A.sl.r_18
  rw [r_eq, View.readAt_eq_ld, harg3.read_unread]

theorem r19_eq : kernelRun0_A.sl.r_19 (F := Ideal) c i arg2 harg2 arg3 harg3 x0 x1 = k0_pay63 (k0_pay5 (q0 x0)) (dkB i x1) := by
  unfold kernelRun0_A.sl.r_19
  rw [r1_eq, View.readAt_eq_ld, harg3.read_unread]
  rfl

theorem r9_eq : kernelRun0_A.sl.r_9 (F := Ideal) c i arg2 harg2 arg3 harg3 arg4 harg4 arg5 harg5 arg6 harg6 arg7 harg7 x0 x1 x2
    = mA (dkA i x1) (k0_pay4 (q0 x0)) (T4 c i arg2 harg2 arg3 harg3 arg4 harg4 arg5 harg5 arg6 harg6 arg7 harg7 x1 x2 (k0_pay4 (q0 x0)) (k0_pay5 (q0 x0))).1 := by
  unfold kernelRun0_A.sl.r_9
  rw [r2_eq, r7_eq]
  rfl

theorem r10_eq : kernelRun0_A.sl.r_10 (F := Ideal) c i arg2 harg2 arg3 harg3 arg4 harg4 arg5 harg5 arg6 harg6 arg7 harg7 x0 x1 x2
    = aA (dkA i x1) (dvA i x2) (k0_pay4 (q0 x0)) (T4 c i arg2 harg2 arg3 harg3 arg4 harg4 arg5 harg5 arg6 harg6 arg7 harg7 x1 x2 (k0_pay4 (q0 x0)) (k0_pay5 (q0 x0))).1
      (T4 c i arg2 harg2 arg3 harg3 arg4 harg4 arg5 harg5 arg6 harg6 arg7 harg7 x1 x2 (k0_pay4 (q0 x0)) (k0_pay5 (q0 x0))).2.1 := by
  unfold kernelRun0_A.sl.r_10
  rw [r2_eq, r7_eq, r3_eq, r6_eq]
  rfl

theorem r11_eq : kernelRun0_A.sl.r_11 (F := Ideal) c i arg2 harg2 arg3 harg3 arg4 harg4 arg5 harg5 arg6 harg6 arg7 harg7 x0 x1 x2
    = mA (dkA i x1) (k0_pay5 (q0 x0)) (T4 c i arg2 harg2 arg3 harg3 arg4 harg4 arg5 harg5 arg6 harg6 arg7 harg7 x1 x2 (k0_pay4 (q0 x0)) (k0_pay5 (q0 x0))).2.2.1 := by
  unfold kernelRun0_A.sl.r_11
  rw [r4_eq, r8_eq]
  rfl

theorem r12_eq : kernelRun0_A.sl.r_12 (F := Ideal) c i arg2 harg2 arg3 harg3 arg4 harg4 arg5 harg5 arg6 harg6 arg7 harg7 x0 x1 x2
    = aA (dkA i x1) (dvA i x2) (k0_pay5 (q0 x0)) (T4 c i arg2 harg2 arg3 harg3 arg4 harg4 arg5 harg5 arg6 harg6 arg7 harg7 x1 x2 (k0_pay4 (q0 x0)) (k0_pay5 (q0 x0))).2.2.1
      (T4 c i arg2 harg2 arg3 harg3 arg4 harg4 arg5 harg5 arg6 harg6 arg7 harg7 x1 x2 (k0_pay4 (q0 x0)) (k0_pay5 (q0 x0))).2.2.2 := by
  unfold kernelRun0_A.sl.r_12
  rw [r4_eq, r8_eq, r5_eq, r6_eq]
  rfl

theorem out_eq : out0_A_5 c i arg2 harg2 arg3 harg3 arg4 harg4 arg5 harg5 arg6 harg6 arg7 harg7 x0 x1 x2 x3 x4
    = last (k0_pay4 (q0 x0)) (k0_pay5 (q0 x0)) (dkA i x1) (dvA i x2) (dkB i x1) (dvB i x2) (l0 x3) (g0 x4)
      (T4 c i arg2 harg2 arg3 harg3 arg4 harg4 arg5 harg5 arg6 harg6 arg7 harg7 x1 x2 (k0_pay4 (q0 x0)) (k0_pay5 (q0 x0))).1
      (T4 c i arg2 harg2 arg3 harg3 arg4 harg4 arg5 harg5 arg6 harg6 arg7 harg7 x1 x2 (k0_pay4 (q0 x0)) (k0_pay5 (q0 x0))).2.1
      (T4 c i arg2 harg2 arg3 harg3 arg4 harg4 arg5 harg5 arg6 harg6 arg7 harg7 x1 x2 (k0_pay4 (q0 x0)) (k0_pay5 (q0 x0))).2.2.1
      (T4 c i arg2 harg2 arg3 harg3 arg4 harg4 arg5 harg5 arg6 harg6 arg7 harg7 x1 x2 (k0_pay4 (q0 x0)) (k0_pay5 (q0 x0))).2.2.2 := by
  unfold out0_A_5
  rw [View.read_writes_eq_canon _ _ _ (cover0_A_5 c _ _ _ _ _ _ _ _ _ _ _ _ _ _ _ _ _ _)]
  unfold kernelRun0_A
  dsimp only
  refine (View.canon_cons_unit_zero (S := S1024x128) (by decide) _ _ _).trans ?_
  unfold kernelRun0_A.sl.r_23 kernelRun0_A.sl.r_22 kernelRun0_A.sl.r_21 kernelRun0_A.sl.r_20 kernelRun0_A.sl.r_16 kernelRun0_A.sl.r_15
    kernelRun0_A.sl.r_14 kernelRun0_A.sl.r_13 last
  simp only [r9_eq, r10_eq, r11_eq, r12_eq, r17_eq, r18_eq, r19_eq, View.readAt_eq_ld, harg5.read_unread, harg6.read_unread]
  rfl

variable {s0 s1 : Fin 1024 → ℕ → ℝ} {v : ℕ → Fin 128 → ℝ}

/-- What one grid point leaves in its output block. -/
theorem block_eq (hS0 : Scores x1 (k0_pay4 (q0 x0)) s0) (hS1 : Scores x1 (k0_pay5 (q0 x0)) s1) (hV : Values x2 v) (r : Fin 1024) (d : Fin 128) :
    out0_A_5 c i arg2 harg2 arg3 harg3 arg4 harg4 arg5 harg5 arg6 harg6 arg7 harg7 x0 x1 x2 x3 x4 (ix2 r d)
      = (rms (fun d => (avg (s0 r) v (seen (base i) r.val) d : EReal) - lamf x3 * (avg (s1 r) v (seen (base i) r.val) d : EReal))
        (fun d => x4 (ix2 0 d)) d * Ideal.ofBits .f32 1061997773#32 : EReal) := by
  have hb := base_lt i
  have hg : ∀ d : Fin 128, g0 x4 (ix2 0 d) = x4 (ix2 0 d) := fun d => by
    refine View.ld_unit_apply_of x4 _ _ _ _ _ fun a => ?_
    match a with
    | 0 => rfl
    | 1 => exact (Nat.zero_add _).symm
  have hl : l0 x3 = x3 := View.ld_unit_zero (by decide) _ _
  have h := inv4 c i arg2 harg2 arg3 harg3 arg4 harg4 arg5 harg5 arg6 harg6 arg7 harg7 x1 x2 _ _ hS0 hS1 hV r
  rw [out_eq]
  refine (last_eq _ _ _ _ _ _ _ _ _ _ _ _ r d (fun j => ?_) (fun j => ?_) (fun j d => ?_) (fun j => ?_) (fun j => ?_) (fun j d => ?_) h.1 h.2).trans ?_
  · refine Eq.trans ?_ (hS0 r ⟨base i + j.val, by omega⟩)
    exact Finset.sum_congr rfl fun x _ => congrArg _ (ld_rows x1 _ _ (base i) (off5 i) j x (by omega))
  · refine Eq.trans ?_ (hS1 r ⟨base i + j.val, by omega⟩)
    exact Finset.sum_congr rfl fun x _ => congrArg _ (ld_rows x1 _ _ (base i) (off5 i) j x (by omega))
  · exact (ld_rows x2 _ _ (base i) (off5 i) j d (by omega)).trans (hV _ _)
  · refine Eq.trans ?_ (hS0 r ⟨base i + 512 + j.val, by omega⟩)
    exact Finset.sum_congr rfl fun x _ => congrArg _ (ld_rows x1 _ _ (base i + 512) (off6 i) j x (by omega))
  · refine Eq.trans ?_ (hS1 r ⟨base i + 512 + j.val, by omega⟩)
    exact Finset.sum_congr rfl fun x _ => congrArg _ (ld_rows x1 _ _ (base i + 512) (off6 i) j x (by omega))
  · exact (ld_rows x2 _ _ (base i + 512) (off6 i) j d (by omega)).trans (hV _ _)
  · rw [hl]
    simp only [hg]

end

end Cert.Diff

end
-- ==== Proof.DiffArray.lean ====
/- The differential attention's result, entry by entry: the host's arrays, the blocks, and what the launch writes back. -/
module

public import proofs.«01_k».proof.Proof.DiffBlock
public import proofs.«01_k».proof.Proof.Host
public import Idealize.ShloMosaic.Lib.Pointwise

@[expose] public section

set_option maxRecDepth 16384

noncomputable section

namespace Cert.Diff

open Idealize.ShloMosaic Idealize.ShloMosaic.TcCoe Idealize.ShloMosaic.Tactic Idealize.ShloMosaic.Pointwise
open Cert.Attn (avg rms lg lg_eq coe_sum)
open Cert.Kernel6Ideal Cert.Kernel6Ideal.Gen

section
variable (m : (ℓ : Loc nD τ sig) → Buf (Elt Ideal) ℓ) (c : Dev nD)

/-- The arguments. -/
abbrev aq : FVec Ideal S16384x512 .f32 := m ((c : Thread nD τ).loc main_arg1)
abbrev ak : FVec Ideal S16384x512 .f32 := m ((c : Thread nD τ).loc main_arg2)
abbrev av : FVec Ideal S16384x512 .f32 := m ((c : Thread nD τ).loc main_arg3)
abbrev al : FVec Ideal S4x64 .f32 := m ((c : Thread nD τ).loc main_arg4)
abbrev ag : FVec Ideal S128 .f32 := m ((c : Thread nD τ).loc main_arg5)

theorem eighth_eq : Ideal.ofBits .f32 1040187392#32 = ((1 / 8 : ℝ) : EReal) := by
  simp [Ideal.ofBits, Ideal.ieee, -EReal.coe_mul]; norm_num

theorem proj_q (r : Fin 16384) (e : Fin 512) :
    V m c main_v6 (ix2 r ⟨4608 + e.val, by omega⟩) = (aq m c (ix2 r e) * ((1 / 8 * lg : ℝ) : EReal) : EReal) := by
  unfold_abbrev_sides
  after_results
  pointwise
  after_results_simp
  pointwise
  rw [lg_eq, eighth_eq, ← EReal.coe_mul]
  rfl

theorem proj_k (r : Fin 16384) (e : Fin 512) :
    V m c main_v6 (ix2 r ⟨5120 + e.val, by omega⟩) = ak m c (ix2 r e) := by
  unfold_abbrev_sides
  after_results
  pointwise
  after_results_simp
  rw [dif_neg (by omega), dif_neg (by omega), dif_pos (by omega)]
  exact congrArg (fun j => ak m c (ix2 r j)) (Fin.ext (by show 5120 + e.val - 4608 - 512 = e.val; omega))

theorem proj_v (r : Fin 16384) (e : Fin 512) :
    V m c main_v6 (ix2 r ⟨5632 + e.val, by omega⟩) = av m c (ix2 r e) := by
  unfold_abbrev_sides
  after_results
  pointwise
  after_results_simp
  rw [dif_neg (by omega), dif_neg (by omega), dif_neg (by omega)]
  exact congrArg (fun j => av m c (ix2 r j)) (Fin.ext (by show 5632 + e.val - 4608 - 512 - 512 = e.val; omega))

theorem gain (d : Fin 128) : V m c main_v7 (ix2 0 d) = ag m c (ix1 d) := by
  unfold_abbrev_sides
  after_results
  pointwise

theorem lamv : V m c main_arg4 = al m c := by
  unfold_abbrev_sides
  after_results

/-- The grid point's head and block of rows. -/
theorem idxs : ∀ t : Fin cfg0.N,
    win0_0.index t = ![(grid0.coords t 1).val, 36 + (grid0.coords t 0).val] ∧
    win0_1.index t = ![0, 40 + (grid0.coords t 0).val] ∧
    win0_2.index t = ![0, 44 + (grid0.coords t 0).val] ∧
    win0_3.index t = ![0, 0] ∧
    win0_4.index t = ![0, 0] ∧
    win0_5.index t = ![(grid0.coords t 1).val, (grid0.coords t 0).val] := by
  decide +kernel

theorem blk0 (t : Fin cfg0.N) (r : Fin 1024) (d : Fin 128) (hr : 1024 * (grid0.coords t 1).val + r.val < 16384) (hd : 4608 + (128 * (grid0.coords t 0).val + d.val) < 6144) :
    iblk m c 0 t (ix2 r d) = V m c main_v6 (ix2 ⟨1024 * (grid0.coords t 1).val + r.val, hr⟩ ⟨4608 + (128 * (grid0.coords t 0).val + d.val), hd⟩) := by
  blk_ext [iblk, idxs t]

theorem blk1 (t : Fin cfg0.N) (r : Fin 16384) (d : Fin 128) (hd : 5120 + (128 * (grid0.coords t 0).val + d.val) < 6144) :
    iblk m c 1 t (ix2 r d) = V m c main_v6 (ix2 r ⟨5120 + (128 * (grid0.coords t 0).val + d.val), hd⟩) := by
  blk_ext [iblk, idxs t]

theorem blk2 (t : Fin cfg0.N) (r : Fin 16384) (d : Fin 128) (hd : 5632 + (128 * (grid0.coords t 0).val + d.val) < 6144) :
    iblk m c 2 t (ix2 r d) = V m c main_v6 (ix2 r ⟨5632 + (128 * (grid0.coords t 0).val + d.val), hd⟩) := by
  blk_ext [iblk, idxs t]

theorem blk3 (t : Fin cfg0.N) (a : Fin 4) (d : Fin 64) : iblk m c 3 t (ix2 a d) = V m c main_arg4 (ix2 a d) := by
  blk_ext [iblk, idxs t]

theorem blk4 (t : Fin cfg0.N) (d : Fin 128) : iblk m c 4 t (ix2 0 d) = V m c main_v7 (ix2 0 d) := by
  blk_ext [iblk, idxs t]

end

theorem select_lt {α : Type} (a : ℕ) (ha : a < 2 ^ 31) (x y : α) :
    Scalar.select (IntOp.cmpi .slt (BitVec.ofNat 32 a) 64#32) x y = if a < 64 then x else y := by
  rw [show (64#32 : BitVec 32) = BitVec.ofNat 32 64 from rfl, WordCmp.cmpi_slt_ofNat (by simpa using ha) (by norm_num)]
  by_cases h : a < 64 <;> simp [h, Scalar.select]

theorem select_ge {α : Type} (a : ℕ) (ha : a < 2 ^ 31) (x y : α) :
    Scalar.select (IntOp.cmpi .sge (BitVec.ofNat 32 a) 64#32) x y = if a < 64 then y else x := by
  rw [show (64#32 : BitVec 32) = BitVec.ofNat 32 64 from rfl, WordCmp.cmpi_sge_ofNat (by simpa using ha) (by norm_num)]
  by_cases h : a < 64
  · simp [h, Scalar.select, Nat.not_le.2 h]
  · simp [h, Scalar.select, Nat.not_lt.1 h]

/-- The queries of the first score half: the lanes of the second are zero. -/
theorem pay4_at (x0 : Vec Ideal S1024x128 .bf16) (r : Fin 1024) (x : Fin 128) :
    k0_pay4 x0 (ix2 r x) = if x.val < 64 then x0 (ix2 r x) else (0 : EReal) := by
  pointwise [k0_pay4, k0_pay2, k0_pay3]
  exact select_lt _ (by omega) _ _

/-- The queries of the second score half. -/
theorem pay5_at (x0 : Vec Ideal S1024x128 .bf16) (r : Fin 1024) (x : Fin 128) :
    k0_pay5 x0 (ix2 r x) = if x.val < 64 then (0 : EReal) else x0 (ix2 r x) := by
  pointwise [k0_pay5, k0_pay2, k0_pay3]
  exact select_ge _ (by omega) _ _

/-- Half `z`'s score of key `n` at row `t` of head `h`, in units of `log 2`. -/
def score (q k : ℕ → ℕ → ℝ) (h z t n : ℕ) : ℝ :=
  (∑ d : Fin 64, q t (128 * h + (64 * z + d.val)) * k n (128 * h + (64 * z + d.val))) * (1 / 8 * lg)

/-- Entry `(t, e)` of the result: head `e / 128`, lane `e % 128`. -/
def result (q k v : ℕ → ℕ → ℝ) (L : S4x64.Idx → EReal) (g : S128.Idx → EReal) (t e : ℕ) : EReal :=
  rms (fun d => (avg (score q k (e / 128) 0 t) (fun n d => v n (128 * (e / 128) + d.val)) (64 * (t / 64) + 63) d : EReal) -
      lamf L * (avg (score q k (e / 128) 1 t) (fun n d => v n (128 * (e / 128) + d.val)) (64 * (t / 64) + 63) d : EReal))
    (fun d => g (ix1 d)) ⟨e % 128, Nat.mod_lt _ (by norm_num)⟩ * Ideal.ofBits .f32 1061997773#32

theorem q0_at (x0 : Vec Ideal S1024x128 .bf16) (r : Fin 1024) (d : Fin 128) : q0 x0 (ix2 r d) = x0 (ix2 r d) :=
  View.ld_unit_apply_of x0 _ _ _ _ _ fun a => by
    match a with
    | 0 => exact (Nat.zero_add _).symm
    | 1 => exact (Nat.zero_add _).symm

theorem sum_halves (f : Fin 128 → EReal) :
    ∑ x : Fin 128, f x = (∑ d : Fin 64, f ⟨d.val, by omega⟩) + ∑ d : Fin 64, f ⟨64 + d.val, by omega⟩ :=
  Fin.sum_univ_add (a := 64) (b := 64) f

section
variable (x0 : Vec Ideal S1024x128 .bf16) (x1 : Vec Ideal S16384x128 .bf16) (q k : ℕ → ℕ → ℝ) (h : ℕ) (t : Fin 1024 → ℕ)
  (h0 : ∀ r d, x0 (ix2 r d) = ((q (t r) (128 * h + d.val) : ℝ) : EReal) * ((1 / 8 * lg : ℝ) : EReal))
  (h1 : ∀ n d, x1 (ix2 n d) = ((k n.val (128 * h + d.val) : ℝ) : EReal))
include h0 h1

theorem term (r : Fin 1024) (n : Fin 16384) (x : Fin 128) :
    (x0 (ix2 r x) * x1 (ix2 n x) : EReal) = ((q (t r) (128 * h + x.val) * k n.val (128 * h + x.val) * (1 / 8 * lg) : ℝ) : EReal) := by
  rw [h0, h1, ← EReal.coe_mul, ← EReal.coe_mul, mul_right_comm]

theorem scores_low : Scores x1 (k0_pay4 (q0 x0)) fun r n => score q k h 0 (t r) n := by
  intro r n
  rw [sum_halves, Finset.sum_eq_zero (f := fun d : Fin 64 => (k0_pay4 (F := Ideal) (q0 x0) (ix2 r ⟨64 + d.val, by omega⟩) * x1 (ix2 n ⟨64 + d.val, by omega⟩) : EReal))
    (fun d _ => by rw [pay4_at, if_neg (by simp), zero_mul])]
  refine (add_zero _).trans ?_
  show _ = ((score q k h 0 (t r) n.val : ℝ) : EReal)
  rw [score, Finset.sum_mul, coe_sum]
  refine Finset.sum_congr rfl fun d _ => ?_
  rw [pay4_at, if_pos d.isLt, q0_at, term x0 x1 q k h t h0 h1]
  simp only [Nat.mul_zero, Nat.zero_add]

theorem scores_high : Scores x1 (k0_pay5 (q0 x0)) fun r n => score q k h 1 (t r) n := by
  intro r n
  rw [sum_halves, Finset.sum_eq_zero (f := fun d : Fin 64 => (k0_pay5 (F := Ideal) (q0 x0) (ix2 r ⟨d.val, by omega⟩) * x1 (ix2 n ⟨d.val, by omega⟩) : EReal))
    (fun d _ => by rw [pay5_at, if_pos d.isLt, zero_mul])]
  refine (zero_add _).trans ?_
  show _ = ((score q k h 1 (t r) n.val : ℝ) : EReal)
  rw [score, Finset.sum_mul, coe_sum]
  refine Finset.sum_congr rfl fun d _ => ?_
  rw [pay5_at, if_neg (by simp), q0_at, term x0 x1 q k h t h0 h1]

end

variable (m : (ℓ : Loc nD τ sig) → Buf (Elt Ideal) ℓ) (c : Dev nD)

/-- What the launch leaves in the result array, for real queries, keys and values. -/
theorem array_eq (q k v : ℕ → ℕ → ℝ) (hq : ∀ a b, aq m c (ix2 a b) = ((q a.val b.val : ℝ) : EReal))
    (hk : ∀ a b, ak m c (ix2 a b) = ((k a.val b.val : ℝ) : EReal)) (hv : ∀ a b, av m c (ix2 a b) = ((v a.val b.val : ℝ) : EReal)) :
    (dats m 0 c).arrAt 5 cfg0.N = fun i : S16384x512.Idx => result q k v (al m c) (ag m c) (i 0).val (i 1).val := by
  refine (dats m 0 c).arrAt_eq_of_covers 5 _ (by decide +kernel) fun t hf y => ?_
  have c0 : (grid0.coords t 0).val < 4 := (grid0.coords t 0).isLt
  have c1 : (grid0.coords t 1).val < 16 := (grid0.coords t 1).isLt
  refine (congrFun (Cert.Kernel6Ideal.Value.flushed5_A m c t) y).trans ?_
  blk_simp [idxs t]
  idx_vars y
  have h0 : ∀ (r : Fin 1024) (d : Fin 128), iblk m c 0 t (ix2 r d)
      = ((q (1024 * (grid0.coords t 1).val + r.val) (128 * (grid0.coords t 0).val + d.val) : ℝ) : EReal) * ((1 / 8 * lg : ℝ) : EReal) := fun r d => by
    rw [blk0 m c t r d (by omega) (by omega)]
    exact (proj_q m c ⟨_, _⟩ ⟨_, by omega⟩).trans (congrArg (fun z : EReal => z * _) (hq _ _))
  have h1 : ∀ (n : Fin 16384) (d : Fin 128), iblk m c 1 t (ix2 n d) = ((k n.val (128 * (grid0.coords t 0).val + d.val) : ℝ) : EReal) := fun n d => by
    rw [blk1 m c t n d (by omega)]
    exact (proj_k m c n ⟨_, by omega⟩).trans (hk _ _)
  have hV : Values (iblk m c 2 t) fun n d => v n (128 * (grid0.coords t 0).val + d.val) := fun n d => by
    rw [blk2 m c t n d (by omega)]
    exact (proj_v m c n ⟨_, by omega⟩).trans (hv _ _)
  have hl : lamf (iblk m c 3 t) = lamf (al m c) := by
    unfold lamf
    have e : ∀ a d, iblk m c 3 t (ix2 a d) = al m c (ix2 a d) := fun a d => (blk3 m c t a d).trans (congrFun (lamv m c) _)
    simp only [e]
  refine (block_eq c (grid0.coords t) _ _ _ _ _ _ _ _ _ _ _ _ _ _ _ _ _
    (scores_low _ _ q k _ (fun r => 1024 * (grid0.coords t 1).val + r.val) h0 h1)
    (scores_high _ _ q k _ (fun r => 1024 * (grid0.coords t 1).val + r.val) h0 h1) hV y0 y1).trans ?_
  have e1 : ((grid0.coords t 0).val * 128 + y1.val) / 128 = (grid0.coords t 0).val := by omega
  have e2 : (⟨((grid0.coords t 0).val * 128 + y1.val) % 128, Nat.mod_lt _ (by norm_num)⟩ : Fin 128) = y1 :=
    Fin.ext (by show ((grid0.coords t 0).val * 128 + y1.val) % 128 = y1.val; omega)
  have e3 : (fun d => iblk m c 4 t (ix2 0 d)) = fun d => ag m c (ix1 d) := funext fun d =>
    (blk4 m c t d).trans (gain m c d)
  have e4 : seen (base (grid0.coords t)) y0.val = 64 * ((1024 * (grid0.coords t 1).val + y0.val) / 64) + 63 := by
    unfold seen base
    omega
  rw [result, e1, e2, e3, hl, e4, Nat.mul_comm _ 1024]

end Cert.Diff

end
-- ==== Proof.DiffChunk.lean ====
/- The chunk of 64 positions that a position lies in, as the reference's floor division gives it. -/
module

public import proofs.«01_k».proof.Proof.Gen.Reference6Ideal.Read
public import Idealize.ShloMosaic.PureOps.Ideal
public import Idealize.ShloMosaic.Lib.Pointwise
public import Idealize.ShloMosaic.Lib.Affine

@[expose] public section

set_option maxRecDepth 16384

noncomputable section

namespace Cert.Diff

open Idealize.ShloMosaic Idealize.ShloMosaic.TcCoe Idealize.ShloMosaic.Tactic Idealize.ShloMosaic.Pointwise
open Cert.Reference6Ideal Cert.Reference6Ideal.Read

/-- The quotient and the remainder of a position by 64, and its sign, as words. -/
theorem words (n : ℕ) (hn : n < 16384) :
    IntOp.divsi .host (BitVec.ofNat 32 n) 64#32 = BitVec.ofNat 32 (n / 64) ∧
      ((if BitVec.ofNat 32 n = 0 then (0 : BitVec 32) else if (BitVec.ofNat 32 n).msb = true then -1 else 1) = 1 ∨
        IntOp.remsi .host (BitVec.ofNat 32 n) 64#32 = 0#32) := by
  have hN : (BitVec.ofNat 32 n).toNat = n := by rw [BitVec.toNat_ofNat]; omega
  have hm : (BitVec.ofNat 32 n).msb = false := by rw [BitVec.msb_eq_false_iff_two_mul_lt]; omega
  have h64 : (64#32 : BitVec 32).msb = false := by decide
  constructor
  · rw [IntOp.divsi, if_neg (IntOp.not_corner_of_pos (by decide)), BitVec.sdiv_eq, hm, h64]
    refine BitVec.eq_of_toNat_eq ?_
    show (BitVec.ofNat 32 n / 64#32).toNat = _
    rw [BitVec.toNat_udiv, hN]
    show n / 64 = _
    rw [BitVec.toNat_ofNat]
    omega
  · by_cases h0 : n = 0
    · right
      subst h0
      decide
    · left
      have hne : BitVec.ofNat 32 n ≠ 0 := fun h => h0 (by rw [← hN, h]; rfl)
      rw [if_neg hne, hm]
      rfl

/-- The chunk a position lies in. -/
theorem chunk (n : Fin 16384) : val_main_v7 (F := Ideal) (ix1 n) = BitVec.ofNat 32 (n.val / 64) := by
  pointwise [val_main_v6, val_main_c, val_main_call0_v0, val_main_call0_v1, val_main_call0_v2, val_main_call0_v3, val_main_call0_v4, val_main_call0_v5,
    val_main_call0_v6, val_main_call0_v7, val_main_call0_v8, val_main_call0_c, val_main_call0_v9, val_main_call0_v10, val_main_call0_v11, val_main_call0_c_0,
    val_main_call0_v12, val_main_call0_v13, val_main_v7]
  obtain ⟨h1, h2⟩ := words n.val n.isLt
  have hc : (id (constantI S_ 32 64#32) ix0 : BitVec 32) = 64#32 := rfl
  rw [hc, h1]
  have hz : ∀ a b : BitVec 32, a = b → IntOp.cmpi .ne a b = 0#1 := fun a b h => by
    subst h
    simp [IntOp.cmpi]
  have h3 : IntOp.andi (IntOp.cmpi CmpIPredicate.ne
        (if BitVec.ofNat 32 n.val = 0 then (0 : BitVec 32) else if (BitVec.ofNat 32 n.val).msb = true then -1 else 1)
        (if (64#32 : BitVec 32) = 0 then 0 else if BitVec.msb (64#32 : BitVec 32) = true then -1 else 1))
      (IntOp.cmpi CmpIPredicate.ne (IntOp.remsi ArithUnit.host (BitVec.ofNat 32 n.val) 64#32) 0#32) = 0#1 := by
    rcases h2 with h | h
    · rw [hz _ _ (h.trans (by decide))]
      exact BitVec.zero_and
    · rw [hz _ _ h]
      exact BitVec.and_zero
  exact congrArg (fun z => Scalar.select z _ _) h3

end Cert.Diff

end
-- ==== Proof.DiffRef.lean ====
/- The differential attention's reference, entry by entry. -/
module

public import proofs.«01_k».proof.Proof.Gen.Reference6Ideal.Read
public import proofs.«01_k».proof.Proof.DiffArray
public import proofs.«01_k».proof.Proof.DiffChunk
public import proofs.«01_k».proof.Proof.RefScores

@[expose] public section

set_option maxRecDepth 16384

noncomputable section

namespace Cert.Diff

open Idealize.ShloMosaic Idealize.ShloMosaic.TcCoe Idealize.ShloMosaic.Tactic Idealize.ShloMosaic.Pointwise
open Cert.Attn (avg rms lg coe_sum neg_inf select_le)
open Cert.Reference6Ideal Cert.Reference6Ideal.Read

variable (x1 x2 x3 : FVec Ideal S16384x512 .f32) (x4 : FVec Ideal S4x64 .f32) (x5 : FVec Ideal S128 .f32)

/-- A score before the mask. -/
theorem r5 (z : Fin 2) (h : Fin 4) (t n : Fin 16384) :
    val_main_v5 (F := Ideal) x1 x2 (ix4 z h t n) = ((∑ x : Fin 64, x1 (ix2 t ⟨h.val * 128 + z.val * 64 + x.val, by omega⟩) *
      x2 (ix2 n ⟨h.val * 128 + z.val * 64 + x.val, by omega⟩)) * Ideal.ofBits .f32 1040187392#32 : EReal) := by
  pointwise [val_main_v0, val_main_v1, val_main_v3, val_main_cst, val_main_v4, val_main_v5]
  done

theorem r13 (z : Fin 2) (h : Fin 4) (t n : Fin 16384) :
    val_main_v13 (F := Ideal) x1 x2 (ix4 z h t n) = if n.val ≤ 64 * (t.val / 64) + 63 then val_main_v5 (F := Ideal) x1 x2 (ix4 z h t n) else (⊥ : EReal) := by
  pointwise [val_main_v8, val_main_v9, val_main_v10, val_main_v11, val_main_v12, val_main_cst_0, val_main_call1_v0, val_main_call1_v1,
    val_main_call1_v2, val_main_v13]
  rw [chunk, chunk, select_le _ _ (by omega) (by omega)]
  exact if_congr (by omega) rfl neg_inf

theorem r14 (z : Fin 2) (h : Fin 4) (t : Fin 16384) :
    val_main_v14 (F := Ideal) x1 x2 (ix3 z h t) =
      (Finset.univ.fold max (⊥ : EReal) fun n : Fin 16384 => val_main_v13 (F := Ideal) x1 x2 (ix4 z h t n)) := by
  pointwise [val_main_v14, val_main_cst_1]
  rw [neg_inf]

theorem r15 (i : S2x4x16384.Idx) : val_main_v15 (F := Ideal) i = (⊥ : EReal) := by
  rw [val_main_v15_apply, val_main_cst_2_apply]
  exact neg_inf

theorem r18 (z : Fin 2) (h : Fin 4) (t n : Fin 16384) :
    val_main_v18 (F := Ideal) x1 x2 (ix4 z h t n) = val_main_v16 (F := Ideal) x1 x2 (ix3 z h t) := by
  pointwise [val_main_v17, val_main_v18]

theorem r20 (z : Fin 2) (h : Fin 4) (t n : Fin 16384) :
    val_main_v20 (F := Ideal) x1 x2 (ix4 z h t n) =
      Ideal.exp (val_main_v13 (F := Ideal) x1 x2 (ix4 z h t n) - val_main_v16 (F := Ideal) x1 x2 (ix3 z h t) : EReal) := by
  rw [val_main_v20_apply, val_main_v19_apply, r18]
  rfl

theorem r21 (z : Fin 2) (h : Fin 4) (t : Fin 16384) :
    val_main_v21 (F := Ideal) x1 x2 (ix3 z h t) = (∑ n : Fin 16384, val_main_v20 (F := Ideal) x1 x2 (ix4 z h t n) : EReal) := by
  pointwise [val_main_v21, val_main_cst_3]

/-- A softmax weight. -/
theorem r24 (z : Fin 2) (h : Fin 4) (t n : Fin 16384) :
    val_main_v24 (F := Ideal) x1 x2 (ix4 z h t n) =
      Ideal.div (val_main_v20 (F := Ideal) x1 x2 (ix4 z h t n)) (val_main_v21 (F := Ideal) x1 x2 (ix3 z h t)) := by
  pointwise [val_main_v22, val_main_v23, val_main_v24]

/-- The second half's factor. -/
theorem r40 (i : S_.Idx) : val_main_v40 (F := Ideal) x4 i = lamf x4 := by
  pointwise [val_main_v25, val_main_v26, val_main_v27, val_main_v28, val_main_v29, val_main_cst_4, val_main_v30, val_main_v31, val_main_v32, val_main_v33,
    val_main_v34, val_main_v35, val_main_v36, val_main_cst_5, val_main_v37, val_main_v38, val_main_v39, val_main_cst_6, val_main_v40]
  rfl

theorem r42 (h : Fin 4) (t n : Fin 16384) :
    val_main_v42 (F := Ideal) x1 x2 (ix3 h t n) = val_main_v24 (F := Ideal) x1 x2 (ix4 0 h t n) := by
  rw [val_main_v42_apply, val_main_v41_apply]
  generalize val_main_v24 (F := Ideal) x1 x2 = y
  refine congrArg y (funext fun a => Fin.ext ?_)
  match a with
  | ⟨0, _⟩ => rfl
  | ⟨1, _⟩ => show ((h.val * 16384 + t.val) * 16384 + n.val) / 268435456 % 4 = h.val; omega
  | ⟨2, _⟩ => show ((h.val * 16384 + t.val) * 16384 + n.val) / 16384 % 16384 = t.val; omega
  | ⟨3, _⟩ => show ((h.val * 16384 + t.val) * 16384 + n.val) % 16384 = n.val; omega

theorem r44 (h : Fin 4) (t n : Fin 16384) :
    val_main_v44 (F := Ideal) x1 x2 (ix3 h t n) = val_main_v24 (F := Ideal) x1 x2 (ix4 1 h t n) := by
  rw [val_main_v44_apply, val_main_v43_apply]
  generalize val_main_v24 (F := Ideal) x1 x2 = y
  refine congrArg y (funext fun a => Fin.ext ?_)
  match a with
  | ⟨0, _⟩ => rfl
  | ⟨1, _⟩ => show ((h.val * 16384 + t.val) * 16384 + n.val) / 268435456 % 4 = h.val; omega
  | ⟨2, _⟩ => show ((h.val * 16384 + t.val) * 16384 + n.val) / 16384 % 16384 = t.val; omega
  | ⟨3, _⟩ => show ((h.val * 16384 + t.val) * 16384 + n.val) % 16384 = n.val; omega

/-- The two halves' weights, the second's subtracted. -/
theorem r47 (h : Fin 4) (t n : Fin 16384) :
    val_main_v47 (F := Ideal) x1 x2 x4 (ix3 h t n) =
      (val_main_v24 (F := Ideal) x1 x2 (ix4 0 h t n) - lamf x4 * val_main_v24 (F := Ideal) x1 x2 (ix4 1 h t n) : EReal) := by
  rw [val_main_v47_apply, val_main_v46_apply, val_main_v45_apply, r40, r42, r44]
  rfl

/-- The attention before its normalisation. -/
theorem r49 (h : Fin 4) (t : Fin 16384) (d : Fin 128) :
    val_main_v49 (F := Ideal) x1 x2 x3 x4 (ix3 t h d) = (∑ n : Fin 16384, x3 (ix2 n ⟨h.val * 128 + d.val, by omega⟩) *
      (val_main_v24 (F := Ideal) x1 x2 (ix4 0 h t n) - lamf x4 * val_main_v24 (F := Ideal) x1 x2 (ix4 1 h t n)) : EReal) := by
  pointwise [val_main_v2, val_main_v48, val_main_v49]
  simp only [r47]

theorem r64 (h : Fin 4) (t : Fin 16384) (d : Fin 128) :
    val_main_v64 (F := Ideal) x1 x2 x3 x4 x5 (ix3 t h d) =
      (rms (fun d => val_main_v49 (F := Ideal) x1 x2 x3 x4 (ix3 t h d)) (fun d => x5 (ix1 d)) d * Ideal.ofBits .f32 1061997773#32 : EReal) := by
  pointwise [val_main_v50, val_main_cst_7, val_main_v51, val_main_v52, val_main_cst_8, val_main_v53, val_main_v54, val_main_cst_9, val_main_v55,
    val_main_v56, val_main_v57, val_main_v58, val_main_v59, val_main_v60, val_main_v61, val_main_v62, val_main_cst_10, val_main_v63, val_main_v64]
  rfl

theorem r66 (t : Fin 16384) (e : Fin 512) :
    val_main_v66 (F := Ideal) x1 x2 x3 x4 x5 (ix2 t e) =
      val_main_v64 (F := Ideal) x1 x2 x3 x4 x5 (ix3 t ⟨e.val / 128, by omega⟩ ⟨e.val % 128, by omega⟩) := by
  pointwise [val_main_v65, val_main_v66]

end Cert.Diff

end
-- ==== Proof.DiffFinal.lean ====
/- The differential attention's claim: on real queries, keys, values and parameters the kernel equals the reference. -/
module

public import proofs.«01_k».proof.Defs
public import proofs.«01_k».proof.Pre_finite6
public import proofs.«01_k».proof.Proof.DiffRef
public import proofs.«01_k».proof.Proof.DiffArray
public import proofs.«01_k».proof.Proof.Attn
public import proofs.«01_k».proof.Proof.Gen.Reference6Ideal.Run
public import proofs.«01_k».proof.Proof.Gen.Pre_finite
public import proofs.«01_k».proof.Proof.Gen.Pre_finite6

@[expose] public section

set_option maxRecDepth 16384

noncomputable section

namespace Cert.Diff

open Idealize.ShloMosaic Idealize.ShloMosaic.TcCoe Idealize.SL.Sem Idealize.ShloMosaic.Pointwise
open Cert.Attn (avg rms lg coe_sum softmax_avg real_of_abs_lt reals reals_eq)
open Cert.Reference6Ideal Cert.Reference6Ideal.Read

/-- A softmax's weights are reals, and they average the values. -/
theorem weights (s : ℕ → ℝ) (t N : ℕ) (htN : t < N) (c : ℝ) (X e : Fin N → EReal) (mx den : EReal)
    (hX : ∀ k : Fin N, X k = if (k : ℕ) ≤ t then ((c + Real.log 2 * s k : ℝ) : EReal) else ⊥)
    (hmx : mx = max ⊥ (Finset.univ.fold max (⊥ : EReal) X))
    (he : ∀ k, e k = Ideal.exp (X k - mx)) (hden : den = ∑ k, e k) :
    ∃ w : Fin N → ℝ, (∀ n, Ideal.div (e n) den = (w n : EReal)) ∧
      ∀ (v : ℕ → Fin 128 → ℝ) (d : Fin 128), ∑ n, v n.val d * w n = avg s v t d := by
  have h1 : ∀ n : Fin N, Ideal.div (e n) den = ((avg s (fun k (_ : Unit) => if k = n.val then 1 else 0) t () : ℝ) : EReal) := fun n => by
    rw [← softmax_avg s (fun k (_ : Unit) => if k = n.val then 1 else 0) t N htN c () X e mx den hX hmx he hden, Finset.sum_eq_single n]
    · simp
    · intro b _ hb
      rw [if_neg (fun h => hb (Fin.ext h)), EReal.coe_zero, zero_mul]
    · exact fun h => absurd (Finset.mem_univ _) h
  refine ⟨_, h1, fun v d => ?_⟩
  rw [← EReal.coe_eq_coe_iff, coe_sum, ← softmax_avg s v t N htN c d X e mx den hX hmx he hden]
  exact Finset.sum_congr rfl fun n _ => by rw [EReal.coe_mul, h1]

theorem fifth : ∃ x : ℝ, Ideal.ofBits .f32 1045220557#32 = (x : EReal) := by
  refine ⟨(Ideal.ofBits .f32 1045220557#32).toReal, (EReal.coe_toReal ?_ ?_).symm⟩ <;> simp [Ideal.ofBits, Ideal.ieee, -EReal.coe_mul]

theorem lamf_real (L : FVec Ideal Cert.Kernel6Ideal.S4x64 .f32) (hL : ∀ i, L i = ((L i : EReal).toReal : EReal)) : ∃ x : ℝ, lamf L = (x : EReal) := by
  obtain ⟨z, hz⟩ := fifth
  have hs : ∀ a b : Fin 4, (∑ x : Fin 64, L (ix2 a x) * L (ix2 b x) : EReal)
      = ((∑ x : Fin 64, (L (ix2 a x) : EReal).toReal * (L (ix2 b x) : EReal).toReal : ℝ) : EReal) := fun a b => by
    rw [coe_sum]
    exact Finset.sum_congr rfl fun x _ => by rw [EReal.coe_mul, ← hL, ← hL]
  unfold lamf
  rw [hs, hs, hz, Ideal.exp_coe, Ideal.exp_coe, ← EReal.coe_sub, ← EReal.coe_add]
  exact ⟨_, rfl⟩

section
variable (x1 x2 x3 : FVec Ideal S16384x512 .f32) (x4 : FVec Ideal S4x64 .f32) (x5 : FVec Ideal S128 .f32)
  (q k v : ℕ → ℕ → ℝ) (hq : ∀ a b, x1 (ix2 a b) = ((q a.val b.val : ℝ) : EReal))
  (hk : ∀ a b, x2 (ix2 a b) = ((k a.val b.val : ℝ) : EReal)) (hv : ∀ a b, x3 (ix2 a b) = ((v a.val b.val : ℝ) : EReal))
  (hl : ∃ x : ℝ, lamf x4 = (x : EReal))
include hq hk

/-- On reals a score is `log 2` times the kernel's. -/
theorem r5_real (z : Fin 2) (h : Fin 4) (t n : Fin 16384) :
    val_main_v5 (F := Ideal) x1 x2 (ix4 z h t n) = ((0 + Real.log 2 * score q k h.val z.val t.val n.val : ℝ) : EReal) := by
  rw [r5, eighth_eq]
  rw [show (∑ x : Fin 64, x1 (ix2 t ⟨h.val * 128 + z.val * 64 + x.val, by omega⟩) * x2 (ix2 n ⟨h.val * 128 + z.val * 64 + x.val, by omega⟩) : EReal)
      = ((∑ d : Fin 64, q t.val (128 * h.val + (64 * z.val + d.val)) * k n.val (128 * h.val + (64 * z.val + d.val)) : ℝ) : EReal) from by
    rw [coe_sum]
    refine Finset.sum_congr rfl fun d _ => ?_
    rw [hq, hk]
    dsimp only
    rw [show h.val * 128 + z.val * 64 + d.val = 128 * h.val + (64 * z.val + d.val) by omega, EReal.coe_mul]]
  rw [← EReal.coe_mul]
  congr 1
  unfold score
  have h2 : Real.log 2 ≠ 0 := (Real.log_pos (by norm_num)).ne'
  have e : Real.log 2 * lg = 1 := by rw [lg]; field_simp
  linear_combination -(∑ d : Fin 64, q t.val (128 * h.val + (64 * z.val + d.val)) * k n.val (128 * h.val + (64 * z.val + d.val))) * (1 / 8) * e

theorem r24_real (z : Fin 2) (h : Fin 4) (t : Fin 16384) :
    ∃ w : Fin 16384 → ℝ, (∀ n, val_main_v24 (F := Ideal) x1 x2 (ix4 z h t n) = (w n : EReal)) ∧
      ∀ (v : ℕ → Fin 128 → ℝ) (d : Fin 128), ∑ n, v n.val d * w n = avg (score q k h.val z.val t.val) v (64 * (t.val / 64) + 63) d := by
  obtain ⟨w, h1, h2⟩ := weights (score q k h.val z.val t.val) (64 * (t.val / 64) + 63) 16384 (by omega) 0
    (fun n => val_main_v13 (F := Ideal) x1 x2 (ix4 z h t n)) (fun n => val_main_v20 (F := Ideal) x1 x2 (ix4 z h t n))
    (val_main_v16 (F := Ideal) x1 x2 (ix3 z h t)) (val_main_v21 (F := Ideal) x1 x2 (ix3 z h t))
    (fun n => by
      show val_main_v13 (F := Ideal) x1 x2 (ix4 z h t n) = _
      rw [r13, r5_real x1 x2 q k hq hk])
    (by
      rw [val_main_v16_apply, r15, r14]
      rfl)
    (fun n => r20 x1 x2 z h t n) (r21 x1 x2 z h t)
  exact ⟨w, fun n => (r24 x1 x2 z h t n).trans (h1 n), h2⟩

include hv hl

theorem r49_real (h : Fin 4) (t : Fin 16384) (d : Fin 128) :
    val_main_v49 (F := Ideal) x1 x2 x3 x4 (ix3 t h d) =
      ((avg (score q k h.val 0 t.val) (fun n (d : Fin 128) => v n (128 * h.val + d.val)) (64 * (t.val / 64) + 63) d : EReal) -
        lamf x4 * (avg (score q k h.val 1 t.val) (fun n (d : Fin 128) => v n (128 * h.val + d.val)) (64 * (t.val / 64) + 63) d : EReal)) := by
  obtain ⟨l, hl⟩ := hl
  obtain ⟨w0, a0, b0⟩ := r24_real x1 x2 q k hq hk 0 h t
  obtain ⟨w1, a1, b1⟩ := r24_real x1 x2 q k hq hk 1 h t
  rw [r49, hl]
  have e0 := b0 (fun n (d : Fin 128) => v n (128 * h.val + d.val)) d
  have e1 := b1 (fun n (d : Fin 128) => v n (128 * h.val + d.val)) d
  have ht : ∀ n : Fin 16384, (x3 (ix2 n ⟨h.val * 128 + d.val, by omega⟩) *
      (val_main_v24 (F := Ideal) x1 x2 (ix4 0 h t n) - (l : EReal) * val_main_v24 (F := Ideal) x1 x2 (ix4 1 h t n)) : EReal)
      = ((v n.val (128 * h.val + d.val) * w0 n - l * (v n.val (128 * h.val + d.val) * w1 n) : ℝ) : EReal) := fun n => by
    rw [a0, a1, hv, ← EReal.coe_mul, ← EReal.coe_sub, ← EReal.coe_mul, EReal.coe_eq_coe_iff]
    dsimp only
    rw [Nat.mul_comm h.val 128]
    ring
  rw [Finset.sum_congr rfl fun n _ => ht n, ← coe_sum, Finset.sum_sub_distrib, ← Finset.mul_sum, e0, e1, EReal.coe_sub, EReal.coe_mul]
  rfl

/-- The reference's result, entry by entry. -/
theorem reference_eq : val_main_v66 (F := Ideal) x1 x2 x3 x4 x5 = fun i : S16384x512.Idx => result q k v x4 x5 (i 0).val (i 1).val := by
  funext i
  idx_vars i
  rw [r66, r64]
  show _ = result q k v x4 x5 i0.val i1.val
  exact congrArg (fun o => (rms o (fun d => x5 (ix1 d)) ⟨i1.val % 128, by omega⟩ * Ideal.ofBits .f32 1061997773#32 : EReal))
    (funext fun d => r49_real x1 x2 x3 x4 q k v hq hk hv hl ⟨i1.val / 128, by omega⟩ i0 d)

end

instance : Subsingleton Cert.Pre_finite6.S_.Idx := ⟨fun a b => funext fun i => i.elim0⟩

/-- The precondition read back: the queries, the keys, the values and the parameters are reals. -/
theorem finite_args [Cert.Pre_finite6.Facts] (a0 : FVec Ideal Cert.Pre_finite6.S16384x4608 .f32) (a1 a2 a3 : FVec Ideal Cert.Pre_finite6.S16384x512 .f32)
    (a4 : FVec Ideal Cert.Pre_finite6.S4x64 .f32) (a5 : FVec Ideal Cert.Pre_finite6.S128 .f32)
    (h : Cert.Pre_finite6.fn (F := Ideal) a0 a1 a2 a3 a4 a5 = fun _ => 1#1) :
    (∀ i, a1 i = ((a1 i : EReal).toReal : EReal)) ∧ (∀ i, a2 i = ((a2 i : EReal).toReal : EReal)) ∧
      (∀ i, a3 i = ((a3 i : EReal).toReal : EReal)) ∧ ∀ i, a4 i = ((a4 i : EReal).toReal : EReal) := by
  have h0 := congrFun h (fun i => i.elim0)
  unfold Cert.Pre_finite6.fn Cert.Pre_finite6.fn_part1 at h0
  obtain ⟨h0, h3⟩ := IntOp.andi_eq_one.1 h0
  obtain ⟨h0, h2⟩ := IntOp.andi_eq_one.1 h0
  obtain ⟨h0, h1⟩ := IntOp.andi_eq_one.1 h0
  exact ⟨fun i => real_of_abs_lt _ (Host.reduce_andi_all _ _ _ _ _ h0 i),
    fun i => real_of_abs_lt _ (Host.reduce_andi_all _ _ _ _ _ h1 i),
    fun i => real_of_abs_lt _ (Host.reduce_andi_all _ _ _ _ _ h2 i),
    fun i => real_of_abs_lt _ (Host.reduce_andi_all _ _ _ _ _ h3 i)⟩

theorem algebraic6 : Cert.algebraic_Kernel6Ideal_Reference6Ideal_pre_finite6 := by
  intro m g m' g' hpre hagree
  refine ⟨fun c => (Cert.Kernel6Ideal.Gen.dats m 0 c).arrAt 5 Cert.Kernel6Ideal.cfg0.N, Cert.Kernel6Ideal.Value.run_blocks m g, ?_⟩
  refine (θ_run Cert.Reference6Ideal.defs _ _).mono (fun r h c => ⟨(h c).1.trans ?_, (h c).2⟩) (Cert.Reference6Ideal.Value.run (F := Ideal) m' g')
  obtain ⟨h0, h1, h2, h3, h4, h5⟩ := hagree c
  obtain ⟨f1, f2, f3, f4⟩ := finite_args _ _ _ _ _ _ (hpre c)
  refine Eq.trans ?_ (array_eq m c _ _ _ (reals_eq _ f1) (reals_eq _ f2) (reals_eq _ f3)).symm
  rw [Cert.Reference6Ideal.Read.val_main_v66_eq, h1, h2, h3, h4, h5]
  exact reference_eq _ _ _ _ _ _ _ _ (reals_eq _ f1) (reals_eq _ f2) (reals_eq _ f3) (lamf_real _ f4)

end Cert.Diff

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel4.Skeleton
public import proofs.«01_k».proof.Proof.Gen.Kernel4.Launch
public import proofs.«01_k».proof.Proof.Gen.Kernel4
public import proofs.«01_k».proof.Proof.Gen.Kernel4Ideal.Skeleton
public import proofs.«01_k».proof.Proof.Gen.Kernel4Ideal.Launch
public import proofs.«01_k».proof.Proof.Gen.Kernel4Ideal
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_experts4
public import proofs.«01_k».proof.Proof.Gen.Kernel5.Skeleton
public import proofs.«01_k».proof.Proof.Gen.Kernel5.Launch
public import proofs.«01_k».proof.Proof.Gen.Kernel5
public import proofs.«01_k».proof.Proof.Gen.Kernel5Ideal.Skeleton
public import proofs.«01_k».proof.Proof.Gen.Kernel5Ideal.Launch
public import proofs.«01_k».proof.Proof.Gen.Kernel5Ideal
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_experts5
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6.Loops
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Loops
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Attn
public import proofs.«01_k».proof.Proof.Gateup
public import proofs.«01_k».proof.Proof.Down
public import proofs.«01_k».proof.Proof.UpRunB
public import proofs.«01_k».proof.Proof.UpRun
public import proofs.«01_k».proof.Proof.UpValue
public import proofs.«01_k».proof.Proof.DownRunB
public import proofs.«01_k».proof.Proof.DownRun
public import proofs.«01_k».proof.Proof.DownValue
public import proofs.«01_k».proof.Proof.Outproj
public import proofs.«01_k».proof.Proof.Gen.Pre_finite6
public import proofs.«01_k».proof.Proof.DiffFinal
public import Idealize.ShloMosaic.Adequacy
public import Idealize.ShloMosaic.Init

@[expose] public section

noncomputable section

namespace Cert.Proof

open Idealize.ShloMosaic Idealize.SL.Sem Cert.Kernel

theorem frame_r6 : Cert.quiescent_Reference6Ideal := by
  intro m ρ _
  exact (θ_run Cert.Reference6Ideal.defs _ _).mono
    (fun r h => ⟨fun c => (h c).2, Idealize.ShloMosaic.sem_eq_zero_of_no_sems (by decide) r.2⟩)
    (Cert.Reference6Ideal.Value.run (F := Ideal) m ρ)

theorem preserves6 : Cert.preserves_Kernel6_Kernel6Ideal :=
  IdealRules.named_const.statement Cert.Kernel6Ideal.κ "mask6" .f32 0xF149F2CA#32 ⊥ rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_finite.Gen.facts, Cert.Pre_experts4.Gen.facts, Cert.Pre_experts5.Gen.facts, Cert.Pre_finite6.Gen.facts,
  fun m ρ _ => Cert.Kernel.Gen.frame m ρ, fun m ρ _ => Cert.KernelIdeal.Gen.frame m ρ, fun m ρ _ => Cert.KernelIdeal.Gen.frame m ρ,
  Cert.Attn.frame_r, Cert.Attn.frame_r_pre,
  fun m ρ _ => Cert.Kernel2.Gen.frame m ρ, fun m ρ _ => Cert.Kernel2Ideal.Gen.frame m ρ, Cert.Ffn.frame_r2,
  fun m ρ _ => Cert.Kernel3.Gen.frame m ρ, fun m ρ _ => Cert.Kernel3Ideal.Gen.frame m ρ, Cert.Down.frame_r3,
  fun m ρ hp => Cert.Kernel4.Moe.frame m ρ (Cert.Kernel4.Moe.te_lt m hp),
  fun m ρ hp => Cert.Kernel4Ideal.Moe.frame m ρ (Cert.Kernel4Ideal.Moe.te_lt m hp), Cert.MoeUp.frame_r4, Cert.MoeUp.frame_r4_pre,
  fun m ρ hp => Cert.Kernel5.Moe.frame m ρ (Cert.Kernel5.Moe.te_lt m hp),
  fun m ρ hp => Cert.Kernel5Ideal.Moe.frame m ρ (Cert.Kernel5Ideal.Moe.te_lt m hp), Cert.MoeDown.frame_r5, Cert.MoeDown.frame_r5_pre,
  fun m ρ _ => Cert.Kernel6.Gen.frame m ρ, fun m ρ _ => Cert.Kernel6Ideal.Gen.frame m ρ, fun m ρ _ => Cert.Kernel6Ideal.Gen.frame m ρ,
  Cert.Proof.frame_r6, fun m ρ _ => Cert.Proof.frame_r6 m ρ trivial,
  fun m ρ _ => Cert.Kernel7.Gen.frame m ρ, fun m ρ _ => Cert.Kernel7Ideal.Gen.frame m ρ, Cert.Outproj.frame_r7,
  Cert.Attn.preserves, Cert.Attn.algebraic, trivial, Cert.Ffn.algebraic2, trivial, Cert.Down.algebraic3,
  trivial, Cert.MoeUp.algebraic4, trivial, Cert.MoeDown.algebraic5, Cert.Proof.preserves6, Cert.Diff.algebraic6, trivial, Cert.Outproj.algebraic7⟩

end Cert.Proof

end
